-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Bound (m : (ℓ : Loc Cert.Bound.nD Cert.Bound.τ Cert.Bound.sig) → Buf (Elt Bits) ℓ) : Prop :=
  True

def Pre_BoundIdeal (m : (ℓ : Loc Cert.BoundIdeal.nD Cert.BoundIdeal.τ Cert.BoundIdeal.sig) → Buf (Elt Ideal) ℓ) : Prop :=
  True

def Pre_BoundRefIdeal (m : (ℓ : Loc Cert.BoundRefIdeal.nD Cert.BoundRefIdeal.τ Cert.BoundRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DiscA (m : (ℓ : Loc Cert.DiscA.nD Cert.DiscA.τ Cert.DiscA.sig) → Buf (Elt Bits) ℓ) : Prop :=
  True

def Pre_DiscAIdeal (m : (ℓ : Loc Cert.DiscAIdeal.nD Cert.DiscAIdeal.τ Cert.DiscAIdeal.sig) → Buf (Elt Ideal) ℓ) : Prop :=
  True

def Pre_DiscARefIdeal (m : (ℓ : Loc Cert.DiscARefIdeal.nD Cert.DiscARefIdeal.τ Cert.DiscARefIdeal.sig) → Buf (Elt Ideal) ℓ) : Prop :=
  True

def Pre_DiscB (m : (ℓ : Loc Cert.DiscB.nD Cert.DiscB.τ Cert.DiscB.sig) → Buf (Elt Bits) ℓ) : Prop :=
  True

def Pre_DiscBIdeal (m : (ℓ : Loc Cert.DiscBIdeal.nD Cert.DiscBIdeal.τ Cert.DiscBIdeal.sig) → Buf (Elt Ideal) ℓ) : Prop :=
  True

def Pre_DiscBRefIdeal (m : (ℓ : Loc Cert.DiscBRefIdeal.nD Cert.DiscBRefIdeal.τ Cert.DiscBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_DiscAFwd (m : (ℓ : Loc Cert.DiscAFwd.nD Cert.DiscAFwd.τ Cert.DiscAFwd.sig) → Buf (Elt Bits) ℓ) : Prop :=
  True

def Pre_DiscAFwdIdeal (m : (ℓ : Loc Cert.DiscAFwdIdeal.nD Cert.DiscAFwdIdeal.τ Cert.DiscAFwdIdeal.sig) → Buf (Elt Ideal) ℓ) : Prop :=
  True

def Pre_DiscAFwdIdeal_disc_finite [hPre_disc_finite : Cert.Pre_disc_finite.Facts] (m : (ℓ : Loc Cert.DiscAFwdIdeal.nD Cert.DiscAFwdIdeal.τ Cert.DiscAFwdIdeal.sig) → Buf (Elt Ideal) ℓ) : Prop :=
  ∀ c : Dev Cert.DiscAFwdIdeal.nD,
    (Cert.Pre_disc_finite.fn (F := Ideal) (m ((c.tc : Thread Cert.DiscAFwdIdeal.nD Cert.DiscAFwdIdeal.τ).loc Cert.DiscAFwdIdeal.main_arg0)) (m ((c.tc : Thread Cert.DiscAFwdIdeal.nD Cert.DiscAFwdIdeal.τ).loc Cert.DiscAFwdIdeal.main_arg1)) (m ((c.tc : Thread Cert.DiscAFwdIdeal.nD Cert.DiscAFwdIdeal.τ).loc Cert.DiscAFwdIdeal.main_arg2))) = (fun _ => 1#1)

def Pre_DiscAFwdRefIdeal (m : (ℓ : Loc Cert.DiscAFwdRefIdeal.nD Cert.DiscAFwdRefIdeal.τ Cert.DiscAFwdRefIdeal.sig) → Buf (Elt Ideal) ℓ) : Prop :=
  True

def Pre_DiscAFwdRefIdeal_disc_finite [hPre_disc_finite : Cert.Pre_disc_finite.Facts] (m : (ℓ : Loc Cert.DiscAFwdRefIdeal.nD Cert.DiscAFwdRefIdeal.τ Cert.DiscAFwdRefIdeal.sig) → Buf (Elt Ideal) ℓ) : Prop :=
  ∀ c : Dev Cert.DiscAFwdRefIdeal.nD,
    (Cert.Pre_disc_finite.fn (F := Ideal) (m ((c.tc : Thread Cert.DiscAFwdRefIdeal.nD Cert.DiscAFwdRefIdeal.τ).loc Cert.DiscAFwdRefIdeal.main_arg0)) (m ((c.tc : Thread Cert.DiscAFwdRefIdeal.nD Cert.DiscAFwdRefIdeal.τ).loc Cert.DiscAFwdRefIdeal.main_arg1)) (m ((c.tc : Thread Cert.DiscAFwdRefIdeal.nD Cert.DiscAFwdRefIdeal.τ).loc Cert.DiscAFwdRefIdeal.main_arg2))) = (fun _ => 1#1)

def Pre_DiscBFwd (m : (ℓ : Loc Cert.DiscBFwd.nD Cert.DiscBFwd.τ Cert.DiscBFwd.sig) → Buf (Elt Bits) ℓ) : Prop :=
  True

def Pre_DiscBFwdIdeal (m : (ℓ : Loc Cert.DiscBFwdIdeal.nD Cert.DiscBFwdIdeal.τ Cert.DiscBFwdIdeal.sig) → Buf (Elt Ideal) ℓ) : Prop :=
  True

def Pre_DiscBFwdRefIdeal (m : (ℓ : Loc Cert.DiscBFwdRefIdeal.nD Cert.DiscBFwdRefIdeal.τ Cert.DiscBFwdRefIdeal.sig) → Buf (Elt Ideal) ℓ) : Prop :=
  True

def Pre_BoundFwd (m : (ℓ : Loc Cert.BoundFwd.nD Cert.BoundFwd.τ Cert.BoundFwd.sig) → Buf (Elt Bits) ℓ) : Prop :=
  True

def Pre_BoundFwdIdeal (m : (ℓ : Loc Cert.BoundFwdIdeal.nD Cert.BoundFwdIdeal.τ Cert.BoundFwdIdeal.sig) → Buf (Elt Ideal) ℓ) : Prop :=
  True

def Pre_BoundFwdRefIdeal (m : (ℓ : Loc Cert.BoundFwdRefIdeal.nD Cert.BoundFwdRefIdeal.τ Cert.BoundFwdRefIdeal.sig) → Buf (Elt Ideal) ℓ) : Prop :=
  True

def Pre_InProd (m : (ℓ : Loc Cert.InProd.nD Cert.InProd.τ Cert.InProd.sig) → Buf (Elt Bits) ℓ) : Prop :=
  True

def Pre_InProdIdeal (m : (ℓ : Loc Cert.InProdIdeal.nD Cert.InProdIdeal.τ Cert.InProdIdeal.sig) → Buf (Elt Ideal) ℓ) : Prop :=
  True

def Pre_InProdRefIdeal (m : (ℓ : Loc Cert.InProdRefIdeal.nD Cert.InProdRefIdeal.τ Cert.InProdRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_LinProd (m : (ℓ : Loc Cert.LinProd.nD Cert.LinProd.τ Cert.LinProd.sig) → Buf (Elt Bits) ℓ) : Prop :=
  True

def Pre_LinProdIdeal (m : (ℓ : Loc Cert.LinProdIdeal.nD Cert.LinProdIdeal.τ Cert.LinProdIdeal.sig) → Buf (Elt Ideal) ℓ) : Prop :=
  True

def Pre_LinProdRefIdeal (m : (ℓ : Loc Cert.LinProdRefIdeal.nD Cert.LinProdRefIdeal.τ Cert.LinProdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_MetaGrad (m : (ℓ : Loc Cert.MetaGrad.nD Cert.MetaGrad.τ Cert.MetaGrad.sig) → Buf (Elt Bits) ℓ) : Prop :=
  True

def Pre_MetaGradIdeal (m : (ℓ : Loc Cert.MetaGradIdeal.nD Cert.MetaGradIdeal.τ Cert.MetaGradIdeal.sig) → Buf (Elt Ideal) ℓ) : Prop :=
  True

def Pre_MetaGradRefIdeal (m : (ℓ : Loc Cert.MetaGradRefIdeal.nD Cert.MetaGradRefIdeal.τ Cert.MetaGradRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Bound [hBound : Cert.Bound.Facts] : Prop :=
  ∀ (m : (ℓ : Loc Cert.Bound.nD Cert.Bound.τ Cert.Bound.sig) → Buf (Elt Bits) ℓ) (g : Dev Cert.Bound.nD → PrngReg), Pre_Bound m →
    θ_run (Cert.Bound.defs (F := Bits)) (onTc (τ := Cert.Bound.τ) (Cert.Bound.main (F := Bits))) ⟨m, fun _ => 0, g⟩ (fun r => (∀ c : Dev Cert.Bound.nD,
      r.2.mem ((c.tc : Thread Cert.Bound.nD Cert.Bound.τ).loc Cert.Bound.main_arg0) = m ((c.tc : Thread Cert.Bound.nD Cert.Bound.τ).loc Cert.Bound.main_arg0)
      ∧ r.2.mem ((c.tc : Thread Cert.Bound.nD Cert.Bound.τ).loc Cert.Bound.main_arg1) = m ((c.tc : Thread Cert.Bound.nD Cert.Bound.τ).loc Cert.Bound.main_arg1))
      ∧ r.2.sem = fun _ => 0)

def quiescent_BoundIdeal [hBoundIdeal : Cert.BoundIdeal.Facts] : Prop :=
  ∀ (m : (ℓ : Loc Cert.BoundIdeal.nD Cert.BoundIdeal.τ Cert.BoundIdeal.sig) → Buf (Elt Ideal) ℓ) (g : Dev Cert.BoundIdeal.nD → PrngReg), Pre_BoundIdeal m →
    θ_run (Cert.BoundIdeal.defs (F := Ideal)) (onTc (τ := Cert.BoundIdeal.τ) (Cert.BoundIdeal.main (F := Ideal))) ⟨m, fun _ => 0, g⟩ (fun r => (∀ c : Dev Cert.BoundIdeal.nD,
      r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
      ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1))
      ∧ r.2.sem = fun _ => 0)

def quiescent_BoundRefIdeal [hBoundRefIdeal : Cert.BoundRefIdeal.Facts] : Prop :=
  ∀ (m : (ℓ : Loc Cert.BoundRefIdeal.nD Cert.BoundRefIdeal.τ Cert.BoundRefIdeal.sig) → Buf (Elt Ideal) ℓ) (g : Dev Cert.BoundRefIdeal.nD → PrngReg), Pre_BoundRefIdeal m →
    θ_run (Cert.BoundRefIdeal.defs (F := Ideal)) (onTc (τ := Cert.BoundRefIdeal.τ) (Cert.BoundRefIdeal.main (F := Ideal))) ⟨m, fun _ => 0, g⟩ (fun r => (∀ c : Dev Cert.BoundRefIdeal.nD,
      r.2.mem ((c.tc : Thread Cert.BoundRefIdeal.nD Cert.BoundRefIdeal.τ).loc Cert.BoundRefIdeal.main_arg0) = m ((c.tc : Thread Cert.BoundRefIdeal.nD Cert.BoundRefIdeal.τ).loc Cert.BoundRefIdeal.main_arg0)
      ∧ r.2.mem ((c.tc : Thread Cert.BoundRefIdeal.nD Cert.BoundRefIdeal.τ).loc Cert.BoundRefIdeal.main_arg1) = m ((c.tc : Thread Cert.BoundRefIdeal.nD Cert.BoundRefIdeal.τ).loc Cert.BoundRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_DiscA [hDiscA : Cert.DiscA.Facts] : Prop :=
  ∀ (m : (ℓ : Loc Cert.DiscA.nD Cert.DiscA.τ Cert.DiscA.sig) → Buf (Elt Bits) ℓ) (g : Dev Cert.DiscA.nD → PrngReg), Pre_DiscA m →
    θ_run (Cert.DiscA.defs (F := Bits)) (onTc (τ := Cert.DiscA.τ) (Cert.DiscA.main (F := Bits))) ⟨m, fun _ => 0, g⟩ (fun r => (∀ c : Dev Cert.DiscA.nD,
      r.2.mem ((c.tc : Thread Cert.DiscA.nD Cert.DiscA.τ).loc Cert.DiscA.main_arg0) = m ((c.tc : Thread Cert.DiscA.nD Cert.DiscA.τ).loc Cert.DiscA.main_arg0)
      ∧ r.2.mem ((c.tc : Thread Cert.DiscA.nD Cert.DiscA.τ).loc Cert.DiscA.main_arg1) = m ((c.tc : Thread Cert.DiscA.nD Cert.DiscA.τ).loc Cert.DiscA.main_arg1)
      ∧ r.2.mem ((c.tc : Thread Cert.DiscA.nD Cert.DiscA.τ).loc Cert.DiscA.main_arg2) = m ((c.tc : Thread Cert.DiscA.nD Cert.DiscA.τ).loc Cert.DiscA.main_arg2)
      ∧ r.2.mem ((c.tc : Thread Cert.DiscA.nD Cert.DiscA.τ).loc Cert.DiscA.main_arg3) = m ((c.tc : Thread Cert.DiscA.nD Cert.DiscA.τ).loc Cert.DiscA.main_arg3)
      ∧ r.2.mem ((c.tc : Thread Cert.DiscA.nD Cert.DiscA.τ).loc Cert.DiscA.main_arg4) = m ((c.tc : Thread Cert.DiscA.nD Cert.DiscA.τ).loc Cert.DiscA.main_arg4)
      ∧ r.2.mem ((c.tc : Thread Cert.DiscA.nD Cert.DiscA.τ).loc Cert.DiscA.main_arg5) = m ((c.tc : Thread Cert.DiscA.nD Cert.DiscA.τ).loc Cert.DiscA.main_arg5)
      ∧ r.2.mem ((c.tc : Thread Cert.DiscA.nD Cert.DiscA.τ).loc Cert.DiscA.main_arg6) = m ((c.tc : Thread Cert.DiscA.nD Cert.DiscA.τ).loc Cert.DiscA.main_arg6))
      ∧ r.2.sem = fun _ => 0)

def quiescent_DiscAIdeal [hDiscAIdeal : Cert.DiscAIdeal.Facts] : Prop :=
  ∀ (m : (ℓ : Loc Cert.DiscAIdeal.nD Cert.DiscAIdeal.τ Cert.DiscAIdeal.sig) → Buf (Elt Ideal) ℓ) (g : Dev Cert.DiscAIdeal.nD → PrngReg), Pre_DiscAIdeal m →
    θ_run (Cert.DiscAIdeal.defs (F := Ideal)) (onTc (τ := Cert.DiscAIdeal.τ) (Cert.DiscAIdeal.main (F := Ideal))) ⟨m, fun _ => 0, g⟩ (fun r => (∀ c : Dev Cert.DiscAIdeal.nD,
      r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
      ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
      ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
      ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
      ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
      ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
      ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ r.2.sem = fun _ => 0)

def quiescent_DiscARefIdeal [hDiscARefIdeal : Cert.DiscARefIdeal.Facts] : Prop :=
  ∀ (m : (ℓ : Loc Cert.DiscARefIdeal.nD Cert.DiscARefIdeal.τ Cert.DiscARefIdeal.sig) → Buf (Elt Ideal) ℓ) (g : Dev Cert.DiscARefIdeal.nD → PrngReg), Pre_DiscARefIdeal m →
    θ_run (Cert.DiscARefIdeal.defs (F := Ideal)) (onTc (τ := Cert.DiscARefIdeal.τ) (Cert.DiscARefIdeal.main (F := Ideal))) ⟨m, fun _ => 0, g⟩ (fun r => (∀ c : Dev Cert.DiscARefIdeal.nD,
      r.2.mem ((c.tc : Thread Cert.DiscARefIdeal.nD Cert.DiscARefIdeal.τ).loc Cert.DiscARefIdeal.main_arg0) = m ((c.tc : Thread Cert.DiscARefIdeal.nD Cert.DiscARefIdeal.τ).loc Cert.DiscARefIdeal.main_arg0)
      ∧ r.2.mem ((c.tc : Thread Cert.DiscARefIdeal.nD Cert.DiscARefIdeal.τ).loc Cert.DiscARefIdeal.main_arg1) = m ((c.tc : Thread Cert.DiscARefIdeal.nD Cert.DiscARefIdeal.τ).loc Cert.DiscARefIdeal.main_arg1)
      ∧ r.2.mem ((c.tc : Thread Cert.DiscARefIdeal.nD Cert.DiscARefIdeal.τ).loc Cert.DiscARefIdeal.main_arg2) = m ((c.tc : Thread Cert.DiscARefIdeal.nD Cert.DiscARefIdeal.τ).loc Cert.DiscARefIdeal.main_arg2)
      ∧ r.2.mem ((c.tc : Thread Cert.DiscARefIdeal.nD Cert.DiscARefIdeal.τ).loc Cert.DiscARefIdeal.main_arg3) = m ((c.tc : Thread Cert.DiscARefIdeal.nD Cert.DiscARefIdeal.τ).loc Cert.DiscARefIdeal.main_arg3)
      ∧ r.2.mem ((c.tc : Thread Cert.DiscARefIdeal.nD Cert.DiscARefIdeal.τ).loc Cert.DiscARefIdeal.main_arg4) = m ((c.tc : Thread Cert.DiscARefIdeal.nD Cert.DiscARefIdeal.τ).loc Cert.DiscARefIdeal.main_arg4)
      ∧ r.2.mem ((c.tc : Thread Cert.DiscARefIdeal.nD Cert.DiscARefIdeal.τ).loc Cert.DiscARefIdeal.main_arg5) = m ((c.tc : Thread Cert.DiscARefIdeal.nD Cert.DiscARefIdeal.τ).loc Cert.DiscARefIdeal.main_arg5)
      ∧ r.2.mem ((c.tc : Thread Cert.DiscARefIdeal.nD Cert.DiscARefIdeal.τ).loc Cert.DiscARefIdeal.main_arg6) = m ((c.tc : Thread Cert.DiscARefIdeal.nD Cert.DiscARefIdeal.τ).loc Cert.DiscARefIdeal.main_arg6))
      ∧ r.2.sem = fun _ => 0)

def quiescent_DiscB [hDiscB : Cert.DiscB.Facts] : Prop :=
  ∀ (m : (ℓ : Loc Cert.DiscB.nD Cert.DiscB.τ Cert.DiscB.sig) → Buf (Elt Bits) ℓ) (g : Dev Cert.DiscB.nD → PrngReg), Pre_DiscB m →
    θ_run (Cert.DiscB.defs (F := Bits)) (onTc (τ := Cert.DiscB.τ) (Cert.DiscB.main (F := Bits))) ⟨m, fun _ => 0, g⟩ (fun r => (∀ c : Dev Cert.DiscB.nD,
      r.2.mem ((c.tc : Thread Cert.DiscB.nD Cert.DiscB.τ).loc Cert.DiscB.main_arg0) = m ((c.tc : Thread Cert.DiscB.nD Cert.DiscB.τ).loc Cert.DiscB.main_arg0)
      ∧ r.2.mem ((c.tc : Thread Cert.DiscB.nD Cert.DiscB.τ).loc Cert.DiscB.main_arg1) = m ((c.tc : Thread Cert.DiscB.nD Cert.DiscB.τ).loc Cert.DiscB.main_arg1)
      ∧ r.2.mem ((c.tc : Thread Cert.DiscB.nD Cert.DiscB.τ).loc Cert.DiscB.main_arg2) = m ((c.tc : Thread Cert.DiscB.nD Cert.DiscB.τ).loc Cert.DiscB.main_arg2)
      ∧ r.2.mem ((c.tc : Thread Cert.DiscB.nD Cert.DiscB.τ).loc Cert.DiscB.main_arg3) = m ((c.tc : Thread Cert.DiscB.nD Cert.DiscB.τ).loc Cert.DiscB.main_arg3)
      ∧ r.2.mem ((c.tc : Thread Cert.DiscB.nD Cert.DiscB.τ).loc Cert.DiscB.main_arg4) = m ((c.tc : Thread Cert.DiscB.nD Cert.DiscB.τ).loc Cert.DiscB.main_arg4)
      ∧ r.2.mem ((c.tc : Thread Cert.DiscB.nD Cert.DiscB.τ).loc Cert.DiscB.main_arg5) = m ((c.tc : Thread Cert.DiscB.nD Cert.DiscB.τ).loc Cert.DiscB.main_arg5)
      ∧ r.2.mem ((c.tc : Thread Cert.DiscB.nD Cert.DiscB.τ).loc Cert.DiscB.main_arg6) = m ((c.tc : Thread Cert.DiscB.nD Cert.DiscB.τ).loc Cert.DiscB.main_arg6))
      ∧ r.2.sem = fun _ => 0)

def quiescent_DiscBIdeal [hDiscBIdeal : Cert.DiscBIdeal.Facts] : Prop :=
  ∀ (m : (ℓ : Loc Cert.DiscBIdeal.nD Cert.DiscBIdeal.τ Cert.DiscBIdeal.sig) → Buf (Elt Ideal) ℓ) (g : Dev Cert.DiscBIdeal.nD → PrngReg), Pre_DiscBIdeal m →
    θ_run (Cert.DiscBIdeal.defs (F := Ideal)) (onTc (τ := Cert.DiscBIdeal.τ) (Cert.DiscBIdeal.main (F := Ideal))) ⟨m, fun _ => 0, g⟩ (fun r => (∀ c : Dev Cert.DiscBIdeal.nD,
      r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
      ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
      ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
      ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
      ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
      ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5)
      ∧ r.2.mem ((c.tc : Thread Cert.DiscBIdeal.nD Cert.DiscBIdeal.τ).loc Cert.DiscBIdeal.main_arg6) = m ((c.tc : Thread Cert.DiscBIdeal.nD Cert.DiscBIdeal.τ).loc Cert.DiscBIdeal.main_arg6))
      ∧ r.2.sem = fun _ => 0)

def quiescent_DiscBRefIdeal [hDiscBRefIdeal : Cert.DiscBRefIdeal.Facts] : Prop :=
  ∀ (m : (ℓ : Loc Cert.DiscBRefIdeal.nD Cert.DiscBRefIdeal.τ Cert.DiscBRefIdeal.sig) → Buf (Elt Ideal) ℓ) (g : Dev Cert.DiscBRefIdeal.nD → PrngReg), Pre_DiscBRefIdeal m →
    θ_run (Cert.DiscBRefIdeal.defs (F := Ideal)) (onTc (τ := Cert.DiscBRefIdeal.τ) (Cert.DiscBRefIdeal.main (F := Ideal))) ⟨m, fun _ => 0, g⟩ (fun r => (∀ c : Dev Cert.DiscBRefIdeal.nD,
      r.2.mem ((c.tc : Thread Cert.DiscBRefIdeal.nD Cert.DiscBRefIdeal.τ).loc Cert.DiscBRefIdeal.main_arg0) = m ((c.tc : Thread Cert.DiscBRefIdeal.nD Cert.DiscBRefIdeal.τ).loc Cert.DiscBRefIdeal.main_arg0)
      ∧ r.2.mem ((c.tc : Thread Cert.DiscBRefIdeal.nD Cert.DiscBRefIdeal.τ).loc Cert.DiscBRefIdeal.main_arg1) = m ((c.tc : Thread Cert.DiscBRefIdeal.nD Cert.DiscBRefIdeal.τ).loc Cert.DiscBRefIdeal.main_arg1)
      ∧ r.2.mem ((c.tc : Thread Cert.DiscBRefIdeal.nD Cert.DiscBRefIdeal.τ).loc Cert.DiscBRefIdeal.main_arg2) = m ((c.tc : Thread Cert.DiscBRefIdeal.nD Cert.DiscBRefIdeal.τ).loc Cert.DiscBRefIdeal.main_arg2)
      ∧ r.2.mem ((c.tc : Thread Cert.DiscBRefIdeal.nD Cert.DiscBRefIdeal.τ).loc Cert.DiscBRefIdeal.main_arg3) = m ((c.tc : Thread Cert.DiscBRefIdeal.nD Cert.DiscBRefIdeal.τ).loc Cert.DiscBRefIdeal.main_arg3)
      ∧ r.2.mem ((c.tc : Thread Cert.DiscBRefIdeal.nD Cert.DiscBRefIdeal.τ).loc Cert.DiscBRefIdeal.main_arg4) = m ((c.tc : Thread Cert.DiscBRefIdeal.nD Cert.DiscBRefIdeal.τ).loc Cert.DiscBRefIdeal.main_arg4)
      ∧ r.2.mem ((c.tc : Thread Cert.DiscBRefIdeal.nD Cert.DiscBRefIdeal.τ).loc Cert.DiscBRefIdeal.main_arg5) = m ((c.tc : Thread Cert.DiscBRefIdeal.nD Cert.DiscBRefIdeal.τ).loc Cert.DiscBRefIdeal.main_arg5)
      ∧ r.2.mem ((c.tc : Thread Cert.DiscBRefIdeal.nD Cert.DiscBRefIdeal.τ).loc Cert.DiscBRefIdeal.main_arg6) = m ((c.tc : Thread Cert.DiscBRefIdeal.nD Cert.DiscBRefIdeal.τ).loc Cert.DiscBRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_DiscAFwd [hDiscAFwd : Cert.DiscAFwd.Facts] : Prop :=
  ∀ (m : (ℓ : Loc Cert.DiscAFwd.nD Cert.DiscAFwd.τ Cert.DiscAFwd.sig) → Buf (Elt Bits) ℓ) (g : Dev Cert.DiscAFwd.nD → PrngReg), Pre_DiscAFwd m →
    θ_run (Cert.DiscAFwd.defs (F := Bits)) (onTc (τ := Cert.DiscAFwd.τ) (Cert.DiscAFwd.main (F := Bits))) ⟨m, fun _ => 0, g⟩ (fun r => (∀ c : Dev Cert.DiscAFwd.nD,
      r.2.mem ((c.tc : Thread Cert.DiscAFwd.nD Cert.DiscAFwd.τ).loc Cert.DiscAFwd.main_arg0) = m ((c.tc : Thread Cert.DiscAFwd.nD Cert.DiscAFwd.τ).loc Cert.DiscAFwd.main_arg0)
      ∧ r.2.mem ((c.tc : Thread Cert.DiscAFwd.nD Cert.DiscAFwd.τ).loc Cert.DiscAFwd.main_arg1) = m ((c.tc : Thread Cert.DiscAFwd.nD Cert.DiscAFwd.τ).loc Cert.DiscAFwd.main_arg1)
      ∧ r.2.mem ((c.tc : Thread Cert.DiscAFwd.nD Cert.DiscAFwd.τ).loc Cert.DiscAFwd.main_arg2) = m ((c.tc : Thread Cert.DiscAFwd.nD Cert.DiscAFwd.τ).loc Cert.DiscAFwd.main_arg2))
      ∧ r.2.sem = fun _ => 0)

def quiescent_DiscAFwdIdeal [hDiscAFwdIdeal : Cert.DiscAFwdIdeal.Facts] : Prop :=
  ∀ (m : (ℓ : Loc Cert.DiscAFwdIdeal.nD Cert.DiscAFwdIdeal.τ Cert.DiscAFwdIdeal.sig) → Buf (Elt Ideal) ℓ) (g : Dev Cert.DiscAFwdIdeal.nD → PrngReg), Pre_DiscAFwdIdeal m →
    θ_run (Cert.DiscAFwdIdeal.defs (F := Ideal)) (onTc (τ := Cert.DiscAFwdIdeal.τ) (Cert.DiscAFwdIdeal.main (F := Ideal))) ⟨m, fun _ => 0, g⟩ (fun r => (∀ c : Dev Cert.DiscAFwdIdeal.nD,
      r.2.mem ((c.tc : Thread Cert.DiscAFwdIdeal.nD Cert.DiscAFwdIdeal.τ).loc Cert.DiscAFwdIdeal.main_arg0) = m ((c.tc : Thread Cert.DiscAFwdIdeal.nD Cert.DiscAFwdIdeal.τ).loc Cert.DiscAFwdIdeal.main_arg0)
      ∧ r.2.mem ((c.tc : Thread Cert.DiscAFwdIdeal.nD Cert.DiscAFwdIdeal.τ).loc Cert.DiscAFwdIdeal.main_arg1) = m ((c.tc : Thread Cert.DiscAFwdIdeal.nD Cert.DiscAFwdIdeal.τ).loc Cert.DiscAFwdIdeal.main_arg1)
      ∧ r.2.mem ((c.tc : Thread Cert.DiscAFwdIdeal.nD Cert.DiscAFwdIdeal.τ).loc Cert.DiscAFwdIdeal.main_arg2) = m ((c.tc : Thread Cert.DiscAFwdIdeal.nD Cert.DiscAFwdIdeal.τ).loc Cert.DiscAFwdIdeal.main_arg2))
      ∧ r.2.sem = fun _ => 0)

def quiescent_DiscAFwdIdeal_pre_disc_finite [hDiscAFwdIdeal : Cert.DiscAFwdIdeal.Facts] [hPre_disc_finite : Cert.Pre_disc_finite.Facts] : Prop :=
  ∀ (m : (ℓ : Loc Cert.DiscAFwdIdeal.nD Cert.DiscAFwdIdeal.τ Cert.DiscAFwdIdeal.sig) → Buf (Elt Ideal) ℓ) (g : Dev Cert.DiscAFwdIdeal.nD → PrngReg), Pre_DiscAFwdIdeal_disc_finite m →
    θ_run (Cert.DiscAFwdIdeal.defs (F := Ideal)) (onTc (τ := Cert.DiscAFwdIdeal.τ) (Cert.DiscAFwdIdeal.main (F := Ideal))) ⟨m, fun _ => 0, g⟩ (fun r => (∀ c : Dev Cert.DiscAFwdIdeal.nD,
      r.2.mem ((c.tc : Thread Cert.DiscAFwdIdeal.nD Cert.DiscAFwdIdeal.τ).loc Cert.DiscAFwdIdeal.main_arg0) = m ((c.tc : Thread Cert.DiscAFwdIdeal.nD Cert.DiscAFwdIdeal.τ).loc Cert.DiscAFwdIdeal.main_arg0)
      ∧ r.2.mem ((c.tc : Thread Cert.DiscAFwdIdeal.nD Cert.DiscAFwdIdeal.τ).loc Cert.DiscAFwdIdeal.main_arg1) = m ((c.tc : Thread Cert.DiscAFwdIdeal.nD Cert.DiscAFwdIdeal.τ).loc Cert.DiscAFwdIdeal.main_arg1)
      ∧ r.2.mem ((c.tc : Thread Cert.DiscAFwdIdeal.nD Cert.DiscAFwdIdeal.τ).loc Cert.DiscAFwdIdeal.main_arg2) = m ((c.tc : Thread Cert.DiscAFwdIdeal.nD Cert.DiscAFwdIdeal.τ).loc Cert.DiscAFwdIdeal.main_arg2))
      ∧ r.2.sem = fun _ => 0)

def quiescent_DiscAFwdRefIdeal [hDiscAFwdRefIdeal : Cert.DiscAFwdRefIdeal.Facts] : Prop :=
  ∀ (m : (ℓ : Loc Cert.DiscAFwdRefIdeal.nD Cert.DiscAFwdRefIdeal.τ Cert.DiscAFwdRefIdeal.sig) → Buf (Elt Ideal) ℓ) (g : Dev Cert.DiscAFwdRefIdeal.nD → PrngReg), Pre_DiscAFwdRefIdeal m →
    θ_run (Cert.DiscAFwdRefIdeal.defs (F := Ideal)) (onTc (τ := Cert.DiscAFwdRefIdeal.τ) (Cert.DiscAFwdRefIdeal.main (F := Ideal))) ⟨m, fun _ => 0, g⟩ (fun r => (∀ c : Dev Cert.DiscAFwdRefIdeal.nD,
      r.2.mem ((c.tc : Thread Cert.DiscAFwdRefIdeal.nD Cert.DiscAFwdRefIdeal.τ).loc Cert.DiscAFwdRefIdeal.main_arg0) = m ((c.tc : Thread Cert.DiscAFwdRefIdeal.nD Cert.DiscAFwdRefIdeal.τ).loc Cert.DiscAFwdRefIdeal.main_arg0)
      ∧ r.2.mem ((c.tc : Thread Cert.DiscAFwdRefIdeal.nD Cert.DiscAFwdRefIdeal.τ).loc Cert.DiscAFwdRefIdeal.main_arg1) = m ((c.tc : Thread Cert.DiscAFwdRefIdeal.nD Cert.DiscAFwdRefIdeal.τ).loc Cert.DiscAFwdRefIdeal.main_arg1)
      ∧ r.2.mem ((c.tc : Thread Cert.DiscAFwdRefIdeal.nD Cert.DiscAFwdRefIdeal.τ).loc Cert.DiscAFwdRefIdeal.main_arg2) = m ((c.tc : Thread Cert.DiscAFwdRefIdeal.nD Cert.DiscAFwdRefIdeal.τ).loc Cert.DiscAFwdRefIdeal.main_arg2))
      ∧ r.2.sem = fun _ => 0)

def quiescent_DiscAFwdRefIdeal_pre_disc_finite [hDiscAFwdRefIdeal : Cert.DiscAFwdRefIdeal.Facts] [hPre_disc_finite : Cert.Pre_disc_finite.Facts] : Prop :=
  ∀ (m : (ℓ : Loc Cert.DiscAFwdRefIdeal.nD Cert.DiscAFwdRefIdeal.τ Cert.DiscAFwdRefIdeal.sig) → Buf (Elt Ideal) ℓ) (g : Dev Cert.DiscAFwdRefIdeal.nD → PrngReg), Pre_DiscAFwdRefIdeal_disc_finite m →
    θ_run (Cert.DiscAFwdRefIdeal.defs (F := Ideal)) (onTc (τ := Cert.DiscAFwdRefIdeal.τ) (Cert.DiscAFwdRefIdeal.main (F := Ideal))) ⟨m, fun _ => 0, g⟩ (fun r => (∀ c : Dev Cert.DiscAFwdRefIdeal.nD,
      r.2.mem ((c.tc : Thread Cert.DiscAFwdRefIdeal.nD Cert.DiscAFwdRefIdeal.τ).loc Cert.DiscAFwdRefIdeal.main_arg0) = m ((c.tc : Thread Cert.DiscAFwdRefIdeal.nD Cert.DiscAFwdRefIdeal.τ).loc Cert.DiscAFwdRefIdeal.main_arg0)
      ∧ r.2.mem ((c.tc : Thread Cert.DiscAFwdRefIdeal.nD Cert.DiscAFwdRefIdeal.τ).loc Cert.DiscAFwdRefIdeal.main_arg1) = m ((c.tc : Thread Cert.DiscAFwdRefIdeal.nD Cert.DiscAFwdRefIdeal.τ).loc Cert.DiscAFwdRefIdeal.main_arg1)
      ∧ r.2.mem ((c.tc : Thread Cert.DiscAFwdRefIdeal.nD Cert.DiscAFwdRefIdeal.τ).loc Cert.DiscAFwdRefIdeal.main_arg2) = m ((c.tc : Thread Cert.DiscAFwdRefIdeal.nD Cert.DiscAFwdRefIdeal.τ).loc Cert.DiscAFwdRefIdeal.main_arg2))
      ∧ r.2.sem = fun _ => 0)

def quiescent_DiscBFwd [hDiscBFwd : Cert.DiscBFwd.Facts] : Prop :=
  ∀ (m : (ℓ : Loc Cert.DiscBFwd.nD Cert.DiscBFwd.τ Cert.DiscBFwd.sig) → Buf (Elt Bits) ℓ) (g : Dev Cert.DiscBFwd.nD → PrngReg), Pre_DiscBFwd m →
    θ_run (Cert.DiscBFwd.defs (F := Bits)) (onTc (τ := Cert.DiscBFwd.τ) (Cert.DiscBFwd.main (F := Bits))) ⟨m, fun _ => 0, g⟩ (fun r => (∀ c : Dev Cert.DiscBFwd.nD,
      r.2.mem ((c.tc : Thread Cert.DiscBFwd.nD Cert.DiscBFwd.τ).loc Cert.DiscBFwd.main_arg0) = m ((c.tc : Thread Cert.DiscBFwd.nD Cert.DiscBFwd.τ).loc Cert.DiscBFwd.main_arg0)
      ∧ r.2.mem ((c.tc : Thread Cert.DiscBFwd.nD Cert.DiscBFwd.τ).loc Cert.DiscBFwd.main_arg1) = m ((c.tc : Thread Cert.DiscBFwd.nD Cert.DiscBFwd.τ).loc Cert.DiscBFwd.main_arg1)
      ∧ r.2.mem ((c.tc : Thread Cert.DiscBFwd.nD Cert.DiscBFwd.τ).loc Cert.DiscBFwd.main_arg2) = m ((c.tc : Thread Cert.DiscBFwd.nD Cert.DiscBFwd.τ).loc Cert.DiscBFwd.main_arg2)
      ∧ r.2.mem ((c.tc : Thread Cert.DiscBFwd.nD Cert.DiscBFwd.τ).loc Cert.DiscBFwd.main_arg3) = m ((c.tc : Thread Cert.DiscBFwd.nD Cert.DiscBFwd.τ).loc Cert.DiscBFwd.main_arg3))
      ∧ r.2.sem = fun _ => 0)

def quiescent_DiscBFwdIdeal [hDiscBFwdIdeal : Cert.DiscBFwdIdeal.Facts] : Prop :=
  ∀ (m : (ℓ : Loc Cert.DiscBFwdIdeal.nD Cert.DiscBFwdIdeal.τ Cert.DiscBFwdIdeal.sig) → Buf (Elt Ideal) ℓ) (g : Dev Cert.DiscBFwdIdeal.nD → PrngReg), Pre_DiscBFwdIdeal m →
    θ_run (Cert.DiscBFwdIdeal.defs (F := Ideal)) (onTc (τ := Cert.DiscBFwdIdeal.τ) (Cert.DiscBFwdIdeal.main (F := Ideal))) ⟨m, fun _ => 0, g⟩ (fun r => (∀ c : Dev Cert.DiscBFwdIdeal.nD,
      r.2.mem ((c.tc : Thread Cert.DiscBFwdIdeal.nD Cert.DiscBFwdIdeal.τ).loc Cert.DiscBFwdIdeal.main_arg0) = m ((c.tc : Thread Cert.DiscBFwdIdeal.nD Cert.DiscBFwdIdeal.τ).loc Cert.DiscBFwdIdeal.main_arg0)
      ∧ r.2.mem ((c.tc : Thread Cert.DiscBFwdIdeal.nD Cert.DiscBFwdIdeal.τ).loc Cert.DiscBFwdIdeal.main_arg1) = m ((c.tc : Thread Cert.DiscBFwdIdeal.nD Cert.DiscBFwdIdeal.τ).loc Cert.DiscBFwdIdeal.main_arg1)
      ∧ r.2.mem ((c.tc : Thread Cert.DiscBFwdIdeal.nD Cert.DiscBFwdIdeal.τ).loc Cert.DiscBFwdIdeal.main_arg2) = m ((c.tc : Thread Cert.DiscBFwdIdeal.nD Cert.DiscBFwdIdeal.τ).loc Cert.DiscBFwdIdeal.main_arg2)
      ∧ r.2.mem ((c.tc : Thread Cert.DiscBFwdIdeal.nD Cert.DiscBFwdIdeal.τ).loc Cert.DiscBFwdIdeal.main_arg3) = m ((c.tc : Thread Cert.DiscBFwdIdeal.nD Cert.DiscBFwdIdeal.τ).loc Cert.DiscBFwdIdeal.main_arg3))
      ∧ r.2.sem = fun _ => 0)

def quiescent_DiscBFwdRefIdeal [hDiscBFwdRefIdeal : Cert.DiscBFwdRefIdeal.Facts] : Prop :=
  ∀ (m : (ℓ : Loc Cert.DiscBFwdRefIdeal.nD Cert.DiscBFwdRefIdeal.τ Cert.DiscBFwdRefIdeal.sig) → Buf (Elt Ideal) ℓ) (g : Dev Cert.DiscBFwdRefIdeal.nD → PrngReg), Pre_DiscBFwdRefIdeal m →
    θ_run (Cert.DiscBFwdRefIdeal.defs (F := Ideal)) (onTc (τ := Cert.DiscBFwdRefIdeal.τ) (Cert.DiscBFwdRefIdeal.main (F := Ideal))) ⟨m, fun _ => 0, g⟩ (fun r => (∀ c : Dev Cert.DiscBFwdRefIdeal.nD,
      r.2.mem ((c.tc : Thread Cert.DiscBFwdRefIdeal.nD Cert.DiscBFwdRefIdeal.τ).loc Cert.DiscBFwdRefIdeal.main_arg0) = m ((c.tc : Thread Cert.DiscBFwdRefIdeal.nD Cert.DiscBFwdRefIdeal.τ).loc Cert.DiscBFwdRefIdeal.main_arg0)
      ∧ r.2.mem ((c.tc : Thread Cert.DiscBFwdRefIdeal.nD Cert.DiscBFwdRefIdeal.τ).loc Cert.DiscBFwdRefIdeal.main_arg1) = m ((c.tc : Thread Cert.DiscBFwdRefIdeal.nD Cert.DiscBFwdRefIdeal.τ).loc Cert.DiscBFwdRefIdeal.main_arg1)
      ∧ r.2.mem ((c.tc : Thread Cert.DiscBFwdRefIdeal.nD Cert.DiscBFwdRefIdeal.τ).loc Cert.DiscBFwdRefIdeal.main_arg2) = m ((c.tc : Thread Cert.DiscBFwdRefIdeal.nD Cert.DiscBFwdRefIdeal.τ).loc Cert.DiscBFwdRefIdeal.main_arg2)
      ∧ r.2.mem ((c.tc : Thread Cert.DiscBFwdRefIdeal.nD Cert.DiscBFwdRefIdeal.τ).loc Cert.DiscBFwdRefIdeal.main_arg3) = m ((c.tc : Thread Cert.DiscBFwdRefIdeal.nD Cert.DiscBFwdRefIdeal.τ).loc Cert.DiscBFwdRefIdeal.main_arg3))
      ∧ r.2.sem = fun _ => 0)

def quiescent_BoundFwd [hBoundFwd : Cert.BoundFwd.Facts] : Prop :=
  ∀ (m : (ℓ : Loc Cert.BoundFwd.nD Cert.BoundFwd.τ Cert.BoundFwd.sig) → Buf (Elt Bits) ℓ) (g : Dev Cert.BoundFwd.nD → PrngReg), Pre_BoundFwd m →
    θ_run (Cert.BoundFwd.defs (F := Bits)) (onTc (τ := Cert.BoundFwd.τ) (Cert.BoundFwd.main (F := Bits))) ⟨m, fun _ => 0, g⟩ (fun r => (∀ c : Dev Cert.BoundFwd.nD,
      r.2.mem ((c.tc : Thread Cert.BoundFwd.nD Cert.BoundFwd.τ).loc Cert.BoundFwd.main_arg0) = m ((c.tc : Thread Cert.BoundFwd.nD Cert.BoundFwd.τ).loc Cert.BoundFwd.main_arg0))
      ∧ r.2.sem = fun _ => 0)

def quiescent_BoundFwdIdeal [hBoundFwdIdeal : Cert.BoundFwdIdeal.Facts] : Prop :=
  ∀ (m : (ℓ : Loc Cert.BoundFwdIdeal.nD Cert.BoundFwdIdeal.τ Cert.BoundFwdIdeal.sig) → Buf (Elt Ideal) ℓ) (g : Dev Cert.BoundFwdIdeal.nD → PrngReg), Pre_BoundFwdIdeal m →
    θ_run (Cert.BoundFwdIdeal.defs (F := Ideal)) (onTc (τ := Cert.BoundFwdIdeal.τ) (Cert.BoundFwdIdeal.main (F := Ideal))) ⟨m, fun _ => 0, g⟩ (fun r => (∀ c : Dev Cert.BoundFwdIdeal.nD,
      r.2.mem ((c.tc : Thread Cert.BoundFwdIdeal.nD Cert.BoundFwdIdeal.τ).loc Cert.BoundFwdIdeal.main_arg0) = m ((c.tc : Thread Cert.BoundFwdIdeal.nD Cert.BoundFwdIdeal.τ).loc Cert.BoundFwdIdeal.main_arg0))
      ∧ r.2.sem = fun _ => 0)

def quiescent_BoundFwdRefIdeal [hBoundFwdRefIdeal : Cert.BoundFwdRefIdeal.Facts] : Prop :=
  ∀ (m : (ℓ : Loc Cert.BoundFwdRefIdeal.nD Cert.BoundFwdRefIdeal.τ Cert.BoundFwdRefIdeal.sig) → Buf (Elt Ideal) ℓ) (g : Dev Cert.BoundFwdRefIdeal.nD → PrngReg), Pre_BoundFwdRefIdeal m →
    θ_run (Cert.BoundFwdRefIdeal.defs (F := Ideal)) (onTc (τ := Cert.BoundFwdRefIdeal.τ) (Cert.BoundFwdRefIdeal.main (F := Ideal))) ⟨m, fun _ => 0, g⟩ (fun r => (∀ c : Dev Cert.BoundFwdRefIdeal.nD,
      r.2.mem ((c.tc : Thread Cert.BoundFwdRefIdeal.nD Cert.BoundFwdRefIdeal.τ).loc Cert.BoundFwdRefIdeal.main_arg0) = m ((c.tc : Thread Cert.BoundFwdRefIdeal.nD Cert.BoundFwdRefIdeal.τ).loc Cert.BoundFwdRefIdeal.main_arg0))
      ∧ r.2.sem = fun _ => 0)

def quiescent_InProd [hInProd : Cert.InProd.Facts] : Prop :=
  ∀ (m : (ℓ : Loc Cert.InProd.nD Cert.InProd.τ Cert.InProd.sig) → Buf (Elt Bits) ℓ) (g : Dev Cert.InProd.nD → PrngReg), Pre_InProd m →
    θ_run (Cert.InProd.defs (F := Bits)) (onTc (τ := Cert.InProd.τ) (Cert.InProd.main (F := Bits))) ⟨m, fun _ => 0, g⟩ (fun r => (∀ c : Dev Cert.InProd.nD,
      r.2.mem ((c.tc : Thread Cert.InProd.nD Cert.InProd.τ).loc Cert.InProd.main_arg0) = m ((c.tc : Thread Cert.InProd.nD Cert.InProd.τ).loc Cert.InProd.main_arg0)
      ∧ r.2.mem ((c.tc : Thread Cert.InProd.nD Cert.InProd.τ).loc Cert.InProd.main_arg1) = m ((c.tc : Thread Cert.InProd.nD Cert.InProd.τ).loc Cert.InProd.main_arg1))
      ∧ r.2.sem = fun _ => 0)

def quiescent_InProdIdeal [hInProdIdeal : Cert.InProdIdeal.Facts] : Prop :=
  ∀ (m : (ℓ : Loc Cert.InProdIdeal.nD Cert.InProdIdeal.τ Cert.InProdIdeal.sig) → Buf (Elt Ideal) ℓ) (g : Dev Cert.InProdIdeal.nD → PrngReg), Pre_InProdIdeal m →
    θ_run (Cert.InProdIdeal.defs (F := Ideal)) (onTc (τ := Cert.InProdIdeal.τ) (Cert.InProdIdeal.main (F := Ideal))) ⟨m, fun _ => 0, g⟩ (fun r => (∀ c : Dev Cert.InProdIdeal.nD,
      r.2.mem ((c.tc : Thread Cert.InProdIdeal.nD Cert.InProdIdeal.τ).loc Cert.InProdIdeal.main_arg0) = m ((c.tc : Thread Cert.InProdIdeal.nD Cert.InProdIdeal.τ).loc Cert.InProdIdeal.main_arg0)
      ∧ r.2.mem ((c.tc : Thread Cert.InProdIdeal.nD Cert.InProdIdeal.τ).loc Cert.InProdIdeal.main_arg1) = m ((c.tc : Thread Cert.InProdIdeal.nD Cert.InProdIdeal.τ).loc Cert.InProdIdeal.main_arg1))
      ∧ r.2.sem = fun _ => 0)

def quiescent_InProdRefIdeal [hInProdRefIdeal : Cert.InProdRefIdeal.Facts] : Prop :=
  ∀ (m : (ℓ : Loc Cert.InProdRefIdeal.nD Cert.InProdRefIdeal.τ Cert.InProdRefIdeal.sig) → Buf (Elt Ideal) ℓ) (g : Dev Cert.InProdRefIdeal.nD → PrngReg), Pre_InProdRefIdeal m →
    θ_run (Cert.InProdRefIdeal.defs (F := Ideal)) (onTc (τ := Cert.InProdRefIdeal.τ) (Cert.InProdRefIdeal.main (F := Ideal))) ⟨m, fun _ => 0, g⟩ (fun r => (∀ c : Dev Cert.InProdRefIdeal.nD,
      r.2.mem ((c.tc : Thread Cert.InProdRefIdeal.nD Cert.InProdRefIdeal.τ).loc Cert.InProdRefIdeal.main_arg0) = m ((c.tc : Thread Cert.InProdRefIdeal.nD Cert.InProdRefIdeal.τ).loc Cert.InProdRefIdeal.main_arg0)
      ∧ r.2.mem ((c.tc : Thread Cert.InProdRefIdeal.nD Cert.InProdRefIdeal.τ).loc Cert.InProdRefIdeal.main_arg1) = m ((c.tc : Thread Cert.InProdRefIdeal.nD Cert.InProdRefIdeal.τ).loc Cert.InProdRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_LinProd [hLinProd : Cert.LinProd.Facts] : Prop :=
  ∀ (m : (ℓ : Loc Cert.LinProd.nD Cert.LinProd.τ Cert.LinProd.sig) → Buf (Elt Bits) ℓ) (g : Dev Cert.LinProd.nD → PrngReg), Pre_LinProd m →
    θ_run (Cert.LinProd.defs (F := Bits)) (onTc (τ := Cert.LinProd.τ) (Cert.LinProd.main (F := Bits))) ⟨m, fun _ => 0, g⟩ (fun r => (∀ c : Dev Cert.LinProd.nD,
      r.2.mem ((c.tc : Thread Cert.LinProd.nD Cert.LinProd.τ).loc Cert.LinProd.main_arg0) = m ((c.tc : Thread Cert.LinProd.nD Cert.LinProd.τ).loc Cert.LinProd.main_arg0)
      ∧ r.2.mem ((c.tc : Thread Cert.LinProd.nD Cert.LinProd.τ).loc Cert.LinProd.main_arg1) = m ((c.tc : Thread Cert.LinProd.nD Cert.LinProd.τ).loc Cert.LinProd.main_arg1)
      ∧ r.2.mem ((c.tc : Thread Cert.LinProd.nD Cert.LinProd.τ).loc Cert.LinProd.main_arg2) = m ((c.tc : Thread Cert.LinProd.nD Cert.LinProd.τ).loc Cert.LinProd.main_arg2))
      ∧ r.2.sem = fun _ => 0)

def quiescent_LinProdIdeal [hLinProdIdeal : Cert.LinProdIdeal.Facts] : Prop :=
  ∀ (m : (ℓ : Loc Cert.LinProdIdeal.nD Cert.LinProdIdeal.τ Cert.LinProdIdeal.sig) → Buf (Elt Ideal) ℓ) (g : Dev Cert.LinProdIdeal.nD → PrngReg), Pre_LinProdIdeal m →
    θ_run (Cert.LinProdIdeal.defs (F := Ideal)) (onTc (τ := Cert.LinProdIdeal.τ) (Cert.LinProdIdeal.main (F := Ideal))) ⟨m, fun _ => 0, g⟩ (fun r => (∀ c : Dev Cert.LinProdIdeal.nD,
      r.2.mem ((c.tc : Thread Cert.LinProdIdeal.nD Cert.LinProdIdeal.τ).loc Cert.LinProdIdeal.main_arg0) = m ((c.tc : Thread Cert.LinProdIdeal.nD Cert.LinProdIdeal.τ).loc Cert.LinProdIdeal.main_arg0)
      ∧ r.2.mem ((c.tc : Thread Cert.LinProdIdeal.nD Cert.LinProdIdeal.τ).loc Cert.LinProdIdeal.main_arg1) = m ((c.tc : Thread Cert.LinProdIdeal.nD Cert.LinProdIdeal.τ).loc Cert.LinProdIdeal.main_arg1)
      ∧ r.2.mem ((c.tc : Thread Cert.LinProdIdeal.nD Cert.LinProdIdeal.τ).loc Cert.LinProdIdeal.main_arg2) = m ((c.tc : Thread Cert.LinProdIdeal.nD Cert.LinProdIdeal.τ).loc Cert.LinProdIdeal.main_arg2))
      ∧ r.2.sem = fun _ => 0)

def quiescent_LinProdRefIdeal [hLinProdRefIdeal : Cert.LinProdRefIdeal.Facts] : Prop :=
  ∀ (m : (ℓ : Loc Cert.LinProdRefIdeal.nD Cert.LinProdRefIdeal.τ Cert.LinProdRefIdeal.sig) → Buf (Elt Ideal) ℓ) (g : Dev Cert.LinProdRefIdeal.nD → PrngReg), Pre_LinProdRefIdeal m →
    θ_run (Cert.LinProdRefIdeal.defs (F := Ideal)) (onTc (τ := Cert.LinProdRefIdeal.τ) (Cert.LinProdRefIdeal.main (F := Ideal))) ⟨m, fun _ => 0, g⟩ (fun r => (∀ c : Dev Cert.LinProdRefIdeal.nD,
      r.2.mem ((c.tc : Thread Cert.LinProdRefIdeal.nD Cert.LinProdRefIdeal.τ).loc Cert.LinProdRefIdeal.main_arg0) = m ((c.tc : Thread Cert.LinProdRefIdeal.nD Cert.LinProdRefIdeal.τ).loc Cert.LinProdRefIdeal.main_arg0)
      ∧ r.2.mem ((c.tc : Thread Cert.LinProdRefIdeal.nD Cert.LinProdRefIdeal.τ).loc Cert.LinProdRefIdeal.main_arg1) = m ((c.tc : Thread Cert.LinProdRefIdeal.nD Cert.LinProdRefIdeal.τ).loc Cert.LinProdRefIdeal.main_arg1)
      ∧ r.2.mem ((c.tc : Thread Cert.LinProdRefIdeal.nD Cert.LinProdRefIdeal.τ).loc Cert.LinProdRefIdeal.main_arg2) = m ((c.tc : Thread Cert.LinProdRefIdeal.nD Cert.LinProdRefIdeal.τ).loc Cert.LinProdRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_MetaGrad [hMetaGrad : Cert.MetaGrad.Facts] : Prop :=
  ∀ (m : (ℓ : Loc Cert.MetaGrad.nD Cert.MetaGrad.τ Cert.MetaGrad.sig) → Buf (Elt Bits) ℓ) (g : Dev Cert.MetaGrad.nD → PrngReg), Pre_MetaGrad m →
    θ_run (Cert.MetaGrad.defs (F := Bits)) (onTc (τ := Cert.MetaGrad.τ) (Cert.MetaGrad.main (F := Bits))) ⟨m, fun _ => 0, g⟩ (fun r => (∀ c : Dev Cert.MetaGrad.nD,
      r.2.mem ((c.tc : Thread Cert.MetaGrad.nD Cert.MetaGrad.τ).loc Cert.MetaGrad.main_arg0) = m ((c.tc : Thread Cert.MetaGrad.nD Cert.MetaGrad.τ).loc Cert.MetaGrad.main_arg0))
      ∧ r.2.sem = fun _ => 0)

def quiescent_MetaGradIdeal [hMetaGradIdeal : Cert.MetaGradIdeal.Facts] : Prop :=
  ∀ (m : (ℓ : Loc Cert.MetaGradIdeal.nD Cert.MetaGradIdeal.τ Cert.MetaGradIdeal.sig) → Buf (Elt Ideal) ℓ) (g : Dev Cert.MetaGradIdeal.nD → PrngReg), Pre_MetaGradIdeal m →
    θ_run (Cert.MetaGradIdeal.defs (F := Ideal)) (onTc (τ := Cert.MetaGradIdeal.τ) (Cert.MetaGradIdeal.main (F := Ideal))) ⟨m, fun _ => 0, g⟩ (fun r => (∀ c : Dev Cert.MetaGradIdeal.nD,
      r.2.mem ((c.tc : Thread Cert.MetaGradIdeal.nD Cert.MetaGradIdeal.τ).loc Cert.MetaGradIdeal.main_arg0) = m ((c.tc : Thread Cert.MetaGradIdeal.nD Cert.MetaGradIdeal.τ).loc Cert.MetaGradIdeal.main_arg0))
      ∧ r.2.sem = fun _ => 0)

def quiescent_MetaGradRefIdeal [hMetaGradRefIdeal : Cert.MetaGradRefIdeal.Facts] : Prop :=
  ∀ (m : (ℓ : Loc Cert.MetaGradRefIdeal.nD Cert.MetaGradRefIdeal.τ Cert.MetaGradRefIdeal.sig) → Buf (Elt Ideal) ℓ) (g : Dev Cert.MetaGradRefIdeal.nD → PrngReg), Pre_MetaGradRefIdeal m →
    θ_run (Cert.MetaGradRefIdeal.defs (F := Ideal)) (onTc (τ := Cert.MetaGradRefIdeal.τ) (Cert.MetaGradRefIdeal.main (F := Ideal))) ⟨m, fun _ => 0, g⟩ (fun r => (∀ c : Dev Cert.MetaGradRefIdeal.nD,
      r.2.mem ((c.tc : Thread Cert.MetaGradRefIdeal.nD Cert.MetaGradRefIdeal.τ).loc Cert.MetaGradRefIdeal.main_arg0) = m ((c.tc : Thread Cert.MetaGradRefIdeal.nD Cert.MetaGradRefIdeal.τ).loc Cert.MetaGradRefIdeal.main_arg0))
      ∧ r.2.sem = fun _ => 0)

def preserves_GluBwd_GluBwdIdeal : Prop :=
  True

def algebraic_GluBwdIdeal_GluRefIdeal [hGluBwdIdeal : Cert.GluBwdIdeal.Facts] [hGluRefIdeal : Cert.GluRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluBwdIdeal m →
    (∀ c : Dev Cert.GluBwdIdeal.nD,
      m' ((c.tc : Thread Cert.GluRefIdeal.nD Cert.GluRefIdeal.τ).loc Cert.GluRefIdeal.main_arg0) = m ((c.tc : Thread Cert.GluBwdIdeal.nD Cert.GluBwdIdeal.τ).loc Cert.GluBwdIdeal.main_arg0)
      ∧ m' ((c.tc : Thread Cert.GluRefIdeal.nD Cert.GluRefIdeal.τ).loc Cert.GluRefIdeal.main_arg1) = m ((c.tc : Thread Cert.GluBwdIdeal.nD Cert.GluBwdIdeal.τ).loc Cert.GluBwdIdeal.main_arg1)
      ∧ m' ((c.tc : Thread Cert.GluRefIdeal.nD Cert.GluRefIdeal.τ).loc Cert.GluRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v20) = v0 c
          ∧ r.2.mem ((c.tc : Thread Cert.GluRefIdeal.nD Cert.GluRefIdeal.τ).loc Cert.GluRefIdeal.main_v17) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v12_0)) (v1 : (c : Dev Cert.GateIdeal.nD) → Buf (Elt Ideal) ((c.tc : Thread Cert.GateIdeal.nD Cert.GateIdeal.τ).loc Cert.GateIdeal.main_v12_1)) (v2 : (c : Dev Cert.GateIdeal.nD) → Buf (Elt Ideal) ((c.tc : Thread Cert.GateIdeal.nD Cert.GateIdeal.τ).loc Cert.GateIdeal.main_v12_2)) (v3 : (c : Dev Cert.GateIdeal.nD) → Buf (Elt Ideal) ((c.tc : Thread Cert.GateIdeal.nD Cert.GateIdeal.τ).loc Cert.GateIdeal.main_v12_3)) (v4 : (c : Dev Cert.GateIdeal.nD) → Buf (Elt Ideal) ((c.tc : Thread Cert.GateIdeal.nD Cert.GateIdeal.τ).loc Cert.GateIdeal.main_v12_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12_0) = v0 c
          ∧ r.2.mem ((c.tc : Thread Cert.GateIdeal.nD Cert.GateIdeal.τ).loc Cert.GateIdeal.main_v12_1) = v1 c
          ∧ r.2.mem ((c.tc : Thread Cert.GateIdeal.nD Cert.GateIdeal.τ).loc Cert.GateIdeal.main_v12_2) = v2 c
          ∧ r.2.mem ((c.tc : Thread Cert.GateIdeal.nD Cert.GateIdeal.τ).loc Cert.GateIdeal.main_v12_3) = v3 c
          ∧ r.2.mem ((c.tc : Thread Cert.GateIdeal.nD Cert.GateIdeal.τ).loc Cert.GateIdeal.main_v12_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v25) = v0 c
          ∧ r.2.mem ((c.tc : Thread Cert.GateRefIdeal.nD Cert.GateRefIdeal.τ).loc Cert.GateRefIdeal.main_v27) = v1 c
          ∧ r.2.mem ((c.tc : Thread Cert.GateRefIdeal.nD Cert.GateRefIdeal.τ).loc Cert.GateRefIdeal.main_v28) = v2 c
          ∧ r.2.mem ((c.tc : Thread Cert.GateRefIdeal.nD Cert.GateRefIdeal.τ).loc Cert.GateRefIdeal.main_v30) = v3 c
          ∧ r.2.mem ((c.tc : Thread Cert.GateRefIdeal.nD Cert.GateRefIdeal.τ).loc Cert.GateRefIdeal.main_v32) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v28_0)) (v1 : (c : Dev Cert.ConvIdeal.nD) → Buf (Elt Ideal) ((c.tc : Thread Cert.ConvIdeal.nD Cert.ConvIdeal.τ).loc Cert.ConvIdeal.main_v28_1)) (v2 : (c : Dev Cert.ConvIdeal.nD) → Buf (Elt Ideal) ((c.tc : Thread Cert.ConvIdeal.nD Cert.ConvIdeal.τ).loc Cert.ConvIdeal.main_v28_2)) (v3 : (c : Dev Cert.ConvIdeal.nD) → Buf (Elt Ideal) ((c.tc : Thread Cert.ConvIdeal.nD Cert.ConvIdeal.τ).loc Cert.ConvIdeal.main_v28_3)) (v4 : (c : Dev Cert.ConvIdeal.nD) → Buf (Elt Ideal) ((c.tc : Thread Cert.ConvIdeal.nD Cert.ConvIdeal.τ).loc Cert.ConvIdeal.main_v28_4)) (v5 : (c : Dev Cert.ConvIdeal.nD) → Buf (Elt Ideal) ((c.tc : Thread Cert.ConvIdeal.nD Cert.ConvIdeal.τ).loc Cert.ConvIdeal.main_v28_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v28_0) = v0 c
          ∧ r.2.mem ((c.tc : Thread Cert.ConvIdeal.nD Cert.ConvIdeal.τ).loc Cert.ConvIdeal.main_v28_1) = v1 c
          ∧ r.2.mem ((c.tc : Thread Cert.ConvIdeal.nD Cert.ConvIdeal.τ).loc Cert.ConvIdeal.main_v28_2) = v2 c
          ∧ r.2.mem ((c.tc : Thread Cert.ConvIdeal.nD Cert.ConvIdeal.τ).loc Cert.ConvIdeal.main_v28_3) = v3 c
          ∧ r.2.mem ((c.tc : Thread Cert.ConvIdeal.nD Cert.ConvIdeal.τ).loc Cert.ConvIdeal.main_v28_4) = v4 c
          ∧ r.2.mem ((c.tc : Thread Cert.ConvIdeal.nD Cert.ConvIdeal.τ).loc Cert.ConvIdeal.main_v28_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v104) = v0 c
          ∧ r.2.mem ((c.tc : Thread Cert.ConvRefIdeal.nD Cert.ConvRefIdeal.τ).loc Cert.ConvRefIdeal.main_v106) = v1 c
          ∧ r.2.mem ((c.tc : Thread Cert.ConvRefIdeal.nD Cert.ConvRefIdeal.τ).loc Cert.ConvRefIdeal.main_v107) = v2 c
          ∧ r.2.mem ((c.tc : Thread Cert.ConvRefIdeal.nD Cert.ConvRefIdeal.τ).loc Cert.ConvRefIdeal.main_v81) = v3 c
          ∧ r.2.mem ((c.tc : Thread Cert.ConvRefIdeal.nD Cert.ConvRefIdeal.τ).loc Cert.ConvRefIdeal.main_v109) = v4 c
          ∧ r.2.mem ((c.tc : Thread Cert.ConvRefIdeal.nD Cert.ConvRefIdeal.τ).loc Cert.ConvRefIdeal.main_v111) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v37) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Bound_BoundIdeal : Prop :=
  True

def algebraic_BoundIdeal_BoundRefIdeal [hBoundIdeal : Cert.BoundIdeal.Facts] [hBoundRefIdeal : Cert.BoundRefIdeal.Facts] : Prop :=
  ∀ (m : (ℓ : Loc Cert.BoundIdeal.nD Cert.BoundIdeal.τ Cert.BoundIdeal.sig) → Buf (Elt Ideal) ℓ) (g : Dev Cert.BoundIdeal.nD → PrngReg)
    (m' : (ℓ : Loc Cert.BoundRefIdeal.nD Cert.BoundRefIdeal.τ Cert.BoundRefIdeal.sig) → Buf (Elt Ideal) ℓ) (g' : Dev Cert.BoundRefIdeal.nD → PrngReg), Pre_BoundIdeal m →
    (∀ c : Dev Cert.BoundIdeal.nD,
      m' ((c.tc : Thread Cert.BoundRefIdeal.nD Cert.BoundRefIdeal.τ).loc Cert.BoundRefIdeal.main_arg0) = m ((c.tc : Thread Cert.BoundIdeal.nD Cert.BoundIdeal.τ).loc Cert.BoundIdeal.main_arg0)
      ∧ m' ((c.tc : Thread Cert.BoundRefIdeal.nD Cert.BoundRefIdeal.τ).loc Cert.BoundRefIdeal.main_arg1) = m ((c.tc : Thread Cert.BoundIdeal.nD Cert.BoundIdeal.τ).loc Cert.BoundIdeal.main_arg1)) →
    ∃ (v0 : (c : Dev Cert.BoundIdeal.nD) → Buf (Elt Ideal) ((c.tc : Thread Cert.BoundIdeal.nD Cert.BoundIdeal.τ).loc Cert.BoundIdeal.main_v0)),
      θ_run (Cert.BoundIdeal.defs (F := Ideal)) (onTc (τ := Cert.BoundIdeal.τ) (Cert.BoundIdeal.main (F := Ideal))) ⟨m, fun _ => 0, g⟩ (fun r => ∀ c : Dev Cert.BoundIdeal.nD,
          r.2.mem ((c.tc : Thread Cert.BoundIdeal.nD Cert.BoundIdeal.τ).loc Cert.BoundIdeal.main_v0) = v0 c
          ∧ r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
          ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1))
      ∧ θ_run (Cert.BoundRefIdeal.defs (F := Ideal)) (onTc (τ := Cert.BoundRefIdeal.τ) (Cert.BoundRefIdeal.main (F := Ideal))) ⟨m', fun _ => 0, g'⟩ (fun r => ∀ c : Dev Cert.BoundRefIdeal.nD,
          r.2.mem ((c.tc : Thread Cert.BoundRefIdeal.nD Cert.BoundRefIdeal.τ).loc Cert.BoundRefIdeal.main_v43) = v0 c
          ∧ r.2.mem ((c.tc : Thread Cert.BoundRefIdeal.nD Cert.BoundRefIdeal.τ).loc Cert.BoundRefIdeal.main_arg0) = m' ((c.tc : Thread Cert.BoundRefIdeal.nD Cert.BoundRefIdeal.τ).loc Cert.BoundRefIdeal.main_arg0)
          ∧ r.2.mem ((c.tc : Thread Cert.BoundRefIdeal.nD Cert.BoundRefIdeal.τ).loc Cert.BoundRefIdeal.main_arg1) = m' ((c.tc : Thread Cert.BoundRefIdeal.nD Cert.BoundRefIdeal.τ).loc Cert.BoundRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v26_0)) (v1 : (c : Dev Cert.MergeIdeal.nD) → Buf (Elt Ideal) ((c.tc : Thread Cert.MergeIdeal.nD Cert.MergeIdeal.τ).loc Cert.MergeIdeal.main_v26_1)) (v2 : (c : Dev Cert.MergeIdeal.nD) → Buf (Elt Ideal) ((c.tc : Thread Cert.MergeIdeal.nD Cert.MergeIdeal.τ).loc Cert.MergeIdeal.main_v26_2)) (v3 : (c : Dev Cert.MergeIdeal.nD) → Buf (Elt Ideal) ((c.tc : Thread Cert.MergeIdeal.nD Cert.MergeIdeal.τ).loc Cert.MergeIdeal.main_v26_3)) (v4 : (c : Dev Cert.MergeIdeal.nD) → Buf (Elt Ideal) ((c.tc : Thread Cert.MergeIdeal.nD Cert.MergeIdeal.τ).loc Cert.MergeIdeal.main_v26_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v26_0) = v0 c
          ∧ r.2.mem ((c.tc : Thread Cert.MergeIdeal.nD Cert.MergeIdeal.τ).loc Cert.MergeIdeal.main_v26_1) = v1 c
          ∧ r.2.mem ((c.tc : Thread Cert.MergeIdeal.nD Cert.MergeIdeal.τ).loc Cert.MergeIdeal.main_v26_2) = v2 c
          ∧ r.2.mem ((c.tc : Thread Cert.MergeIdeal.nD Cert.MergeIdeal.τ).loc Cert.MergeIdeal.main_v26_3) = v3 c
          ∧ r.2.mem ((c.tc : Thread Cert.MergeIdeal.nD Cert.MergeIdeal.τ).loc Cert.MergeIdeal.main_v26_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v30) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_DiscA_DiscAIdeal : Prop :=
  True

def algebraic_DiscAIdeal_DiscARefIdeal [hDiscAIdeal : Cert.DiscAIdeal.Facts] [hDiscARefIdeal : Cert.DiscARefIdeal.Facts] : Prop :=
  ∀ (m : (ℓ : Loc Cert.DiscAIdeal.nD Cert.DiscAIdeal.τ Cert.DiscAIdeal.sig) → Buf (Elt Ideal) ℓ) (g : Dev Cert.DiscAIdeal.nD → PrngReg)
    (m' : (ℓ : Loc Cert.DiscARefIdeal.nD Cert.DiscARefIdeal.τ Cert.DiscARefIdeal.sig) → Buf (Elt Ideal) ℓ) (g' : Dev Cert.DiscARefIdeal.nD → PrngReg), Pre_DiscAIdeal m →
    (∀ c : Dev Cert.DiscAIdeal.nD,
      m' ((c.tc : Thread Cert.DiscARefIdeal.nD Cert.DiscARefIdeal.τ).loc Cert.DiscARefIdeal.main_arg0) = m ((c.tc : Thread Cert.DiscAIdeal.nD Cert.DiscAIdeal.τ).loc Cert.DiscAIdeal.main_arg0)
      ∧ m' ((c.tc : Thread Cert.DiscARefIdeal.nD Cert.DiscARefIdeal.τ).loc Cert.DiscARefIdeal.main_arg1) = m ((c.tc : Thread Cert.DiscAIdeal.nD Cert.DiscAIdeal.τ).loc Cert.DiscAIdeal.main_arg1)
      ∧ m' ((c.tc : Thread Cert.DiscARefIdeal.nD Cert.DiscARefIdeal.τ).loc Cert.DiscARefIdeal.main_arg2) = m ((c.tc : Thread Cert.DiscAIdeal.nD Cert.DiscAIdeal.τ).loc Cert.DiscAIdeal.main_arg2)
      ∧ m' ((c.tc : Thread Cert.DiscARefIdeal.nD Cert.DiscARefIdeal.τ).loc Cert.DiscARefIdeal.main_arg3) = m ((c.tc : Thread Cert.DiscAIdeal.nD Cert.DiscAIdeal.τ).loc Cert.DiscAIdeal.main_arg3)
      ∧ m' ((c.tc : Thread Cert.DiscARefIdeal.nD Cert.DiscARefIdeal.τ).loc Cert.DiscARefIdeal.main_arg4) = m ((c.tc : Thread Cert.DiscAIdeal.nD Cert.DiscAIdeal.τ).loc Cert.DiscAIdeal.main_arg4)
      ∧ m' ((c.tc : Thread Cert.DiscARefIdeal.nD Cert.DiscARefIdeal.τ).loc Cert.DiscARefIdeal.main_arg5) = m ((c.tc : Thread Cert.DiscAIdeal.nD Cert.DiscAIdeal.τ).loc Cert.DiscAIdeal.main_arg5)
      ∧ m' ((c.tc : Thread Cert.DiscARefIdeal.nD Cert.DiscARefIdeal.τ).loc Cert.DiscARefIdeal.main_arg6) = m ((c.tc : Thread Cert.DiscAIdeal.nD Cert.DiscAIdeal.τ).loc Cert.DiscAIdeal.main_arg6)) →
    ∃ (v0 : (c : Dev Cert.DiscAIdeal.nD) → Buf (Elt Ideal) ((c.tc : Thread Cert.DiscAIdeal.nD Cert.DiscAIdeal.τ).loc Cert.DiscAIdeal.main_v1_0)) (v1 : (c : Dev Cert.DiscAIdeal.nD) → Buf (Elt Ideal) ((c.tc : Thread Cert.DiscAIdeal.nD Cert.DiscAIdeal.τ).loc Cert.DiscAIdeal.main_v1_1)) (v2 : (c : Dev Cert.DiscAIdeal.nD) → Buf (Elt Ideal) ((c.tc : Thread Cert.DiscAIdeal.nD Cert.DiscAIdeal.τ).loc Cert.DiscAIdeal.main_v1_2)),
      θ_run (Cert.DiscAIdeal.defs (F := Ideal)) (onTc (τ := Cert.DiscAIdeal.τ) (Cert.DiscAIdeal.main (F := Ideal))) ⟨m, fun _ => 0, g⟩ (fun r => ∀ c : Dev Cert.DiscAIdeal.nD,
          r.2.mem ((c.tc : Thread Cert.DiscAIdeal.nD Cert.DiscAIdeal.τ).loc Cert.DiscAIdeal.main_v1_0) = v0 c
          ∧ r.2.mem ((c.tc : Thread Cert.DiscAIdeal.nD Cert.DiscAIdeal.τ).loc Cert.DiscAIdeal.main_v1_1) = v1 c
          ∧ r.2.mem ((c.tc : Thread Cert.DiscAIdeal.nD Cert.DiscAIdeal.τ).loc Cert.DiscAIdeal.main_v1_2) = v2 c
          ∧ r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
          ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
          ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
          ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
          ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
          ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
          ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ θ_run (Cert.DiscARefIdeal.defs (F := Ideal)) (onTc (τ := Cert.DiscARefIdeal.τ) (Cert.DiscARefIdeal.main (F := Ideal))) ⟨m', fun _ => 0, g'⟩ (fun r => ∀ c : Dev Cert.DiscARefIdeal.nD,
          r.2.mem ((c.tc : Thread Cert.DiscARefIdeal.nD Cert.DiscARefIdeal.τ).loc Cert.DiscARefIdeal.main_v94) = v0 c
          ∧ r.2.mem ((c.tc : Thread Cert.DiscARefIdeal.nD Cert.DiscARefIdeal.τ).loc Cert.DiscARefIdeal.main_v86) = v1 c
          ∧ r.2.mem ((c.tc : Thread Cert.DiscARefIdeal.nD Cert.DiscARefIdeal.τ).loc Cert.DiscARefIdeal.main_v97) = v2 c
          ∧ r.2.mem ((c.tc : Thread Cert.DiscARefIdeal.nD Cert.DiscARefIdeal.τ).loc Cert.DiscARefIdeal.main_arg0) = m' ((c.tc : Thread Cert.DiscARefIdeal.nD Cert.DiscARefIdeal.τ).loc Cert.DiscARefIdeal.main_arg0)
          ∧ r.2.mem ((c.tc : Thread Cert.DiscARefIdeal.nD Cert.DiscARefIdeal.τ).loc Cert.DiscARefIdeal.main_arg1) = m' ((c.tc : Thread Cert.DiscARefIdeal.nD Cert.DiscARefIdeal.τ).loc Cert.DiscARefIdeal.main_arg1)
          ∧ r.2.mem ((c.tc : Thread Cert.DiscARefIdeal.nD Cert.DiscARefIdeal.τ).loc Cert.DiscARefIdeal.main_arg2) = m' ((c.tc : Thread Cert.DiscARefIdeal.nD Cert.DiscARefIdeal.τ).loc Cert.DiscARefIdeal.main_arg2)
          ∧ r.2.mem ((c.tc : Thread Cert.DiscARefIdeal.nD Cert.DiscARefIdeal.τ).loc Cert.DiscARefIdeal.main_arg3) = m' ((c.tc : Thread Cert.DiscARefIdeal.nD Cert.DiscARefIdeal.τ).loc Cert.DiscARefIdeal.main_arg3)
          ∧ r.2.mem ((c.tc : Thread Cert.DiscARefIdeal.nD Cert.DiscARefIdeal.τ).loc Cert.DiscARefIdeal.main_arg4) = m' ((c.tc : Thread Cert.DiscARefIdeal.nD Cert.DiscARefIdeal.τ).loc Cert.DiscARefIdeal.main_arg4)
          ∧ r.2.mem ((c.tc : Thread Cert.DiscARefIdeal.nD Cert.DiscARefIdeal.τ).loc Cert.DiscARefIdeal.main_arg5) = m' ((c.tc : Thread Cert.DiscARefIdeal.nD Cert.DiscARefIdeal.τ).loc Cert.DiscARefIdeal.main_arg5)
          ∧ r.2.mem ((c.tc : Thread Cert.DiscARefIdeal.nD Cert.DiscARefIdeal.τ).loc Cert.DiscARefIdeal.main_arg6) = m' ((c.tc : Thread Cert.DiscARefIdeal.nD Cert.DiscARefIdeal.τ).loc Cert.DiscARefIdeal.main_arg6))

def preserves_DiscB_DiscBIdeal : Prop :=
  True

def algebraic_DiscBIdeal_DiscBRefIdeal [hDiscBIdeal : Cert.DiscBIdeal.Facts] [hDiscBRefIdeal : Cert.DiscBRefIdeal.Facts] : Prop :=
  ∀ (m : (ℓ : Loc Cert.DiscBIdeal.nD Cert.DiscBIdeal.τ Cert.DiscBIdeal.sig) → Buf (Elt Ideal) ℓ) (g : Dev Cert.DiscBIdeal.nD → PrngReg)
    (m' : (ℓ : Loc Cert.DiscBRefIdeal.nD Cert.DiscBRefIdeal.τ Cert.DiscBRefIdeal.sig) → Buf (Elt Ideal) ℓ) (g' : Dev Cert.DiscBRefIdeal.nD → PrngReg), Pre_DiscBIdeal m →
    (∀ c : Dev Cert.DiscBIdeal.nD,
      m' ((c.tc : Thread Cert.DiscBRefIdeal.nD Cert.DiscBRefIdeal.τ).loc Cert.DiscBRefIdeal.main_arg0) = m ((c.tc : Thread Cert.DiscBIdeal.nD Cert.DiscBIdeal.τ).loc Cert.DiscBIdeal.main_arg0)
      ∧ m' ((c.tc : Thread Cert.DiscBRefIdeal.nD Cert.DiscBRefIdeal.τ).loc Cert.DiscBRefIdeal.main_arg1) = m ((c.tc : Thread Cert.DiscBIdeal.nD Cert.DiscBIdeal.τ).loc Cert.DiscBIdeal.main_arg1)
      ∧ m' ((c.tc : Thread Cert.DiscBRefIdeal.nD Cert.DiscBRefIdeal.τ).loc Cert.DiscBRefIdeal.main_arg2) = m ((c.tc : Thread Cert.DiscBIdeal.nD Cert.DiscBIdeal.τ).loc Cert.DiscBIdeal.main_arg2)
      ∧ m' ((c.tc : Thread Cert.DiscBRefIdeal.nD Cert.DiscBRefIdeal.τ).loc Cert.DiscBRefIdeal.main_arg3) = m ((c.tc : Thread Cert.DiscBIdeal.nD Cert.DiscBIdeal.τ).loc Cert.DiscBIdeal.main_arg3)
      ∧ m' ((c.tc : Thread Cert.DiscBRefIdeal.nD Cert.DiscBRefIdeal.τ).loc Cert.DiscBRefIdeal.main_arg4) = m ((c.tc : Thread Cert.DiscBIdeal.nD Cert.DiscBIdeal.τ).loc Cert.DiscBIdeal.main_arg4)
      ∧ m' ((c.tc : Thread Cert.DiscBRefIdeal.nD Cert.DiscBRefIdeal.τ).loc Cert.DiscBRefIdeal.main_arg5) = m ((c.tc : Thread Cert.DiscBIdeal.nD Cert.DiscBIdeal.τ).loc Cert.DiscBIdeal.main_arg5)
      ∧ m' ((c.tc : Thread Cert.DiscBRefIdeal.nD Cert.DiscBRefIdeal.τ).loc Cert.DiscBRefIdeal.main_arg6) = m ((c.tc : Thread Cert.DiscBIdeal.nD Cert.DiscBIdeal.τ).loc Cert.DiscBIdeal.main_arg6)) →
    ∃ (v0 : (c : Dev Cert.DiscBIdeal.nD) → Buf (Elt Ideal) ((c.tc : Thread Cert.DiscBIdeal.nD Cert.DiscBIdeal.τ).loc Cert.DiscBIdeal.main_v36_0)) (v1 : (c : Dev Cert.DiscBIdeal.nD) → Buf (Elt Ideal) ((c.tc : Thread Cert.DiscBIdeal.nD Cert.DiscBIdeal.τ).loc Cert.DiscBIdeal.main_v36_1)) (v2 : (c : Dev Cert.DiscBIdeal.nD) → Buf (Elt Ideal) ((c.tc : Thread Cert.DiscBIdeal.nD Cert.DiscBIdeal.τ).loc Cert.DiscBIdeal.main_v36_2)) (v3 : (c : Dev Cert.DiscBIdeal.nD) → Buf (Elt Ideal) ((c.tc : Thread Cert.DiscBIdeal.nD Cert.DiscBIdeal.τ).loc Cert.DiscBIdeal.main_v36_3)),
      θ_run (Cert.DiscBIdeal.defs (F := Ideal)) (onTc (τ := Cert.DiscBIdeal.τ) (Cert.DiscBIdeal.main (F := Ideal))) ⟨m, fun _ => 0, g⟩ (fun r => ∀ c : Dev Cert.DiscBIdeal.nD,
          r.2.mem ((c.tc : Thread Cert.DiscBIdeal.nD Cert.DiscBIdeal.τ).loc Cert.DiscBIdeal.main_v36_0) = v0 c
          ∧ r.2.mem ((c.tc : Thread Cert.DiscBIdeal.nD Cert.DiscBIdeal.τ).loc Cert.DiscBIdeal.main_v36_1) = v1 c
          ∧ r.2.mem ((c.tc : Thread Cert.DiscBIdeal.nD Cert.DiscBIdeal.τ).loc Cert.DiscBIdeal.main_v36_2) = v2 c
          ∧ r.2.mem ((c.tc : Thread Cert.DiscBIdeal.nD Cert.DiscBIdeal.τ).loc Cert.DiscBIdeal.main_v36_3) = v3 c
          ∧ r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
          ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
          ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
          ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
          ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
          ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5)
          ∧ r.2.mem ((c.tc : Thread Cert.DiscBIdeal.nD Cert.DiscBIdeal.τ).loc Cert.DiscBIdeal.main_arg6) = m ((c.tc : Thread Cert.DiscBIdeal.nD Cert.DiscBIdeal.τ).loc Cert.DiscBIdeal.main_arg6))
      ∧ θ_run (Cert.DiscBRefIdeal.defs (F := Ideal)) (onTc (τ := Cert.DiscBRefIdeal.τ) (Cert.DiscBRefIdeal.main (F := Ideal))) ⟨m', fun _ => 0, g'⟩ (fun r => ∀ c : Dev Cert.DiscBRefIdeal.nD,
          r.2.mem ((c.tc : Thread Cert.DiscBRefIdeal.nD Cert.DiscBRefIdeal.τ).loc Cert.DiscBRefIdeal.main_v72) = v0 c
          ∧ r.2.mem ((c.tc : Thread Cert.DiscBRefIdeal.nD Cert.DiscBRefIdeal.τ).loc Cert.DiscBRefIdeal.main_v73) = v1 c
          ∧ r.2.mem ((c.tc : Thread Cert.DiscBRefIdeal.nD Cert.DiscBRefIdeal.τ).loc Cert.DiscBRefIdeal.main_v75) = v2 c
          ∧ r.2.mem ((c.tc : Thread Cert.DiscBRefIdeal.nD Cert.DiscBRefIdeal.τ).loc Cert.DiscBRefIdeal.main_v77) = v3 c
          ∧ r.2.mem ((c.tc : Thread Cert.DiscBRefIdeal.nD Cert.DiscBRefIdeal.τ).loc Cert.DiscBRefIdeal.main_arg0) = m' ((c.tc : Thread Cert.DiscBRefIdeal.nD Cert.DiscBRefIdeal.τ).loc Cert.DiscBRefIdeal.main_arg0)
          ∧ r.2.mem ((c.tc : Thread Cert.DiscBRefIdeal.nD Cert.DiscBRefIdeal.τ).loc Cert.DiscBRefIdeal.main_arg1) = m' ((c.tc : Thread Cert.DiscBRefIdeal.nD Cert.DiscBRefIdeal.τ).loc Cert.DiscBRefIdeal.main_arg1)
          ∧ r.2.mem ((c.tc : Thread Cert.DiscBRefIdeal.nD Cert.DiscBRefIdeal.τ).loc Cert.DiscBRefIdeal.main_arg2) = m' ((c.tc : Thread Cert.DiscBRefIdeal.nD Cert.DiscBRefIdeal.τ).loc Cert.DiscBRefIdeal.main_arg2)
          ∧ r.2.mem ((c.tc : Thread Cert.DiscBRefIdeal.nD Cert.DiscBRefIdeal.τ).loc Cert.DiscBRefIdeal.main_arg3) = m' ((c.tc : Thread Cert.DiscBRefIdeal.nD Cert.DiscBRefIdeal.τ).loc Cert.DiscBRefIdeal.main_arg3)
          ∧ r.2.mem ((c.tc : Thread Cert.DiscBRefIdeal.nD Cert.DiscBRefIdeal.τ).loc Cert.DiscBRefIdeal.main_arg4) = m' ((c.tc : Thread Cert.DiscBRefIdeal.nD Cert.DiscBRefIdeal.τ).loc Cert.DiscBRefIdeal.main_arg4)
          ∧ r.2.mem ((c.tc : Thread Cert.DiscBRefIdeal.nD Cert.DiscBRefIdeal.τ).loc Cert.DiscBRefIdeal.main_arg5) = m' ((c.tc : Thread Cert.DiscBRefIdeal.nD Cert.DiscBRefIdeal.τ).loc Cert.DiscBRefIdeal.main_arg5)
          ∧ r.2.mem ((c.tc : Thread Cert.DiscBRefIdeal.nD Cert.DiscBRefIdeal.τ).loc Cert.DiscBRefIdeal.main_arg6) = m' ((c.tc : Thread Cert.DiscBRefIdeal.nD Cert.DiscBRefIdeal.τ).loc Cert.DiscBRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v11_0)) (v1 : (c : Dev Cert.LossIdeal.nD) → Buf (Elt Ideal) ((c.tc : Thread Cert.LossIdeal.nD Cert.LossIdeal.τ).loc Cert.LossIdeal.main_v11_1)) (v2 : (c : Dev Cert.LossIdeal.nD) → Buf (Elt Ideal) ((c.tc : Thread Cert.LossIdeal.nD Cert.LossIdeal.τ).loc Cert.LossIdeal.main_v11_2)) (v3 : (c : Dev Cert.LossIdeal.nD) → Buf (Elt Ideal) ((c.tc : Thread Cert.LossIdeal.nD Cert.LossIdeal.τ).loc Cert.LossIdeal.main_v11_3)) (v4 : (c : Dev Cert.LossIdeal.nD) → Buf (Elt Ideal) ((c.tc : Thread Cert.LossIdeal.nD Cert.LossIdeal.τ).loc Cert.LossIdeal.main_v11_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v11_0) = v0 c
          ∧ r.2.mem ((c.tc : Thread Cert.LossIdeal.nD Cert.LossIdeal.τ).loc Cert.LossIdeal.main_v11_1) = v1 c
          ∧ r.2.mem ((c.tc : Thread Cert.LossIdeal.nD Cert.LossIdeal.τ).loc Cert.LossIdeal.main_v11_2) = v2 c
          ∧ r.2.mem ((c.tc : Thread Cert.LossIdeal.nD Cert.LossIdeal.τ).loc Cert.LossIdeal.main_v11_3) = v3 c
          ∧ r.2.mem ((c.tc : Thread Cert.LossIdeal.nD Cert.LossIdeal.τ).loc Cert.LossIdeal.main_v11_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v95) = v0 c
          ∧ r.2.mem ((c.tc : Thread Cert.LossRefIdeal.nD Cert.LossRefIdeal.τ).loc Cert.LossRefIdeal.main_v97) = v1 c
          ∧ r.2.mem ((c.tc : Thread Cert.LossRefIdeal.nD Cert.LossRefIdeal.τ).loc Cert.LossRefIdeal.main_v90) = v2 c
          ∧ r.2.mem ((c.tc : Thread Cert.LossRefIdeal.nD Cert.LossRefIdeal.τ).loc Cert.LossRefIdeal.main_v98) = v3 c
          ∧ r.2.mem ((c.tc : Thread Cert.LossRefIdeal.nD Cert.LossRefIdeal.τ).loc Cert.LossRefIdeal.main_v99) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_S5_S5Ideal : Prop :=
  True

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v2_0)) (v1 : (c : Dev Cert.MergeFwdIdeal.nD) → Buf (Elt Ideal) ((c.tc : Thread Cert.MergeFwdIdeal.nD Cert.MergeFwdIdeal.τ).loc Cert.MergeFwdIdeal.main_v2_1)) (v2 : (c : Dev Cert.MergeFwdIdeal.nD) → Buf (Elt Ideal) ((c.tc : Thread Cert.MergeFwdIdeal.nD Cert.MergeFwdIdeal.τ).loc Cert.MergeFwdIdeal.main_v2_2)) (v3 : (c : Dev Cert.MergeFwdIdeal.nD) → Buf (Elt Ideal) ((c.tc : Thread Cert.MergeFwdIdeal.nD Cert.MergeFwdIdeal.τ).loc Cert.MergeFwdIdeal.main_v2_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2_0) = v0 c
          ∧ r.2.mem ((c.tc : Thread Cert.MergeFwdIdeal.nD Cert.MergeFwdIdeal.τ).loc Cert.MergeFwdIdeal.main_v2_1) = v1 c
          ∧ r.2.mem ((c.tc : Thread Cert.MergeFwdIdeal.nD Cert.MergeFwdIdeal.τ).loc Cert.MergeFwdIdeal.main_v2_2) = v2 c
          ∧ r.2.mem ((c.tc : Thread Cert.MergeFwdIdeal.nD Cert.MergeFwdIdeal.τ).loc Cert.MergeFwdIdeal.main_v2_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_v24) = v1 c
          ∧ r.2.mem ((c.tc : Thread Cert.MergeFwdRefIdeal.nD Cert.MergeFwdRefIdeal.τ).loc Cert.MergeFwdRefIdeal.main_v25) = v2 c
          ∧ r.2.mem ((c.tc : Thread Cert.MergeFwdRefIdeal.nD Cert.MergeFwdRefIdeal.τ).loc Cert.MergeFwdRefIdeal.main_v38) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v2_0)) (v1 : (c : Dev Cert.GluFwdIdeal.nD) → Buf (Elt Ideal) ((c.tc : Thread Cert.GluFwdIdeal.nD Cert.GluFwdIdeal.τ).loc Cert.GluFwdIdeal.main_v2_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v2_0) = v0 c
          ∧ r.2.mem ((c.tc : Thread Cert.GluFwdIdeal.nD Cert.GluFwdIdeal.τ).loc Cert.GluFwdIdeal.main_v2_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v9) = v0 c
          ∧ r.2.mem ((c.tc : Thread Cert.GluFwdRefIdeal.nD Cert.GluFwdRefIdeal.τ).loc Cert.GluFwdRefIdeal.main_v11) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_DiscAFwd_DiscAFwdIdeal : Prop :=
  True

def algebraic_DiscAFwdIdeal_DiscAFwdRefIdeal_pre_disc_finite [hDiscAFwdIdeal : Cert.DiscAFwdIdeal.Facts] [hDiscAFwdRefIdeal : Cert.DiscAFwdRefIdeal.Facts] [hPre_disc_finite : Cert.Pre_disc_finite.Facts] : Prop :=
  ∀ (m : (ℓ : Loc Cert.DiscAFwdIdeal.nD Cert.DiscAFwdIdeal.τ Cert.DiscAFwdIdeal.sig) → Buf (Elt Ideal) ℓ) (g : Dev Cert.DiscAFwdIdeal.nD → PrngReg)
    (m' : (ℓ : Loc Cert.DiscAFwdRefIdeal.nD Cert.DiscAFwdRefIdeal.τ Cert.DiscAFwdRefIdeal.sig) → Buf (Elt Ideal) ℓ) (g' : Dev Cert.DiscAFwdRefIdeal.nD → PrngReg), Pre_DiscAFwdIdeal_disc_finite m →
    (∀ c : Dev Cert.DiscAFwdIdeal.nD,
      m' ((c.tc : Thread Cert.DiscAFwdRefIdeal.nD Cert.DiscAFwdRefIdeal.τ).loc Cert.DiscAFwdRefIdeal.main_arg0) = m ((c.tc : Thread Cert.DiscAFwdIdeal.nD Cert.DiscAFwdIdeal.τ).loc Cert.DiscAFwdIdeal.main_arg0)
      ∧ m' ((c.tc : Thread Cert.DiscAFwdRefIdeal.nD Cert.DiscAFwdRefIdeal.τ).loc Cert.DiscAFwdRefIdeal.main_arg1) = m ((c.tc : Thread Cert.DiscAFwdIdeal.nD Cert.DiscAFwdIdeal.τ).loc Cert.DiscAFwdIdeal.main_arg1)
      ∧ m' ((c.tc : Thread Cert.DiscAFwdRefIdeal.nD Cert.DiscAFwdRefIdeal.τ).loc Cert.DiscAFwdRefIdeal.main_arg2) = m ((c.tc : Thread Cert.DiscAFwdIdeal.nD Cert.DiscAFwdIdeal.τ).loc Cert.DiscAFwdIdeal.main_arg2)) →
    ∃ (v0 : (c : Dev Cert.DiscAFwdIdeal.nD) → Buf (Elt Ideal) ((c.tc : Thread Cert.DiscAFwdIdeal.nD Cert.DiscAFwdIdeal.τ).loc Cert.DiscAFwdIdeal.main_v1_0)) (v1 : (c : Dev Cert.DiscAFwdIdeal.nD) → Buf (Elt Ideal) ((c.tc : Thread Cert.DiscAFwdIdeal.nD Cert.DiscAFwdIdeal.τ).loc Cert.DiscAFwdIdeal.main_v1_1)) (v2 : (c : Dev Cert.DiscAFwdIdeal.nD) → Buf (Elt Ideal) ((c.tc : Thread Cert.DiscAFwdIdeal.nD Cert.DiscAFwdIdeal.τ).loc Cert.DiscAFwdIdeal.main_v1_2)) (v3 : (c : Dev Cert.DiscAFwdIdeal.nD) → Buf (Elt Ideal) ((c.tc : Thread Cert.DiscAFwdIdeal.nD Cert.DiscAFwdIdeal.τ).loc Cert.DiscAFwdIdeal.main_v1_3)) (v4 : (c : Dev Cert.DiscAFwdIdeal.nD) → Buf (Elt Ideal) ((c.tc : Thread Cert.DiscAFwdIdeal.nD Cert.DiscAFwdIdeal.τ).loc Cert.DiscAFwdIdeal.main_v1_4)) (v5 : (c : Dev Cert.DiscAFwdIdeal.nD) → Buf (Elt Ideal) ((c.tc : Thread Cert.DiscAFwdIdeal.nD Cert.DiscAFwdIdeal.τ).loc Cert.DiscAFwdIdeal.main_v1_5)),
      θ_run (Cert.DiscAFwdIdeal.defs (F := Ideal)) (onTc (τ := Cert.DiscAFwdIdeal.τ) (Cert.DiscAFwdIdeal.main (F := Ideal))) ⟨m, fun _ => 0, g⟩ (fun r => ∀ c : Dev Cert.DiscAFwdIdeal.nD,
          r.2.mem ((c.tc : Thread Cert.DiscAFwdIdeal.nD Cert.DiscAFwdIdeal.τ).loc Cert.DiscAFwdIdeal.main_v1_0) = v0 c
          ∧ r.2.mem ((c.tc : Thread Cert.DiscAFwdIdeal.nD Cert.DiscAFwdIdeal.τ).loc Cert.DiscAFwdIdeal.main_v1_1) = v1 c
          ∧ r.2.mem ((c.tc : Thread Cert.DiscAFwdIdeal.nD Cert.DiscAFwdIdeal.τ).loc Cert.DiscAFwdIdeal.main_v1_2) = v2 c
          ∧ r.2.mem ((c.tc : Thread Cert.DiscAFwdIdeal.nD Cert.DiscAFwdIdeal.τ).loc Cert.DiscAFwdIdeal.main_v1_3) = v3 c
          ∧ r.2.mem ((c.tc : Thread Cert.DiscAFwdIdeal.nD Cert.DiscAFwdIdeal.τ).loc Cert.DiscAFwdIdeal.main_v1_4) = v4 c
          ∧ r.2.mem ((c.tc : Thread Cert.DiscAFwdIdeal.nD Cert.DiscAFwdIdeal.τ).loc Cert.DiscAFwdIdeal.main_v1_5) = v5 c
          ∧ r.2.mem ((c.tc : Thread Cert.DiscAFwdIdeal.nD Cert.DiscAFwdIdeal.τ).loc Cert.DiscAFwdIdeal.main_arg0) = m ((c.tc : Thread Cert.DiscAFwdIdeal.nD Cert.DiscAFwdIdeal.τ).loc Cert.DiscAFwdIdeal.main_arg0)
          ∧ r.2.mem ((c.tc : Thread Cert.DiscAFwdIdeal.nD Cert.DiscAFwdIdeal.τ).loc Cert.DiscAFwdIdeal.main_arg1) = m ((c.tc : Thread Cert.DiscAFwdIdeal.nD Cert.DiscAFwdIdeal.τ).loc Cert.DiscAFwdIdeal.main_arg1)
          ∧ r.2.mem ((c.tc : Thread Cert.DiscAFwdIdeal.nD Cert.DiscAFwdIdeal.τ).loc Cert.DiscAFwdIdeal.main_arg2) = m ((c.tc : Thread Cert.DiscAFwdIdeal.nD Cert.DiscAFwdIdeal.τ).loc Cert.DiscAFwdIdeal.main_arg2))
      ∧ θ_run (Cert.DiscAFwdRefIdeal.defs (F := Ideal)) (onTc (τ := Cert.DiscAFwdRefIdeal.τ) (Cert.DiscAFwdRefIdeal.main (F := Ideal))) ⟨m', fun _ => 0, g'⟩ (fun r => ∀ c : Dev Cert.DiscAFwdRefIdeal.nD,
          r.2.mem ((c.tc : Thread Cert.DiscAFwdRefIdeal.nD Cert.DiscAFwdRefIdeal.τ).loc Cert.DiscAFwdRefIdeal.main_v8) = v0 c
          ∧ r.2.mem ((c.tc : Thread Cert.DiscAFwdRefIdeal.nD Cert.DiscAFwdRefIdeal.τ).loc Cert.DiscAFwdRefIdeal.main_v12) = v1 c
          ∧ r.2.mem ((c.tc : Thread Cert.DiscAFwdRefIdeal.nD Cert.DiscAFwdRefIdeal.τ).loc Cert.DiscAFwdRefIdeal.main_v36) = v2 c
          ∧ r.2.mem ((c.tc : Thread Cert.DiscAFwdRefIdeal.nD Cert.DiscAFwdRefIdeal.τ).loc Cert.DiscAFwdRefIdeal.main_v40) = v3 c
          ∧ r.2.mem ((c.tc : Thread Cert.DiscAFwdRefIdeal.nD Cert.DiscAFwdRefIdeal.τ).loc Cert.DiscAFwdRefIdeal.main_v21) = v4 c
          ∧ r.2.mem ((c.tc : Thread Cert.DiscAFwdRefIdeal.nD Cert.DiscAFwdRefIdeal.τ).loc Cert.DiscAFwdRefIdeal.main_v25) = v5 c
          ∧ r.2.mem ((c.tc : Thread Cert.DiscAFwdRefIdeal.nD Cert.DiscAFwdRefIdeal.τ).loc Cert.DiscAFwdRefIdeal.main_arg0) = m' ((c.tc : Thread Cert.DiscAFwdRefIdeal.nD Cert.DiscAFwdRefIdeal.τ).loc Cert.DiscAFwdRefIdeal.main_arg0)
          ∧ r.2.mem ((c.tc : Thread Cert.DiscAFwdRefIdeal.nD Cert.DiscAFwdRefIdeal.τ).loc Cert.DiscAFwdRefIdeal.main_arg1) = m' ((c.tc : Thread Cert.DiscAFwdRefIdeal.nD Cert.DiscAFwdRefIdeal.τ).loc Cert.DiscAFwdRefIdeal.main_arg1)
          ∧ r.2.mem ((c.tc : Thread Cert.DiscAFwdRefIdeal.nD Cert.DiscAFwdRefIdeal.τ).loc Cert.DiscAFwdRefIdeal.main_arg2) = m' ((c.tc : Thread Cert.DiscAFwdRefIdeal.nD Cert.DiscAFwdRefIdeal.τ).loc Cert.DiscAFwdRefIdeal.main_arg2))

def preserves_DiscBFwd_DiscBFwdIdeal : Prop :=
  True

def algebraic_DiscBFwdIdeal_DiscBFwdRefIdeal [hDiscBFwdIdeal : Cert.DiscBFwdIdeal.Facts] [hDiscBFwdRefIdeal : Cert.DiscBFwdRefIdeal.Facts] : Prop :=
  ∀ (m : (ℓ : Loc Cert.DiscBFwdIdeal.nD Cert.DiscBFwdIdeal.τ Cert.DiscBFwdIdeal.sig) → Buf (Elt Ideal) ℓ) (g : Dev Cert.DiscBFwdIdeal.nD → PrngReg)
    (m' : (ℓ : Loc Cert.DiscBFwdRefIdeal.nD Cert.DiscBFwdRefIdeal.τ Cert.DiscBFwdRefIdeal.sig) → Buf (Elt Ideal) ℓ) (g' : Dev Cert.DiscBFwdRefIdeal.nD → PrngReg), Pre_DiscBFwdIdeal m →
    (∀ c : Dev Cert.DiscBFwdIdeal.nD,
      m' ((c.tc : Thread Cert.DiscBFwdRefIdeal.nD Cert.DiscBFwdRefIdeal.τ).loc Cert.DiscBFwdRefIdeal.main_arg0) = m ((c.tc : Thread Cert.DiscBFwdIdeal.nD Cert.DiscBFwdIdeal.τ).loc Cert.DiscBFwdIdeal.main_arg0)
      ∧ m' ((c.tc : Thread Cert.DiscBFwdRefIdeal.nD Cert.DiscBFwdRefIdeal.τ).loc Cert.DiscBFwdRefIdeal.main_arg1) = m ((c.tc : Thread Cert.DiscBFwdIdeal.nD Cert.DiscBFwdIdeal.τ).loc Cert.DiscBFwdIdeal.main_arg1)
      ∧ m' ((c.tc : Thread Cert.DiscBFwdRefIdeal.nD Cert.DiscBFwdRefIdeal.τ).loc Cert.DiscBFwdRefIdeal.main_arg2) = m ((c.tc : Thread Cert.DiscBFwdIdeal.nD Cert.DiscBFwdIdeal.τ).loc Cert.DiscBFwdIdeal.main_arg2)
      ∧ m' ((c.tc : Thread Cert.DiscBFwdRefIdeal.nD Cert.DiscBFwdRefIdeal.τ).loc Cert.DiscBFwdRefIdeal.main_arg3) = m ((c.tc : Thread Cert.DiscBFwdIdeal.nD Cert.DiscBFwdIdeal.τ).loc Cert.DiscBFwdIdeal.main_arg3)) →
    ∃ (v0 : (c : Dev Cert.DiscBFwdIdeal.nD) → Buf (Elt Ideal) ((c.tc : Thread Cert.DiscBFwdIdeal.nD Cert.DiscBFwdIdeal.τ).loc Cert.DiscBFwdIdeal.main_v6_0)) (v1 : (c : Dev Cert.DiscBFwdIdeal.nD) → Buf (Elt Ideal) ((c.tc : Thread Cert.DiscBFwdIdeal.nD Cert.DiscBFwdIdeal.τ).loc Cert.DiscBFwdIdeal.main_v6_1)),
      θ_run (Cert.DiscBFwdIdeal.defs (F := Ideal)) (onTc (τ := Cert.DiscBFwdIdeal.τ) (Cert.DiscBFwdIdeal.main (F := Ideal))) ⟨m, fun _ => 0, g⟩ (fun r => ∀ c : Dev Cert.DiscBFwdIdeal.nD,
          r.2.mem ((c.tc : Thread Cert.DiscBFwdIdeal.nD Cert.DiscBFwdIdeal.τ).loc Cert.DiscBFwdIdeal.main_v6_0) = v0 c
          ∧ r.2.mem ((c.tc : Thread Cert.DiscBFwdIdeal.nD Cert.DiscBFwdIdeal.τ).loc Cert.DiscBFwdIdeal.main_v6_1) = v1 c
          ∧ r.2.mem ((c.tc : Thread Cert.DiscBFwdIdeal.nD Cert.DiscBFwdIdeal.τ).loc Cert.DiscBFwdIdeal.main_arg0) = m ((c.tc : Thread Cert.DiscBFwdIdeal.nD Cert.DiscBFwdIdeal.τ).loc Cert.DiscBFwdIdeal.main_arg0)
          ∧ r.2.mem ((c.tc : Thread Cert.DiscBFwdIdeal.nD Cert.DiscBFwdIdeal.τ).loc Cert.DiscBFwdIdeal.main_arg1) = m ((c.tc : Thread Cert.DiscBFwdIdeal.nD Cert.DiscBFwdIdeal.τ).loc Cert.DiscBFwdIdeal.main_arg1)
          ∧ r.2.mem ((c.tc : Thread Cert.DiscBFwdIdeal.nD Cert.DiscBFwdIdeal.τ).loc Cert.DiscBFwdIdeal.main_arg2) = m ((c.tc : Thread Cert.DiscBFwdIdeal.nD Cert.DiscBFwdIdeal.τ).loc Cert.DiscBFwdIdeal.main_arg2)
          ∧ r.2.mem ((c.tc : Thread Cert.DiscBFwdIdeal.nD Cert.DiscBFwdIdeal.τ).loc Cert.DiscBFwdIdeal.main_arg3) = m ((c.tc : Thread Cert.DiscBFwdIdeal.nD Cert.DiscBFwdIdeal.τ).loc Cert.DiscBFwdIdeal.main_arg3))
      ∧ θ_run (Cert.DiscBFwdRefIdeal.defs (F := Ideal)) (onTc (τ := Cert.DiscBFwdRefIdeal.τ) (Cert.DiscBFwdRefIdeal.main (F := Ideal))) ⟨m', fun _ => 0, g'⟩ (fun r => ∀ c : Dev Cert.DiscBFwdRefIdeal.nD,
          r.2.mem ((c.tc : Thread Cert.DiscBFwdRefIdeal.nD Cert.DiscBFwdRefIdeal.τ).loc Cert.DiscBFwdRefIdeal.main_v15) = v0 c
          ∧ r.2.mem ((c.tc : Thread Cert.DiscBFwdRefIdeal.nD Cert.DiscBFwdRefIdeal.τ).loc Cert.DiscBFwdRefIdeal.main_v17) = v1 c
          ∧ r.2.mem ((c.tc : Thread Cert.DiscBFwdRefIdeal.nD Cert.DiscBFwdRefIdeal.τ).loc Cert.DiscBFwdRefIdeal.main_arg0) = m' ((c.tc : Thread Cert.DiscBFwdRefIdeal.nD Cert.DiscBFwdRefIdeal.τ).loc Cert.DiscBFwdRefIdeal.main_arg0)
          ∧ r.2.mem ((c.tc : Thread Cert.DiscBFwdRefIdeal.nD Cert.DiscBFwdRefIdeal.τ).loc Cert.DiscBFwdRefIdeal.main_arg1) = m' ((c.tc : Thread Cert.DiscBFwdRefIdeal.nD Cert.DiscBFwdRefIdeal.τ).loc Cert.DiscBFwdRefIdeal.main_arg1)
          ∧ r.2.mem ((c.tc : Thread Cert.DiscBFwdRefIdeal.nD Cert.DiscBFwdRefIdeal.τ).loc Cert.DiscBFwdRefIdeal.main_arg2) = m' ((c.tc : Thread Cert.DiscBFwdRefIdeal.nD Cert.DiscBFwdRefIdeal.τ).loc Cert.DiscBFwdRefIdeal.main_arg2)
          ∧ r.2.mem ((c.tc : Thread Cert.DiscBFwdRefIdeal.nD Cert.DiscBFwdRefIdeal.τ).loc Cert.DiscBFwdRefIdeal.main_arg3) = m' ((c.tc : Thread Cert.DiscBFwdRefIdeal.nD Cert.DiscBFwdRefIdeal.τ).loc Cert.DiscBFwdRefIdeal.main_arg3))

def preserves_BoundFwd_BoundFwdIdeal : Prop :=
  True

def algebraic_BoundFwdIdeal_BoundFwdRefIdeal [hBoundFwdIdeal : Cert.BoundFwdIdeal.Facts] [hBoundFwdRefIdeal : Cert.BoundFwdRefIdeal.Facts] : Prop :=
  ∀ (m : (ℓ : Loc Cert.BoundFwdIdeal.nD Cert.BoundFwdIdeal.τ Cert.BoundFwdIdeal.sig) → Buf (Elt Ideal) ℓ) (g : Dev Cert.BoundFwdIdeal.nD → PrngReg)
    (m' : (ℓ : Loc Cert.BoundFwdRefIdeal.nD Cert.BoundFwdRefIdeal.τ Cert.BoundFwdRefIdeal.sig) → Buf (Elt Ideal) ℓ) (g' : Dev Cert.BoundFwdRefIdeal.nD → PrngReg), Pre_BoundFwdIdeal m →
    (∀ c : Dev Cert.BoundFwdIdeal.nD,
      m' ((c.tc : Thread Cert.BoundFwdRefIdeal.nD Cert.BoundFwdRefIdeal.τ).loc Cert.BoundFwdRefIdeal.main_arg0) = m ((c.tc : Thread Cert.BoundFwdIdeal.nD Cert.BoundFwdIdeal.τ).loc Cert.BoundFwdIdeal.main_arg0)) →
    ∃ (v0 : (c : Dev Cert.BoundFwdIdeal.nD) → Buf (Elt Ideal) ((c.tc : Thread Cert.BoundFwdIdeal.nD Cert.BoundFwdIdeal.τ).loc Cert.BoundFwdIdeal.main_v0)),
      θ_run (Cert.BoundFwdIdeal.defs (F := Ideal)) (onTc (τ := Cert.BoundFwdIdeal.τ) (Cert.BoundFwdIdeal.main (F := Ideal))) ⟨m, fun _ => 0, g⟩ (fun r => ∀ c : Dev Cert.BoundFwdIdeal.nD,
          r.2.mem ((c.tc : Thread Cert.BoundFwdIdeal.nD Cert.BoundFwdIdeal.τ).loc Cert.BoundFwdIdeal.main_v0) = v0 c
          ∧ r.2.mem ((c.tc : Thread Cert.BoundFwdIdeal.nD Cert.BoundFwdIdeal.τ).loc Cert.BoundFwdIdeal.main_arg0) = m ((c.tc : Thread Cert.BoundFwdIdeal.nD Cert.BoundFwdIdeal.τ).loc Cert.BoundFwdIdeal.main_arg0))
      ∧ θ_run (Cert.BoundFwdRefIdeal.defs (F := Ideal)) (onTc (τ := Cert.BoundFwdRefIdeal.τ) (Cert.BoundFwdRefIdeal.main (F := Ideal))) ⟨m', fun _ => 0, g'⟩ (fun r => ∀ c : Dev Cert.BoundFwdRefIdeal.nD,
          r.2.mem ((c.tc : Thread Cert.BoundFwdRefIdeal.nD Cert.BoundFwdRefIdeal.τ).loc Cert.BoundFwdRefIdeal.main_v12) = v0 c
          ∧ r.2.mem ((c.tc : Thread Cert.BoundFwdRefIdeal.nD Cert.BoundFwdRefIdeal.τ).loc Cert.BoundFwdRefIdeal.main_arg0) = m' ((c.tc : Thread Cert.BoundFwdRefIdeal.nD Cert.BoundFwdRefIdeal.τ).loc Cert.BoundFwdRefIdeal.main_arg0))

def preserves_InProd_InProdIdeal : Prop :=
  True

def algebraic_InProdIdeal_InProdRefIdeal [hInProdIdeal : Cert.InProdIdeal.Facts] [hInProdRefIdeal : Cert.InProdRefIdeal.Facts] : Prop :=
  ∀ (m : (ℓ : Loc Cert.InProdIdeal.nD Cert.InProdIdeal.τ Cert.InProdIdeal.sig) → Buf (Elt Ideal) ℓ) (g : Dev Cert.InProdIdeal.nD → PrngReg)
    (m' : (ℓ : Loc Cert.InProdRefIdeal.nD Cert.InProdRefIdeal.τ Cert.InProdRefIdeal.sig) → Buf (Elt Ideal) ℓ) (g' : Dev Cert.InProdRefIdeal.nD → PrngReg), Pre_InProdIdeal m →
    (∀ c : Dev Cert.InProdIdeal.nD,
      m' ((c.tc : Thread Cert.InProdRefIdeal.nD Cert.InProdRefIdeal.τ).loc Cert.InProdRefIdeal.main_arg0) = m ((c.tc : Thread Cert.InProdIdeal.nD Cert.InProdIdeal.τ).loc Cert.InProdIdeal.main_arg0)
      ∧ m' ((c.tc : Thread Cert.InProdRefIdeal.nD Cert.InProdRefIdeal.τ).loc Cert.InProdRefIdeal.main_arg1) = m ((c.tc : Thread Cert.InProdIdeal.nD Cert.InProdIdeal.τ).loc Cert.InProdIdeal.main_arg1)) →
    ∃ (v0 : (c : Dev Cert.InProdIdeal.nD) → Buf (Elt Ideal) ((c.tc : Thread Cert.InProdIdeal.nD Cert.InProdIdeal.τ).loc Cert.InProdIdeal.main_v3)),
      θ_run (Cert.InProdIdeal.defs (F := Ideal)) (onTc (τ := Cert.InProdIdeal.τ) (Cert.InProdIdeal.main (F := Ideal))) ⟨m, fun _ => 0, g⟩ (fun r => ∀ c : Dev Cert.InProdIdeal.nD,
          r.2.mem ((c.tc : Thread Cert.InProdIdeal.nD Cert.InProdIdeal.τ).loc Cert.InProdIdeal.main_v3) = v0 c
          ∧ r.2.mem ((c.tc : Thread Cert.InProdIdeal.nD Cert.InProdIdeal.τ).loc Cert.InProdIdeal.main_arg0) = m ((c.tc : Thread Cert.InProdIdeal.nD Cert.InProdIdeal.τ).loc Cert.InProdIdeal.main_arg0)
          ∧ r.2.mem ((c.tc : Thread Cert.InProdIdeal.nD Cert.InProdIdeal.τ).loc Cert.InProdIdeal.main_arg1) = m ((c.tc : Thread Cert.InProdIdeal.nD Cert.InProdIdeal.τ).loc Cert.InProdIdeal.main_arg1))
      ∧ θ_run (Cert.InProdRefIdeal.defs (F := Ideal)) (onTc (τ := Cert.InProdRefIdeal.τ) (Cert.InProdRefIdeal.main (F := Ideal))) ⟨m', fun _ => 0, g'⟩ (fun r => ∀ c : Dev Cert.InProdRefIdeal.nD,
          r.2.mem ((c.tc : Thread Cert.InProdRefIdeal.nD Cert.InProdRefIdeal.τ).loc Cert.InProdRefIdeal.main_v2) = v0 c
          ∧ r.2.mem ((c.tc : Thread Cert.InProdRefIdeal.nD Cert.InProdRefIdeal.τ).loc Cert.InProdRefIdeal.main_arg0) = m' ((c.tc : Thread Cert.InProdRefIdeal.nD Cert.InProdRefIdeal.τ).loc Cert.InProdRefIdeal.main_arg0)
          ∧ r.2.mem ((c.tc : Thread Cert.InProdRefIdeal.nD Cert.InProdRefIdeal.τ).loc Cert.InProdRefIdeal.main_arg1) = m' ((c.tc : Thread Cert.InProdRefIdeal.nD Cert.InProdRefIdeal.τ).loc Cert.InProdRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_LinProd_LinProdIdeal : Prop :=
  True

def algebraic_LinProdIdeal_LinProdRefIdeal [hLinProdIdeal : Cert.LinProdIdeal.Facts] [hLinProdRefIdeal : Cert.LinProdRefIdeal.Facts] : Prop :=
  ∀ (m : (ℓ : Loc Cert.LinProdIdeal.nD Cert.LinProdIdeal.τ Cert.LinProdIdeal.sig) → Buf (Elt Ideal) ℓ) (g : Dev Cert.LinProdIdeal.nD → PrngReg)
    (m' : (ℓ : Loc Cert.LinProdRefIdeal.nD Cert.LinProdRefIdeal.τ Cert.LinProdRefIdeal.sig) → Buf (Elt Ideal) ℓ) (g' : Dev Cert.LinProdRefIdeal.nD → PrngReg), Pre_LinProdIdeal m →
    (∀ c : Dev Cert.LinProdIdeal.nD,
      m' ((c.tc : Thread Cert.LinProdRefIdeal.nD Cert.LinProdRefIdeal.τ).loc Cert.LinProdRefIdeal.main_arg0) = m ((c.tc : Thread Cert.LinProdIdeal.nD Cert.LinProdIdeal.τ).loc Cert.LinProdIdeal.main_arg0)
      ∧ m' ((c.tc : Thread Cert.LinProdRefIdeal.nD Cert.LinProdRefIdeal.τ).loc Cert.LinProdRefIdeal.main_arg1) = m ((c.tc : Thread Cert.LinProdIdeal.nD Cert.LinProdIdeal.τ).loc Cert.LinProdIdeal.main_arg1)
      ∧ m' ((c.tc : Thread Cert.LinProdRefIdeal.nD Cert.LinProdRefIdeal.τ).loc Cert.LinProdRefIdeal.main_arg2) = m ((c.tc : Thread Cert.LinProdIdeal.nD Cert.LinProdIdeal.τ).loc Cert.LinProdIdeal.main_arg2)) →
    ∃ (v0 : (c : Dev Cert.LinProdIdeal.nD) → Buf (Elt Ideal) ((c.tc : Thread Cert.LinProdIdeal.nD Cert.LinProdIdeal.τ).loc Cert.LinProdIdeal.main_v1_0)) (v1 : (c : Dev Cert.LinProdIdeal.nD) → Buf (Elt Ideal) ((c.tc : Thread Cert.LinProdIdeal.nD Cert.LinProdIdeal.τ).loc Cert.LinProdIdeal.main_v1_1)),
      θ_run (Cert.LinProdIdeal.defs (F := Ideal)) (onTc (τ := Cert.LinProdIdeal.τ) (Cert.LinProdIdeal.main (F := Ideal))) ⟨m, fun _ => 0, g⟩ (fun r => ∀ c : Dev Cert.LinProdIdeal.nD,
          r.2.mem ((c.tc : Thread Cert.LinProdIdeal.nD Cert.LinProdIdeal.τ).loc Cert.LinProdIdeal.main_v1_0) = v0 c
          ∧ r.2.mem ((c.tc : Thread Cert.LinProdIdeal.nD Cert.LinProdIdeal.τ).loc Cert.LinProdIdeal.main_v1_1) = v1 c
          ∧ r.2.mem ((c.tc : Thread Cert.LinProdIdeal.nD Cert.LinProdIdeal.τ).loc Cert.LinProdIdeal.main_arg0) = m ((c.tc : Thread Cert.LinProdIdeal.nD Cert.LinProdIdeal.τ).loc Cert.LinProdIdeal.main_arg0)
          ∧ r.2.mem ((c.tc : Thread Cert.LinProdIdeal.nD Cert.LinProdIdeal.τ).loc Cert.LinProdIdeal.main_arg1) = m ((c.tc : Thread Cert.LinProdIdeal.nD Cert.LinProdIdeal.τ).loc Cert.LinProdIdeal.main_arg1)
          ∧ r.2.mem ((c.tc : Thread Cert.LinProdIdeal.nD Cert.LinProdIdeal.τ).loc Cert.LinProdIdeal.main_arg2) = m ((c.tc : Thread Cert.LinProdIdeal.nD Cert.LinProdIdeal.τ).loc Cert.LinProdIdeal.main_arg2))
      ∧ θ_run (Cert.LinProdRefIdeal.defs (F := Ideal)) (onTc (τ := Cert.LinProdRefIdeal.τ) (Cert.LinProdRefIdeal.main (F := Ideal))) ⟨m', fun _ => 0, g'⟩ (fun r => ∀ c : Dev Cert.LinProdRefIdeal.nD,
          r.2.mem ((c.tc : Thread Cert.LinProdRefIdeal.nD Cert.LinProdRefIdeal.τ).loc Cert.LinProdRefIdeal.main_v6) = v0 c
          ∧ r.2.mem ((c.tc : Thread Cert.LinProdRefIdeal.nD Cert.LinProdRefIdeal.τ).loc Cert.LinProdRefIdeal.main_v4) = v1 c
          ∧ r.2.mem ((c.tc : Thread Cert.LinProdRefIdeal.nD Cert.LinProdRefIdeal.τ).loc Cert.LinProdRefIdeal.main_arg0) = m' ((c.tc : Thread Cert.LinProdRefIdeal.nD Cert.LinProdRefIdeal.τ).loc Cert.LinProdRefIdeal.main_arg0)
          ∧ r.2.mem ((c.tc : Thread Cert.LinProdRefIdeal.nD Cert.LinProdRefIdeal.τ).loc Cert.LinProdRefIdeal.main_arg1) = m' ((c.tc : Thread Cert.LinProdRefIdeal.nD Cert.LinProdRefIdeal.τ).loc Cert.LinProdRefIdeal.main_arg1)
          ∧ r.2.mem ((c.tc : Thread Cert.LinProdRefIdeal.nD Cert.LinProdRefIdeal.τ).loc Cert.LinProdRefIdeal.main_arg2) = m' ((c.tc : Thread Cert.LinProdRefIdeal.nD Cert.LinProdRefIdeal.τ).loc Cert.LinProdRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_MetaGrad_MetaGradIdeal : Prop :=
  True

def algebraic_MetaGradIdeal_MetaGradRefIdeal [hMetaGradIdeal : Cert.MetaGradIdeal.Facts] [hMetaGradRefIdeal : Cert.MetaGradRefIdeal.Facts] : Prop :=
  ∀ (m : (ℓ : Loc Cert.MetaGradIdeal.nD Cert.MetaGradIdeal.τ Cert.MetaGradIdeal.sig) → Buf (Elt Ideal) ℓ) (g : Dev Cert.MetaGradIdeal.nD → PrngReg)
    (m' : (ℓ : Loc Cert.MetaGradRefIdeal.nD Cert.MetaGradRefIdeal.τ Cert.MetaGradRefIdeal.sig) → Buf (Elt Ideal) ℓ) (g' : Dev Cert.MetaGradRefIdeal.nD → PrngReg), Pre_MetaGradIdeal m →
    (∀ c : Dev Cert.MetaGradIdeal.nD,
      m' ((c.tc : Thread Cert.MetaGradRefIdeal.nD Cert.MetaGradRefIdeal.τ).loc Cert.MetaGradRefIdeal.main_arg0) = m ((c.tc : Thread Cert.MetaGradIdeal.nD Cert.MetaGradIdeal.τ).loc Cert.MetaGradIdeal.main_arg0)) →
    ∃ (v0 : (c : Dev Cert.MetaGradIdeal.nD) → Buf (Elt Ideal) ((c.tc : Thread Cert.MetaGradIdeal.nD Cert.MetaGradIdeal.τ).loc Cert.MetaGradIdeal.main_v0)),
      θ_run (Cert.MetaGradIdeal.defs (F := Ideal)) (onTc (τ := Cert.MetaGradIdeal.τ) (Cert.MetaGradIdeal.main (F := Ideal))) ⟨m, fun _ => 0, g⟩ (fun r => ∀ c : Dev Cert.MetaGradIdeal.nD,
          r.2.mem ((c.tc : Thread Cert.MetaGradIdeal.nD Cert.MetaGradIdeal.τ).loc Cert.MetaGradIdeal.main_v0) = v0 c
          ∧ r.2.mem ((c.tc : Thread Cert.MetaGradIdeal.nD Cert.MetaGradIdeal.τ).loc Cert.MetaGradIdeal.main_arg0) = m ((c.tc : Thread Cert.MetaGradIdeal.nD Cert.MetaGradIdeal.τ).loc Cert.MetaGradIdeal.main_arg0))
      ∧ θ_run (Cert.MetaGradRefIdeal.defs (F := Ideal)) (onTc (τ := Cert.MetaGradRefIdeal.τ) (Cert.MetaGradRefIdeal.main (F := Ideal))) ⟨m', fun _ => 0, g'⟩ (fun r => ∀ c : Dev Cert.MetaGradRefIdeal.nD,
          r.2.mem ((c.tc : Thread Cert.MetaGradRefIdeal.nD Cert.MetaGradRefIdeal.τ).loc Cert.MetaGradRefIdeal.main_v10) = v0 c
          ∧ r.2.mem ((c.tc : Thread Cert.MetaGradRefIdeal.nD Cert.MetaGradRefIdeal.τ).loc Cert.MetaGradRefIdeal.main_arg0) = m' ((c.tc : Thread Cert.MetaGradRefIdeal.nD Cert.MetaGradRefIdeal.τ).loc Cert.MetaGradRefIdeal.main_arg0))

def Claim : Prop :=
  ∃ (hGluBwd : Cert.GluBwd.Facts) (hGluBwdIdeal : Cert.GluBwdIdeal.Facts) (hGluRefIdeal : Cert.GluRefIdeal.Facts) (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hIn : Cert.In.Facts) (hInIdeal : Cert.InIdeal.Facts) (hInRefIdeal : Cert.InRefIdeal.Facts) (hBound : Cert.Bound.Facts) (hBoundIdeal : Cert.BoundIdeal.Facts) (hBoundRefIdeal : Cert.BoundRefIdeal.Facts) (hMerge : Cert.Merge.Facts) (hMergeIdeal : Cert.MergeIdeal.Facts) (hMergeRefIdeal : Cert.MergeRefIdeal.Facts) (hDiscA : Cert.DiscA.Facts) (hDiscAIdeal : Cert.DiscAIdeal.Facts) (hDiscARefIdeal : Cert.DiscARefIdeal.Facts) (hDiscB : Cert.DiscB.Facts) (hDiscBIdeal : Cert.DiscBIdeal.Facts) (hDiscBRefIdeal : Cert.DiscBRefIdeal.Facts) (hLoss : Cert.Loss.Facts) (hLossIdeal : Cert.LossIdeal.Facts) (hLossRefIdeal : Cert.LossRefIdeal.Facts) (hS5 : Cert.S5.Facts) (hS5Ideal : Cert.S5Ideal.Facts) (hMergeFwd : Cert.MergeFwd.Facts) (hMergeFwdIdeal : Cert.MergeFwdIdeal.Facts) (hMergeFwdRefIdeal : Cert.MergeFwdRefIdeal.Facts) (hGluFwd : Cert.GluFwd.Facts) (hGluFwdIdeal : Cert.GluFwdIdeal.Facts) (hGluFwdRefIdeal : Cert.GluFwdRefIdeal.Facts) (hNormFwd : Cert.NormFwd.Facts) (hNormFwdIdeal : Cert.NormFwdIdeal.Facts) (hNormFwdRefIdeal : Cert.NormFwdRefIdeal.Facts) (hDiscAFwd : Cert.DiscAFwd.Facts) (hDiscAFwdIdeal : Cert.DiscAFwdIdeal.Facts) (hDiscAFwdRefIdeal : Cert.DiscAFwdRefIdeal.Facts) (hDiscBFwd : Cert.DiscBFwd.Facts) (hDiscBFwdIdeal : Cert.DiscBFwdIdeal.Facts) (hDiscBFwdRefIdeal : Cert.DiscBFwdRefIdeal.Facts) (hBoundFwd : Cert.BoundFwd.Facts) (hBoundFwdIdeal : Cert.BoundFwdIdeal.Facts) (hBoundFwdRefIdeal : Cert.BoundFwdRefIdeal.Facts) (hInProd : Cert.InProd.Facts) (hInProdIdeal : Cert.InProdIdeal.Facts) (hInProdRefIdeal : Cert.InProdRefIdeal.Facts) (hInDw : Cert.InDw.Facts) (hInDwIdeal : Cert.InDwIdeal.Facts) (hInDwRefIdeal : Cert.InDwRefIdeal.Facts) (hLinProd : Cert.LinProd.Facts) (hLinProdIdeal : Cert.LinProdIdeal.Facts) (hLinProdRefIdeal : Cert.LinProdRefIdeal.Facts) (hAdam : Cert.Adam.Facts) (hAdamIdeal : Cert.AdamIdeal.Facts) (hAdamRefIdeal : Cert.AdamRefIdeal.Facts) (hMetaGrad : Cert.MetaGrad.Facts) (hMetaGradIdeal : Cert.MetaGradIdeal.Facts) (hMetaGradRefIdeal : Cert.MetaGradRefIdeal.Facts) (hPre_gate_finite : Cert.Pre_gate_finite.Facts) (hPre_disc_finite : Cert.Pre_disc_finite.Facts),
    quiescent_GluBwd (hGluBwd := hGluBwd)
    ∧ quiescent_GluBwdIdeal (hGluBwdIdeal := hGluBwdIdeal)
    ∧ quiescent_GluRefIdeal (hGluRefIdeal := hGluRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Conv (hConv := hConv)
    ∧ quiescent_ConvIdeal (hConvIdeal := hConvIdeal)
    ∧ quiescent_ConvRefIdeal (hConvRefIdeal := hConvRefIdeal)
    ∧ quiescent_In (hIn := hIn)
    ∧ quiescent_InIdeal (hInIdeal := hInIdeal)
    ∧ quiescent_InRefIdeal (hInRefIdeal := hInRefIdeal)
    ∧ quiescent_Bound (hBound := hBound)
    ∧ quiescent_BoundIdeal (hBoundIdeal := hBoundIdeal)
    ∧ quiescent_BoundRefIdeal (hBoundRefIdeal := hBoundRefIdeal)
    ∧ quiescent_Merge (hMerge := hMerge)
    ∧ quiescent_MergeIdeal (hMergeIdeal := hMergeIdeal)
    ∧ quiescent_MergeRefIdeal (hMergeRefIdeal := hMergeRefIdeal)
    ∧ quiescent_DiscA (hDiscA := hDiscA)
    ∧ quiescent_DiscAIdeal (hDiscAIdeal := hDiscAIdeal)
    ∧ quiescent_DiscARefIdeal (hDiscARefIdeal := hDiscARefIdeal)
    ∧ quiescent_DiscB (hDiscB := hDiscB)
    ∧ quiescent_DiscBIdeal (hDiscBIdeal := hDiscBIdeal)
    ∧ quiescent_DiscBRefIdeal (hDiscBRefIdeal := hDiscBRefIdeal)
    ∧ quiescent_Loss (hLoss := hLoss)
    ∧ quiescent_LossIdeal (hLossIdeal := hLossIdeal)
    ∧ quiescent_LossRefIdeal (hLossRefIdeal := hLossRefIdeal)
    ∧ quiescent_S5 (hS5 := hS5)
    ∧ quiescent_S5Ideal (hS5Ideal := hS5Ideal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_DiscAFwd (hDiscAFwd := hDiscAFwd)
    ∧ quiescent_DiscAFwdIdeal (hDiscAFwdIdeal := hDiscAFwdIdeal)
    ∧ quiescent_DiscAFwdIdeal_pre_disc_finite (hDiscAFwdIdeal := hDiscAFwdIdeal) (hPre_disc_finite := hPre_disc_finite)
    ∧ quiescent_DiscAFwdRefIdeal (hDiscAFwdRefIdeal := hDiscAFwdRefIdeal)
    ∧ quiescent_DiscAFwdRefIdeal_pre_disc_finite (hDiscAFwdRefIdeal := hDiscAFwdRefIdeal) (hPre_disc_finite := hPre_disc_finite)
    ∧ quiescent_DiscBFwd (hDiscBFwd := hDiscBFwd)
    ∧ quiescent_DiscBFwdIdeal (hDiscBFwdIdeal := hDiscBFwdIdeal)
    ∧ quiescent_DiscBFwdRefIdeal (hDiscBFwdRefIdeal := hDiscBFwdRefIdeal)
    ∧ quiescent_BoundFwd (hBoundFwd := hBoundFwd)
    ∧ quiescent_BoundFwdIdeal (hBoundFwdIdeal := hBoundFwdIdeal)
    ∧ quiescent_BoundFwdRefIdeal (hBoundFwdRefIdeal := hBoundFwdRefIdeal)
    ∧ quiescent_InProd (hInProd := hInProd)
    ∧ quiescent_InProdIdeal (hInProdIdeal := hInProdIdeal)
    ∧ quiescent_InProdRefIdeal (hInProdRefIdeal := hInProdRefIdeal)
    ∧ quiescent_InDw (hInDw := hInDw)
    ∧ quiescent_InDwIdeal (hInDwIdeal := hInDwIdeal)
    ∧ quiescent_InDwRefIdeal (hInDwRefIdeal := hInDwRefIdeal)
    ∧ quiescent_LinProd (hLinProd := hLinProd)
    ∧ quiescent_LinProdIdeal (hLinProdIdeal := hLinProdIdeal)
    ∧ quiescent_LinProdRefIdeal (hLinProdRefIdeal := hLinProdRefIdeal)
    ∧ quiescent_Adam (hAdam := hAdam)
    ∧ quiescent_AdamIdeal (hAdamIdeal := hAdamIdeal)
    ∧ quiescent_AdamRefIdeal (hAdamRefIdeal := hAdamRefIdeal)
    ∧ quiescent_MetaGrad (hMetaGrad := hMetaGrad)
    ∧ quiescent_MetaGradIdeal (hMetaGradIdeal := hMetaGradIdeal)
    ∧ quiescent_MetaGradRefIdeal (hMetaGradRefIdeal := hMetaGradRefIdeal)
    ∧ preserves_GluBwd_GluBwdIdeal
    ∧ algebraic_GluBwdIdeal_GluRefIdeal (hGluBwdIdeal := hGluBwdIdeal) (hGluRefIdeal := hGluRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Conv_ConvIdeal
    ∧ algebraic_ConvIdeal_ConvRefIdeal (hConvIdeal := hConvIdeal) (hConvRefIdeal := hConvRefIdeal)
    ∧ preserves_In_InIdeal
    ∧ algebraic_InIdeal_InRefIdeal (hInIdeal := hInIdeal) (hInRefIdeal := hInRefIdeal)
    ∧ preserves_Bound_BoundIdeal
    ∧ algebraic_BoundIdeal_BoundRefIdeal (hBoundIdeal := hBoundIdeal) (hBoundRefIdeal := hBoundRefIdeal)
    ∧ preserves_Merge_MergeIdeal
    ∧ algebraic_MergeIdeal_MergeRefIdeal (hMergeIdeal := hMergeIdeal) (hMergeRefIdeal := hMergeRefIdeal)
    ∧ preserves_DiscA_DiscAIdeal
    ∧ algebraic_DiscAIdeal_DiscARefIdeal (hDiscAIdeal := hDiscAIdeal) (hDiscARefIdeal := hDiscARefIdeal)
    ∧ preserves_DiscB_DiscBIdeal
    ∧ algebraic_DiscBIdeal_DiscBRefIdeal (hDiscBIdeal := hDiscBIdeal) (hDiscBRefIdeal := hDiscBRefIdeal)
    ∧ preserves_Loss_LossIdeal
    ∧ algebraic_LossIdeal_LossRefIdeal (hLossIdeal := hLossIdeal) (hLossRefIdeal := hLossRefIdeal)
    ∧ preserves_S5_S5Ideal
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_DiscAFwd_DiscAFwdIdeal
    ∧ algebraic_DiscAFwdIdeal_DiscAFwdRefIdeal_pre_disc_finite (hDiscAFwdIdeal := hDiscAFwdIdeal) (hDiscAFwdRefIdeal := hDiscAFwdRefIdeal) (hPre_disc_finite := hPre_disc_finite)
    ∧ preserves_DiscBFwd_DiscBFwdIdeal
    ∧ algebraic_DiscBFwdIdeal_DiscBFwdRefIdeal (hDiscBFwdIdeal := hDiscBFwdIdeal) (hDiscBFwdRefIdeal := hDiscBFwdRefIdeal)
    ∧ preserves_BoundFwd_BoundFwdIdeal
    ∧ algebraic_BoundFwdIdeal_BoundFwdRefIdeal (hBoundFwdIdeal := hBoundFwdIdeal) (hBoundFwdRefIdeal := hBoundFwdRefIdeal)
    ∧ preserves_InProd_InProdIdeal
    ∧ algebraic_InProdIdeal_InProdRefIdeal (hInProdIdeal := hInProdIdeal) (hInProdRefIdeal := hInProdRefIdeal)
    ∧ preserves_InDw_InDwIdeal
    ∧ algebraic_InDwIdeal_InDwRefIdeal (hInDwIdeal := hInDwIdeal) (hInDwRefIdeal := hInDwRefIdeal)
    ∧ preserves_LinProd_LinProdIdeal
    ∧ algebraic_LinProdIdeal_LinProdRefIdeal (hLinProdIdeal := hLinProdIdeal) (hLinProdRefIdeal := hLinProdRefIdeal)
    ∧ preserves_Adam_AdamIdeal
    ∧ algebraic_AdamIdeal_AdamRefIdeal (hAdamIdeal := hAdamIdeal) (hAdamRefIdeal := hAdamRefIdeal)
    ∧ preserves_MetaGrad_MetaGradIdeal
    ∧ algebraic_MetaGradIdeal_MetaGradRefIdeal (hMetaGradIdeal := hMetaGradIdeal) (hMetaGradRefIdeal := hMetaGradRefIdeal)
-- ==== Pre_disc_finite.lean ====
abbrev S64x64 : Shape := ⟨2, ![64, 64]⟩
abbrev S64 : Shape := ⟨1, ![64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x64 .f32) (main_arg1 : FVec F S64x64 .f32) (main_arg2 : FVec F S64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Pre_gate_finite.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S_ : Shape := ⟨0, ![]⟩

class Facts : Prop where
  bcast_S_S8256x5632 : S_.BroadcastsInDim S8256x5632 (![] : Fin 0 → Fin S8256x5632.rank)
  reducesTo_S8256x5632_S_d0_1 : S8256x5632.ReducesTo [0, 1] S_
  h_S_ : 0 < S_.numel
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S8256x1024 : S_.BroadcastsInDim S8256x1024 (![] : Fin 0 → Fin S8256x1024.rank)
  reducesTo_S8256x1024_S_d0_1 : S8256x1024.ReducesTo [0, 1] S_

variable [Facts]

def fn_part1 {F : FTy → Type} [FloatOps F] (main_v13 : IVec S_ 1) (main_v16 : IVec S8256x1024 1) : IVec S_ 1 :=
  let main_c_5 : IVec S_ 1 := constantI S_ 1 1#1
  let main_v17 : IVec S_ 1 := (fun x v => Host.reduce IntOp.andi x v reducesTo_S8256x1024_S_d0_1 h_S_) main_v16 main_c_5
  let main_v18 : IVec S_ 1 := andi main_v13 main_v17
  main_v18

def fn {F : FTy → Type} [FloatOps F] (main_arg0 : FVec F S8256x5632 .f32) (main_arg1 : FVec F S5632 .f32) (main_arg2 : FVec F S2816x1024 .f32) (main_arg3 : FVec F S8256x1024 .f32) : IVec S_ 1 :=
  let main_v0 : FVec F S8256x5632 .f32 := Host.absf main_arg0
  let main_cst : FVec F S_ .f32 := constant S_ .f32 0x7F800000#32
  let main_v1 : FVec F S8256x5632 .f32 := broadcastInDim S8256x5632 ![] bcast_S_S8256x5632 main_cst
  let main_v2 : IVec S8256x5632 1 := cmpf .olt main_v0 main_v1
  let main_c : IVec S_ 1 := constantI S_ 1 1#1
  let main_v3 : IVec S_ 1 := (fun x v => Host.reduce IntOp.andi x v reducesTo_S8256x5632_S_d0_1 h_S_) main_v2 main_c
  let main_v4 : FVec F S5632 .f32 := Host.absf main_arg1
  let main_cst_0 : FVec F S_ .f32 := constant S_ .f32 0x7F800000#32
  let main_v5 : FVec F S5632 .f32 := broadcastInDim S5632 ![] bcast_S_S5632 main_cst_0
  let main_v6 : IVec S5632 1 := cmpf .olt main_v4 main_v5
  let main_c_1 : IVec S_ 1 := constantI S_ 1 1#1
  let main_v7 : IVec S_ 1 := (fun x v => Host.reduce IntOp.andi x v reducesTo_S5632_S_d0 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8256x1024 .f32 := Host.absf main_arg3
  let main_cst_4 : FVec F S_ .f32 := constant S_ .f32 0x7F800000#32
  let main_v15 : FVec F S8256x1024 .f32 := broadcastInDim S8256x1024 ![] bcast_S_S8256x1024 main_cst_4
  let main_v16 : IVec S8256x1024 1 := cmpf .olt main_v14 main_v15
  fn_part1 (F := F) main_v13 main_v16
-- ==== GluBwd.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S1024x1024, .bf16⟩
  | .hbm, ⟨4, _⟩ => ⟨S8256x1024, .bf16⟩
  | .hbm, ⟨5, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GluRefIdeal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S1024x1024, .f32⟩
  | .hbm, ⟨23, _⟩ => ⟨S1024x1024, .f32⟩
  | .hbm, ⟨24, _⟩ => ⟨S8256x1024, .f32⟩
  | .hbm, ⟨25, _⟩ => ⟨S8256x1024, .f32⟩
  | .hbm, ⟨26, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Gate.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S1x5632 : Shape := ⟨2, ![1, 5632]⟩
abbrev S8256x2x4x704 : Shape := ⟨4, ![8256, 2, 4, 704]⟩
abbrev S2x4x8256x704 : Shape := ⟨4, ![2, 4, 8256, 704]⟩
abbrev S1x4x8256x704 : Shape := ⟨4, ![1, 4, 8256, 704]⟩
abbrev S4x8256x704 : Shape := ⟨3, ![4, 8256, 704]⟩
abbrev S4x704x1024 : Shape := ⟨3, ![4, 704, 1024]⟩
abbrev S4x1x704 : Shape := ⟨3, ![4, 1, 704]⟩
abbrev S688x1024 : Shape := ⟨2, ![688, 1024]⟩
abbrev S1x688x704 : Shape := ⟨3, ![1, 688, 704]⟩
abbrev S1x704x1024 : Shape := ⟨3, ![1, 704, 1024]⟩
abbrev S1x1x704 : Shape := ⟨3, ![1, 1, 704]⟩
abbrev S704x1024 : Shape := ⟨2, ![704, 1024]⟩
abbrev S1x704 : Shape := ⟨2, ![1, 704]⟩
abbrev S688x704 : Shape := ⟨2, ![688, 704]⟩
abbrev S704 : Shape := ⟨1, ![704]⟩

abbrev nBuf : Space → Nat
  | .hbm => 21
  | .vmem => 18
  | .smem => 0
  | _ => 0

abbrev bufTy : (tb : Table) → Fin (tcTables nBuf tb) → BufTy
  | .hbm, ⟨0, _⟩ => ⟨S8256x5632, .f32⟩
  | .hbm, ⟨1, _⟩ => ⟨S5632, .f32⟩
  | .hbm, ⟨2, _⟩ => ⟨S2816x1024, .f32⟩
  | .hbm, ⟨3, _⟩ => ⟨S8256x1024, .f32⟩
  | .hbm, ⟨4, _⟩ => ⟨S1x5632, .f32⟩
  | .hbm, ⟨5, _⟩ => ⟨S8256x5632, .f32⟩
  | .hbm, ⟨6, _⟩ => ⟨S8256x5632, .f32⟩
  | .hbm, ⟨7, _⟩ => ⟨S8256x5632, .bf16⟩
  | .hbm, ⟨8, _⟩ => ⟨S8256x2x4x704, .bf16⟩
  | .hbm, ⟨9, _⟩ => ⟨S2x4x8256x704, .bf16⟩
  | .hbm, ⟨10, _⟩ => ⟨S1x4x8256x704, .bf16⟩
  | .hbm, ⟨11, _⟩ => ⟨S4x8256x704, .bf16⟩
  | .hbm, ⟨12, _⟩ => ⟨S1x4x8256x704, .bf16⟩
  | .hbm, ⟨13, _⟩ => ⟨S4x8256x704, .bf16⟩
  | .hbm, ⟨14, _⟩ => ⟨S2816x1024, .bf16⟩
  | .hbm, ⟨15, _⟩ => ⟨S4x704x1024, .bf16⟩
  | .hbm, ⟨16, _⟩ => ⟨S4x8256x704, .bf16⟩
  | .hbm, ⟨17, _⟩ => ⟨S4x8256x704, .bf16⟩
  | .hbm, ⟨18, _⟩ => ⟨S4x704x1024, .f32⟩
  | .hbm, ⟨19, _⟩ => ⟨S4x1x704, .f32⟩
  | .hbm, ⟨20, _⟩ => ⟨S4x1x704, .f32⟩
  | .local _ .vmem, ⟨0, _⟩ => ⟨S688x1024, .f32⟩
  | .local _ .vmem, ⟨1, _⟩ => ⟨S688x1024, .f32⟩
  | .local _ .vmem, ⟨2, _⟩ => ⟨S1x688x704, .bf16⟩
  | .local _ .vmem, ⟨3, _⟩ => ⟨S1x688x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x688x704, .bf16⟩
  | .local _ .vmem, ⟨9, _⟩ => ⟨S1x688x704, .bf16⟩
  | .local _ .vmem, ⟨10, _⟩ => ⟨S1x688x704, .bf16⟩
  | .local _ .vmem, ⟨11, _⟩ => ⟨S1x688x704, .bf16⟩
  | .local _ .vmem, ⟨12, _⟩ => ⟨S1x704x1024, .f32⟩
  | .local _ .vmem, ⟨13, _⟩ => ⟨S1x704x1024, .f32⟩
  | .local _ .vmem, ⟨14, _⟩ => ⟨S1x1x704, .f32⟩
  | .local _ .vmem, ⟨15, _⟩ => ⟨S1x1x704, .f32⟩
  | .local _ .vmem, ⟨16, _⟩ => ⟨S1x1x704, .f32⟩
  | .local _ .vmem, ⟨17, _⟩ => ⟨S1x1x704, .f32⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x688x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x688x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateRefIdeal.lean ====
abbrev S8256x5632 : Shape := ⟨2, ![8256, 5632]⟩
abbrev S5632 : Shape := ⟨1, ![5632]⟩
abbrev S2816x1024 : Shape := ⟨2, ![2816, 1024]⟩
abbrev S8256x1024 : Shape := ⟨2, ![8256, 1024]⟩
abbrev S1x5632 : Shape := ⟨2, ![1, 5632]⟩
abbrev S8256x2816 : Shape := ⟨2, ![8256, 2816]⟩
abbrev S_ : Shape := ⟨0, ![]⟩
abbrev S1024x2816 : Shape := ⟨2, ![1024, 2816]⟩
abbrev S8256x2x4x704 : Shape := ⟨4, ![8256, 2, 4, 704]⟩
abbrev S2x4x8256x704 : Shape := ⟨4, ![2, 4, 8256, 704]⟩
abbrev S2x4x1x704 : Shape := ⟨4, ![2, 4, 1, 704]⟩
abbrev S1x4x8256x704 : Shape := ⟨4, ![1, 4, 8256, 704]⟩
abbrev S4x8256x704 : Shape := ⟨3, ![4, 8256, 704]⟩
abbrev S4x704x1024 : Shape := ⟨3, ![4, 704, 1024]⟩
abbrev S1x4x1x704 : Shape := ⟨4, ![1, 4, 1, 704]⟩
abbrev S4x1x704 : Shape := ⟨3, ![4, 1, 704]⟩

abbrev nBuf : Space → Nat
  | .hbm => 56
  | .vmem => 0
  | .smem => 0
  | _ => 0

abbrev bufTy : (tb : Table) → Fin (tcTables nBuf tb) → BufTy
  | .hbm, ⟨0, _⟩ => ⟨S8256x5632, .f32⟩
  | .hbm, ⟨1, _⟩ => ⟨S5632, .f32⟩
  | .hbm, ⟨2, _⟩ => ⟨S2816x1024, .f32⟩
  | .hbm, ⟨3, _⟩ => ⟨S8256x1024, .f32⟩
  | .hbm, ⟨4, _⟩ => ⟨S1x5632, .f32⟩
  | .hbm, ⟨5, _⟩ => ⟨S8256x5632, .f32⟩
  | .hbm, ⟨6, _⟩ => ⟨S8256x5632, .f32⟩
  | .hbm, ⟨7, _⟩ => ⟨S8256x2816, .f32⟩
  | .hbm, ⟨8, _⟩ => ⟨S8256x2816, .f32⟩
  | .hbm, ⟨9, _⟩ => ⟨S8256x2816, .f32⟩
  | .hbm, ⟨10, _⟩ => ⟨S_, .f32⟩
  | .hbm, ⟨11, _⟩ => ⟨S8256x2816, .f32⟩
  | .hbm, ⟨12, _⟩ => ⟨S8256x2816, .f32⟩
  | .hbm, ⟨13, _⟩ => ⟨S_, .f32⟩
  | .hbm, ⟨14, _⟩ => ⟨S8256x2816, .f32⟩
  | .hbm, ⟨15, _⟩ => ⟨S8256x2816, .f32⟩
  | .hbm, ⟨16, _⟩ => ⟨S_, .f32⟩
  | .hbm, ⟨17, _⟩ => ⟨S8256x2816, .f32⟩
  | .hbm, ⟨18, _⟩ => ⟨S8256x2816, .f32⟩
  | .hbm, ⟨19, _⟩ => ⟨S8256x2816, .f32⟩
  | .hbm, ⟨20, _⟩ => ⟨S8256x2816, .f32⟩
  | .hbm, ⟨21, _⟩ => ⟨S8256x2816, .f32⟩
  | .hbm, ⟨22, _⟩ => ⟨S8256x2816, .f32⟩
  | .hbm, ⟨23, _⟩ => ⟨S8256x1024, .f32⟩
  | .hbm, ⟨24, _⟩ => ⟨S1024x2816, .f32⟩
  | .hbm, ⟨25, _⟩ => ⟨S2816x1024, .f32⟩
  | .hbm, ⟨26, _⟩ => ⟨S8256x2816, .f32⟩
  | .hbm, ⟨27, _⟩ => ⟨S8256x2816, .f32⟩
  | .hbm, ⟨28, _⟩ => ⟨S8256x2816, .f32⟩
  | .hbm, ⟨29, _⟩ => ⟨S_, .f32⟩
  | .hbm, ⟨30, _⟩ => ⟨S8256x5632, .f32⟩
  | .hbm, ⟨31, _⟩ => ⟨S8256x2816, .f32⟩
  | .hbm, ⟨32, _⟩ => ⟨S8256x2816, .f32⟩
  | .hbm, ⟨33, _⟩ => ⟨S8256x2816, .f32⟩
  | .hbm, ⟨34, _⟩ => ⟨S8256x2816, .f32⟩
  | .hbm, ⟨35, _⟩ => ⟨S_, .f32⟩
  | .hbm, ⟨36, _⟩ => ⟨S8256x5632, .f32⟩
  | .hbm, ⟨37, _⟩ => ⟨S8256x5632, .f32⟩
  | .hbm, ⟨38, _⟩ => ⟨S_, .f32⟩
  | .hbm, ⟨39, _⟩ => ⟨S5632, .f32⟩
  | .hbm, ⟨40, _⟩ => ⟨S1x5632, .f32⟩
  | .hbm, ⟨41, _⟩ => ⟨S_, .f32⟩
  | .hbm, ⟨42, _⟩ => ⟨S5632, .f32⟩
  | .hbm, ⟨43, _⟩ => ⟨S8256x2x4x704, .f32⟩
  | .hbm, ⟨44, _⟩ => ⟨S2x4x8256x704, .f32⟩
  | .hbm, ⟨45, _⟩ => ⟨S2x4x8256x704, .bf16⟩
  | .hbm, ⟨46, _⟩ => ⟨S2x4x1x704, .f32⟩
  | .hbm, ⟨47, _⟩ => ⟨S1x4x8256x704, .bf16⟩
  | .hbm, ⟨48, _⟩ => ⟨S4x8256x704, .bf16⟩
  | .hbm, ⟨49, _⟩ => ⟨S1x4x8256x704, .bf16⟩
  | .hbm, ⟨50, _⟩ => ⟨S4x8256x704, .bf16⟩
  | .hbm, ⟨51, _⟩ => ⟨S4x704x1024, .f32⟩
  | .hbm, ⟨52, _⟩ => ⟨S1x4x1x704, .f32⟩
  | .hbm, ⟨53, _⟩ => ⟨S4x1x704, .f32⟩
  | .hbm, ⟨54, _⟩ => ⟨S1x4x1x704, .f32⟩
  | .hbm, ⟨55, _⟩ => ⟨S4x1x704, .f32⟩
  | _, _ => ⟨S8256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Conv.lean ====
abbrev S8256x1024 : Shape := ⟨2, ![8256, 1024]⟩
abbrev S1x1024 : Shape := ⟨2, ![1, 1024]⟩
abbrev S1024x5632 : Shape := ⟨2, ![1024, 5632]⟩
abbrev S3x5632 : Shape := ⟨2, ![3, 5632]⟩
abbrev S8256x5632 : Shape := ⟨2, ![8256, 5632]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S_ : Shape := ⟨0, ![]⟩
abbrev S8256 : Shape := ⟨1, ![8256]⟩
abbrev S8256x1 : Shape := ⟨2, ![8256, 1]⟩
abbrev S8256x2x4x704 : Shape := ⟨4, ![8256, 2, 4, 704]⟩
abbrev S2x4x8256x704 : Shape := ⟨4, ![2, 4, 8256, 704]⟩
abbrev S8x8256x704 : Shape := ⟨3, ![8, 8256, 704]⟩
abbrev S1x4x8256x704 : Shape := ⟨4, ![1, 4, 8256, 704]⟩
abbrev S4x8256x704 : Shape := ⟨3, ![4, 8256, 704]⟩
abbrev S4x3x704 : Shape := ⟨3, ![4, 3, 704]⟩
abbrev S1x688x704 : Shape := ⟨3, ![1, 688, 704]⟩
abbrev S1x16x704 : Shape := ⟨3, ![1, 16, 704]⟩
abbrev S1x3x704 : Shape := ⟨3, ![1, 3, 704]⟩
abbrev S1x1024x704 : Shape := ⟨3, ![1, 1024, 704]⟩
abbrev S688x1024 : Shape := ⟨2, ![688, 1024]⟩
abbrev S704x704 : Shape := ⟨2, ![704, 704]⟩
abbrev S16x704 : Shape := ⟨2, ![16, 704]⟩
abbrev S688x704 : Shape := ⟨2, ![688, 704]⟩
abbrev S3x704 : Shape := ⟨2, ![3, 704]⟩
abbrev S1x704 : Shape := ⟨2, ![1, 704]⟩
abbrev S704 : Shape := ⟨1, ![704]⟩
abbrev S1024x704 : Shape := ⟨2, ![1024, 704]⟩
abbrev S688 : Shape := ⟨1, ![688]⟩
abbrev S688x1 : Shape := ⟨2, ![688, 1]⟩
abbrev S1024 : Shape := ⟨1, ![1024]⟩

abbrev nBuf : Space → Nat
  | .hbm => 43
  | .vmem => 36
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S8256x5632, .bf16⟩
  | .hbm, ⟨5, _⟩ => ⟨S8256x1024, .f32⟩
  | .hbm, ⟨6, _⟩ => ⟨S1024x5632, .bf16⟩
  | .hbm, ⟨7, _⟩ => ⟨S1024x8x704, .bf16⟩
  | .hbm, ⟨8, _⟩ => ⟨S8x1024x704, .bf16⟩
  | .hbm, ⟨9, _⟩ => ⟨S3x8x704, .f32⟩
  | .hbm, ⟨10, _⟩ => ⟨S8x3x704, .f32⟩
  | .hbm, ⟨11, _⟩ => ⟨S8256x1024, .f32⟩
  | .hbm, ⟨12, _⟩ => ⟨S_, .f32⟩
  | .hbm, ⟨13, _⟩ => ⟨S8256, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8256x1024, .f32⟩
  | .hbm, ⟨26, _⟩ => ⟨S8256x5632, .f32⟩
  | .hbm, ⟨27, _⟩ => ⟨S8256x2x4x704, .f32⟩
  | .hbm, ⟨28, _⟩ => ⟨S2x4x8256x704, .f32⟩
  | .hbm, ⟨29, _⟩ => ⟨S2x4x8256x704, .bf16⟩
  | .hbm, ⟨30, _⟩ => ⟨S8x8256x704, .bf16⟩
  | .hbm, ⟨31, _⟩ => ⟨S8256x2x4x704, .bf16⟩
  | .hbm, ⟨32, _⟩ => ⟨S2x4x8256x704, .bf16⟩
  | .hbm, ⟨33, _⟩ => ⟨S1x4x8256x704, .bf16⟩
  | .hbm, ⟨34, _⟩ => ⟨S4x8256x704, .bf16⟩
  | .hbm, ⟨35, _⟩ => ⟨S1x4x8256x704, .bf16⟩
  | .hbm, ⟨36, _⟩ => ⟨S4x8256x704, .bf16⟩
  | .hbm, ⟨37, _⟩ => ⟨S4x8256x704, .bf16⟩
  | .hbm, ⟨38, _⟩ => ⟨S4x8256x704, .bf16⟩
  | .hbm, ⟨39, _⟩ => ⟨S8256x1024, .f32⟩
  | .hbm, ⟨40, _⟩ => ⟨S1x1024, .f32⟩
  | .hbm, ⟨41, _⟩ => ⟨S4x3x704, .f32⟩
  | .hbm, ⟨42, _⟩ => ⟨S4x3x704, .f32⟩
  | .local _ .vmem, ⟨0, _⟩ => ⟨S1x688x704, .bf16⟩
  | .local _ .vmem, ⟨1, _⟩ => ⟨S1x688x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x688x704, .bf16⟩
  | .local _ .vmem, ⟨9, _⟩ => ⟨S1x688x704, .bf16⟩
  | .local _ .vmem, ⟨10, _⟩ => ⟨S1x688x704, .bf16⟩
  | .local _ .vmem, ⟨11, _⟩ => ⟨S1x688x704, .bf16⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S688x1024, .f32⟩
  | .local _ .vmem, ⟨21, _⟩ => ⟨S688x1024, .f32⟩
  | .local _ .vmem, ⟨22, _⟩ => ⟨S1x1024, .f32⟩
  | .local _ .vmem, ⟨23, _⟩ => ⟨S688x1024, .f32⟩
  | .local _ .vmem, ⟨24, _⟩ => ⟨S688x1024, .f32⟩
  | .local _ .vmem, ⟨25, _⟩ => ⟨S1x688x704, .bf16⟩
  | .local _ .vmem, ⟨26, _⟩ => ⟨S1x688x704, .bf16⟩
  | .local _ .vmem, ⟨27, _⟩ => ⟨S1x688x704, .bf16⟩
  | .local _ .vmem, ⟨28, _⟩ => ⟨S1x688x704, .bf16⟩
  | .local _ .vmem, ⟨29, _⟩ => ⟨S688x1024, .f32⟩
  | .local _ .vmem, ⟨30, _⟩ => ⟨S688x1024, .f32⟩
  | .local _ .vmem, ⟨31, _⟩ => ⟨S1x1024, .f32⟩
  | .local _ .vmem, ⟨32, _⟩ => ⟨S4x3x704, .f32⟩
  | .local _ .vmem, ⟨33, _⟩ => ⟨S4x3x704, .f32⟩
  | .local _ .vmem, ⟨34, _⟩ => ⟨S688x1024, .f32⟩
  | .local _ .vmem, ⟨35, _⟩ => ⟨S704x704, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨2, ![12, 4], ![false, false]⟩

def k0_off1 (i : grid0.Coords) : Fin 3 → Nat :=
  let arg1 : BitVec 32 := BitVec.ofNat 32 (i 1).val
  let v53 : Index := Scalar.indexCast arg1
  let c0_27 : Index := 0#32
  let c0_28 : Index := 0#32
  ![v53.toNat, 0, 0]
def k0_cond5 (i : grid0.Coords) : BitVec 1 :=
  let arg1 : BitVec 32 := BitVec.ofNat 32 (i 1).val
  let c3_i32_82 : BitVec 32 := 3#32
  let v146 : BitVec 1 := Scalar.cmpi .eq arg1 c3_i32_82
  let v147 : BitVec 32 := Scalar.extui v146
  let c0_i32_83 : BitVec 32 := 0#32
  let v148 : BitVec 1 := Scalar.cmpi .ne v147 c0_i32_83
  v148

def k0_cond4 (i : grid0.Coords) : BitVec 1 :=
  let arg0 : BitVec 32 := BitVec.ofNat 32 (i 0).val
  let c0_i32_79 : BitVec 32 := 0#32
  let v141 : BitVec 1 := Scalar.cmpi .eq arg0 c0_i32_79
  let arg1 : BitVec 32 := BitVec.ofNat 32 (i 1).val
  let c0_i32_80 : BitVec 32 := 0#32
  let v142 : BitVec 1 := Scalar.cmpi .eq arg1 c0_i32_80
  let v143 : BitVec 1 := Scalar.andi v141 v142
  let v144 : BitVec 32 := Scalar.extui v143
  let c0_i32_81 : BitVec 32 := 0#32
  let v145 : BitVec 1 := Scalar.cmpi .ne v144 c0_i32_81
  v145

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c43_i32 : BitVec 32 := 43#32
  let v1 : BitVec 32 := Scalar.muli v0 c43_i32
  let c515_i32 : BitVec 32 := 515#32
  let v2 : BitVec 32 := Scalar.minsi v1 c515_i32
  let c0_i32 : BitVec 32 := 0#32
  let c0_i32_0 : BitVec 32 := 0#32
  ![arg1.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c43_i32 : BitVec 32 := 43#32
  let v1 : BitVec 32 := Scalar.muli v0 c43_i32
  let c515_i32 : BitVec 32 := 515#32
  let v2 : BitVec 32 := Scalar.minsi v1 c515_i32
  let c0_i32 : BitVec 32 := 0#32
  let c0_i32_0 : BitVec 32 := 0#32
  ![arg1.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x688x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x688x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x688x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S688x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x3x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x3x704 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ConvRefIdeal.lean ====
abbrev S8256x1024 : Shape := ⟨2, ![8256, 1024]⟩
abbrev S1x1024 : Shape := ⟨2, ![1, 1024]⟩
abbrev S1024x5632 : Shape := ⟨2, ![1024, 5632]⟩
abbrev S3x5632 : Shape := ⟨2, ![3, 5632]⟩
abbrev S8256x5632 : Shape := ⟨2, ![8256, 5632]⟩
abbrev S_ : Shape := ⟨0, ![]⟩
abbrev S8256 : Shape := ⟨1, ![8256]⟩
abbrev S8256x1 : Shape := ⟨2, ![8256, 1]⟩
abbrev S4x2064x5632 : Shape := ⟨3, ![4, 2064, 5632]⟩
abbrev S4x2x5632 : Shape := ⟨3, ![4, 2, 5632]⟩
abbrev S4x2066x5632 : Shape := ⟨3, ![4, 2066, 5632]⟩
abbrev S1x5632 : Shape := ⟨2, ![1, 5632]⟩
abbrev S5632 : Shape := ⟨1, ![5632]⟩
abbrev S1x1x5632 : Shape := ⟨3, ![1, 1, 5632]⟩
abbrev S1024 : Shape := ⟨1, ![1024]⟩
abbrev S8256x2x4x704 : Shape := ⟨4, ![8256, 2, 4, 704]⟩
abbrev S2x4x8256x704 : Shape := ⟨4, ![2, 4, 8256, 704]⟩
abbrev S3x2x4x704 : Shape := ⟨4, ![3, 2, 4, 704]⟩
abbrev S2x4x3x704 : Shape := ⟨4, ![2, 4, 3, 704]⟩
abbrev S1x4x8256x704 : Shape := ⟨4, ![1, 4, 8256, 704]⟩
abbrev S4x8256x704 : Shape := ⟨3, ![4, 8256, 704]⟩
abbrev S1x4x3x704 : Shape := ⟨4, ![1, 4, 3, 704]⟩
abbrev S4x3x704 : Shape := ⟨3, ![4, 3, 704]⟩

abbrev nBuf : Space → Nat
  | .hbm => 141
  | .vmem => 0
  | .smem => 0
  | _ => 0

abbrev hbmTy0_0 (i : Nat) : BufTy := match i % 128 with
  | 0 => ⟨S8256x1024, .f32⟩
  | 1 => ⟨S1x1024, .f32⟩
  | 2 => ⟨S1024x5632, .f32⟩
  | 3 => ⟨S3x5632, .f32⟩
  | 4 => ⟨S8256x5632, .bf16⟩
  | 5 => ⟨S8256x1024, .f32⟩
  | 6 => ⟨S8256x1024, .f32⟩
  | 7 => ⟨S_, .f32⟩
  | 8 => ⟨S8256, .f32⟩
  | 9 => ⟨S8256x1, .f32⟩
  | 10 => ⟨S_, .f32⟩
  | 11 => ⟨S8256x1, .f32⟩
  | 12 => ⟨S8256x1, .f32⟩
  | 13 => ⟨S_, .f32⟩
  | 14 => ⟨S8256x1, .f32⟩
  | 15 => ⟨S8256x1, .f32⟩
  | 16 => ⟨S8256x1, .f32⟩
  | 17 => ⟨S8256x1, .f32⟩
  | 18 => ⟨S_, .f32⟩
  | 19 => ⟨S8256x1, .f32⟩
  | 20 => ⟨S8256x1, .f32⟩
  | 21 => ⟨S8256x1024, .f32⟩
  | 22 => ⟨S8256x1024, .f32⟩
  | 23 => ⟨S8256x1024, .f32⟩
  | 24 => ⟨S8256x1024, .f32⟩
  | 25 => ⟨S8256x5632, .f32⟩
  | 26 => ⟨S4x2064x5632, .f32⟩
  | 27 => ⟨S_, .f32⟩
  | 28 => ⟨S4x2x5632, .f32⟩
  | 29 => ⟨S4x2066x5632, .f32⟩
  | 30 => ⟨S_, .f32⟩
  | 31 => ⟨S4x2x5632, .f32⟩
  | 32 => ⟨S4x2064x5632, .f32⟩
  | 33 => ⟨S1x5632, .f32⟩
  | 34 => ⟨S5632, .f32⟩
  | 35 => ⟨S1x1x5632, .f32⟩
  | 36 => ⟨S4x2064x5632, .f32⟩
  | 37 => ⟨S4x2064x5632, .f32⟩
  | 38 => ⟨S_, .f32⟩
  | 39 => ⟨S4x2064x5632, .f32⟩
  | 40 => ⟨S4x2064x5632, .f32⟩
  | 41 => ⟨S4x2064x5632, .f32⟩
  | 42 => ⟨S1x5632, .f32⟩
  | 43 => ⟨S5632, .f32⟩
  | 44 => ⟨S1x1x5632, .f32⟩
  | 45 => ⟨S4x2064x5632, .f32⟩
  | 46 => ⟨S4x2064x5632, .f32⟩
  | 47 => ⟨S4x2064x5632, .f32⟩
  | 48 => ⟨S4x2064x5632, .f32⟩
  | 49 => ⟨S1x5632, .f32⟩
  | 50 => ⟨S5632, .f32⟩
  | 51 => ⟨S1x1x5632, .f32⟩
  | 52 => ⟨S4x2064x5632, .f32⟩
  | 53 => ⟨S4x2064x5632, .f32⟩
  | 54 => ⟨S4x2064x5632, .f32⟩
  | 55 => ⟨S8256x5632, .f32⟩
  | 56 => ⟨S4x2064x5632, .f32⟩
  | 57 => ⟨S4x2064x5632, .f32⟩
  | 58 => ⟨S_, .f32⟩
  | 59 => ⟨S5632, .f32⟩
  | 60 => ⟨S1x1x5632, .f32⟩
  | 61 => ⟨S4x2064x5632, .f32⟩
  | 62 => ⟨S4x2064x5632, .f32⟩
  | 63 => ⟨S_, .f32⟩
  | 64 => ⟨S5632, .f32⟩
  | 65 => ⟨S1x5632, .f32⟩
  | 66 => ⟨S_, .f32⟩
  | 67 => ⟨S3x5632, .f32⟩
  | 68 => ⟨S_, .f32⟩
  | 69 => ⟨S4x2066x5632, .f32⟩
  | 70 => ⟨S4x2064x5632, .f32⟩
  | 71 => ⟨S_, .f32⟩
  | 72 => ⟨S5632, .f32⟩
  | 73 => ⟨S1x1x5632, .f32⟩
  | 74 => ⟨S4x2064x5632, .f32⟩
  | 75 => ⟨S4x2064x5632, .f32⟩
  | 76 => ⟨S_, .f32⟩
  | 77 => ⟨S5632, .f32⟩
  | 78 => ⟨S1x5632, .f32⟩
  | 79 => ⟨S_, .f32⟩
  | 80 => ⟨S3x5632, .f32⟩
  | 81 => ⟨S3x5632, .f32⟩
  | 82 => ⟨S_, .f32⟩
  | 83 => ⟨S4x2066x5632, .f32⟩
  | 84 => ⟨S4x2066x5632, .f32⟩
  | 85 => ⟨S4x2064x5632, .f32⟩
  | 86 => ⟨S_, .f32⟩
  | 87 => ⟨S5632, .f32⟩
  | 88 => ⟨S1x1x5632, .f32⟩
  | 89 => ⟨S4x2064x5632, .f32⟩
  | 90 => ⟨S4x2064x5632, .f32⟩
  | 91 => ⟨S_, .f32⟩
  | 92 => ⟨S5632, .f32⟩
  | 93 => ⟨S1x5632, .f32⟩
  | 94 => ⟨S_, .f32⟩
  | 95 => ⟨S3x5632, .f32⟩
  | 96 => ⟨S3x5632, .f32⟩
  | 97 => ⟨S_, .f32⟩
  | 98 => ⟨S4x2066x5632, .f32⟩
  | 99 => ⟨S4x2066x5632, .f32⟩
  | 100 => ⟨S4x2x5632, .f32⟩
  | 101 => ⟨S4x2064x5632, .f32⟩
  | 102 => ⟨S8256x5632, .f32⟩
  | 103 => ⟨S8256x1024, .f32⟩
  | 104 => ⟨S8256x1024, .f32⟩
  | 105 => ⟨S_, .f32⟩
  | 106 => ⟨S1024, .f32⟩
  | 107 => ⟨S1x1024, .f32⟩
  | 108 => ⟨S8256x1024, .f32⟩
  | 109 => ⟨S8256x1024, .f32⟩
  | 110 => ⟨S8256x1024, .f32⟩
  | 111 => ⟨S_, .f32⟩
  | 112 => ⟨S8256, .f32⟩
  | 113 => ⟨S8256x1, .f32⟩
  | 114 => ⟨S8256x1024, .f32⟩
  | 115 => ⟨S8256x1024, .f32⟩
  | 116 => ⟨S8256x1, .f32⟩
  | 117 => ⟨S_, .f32⟩
  | 118 => ⟨S8256x1, .f32⟩
  | 119 => ⟨S8256x1, .f32⟩
  | 120 => ⟨S_, .f32⟩
  | 121 => ⟨S8256, .f32⟩
  | 122 => ⟨S8256x1024, .f32⟩
  | 123 => ⟨S8256x1024, .f32⟩
  | 124 => ⟨S8256x1024, .f32⟩
  | 125 => ⟨S8256x1024, .f32⟩
  | 126 => ⟨S8256x1024, .f32⟩
  | 127 => ⟨S8256x2x4x704, .f32⟩
  | _ => ⟨S8256x1024, .f32⟩

abbrev hbmTy0_1 (i : Nat) : BufTy := match i % 128 with
  | 0 => ⟨S2x4x8256x704, .f32⟩
  | 1 => ⟨S2x4x8256x704, .bf16⟩
  | 2 => ⟨S3x2x4x704, .f32⟩
  | 3 => ⟨S2x4x3x704, .f32⟩
  | 4 => ⟨S1x4x8256x704, .bf16⟩
  | 5 => ⟨S4x8256x704, .bf16⟩
  | 6 => ⟨S1x4x8256x704, .bf16⟩
  | 7 => ⟨S4x8256x704, .bf16⟩
  | 8 => ⟨S8256x1024, .f32⟩
  | 9 => ⟨S1x4x3x704, .f32⟩
  | 10 => ⟨S4x3x704, .f32⟩
  | 11 => ⟨S1x4x3x704, .f32⟩
  | 12 => ⟨S4x3x704, .f32⟩
  | _ => ⟨S8256x1024, .f32⟩

abbrev hbmTy (i : Nat) : BufTy := match i / 128 with
  | 0 => hbmTy0_0 i
  | 1 => hbmTy0_1 i
  | _ => ⟨S8256x1024, .f32⟩

abbrev bufTy : (tb : Table) → Fin (tcTables nBuf tb) → BufTy
  | .hbm, ⟨i, _⟩ => hbmTy i
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩

abbrev nD : Nat := 1
abbrev τ : Topo := Topo.v7x

variable {F : FTy → Type} [FloatOps F]
-- ==== In.lean ====
abbrev S8256x7168 : Shape := ⟨2, ![8256, 7168]⟩
abbrev S1024x7168 : Shape := ⟨2, ![1024, 7168]⟩
abbrev S8256x1024 : Shape := ⟨2, ![8256, 1024]⟩
abbrev S1x1024 : Shape := ⟨2, ![1, 1024]⟩
abbrev S1024x8x896 : Shape := ⟨3, ![1024, 8, 896]⟩
abbrev S8x1024x896 : Shape := ⟨3, ![8, 1024, 896]⟩
abbrev S688x896 : Shape := ⟨2, ![688, 896]⟩
abbrev S1x1024x896 : Shape := ⟨3, ![1, 1024, 896]⟩
abbrev S688x1024 : Shape := ⟨2, ![688, 1024]⟩
abbrev S1024x896 : Shape := ⟨2, ![1024, 896]⟩
abbrev S688 : Shape := ⟨1, ![688]⟩
abbrev S688x1 : Shape := ⟨2, ![688, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8256x7168, .bf16⟩
  | .hbm, ⟨1, _⟩ => ⟨S1024x7168, .f32⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S1024x7168, .bf16⟩
  | .hbm, ⟨6, _⟩ => ⟨S1024x8x896, .bf16⟩
  | .hbm, ⟨7, _⟩ => ⟨S8x1024x896, .bf16⟩
  | .hbm, ⟨8, _⟩ => ⟨S8256x1024, .f32⟩
  | .hbm, ⟨9, _⟩ => ⟨S1x1024, .f32⟩
  | .local _ .vmem, ⟨0, _⟩ => ⟨S688x896, .bf16⟩
  | .local _ .vmem, ⟨1, _⟩ => ⟨S688x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S1x1024, .f32⟩
  | .local _ .vmem, ⟨12, _⟩ => ⟨S688x1024, .f32⟩
  | _, _ => ⟨S8256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![12, 8], ![false, false]⟩

def k0_cond4 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def k0_cond3 (i : grid0.Coords) : BitVec 1 :=
  let arg0 : BitVec 32 := BitVec.ofNat 32 (i 0).val
  let c0_i32_7 : BitVec 32 := 0#32
  let v10 : BitVec 1 := Scalar.cmpi .eq arg0 c0_i32_7
  let arg1 : BitVec 32 := BitVec.ofNat 32 (i 1).val
  let c0_i32_8 : BitVec 32 := 0#32
  let v11 : BitVec 1 := Scalar.cmpi .eq arg1 c0_i32_8
  let v12 : BitVec 1 := Scalar.andi v10 v11
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InRefIdeal.lean ====
abbrev S8256x7168 : Shape := ⟨2, ![8256, 7168]⟩
abbrev S1024x7168 : Shape := ⟨2, ![1024, 7168]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8256x7168, .bf16⟩
  | .hbm, ⟨1, _⟩ => ⟨S1024x7168, .f32⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S_, .f32⟩
  | .hbm, ⟨18, _⟩ => ⟨S8256x1, .f32⟩
  | .hbm, ⟨19, _⟩ => ⟨S8256x1, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x7168, .f32⟩
  | .hbm, ⟨25, _⟩ => ⟨S8256x7168, .f32⟩
  | .hbm, ⟨26, _⟩ => ⟨S8256x1024, .f32⟩
  | .hbm, ⟨27, _⟩ => ⟨S8256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S_, .f32⟩
  | .hbm, ⟨35, _⟩ => ⟨S8256, .f32⟩
  | .hbm, ⟨36, _⟩ => ⟨S8256x1, .f32⟩
  | .hbm, ⟨37, _⟩ => ⟨S8256x1024, .f32⟩
  | .hbm, ⟨38, _⟩ => ⟨S8256x1024, .f32⟩
  | .hbm, ⟨39, _⟩ => ⟨S8256x1024, .f32⟩
  | .hbm, ⟨40, _⟩ => ⟨S8256x1, .f32⟩
  | .hbm, ⟨41, _⟩ => ⟨S_, .f32⟩
  | .hbm, ⟨42, _⟩ => ⟨S8256x1, .f32⟩
  | .hbm, ⟨43, _⟩ => ⟨S8256x1, .f32⟩
  | .hbm, ⟨44, _⟩ => ⟨S_, .f32⟩
  | .hbm, ⟨45, _⟩ => ⟨S8256, .f32⟩
  | .hbm, ⟨46, _⟩ => ⟨S8256x1024, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | _, _ => ⟨S8256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Bound.lean ====
abbrev S2x1024 : Shape := ⟨2, ![2, 1024]⟩
abbrev S1x1024 : Shape := ⟨2, ![1, 1024]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S2x1024, .f32⟩
  | .local _ .vmem, ⟨0, _⟩ => ⟨S2x1024, .f32⟩
  | .local _ .vmem, ⟨1, _⟩ => ⟨S1x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BoundRefIdeal.lean ====
abbrev S2x1024 : Shape := ⟨2, ![2, 1024]⟩
abbrev S1x1024 : Shape := ⟨2, ![1, 1024]⟩
abbrev S_ : Shape := ⟨0, ![]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S2x1024, .f32⟩
  | .hbm, ⟨43, _⟩ => ⟨S1x1024, .f32⟩
  | .hbm, ⟨44, _⟩ => ⟨S_, .f32⟩
  | .hbm, ⟨45, _⟩ => ⟨S2x1024, .f32⟩
  | .hbm, ⟨46, _⟩ => ⟨S_, .f32⟩
  | .hbm, ⟨47, _⟩ => ⟨S_, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S2x1024, .f32⟩
  | .hbm, ⟨57, _⟩ => ⟨S2x1024, .f32⟩
  | .hbm, ⟨58, _⟩ => ⟨S_, .f32⟩
  | .hbm, ⟨59, _⟩ => ⟨S1024, .f32⟩
  | .hbm, ⟨60, _⟩ => ⟨S2x1024, .f32⟩
  | .hbm, ⟨61, _⟩ => ⟨S2x1024, .f32⟩
  | .hbm, ⟨62, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_call1_call0_cst : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Merge.lean ====
abbrev S8256x1024 : Shape := ⟨2, ![8256, 1024]⟩
abbrev S8256x2048 : Shape := ⟨2, ![8256, 2048]⟩
abbrev S1024x1024 : Shape := ⟨2, ![1024, 1024]⟩
abbrev S_ : Shape := ⟨0, ![]⟩
abbrev S688x1024 : Shape := ⟨2, ![688, 1024]⟩

abbrev nBuf : Space → Nat
  | .hbm => 41
  | .vmem => 22
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x2048, .bf16⟩
  | .hbm, ⟨3, _⟩ => ⟨S1024x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S8256x1024, .bf16⟩
  | .hbm, ⟨9, _⟩ => ⟨S8256x1024, .f32⟩
  | .hbm, ⟨10, _⟩ => ⟨S8256x1024, .f32⟩
  | .hbm, ⟨11, _⟩ => ⟨S8256x1024, .bf16⟩
  | .hbm, ⟨12, _⟩ => ⟨S8256x1024, .f32⟩
  | .hbm, ⟨13, _⟩ => ⟨S8256x1024, .bf16⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S_, .f32⟩
  | .hbm, ⟨18, _⟩ => ⟨S8256x1024, .f32⟩
  | .hbm, ⟨19, _⟩ => ⟨S8256x1024, .f32⟩
  | .hbm, ⟨20, _⟩ => ⟨S_, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8256x1024, .f32⟩
  | .hbm, ⟨26, _⟩ => ⟨S_, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S8256x1024, .bf16⟩
  | .hbm, ⟨35, _⟩ => ⟨S1024x1024, .bf16⟩
  | .hbm, ⟨36, _⟩ => ⟨S8256x1024, .bf16⟩
  | .hbm, ⟨37, _⟩ => ⟨S8256x1024, .bf16⟩
  | .hbm, ⟨38, _⟩ => ⟨S8256x1024, .bf16⟩
  | .hbm, ⟨39, _⟩ => ⟨S8256x1024, .bf16⟩
  | .hbm, ⟨40, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .bf16⟩
  | .local _ .vmem, ⟨9, _⟩ => ⟨S688x1024, .bf16⟩
  | .local _ .vmem, ⟨10, _⟩ => ⟨S688x1024, .bf16⟩
  | .local _ .vmem, ⟨11, _⟩ => ⟨S688x1024, .bf16⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | .local _ .vmem, ⟨18, _⟩ => ⟨S688x1024, .bf16⟩
  | .local _ .vmem, ⟨19, _⟩ => ⟨S688x1024, .bf16⟩
  | .local _ .vmem, ⟨20, _⟩ => ⟨S688x1024, .bf16⟩
  | .local _ .vmem, ⟨21, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S8256x1024 : Shape := ⟨2, ![8256, 1024]⟩
abbrev S8256x2048 : Shape := ⟨2, ![8256, 2048]⟩
abbrev S1024x1024 : Shape := ⟨2, ![1024, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x2048, .bf16⟩
  | .hbm, ⟨3, _⟩ => ⟨S1024x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S8256x1024, .bf16⟩
  | .hbm, ⟨10, _⟩ => ⟨S8256x1024, .f32⟩
  | .hbm, ⟨11, _⟩ => ⟨S8256x1024, .bf16⟩
  | .hbm, ⟨12, _⟩ => ⟨S8256x1024, .f32⟩
  | .hbm, ⟨13, _⟩ => ⟨S8256x1024, .f32⟩
  | .hbm, ⟨14, _⟩ => ⟨S8256x1024, .f32⟩
  | .hbm, ⟨15, _⟩ => ⟨S_, .f32⟩
  | .hbm, ⟨16, _⟩ => ⟨S8256x1024, .f32⟩
  | .hbm, ⟨17, _⟩ => ⟨S8256x1024, .f32⟩
  | .hbm, ⟨18, _⟩ => ⟨S_, .f32⟩
  | .hbm, ⟨19, _⟩ => ⟨S8256x1024, .f32⟩
  | .hbm, ⟨20, _⟩ => ⟨S8256x1024, .f32⟩
  | .hbm, ⟨21, _⟩ => ⟨S_, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8256x1024, .f32⟩
  | .hbm, ⟨26, _⟩ => ⟨S8256x1024, .f32⟩
  | .hbm, ⟨27, _⟩ => ⟨S8256x1024, .f32⟩
  | .hbm, ⟨28, _⟩ => ⟨S_, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S8256x1024, .f32⟩
  | .hbm, ⟨33, _⟩ => ⟨S8256x1024, .f32⟩
  | .hbm, ⟨34, _⟩ => ⟨S_, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S8256x1024, .f32⟩
  | .hbm, ⟨40, _⟩ => ⟨S8256x1024, .f32⟩
  | .hbm, ⟨41, _⟩ => ⟨S1024x1024, .f32⟩
  | .hbm, ⟨42, _⟩ => ⟨S1024x1024, .f32⟩
  | .hbm, ⟨43, _⟩ => ⟨S8256x1024, .f32⟩
  | .hbm, ⟨44, _⟩ => ⟨S8256x1024, .f32⟩
  | .hbm, ⟨45, _⟩ => ⟨S8256x1024, .f32⟩
  | .hbm, ⟨46, _⟩ => ⟨S8256x1024, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .bf16⟩
  | .hbm, ⟨51, _⟩ => ⟨S8256x1024, .bf16⟩
  | .hbm, ⟨52, _⟩ => ⟨S8256x1024, .bf16⟩
  | .hbm, ⟨53, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== DiscA.lean ====
abbrev S64x64 : Shape := ⟨2, ![64, 64]⟩
abbrev S64 : Shape := ⟨1, ![64]⟩
abbrev S64x1 : Shape := ⟨2, ![64, 1]⟩

abbrev nBuf : Space → Nat
  | .hbm => 11
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S64x1, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscARefIdeal.lean ====
abbrev S64x64 : Shape := ⟨2, ![64, 64]⟩
abbrev S64 : Shape := ⟨1, ![64]⟩
abbrev S64x1 : Shape := ⟨2, ![64, 1]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S_, .f32⟩
  | .hbm, ⟨81, _⟩ => ⟨S64, .f32⟩
  | .hbm, ⟨82, _⟩ => ⟨S64x1, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64, .f32⟩
  | .hbm, ⟨94, _⟩ => ⟨S64x1, .f32⟩
  | .hbm, ⟨95, _⟩ => ⟨S64x1, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S_, .f32⟩
  | .hbm, ⟨102, _⟩ => ⟨S64, .f32⟩
  | .hbm, ⟨103, _⟩ => ⟨S64x1, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_2 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_3 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_4 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_5 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩

abbrev nD : Nat := 1
abbrev τ : Topo := Topo.v7x

variable {F : FTy → Type} [FloatOps F]
-- ==== DiscB.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S1x4096 : Shape := ⟨2, ![1, 4096]⟩
abbrev S16x64x64 : Shape := ⟨3, ![16, 64, 64]⟩
abbrev S16x4096 : Shape := ⟨2, ![16, 4096]⟩
abbrev S4096 : Shape := ⟨1, ![4096]⟩

abbrev nBuf : Space → Nat
  | .hbm => 48
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S64x64x16, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x4096, .f32⟩
  | .hbm, ⟨35, _⟩ => ⟨S1x4096, .f32⟩
  | .hbm, ⟨36, _⟩ => ⟨S16x64x64, .f32⟩
  | .hbm, ⟨37, _⟩ => ⟨S16x4096, .f32⟩
  | .hbm, ⟨38, _⟩ => ⟨S16x64x64, .f32⟩
  | .hbm, ⟨39, _⟩ => ⟨S16x4096, .f32⟩
  | .hbm, ⟨40, _⟩ => ⟨S16x64x64, .f32⟩
  | .hbm, ⟨41, _⟩ => ⟨S16x4096, .f32⟩
  | .hbm, ⟨42, _⟩ => ⟨S16x64x64, .f32⟩
  | .hbm, ⟨43, _⟩ => ⟨S16x4096, .f32⟩
  | .hbm, ⟨44, _⟩ => ⟨S1x4096, .f32⟩
  | .hbm, ⟨45, _⟩ => ⟨S1x4096, .f32⟩
  | .hbm, ⟨46, _⟩ => ⟨S16x4096, .f32⟩
  | .hbm, ⟨47, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S16x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S1x4096, .f32⟩
  | .local _ .vmem, ⟨7, _⟩ => ⟨S1x4096, .f32⟩
  | .local _ .vmem, ⟨8, _⟩ => ⟨S16x4096, .f32⟩
  | .local _ .vmem, ⟨9, _⟩ => ⟨S16x4096, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscBRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S1x4096 : Shape := ⟨2, ![1, 4096]⟩
abbrev S16x64x64 : Shape := ⟨3, ![16, 64, 64]⟩
abbrev S16x4096 : Shape := ⟨2, ![16, 4096]⟩

abbrev nBuf : Space → Nat
  | .hbm => 94
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S64x64x16, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64x1, .f32⟩
  | .hbm, ⟨35, _⟩ => ⟨S64x64x16, .f32⟩
  | .hbm, ⟨36, _⟩ => ⟨S64x64x16, .f32⟩
  | .hbm, ⟨37, _⟩ => ⟨S64x64x1, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x1, .f32⟩
  | .hbm, ⟨42, _⟩ => ⟨S64x64x16, .f32⟩
  | .hbm, ⟨43, _⟩ => ⟨S64x64x16, .f32⟩
  | .hbm, ⟨44, _⟩ => ⟨S64x64x1, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S_, .f32⟩
  | .hbm, ⟨54, _⟩ => ⟨S64x64, .f32⟩
  | .hbm, ⟨55, _⟩ => ⟨S64x64x1, .f32⟩
  | .hbm, ⟨56, _⟩ => ⟨S_, .f32⟩
  | .hbm, ⟨57, _⟩ => ⟨S64x64, .f32⟩
  | .hbm, ⟨58, _⟩ => ⟨S64x64x16, .f32⟩
  | .hbm, ⟨59, _⟩ => ⟨S64x64x16, .f32⟩
  | .hbm, ⟨60, _⟩ => ⟨S64x64x16, .f32⟩
  | .hbm, ⟨61, _⟩ => ⟨S_, .f32⟩
  | .hbm, ⟨62, _⟩ => ⟨S64x64, .f32⟩
  | .hbm, ⟨63, _⟩ => ⟨S64x64x1, .f32⟩
  | .hbm, ⟨64, _⟩ => ⟨S_, .f32⟩
  | .hbm, ⟨65, _⟩ => ⟨S64x64, .f32⟩
  | .hbm, ⟨66, _⟩ => ⟨S64x64x16, .f32⟩
  | .hbm, ⟨67, _⟩ => ⟨S64x64x16, .f32⟩
  | .hbm, ⟨68, _⟩ => ⟨S64x64x16, .f32⟩
  | .hbm, ⟨69, _⟩ => ⟨S64x64x16, .f32⟩
  | .hbm, ⟨70, _⟩ => ⟨S64x64x16, .f32⟩
  | .hbm, ⟨71, _⟩ => ⟨S64x64x16, .f32⟩
  | .hbm, ⟨72, _⟩ => ⟨S_, .f32⟩
  | .hbm, ⟨73, _⟩ => ⟨S64x64, .f32⟩
  | .hbm, ⟨74, _⟩ => ⟨S64x64x1, .f32⟩
  | .hbm, ⟨75, _⟩ => ⟨S_, .f32⟩
  | .hbm, ⟨76, _⟩ => ⟨S64x64, .f32⟩
  | .hbm, ⟨77, _⟩ => ⟨S64x64, .f32⟩
  | .hbm, ⟨78, _⟩ => ⟨S64x64x16, .f32⟩
  | .hbm, ⟨79, _⟩ => ⟨S64x64x16, .f32⟩
  | .hbm, ⟨80, _⟩ => ⟨S64x64x16, .f32⟩
  | .hbm, ⟨81, _⟩ => ⟨S64x64x16, .f32⟩
  | .hbm, ⟨82, _⟩ => ⟨S_, .f32⟩
  | .hbm, ⟨83, _⟩ => ⟨S64x64, .f32⟩
  | .hbm, ⟨84, _⟩ => ⟨S64x64x1, .f32⟩
  | .hbm, ⟨85, _⟩ => ⟨S_, .f32⟩
  | .hbm, ⟨86, _⟩ => ⟨S64x64, .f32⟩
  | .hbm, ⟨87, _⟩ => ⟨S64x64, .f32⟩
  | .hbm, ⟨88, _⟩ => ⟨S1x4096, .f32⟩
  | .hbm, ⟨89, _⟩ => ⟨S1x4096, .f32⟩
  | .hbm, ⟨90, _⟩ => ⟨S16x64x64, .f32⟩
  | .hbm, ⟨91, _⟩ => ⟨S16x4096, .f32⟩
  | .hbm, ⟨92, _⟩ => ⟨S16x64x64, .f32⟩
  | .hbm, ⟨93, _⟩ => ⟨S16x4096, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_0 : Ref sig .tc := ⟨.hbm, 53, rfl⟩
abbrev main_v45 : Ref sig .tc := ⟨.hbm, 54, rfl⟩
abbrev main_v46 : Ref sig .tc := ⟨.hbm, 55, rfl⟩
abbrev main_cst_1 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_2 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Loss.lean ====
abbrev S8256x5632 : Shape := ⟨2, ![8256, 5632]⟩
abbrev S3x5632 : Shape := ⟨2, ![3, 5632]⟩
abbrev S5632 : Shape := ⟨1, ![5632]⟩
abbrev S2816x1024 : Shape := ⟨2, ![2816, 1024]⟩
abbrev S8256x1024 : Shape := ⟨2, ![8256, 1024]⟩
abbrev S4x2048x1024 : Shape := ⟨3, ![4, 2048, 1024]⟩
abbrev S1024 : Shape := ⟨1, ![1024]⟩
abbrev S4x704x1024 : Shape := ⟨3, ![4, 704, 1024]⟩
abbrev S3x8x704 : Shape := ⟨3, ![3, 8, 704]⟩
abbrev S8x3x704 : Shape := ⟨3, ![8, 3, 704]⟩
abbrev S8x1x704 : Shape := ⟨3, ![8, 1, 704]⟩
abbrev S_ : Shape := ⟨0, ![]⟩
abbrev S4x16x1024 : Shape := ⟨3, ![4, 16, 1024]⟩
abbrev S4x2064x1024 : Shape := ⟨3, ![4, 2064, 1024]⟩
abbrev S8256x8x704 : Shape := ⟨3, ![8256, 8, 704]⟩
abbrev S8x8256x704 : Shape := ⟨3, ![8, 8256, 704]⟩
abbrev S1x1024 : Shape := ⟨2, ![1, 1024]⟩
abbrev S4x8256x704 : Shape := ⟨3, ![4, 8256, 704]⟩
abbrev S1x128 : Shape := ⟨2, ![1, 128]⟩
abbrev S1x688x704 : Shape := ⟨3, ![1, 688, 704]⟩
abbrev S1x16x704 : Shape := ⟨3, ![1, 16, 704]⟩
abbrev S1x3x704 : Shape := ⟨3, ![1, 3, 704]⟩
abbrev S1x1x704 : Shape := ⟨3, ![1, 1, 704]⟩
abbrev S1x704x1024 : Shape := ⟨3, ![1, 704, 1024]⟩
abbrev S688x1024 : Shape := ⟨2, ![688, 1024]⟩
abbrev S704x704 : Shape := ⟨2, ![704, 704]⟩
abbrev S16x704 : Shape := ⟨2, ![16, 704]⟩
abbrev S688x704 : Shape := ⟨2, ![688, 704]⟩
abbrev S3x704 : Shape := ⟨2, ![3, 704]⟩
abbrev S1x704 : Shape := ⟨2, ![1, 704]⟩
abbrev S704x1024 : Shape := ⟨2, ![704, 1024]⟩
abbrev S688x1 : Shape := ⟨2, ![688, 1]⟩
abbrev S688 : Shape := ⟨1, ![688]⟩
abbrev S1x688x1024 : Shape := ⟨3, ![1, 688, 1024]⟩
abbrev S1 : Shape := ⟨1, ![1]⟩
abbrev S1x1x1 : Shape := ⟨3, ![1, 1, 1]⟩

abbrev nBuf : Space → Nat
  | .hbm => 24
  | .vmem => 33
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8256x1024, .f32⟩
  | .hbm, ⟨5, _⟩ => ⟨S4x2048x1024, .f32⟩
  | .hbm, ⟨6, _⟩ => ⟨S1024, .f32⟩
  | .hbm, ⟨7, _⟩ => ⟨S2816x1024, .bf16⟩
  | .hbm, ⟨8, _⟩ => ⟨S4x704x1024, .bf16⟩
  | .hbm, ⟨9, _⟩ => ⟨S3x8x704, .f32⟩
  | .hbm, ⟨10, _⟩ => ⟨S8x3x704, .f32⟩
  | .hbm, ⟨11, _⟩ => ⟨S8x1x704, .f32⟩
  | .hbm, ⟨12, _⟩ => ⟨S_, .f32⟩
  | .hbm, ⟨13, _⟩ => ⟨S4x16x1024, .f32⟩
  | .hbm, ⟨14, _⟩ => ⟨S4x2064x1024, .f32⟩
  | .hbm, ⟨15, _⟩ => ⟨S8256x1024, .f32⟩
  | .hbm, ⟨16, _⟩ => ⟨S8256x8x704, .bf16⟩
  | .hbm, ⟨17, _⟩ => ⟨S8x8256x704, .bf16⟩
  | .hbm, ⟨18, _⟩ => ⟨S1x1024, .f32⟩
  | .hbm, ⟨19, _⟩ => ⟨S4x8256x704, .bf16⟩
  | .hbm, ⟨20, _⟩ => ⟨S4x8256x704, .bf16⟩
  | .hbm, ⟨21, _⟩ => ⟨S8256x1024, .f32⟩
  | .hbm, ⟨22, _⟩ => ⟨S1x128, .f32⟩
  | .hbm, ⟨23, _⟩ => ⟨S1x1024, .f32⟩
  | .local _ .vmem, ⟨0, _⟩ => ⟨S1x688x704, .bf16⟩
  | .local _ .vmem, ⟨1, _⟩ => ⟨S1x688x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x688x704, .bf16⟩
  | .local _ .vmem, ⟨5, _⟩ => ⟨S1x688x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x1x704, .f32⟩
  | .local _ .vmem, ⟨13, _⟩ => ⟨S1x1x704, .f32⟩
  | .local _ .vmem, ⟨14, _⟩ => ⟨S1x1x704, .f32⟩
  | .local _ .vmem, ⟨15, _⟩ => ⟨S1x1x704, .f32⟩
  | .local _ .vmem, ⟨16, _⟩ => ⟨S1x704x1024, .bf16⟩
  | .local _ .vmem, ⟨17, _⟩ => ⟨S1x704x1024, .bf16⟩
  | .local _ .vmem, ⟨18, _⟩ => ⟨S688x1024, .f32⟩
  | .local _ .vmem, ⟨19, _⟩ => ⟨S688x1024, .f32⟩
  | .local _ .vmem, ⟨20, _⟩ => ⟨S688x1024, .f32⟩
  | .local _ .vmem, ⟨21, _⟩ => ⟨S688x1024, .f32⟩
  | .local _ .vmem, ⟨22, _⟩ => ⟨S1x1024, .f32⟩
  | .local _ .vmem, ⟨23, _⟩ => ⟨S1x688x704, .bf16⟩
  | .local _ .vmem, ⟨24, _⟩ => ⟨S1x688x704, .bf16⟩
  | .local _ .vmem, ⟨25, _⟩ => ⟨S1x688x704, .bf16⟩
  | .local _ .vmem, ⟨26, _⟩ => ⟨S1x688x704, .bf16⟩
  | .local _ .vmem, ⟨27, _⟩ => ⟨S688x1024, .f32⟩
  | .local _ .vmem, ⟨28, _⟩ => ⟨S688x1024, .f32⟩
  | .local _ .vmem, ⟨29, _⟩ => ⟨S1x128, .f32⟩
  | .local _ .vmem, ⟨30, _⟩ => ⟨S1x1024, .f32⟩
  | .local _ .vmem, ⟨31, _⟩ => ⟨S688x1024, .f32⟩
  | .local _ .vmem, ⟨32, _⟩ => ⟨S704x704, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨2, ![12, 4], ![false, false]⟩

def k0_cond4 (i : grid0.Coords) : BitVec 1 :=
  let arg1 : BitVec 32 := BitVec.ofNat 32 (i 1).val
  let c3_i32_62 : BitVec 32 := 3#32
  let v105 : BitVec 1 := Scalar.cmpi .eq arg1 c3_i32_62
  let v106 : BitVec 32 := Scalar.extui v105
  let c0_i32_63 : BitVec 32 := 0#32
  let v107 : BitVec 1 := Scalar.cmpi .ne v106 c0_i32_63
  v107

def k0_cond3 (i : grid0.Coords) : BitVec 1 :=
  let arg0 : BitVec 32 := BitVec.ofNat 32 (i 0).val
  let c0_i32_59 : BitVec 32 := 0#32
  let v100 : BitVec 1 := Scalar.cmpi .eq arg0 c0_i32_59
  let arg1 : BitVec 32 := BitVec.ofNat 32 (i 1).val
  let c0_i32_60 : BitVec 32 := 0#32
  let v101 : BitVec 1 := Scalar.cmpi .eq arg1 c0_i32_60
  let v102 : BitVec 1 := Scalar.andi v100 v101
  let v103 : BitVec 32 := Scalar.extui v102
  let c0_i32_61 : BitVec 32 := 0#32
  let v104 : BitVec 1 := Scalar.cmpi .ne v103 c0_i32_61
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c43_i32 : BitVec 32 := 43#32
  let v1 : BitVec 32 := Scalar.muli arg0 c43_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c43_i32 : BitVec 32 := 43#32
  let v1 : BitVec 32 := Scalar.muli arg0 c43_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x688x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x688x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S688x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== LossRefIdeal.lean ====
abbrev S8256x5632 : Shape := ⟨2, ![8256, 5632]⟩
abbrev S3x5632 : Shape := ⟨2, ![3, 5632]⟩
abbrev S5632 : Shape := ⟨1, ![5632]⟩
abbrev S2816x1024 : Shape := ⟨2, ![2816, 1024]⟩
abbrev S8256x1024 : Shape := ⟨2, ![8256, 1024]⟩
abbrev S4x2048x1024 : Shape := ⟨3, ![4, 2048, 1024]⟩
abbrev S1024 : Shape := ⟨1, ![1024]⟩
abbrev S4x2064x5632 : Shape := ⟨3, ![4, 2064, 5632]⟩
abbrev S_ : Shape := ⟨0, ![]⟩
abbrev S4x2x5632 : Shape := ⟨3, ![4, 2, 5632]⟩
abbrev S4x2066x5632 : Shape := ⟨3, ![4, 2066, 5632]⟩
abbrev S1x5632 : Shape := ⟨2, ![1, 5632]⟩
abbrev S1x1x5632 : Shape := ⟨3, ![1, 1, 5632]⟩
abbrev S8256x2816 : Shape := ⟨2, ![8256, 2816]⟩
abbrev S4x2064x1024 : Shape := ⟨3, ![4, 2064, 1024]⟩
abbrev S4x2048 : Shape := ⟨2, ![4, 2048]⟩
abbrev S4x2048x1 : Shape := ⟨3, ![4, 2048, 1]⟩
abbrev S1x1x1024 : Shape := ⟨3, ![1, 1, 1024]⟩
abbrev S8256x2x4x704 : Shape := ⟨4, ![8256, 2, 4, 704]⟩
abbrev S2x4x8256x704 : Shape := ⟨4, ![2, 4, 8256, 704]⟩
abbrev S1x4x8256x704 : Shape := ⟨4, ![1, 4, 8256, 704]⟩
abbrev S4x8256x704 : Shape := ⟨3, ![4, 8256, 704]⟩
abbrev S1x128 : Shape := ⟨2, ![1, 128]⟩
abbrev S1x1024 : Shape := ⟨2, ![1, 1024]⟩

abbrev nBuf : Space → Nat
  | .hbm => 135
  | .vmem => 0
  | .smem => 0
  | _ => 0

abbrev hbmTy0_0 (i : Nat) : BufTy := match i % 128 with
  | 0 => ⟨S8256x5632, .bf16⟩
  | 1 => ⟨S3x5632, .f32⟩
  | 2 => ⟨S5632, .f32⟩
  | 3 => ⟨S2816x1024, .f32⟩
  | 4 => ⟨S8256x1024, .f32⟩
  | 5 => ⟨S4x2048x1024, .f32⟩
  | 6 => ⟨S1024, .f32⟩
  | 7 => ⟨S8256x5632, .f32⟩
  | 8 => ⟨S4x2064x5632, .f32⟩
  | 9 => ⟨S_, .f32⟩
  | 10 => ⟨S4x2x5632, .f32⟩
  | 11 => ⟨S4x2066x5632, .f32⟩
  | 12 => ⟨S4x2064x5632, .f32⟩
  | 13 => ⟨S1x5632, .f32⟩
  | 14 => ⟨S5632, .f32⟩
  | 15 => ⟨S1x1x5632, .f32⟩
  | 16 => ⟨S4x2064x5632, .f32⟩
  | 17 => ⟨S4x2064x5632, .f32⟩
  | 18 => ⟨S_, .f32⟩
  | 19 => ⟨S4x2064x5632, .f32⟩
  | 20 => ⟨S4x2064x5632, .f32⟩
  | 21 => ⟨S4x2064x5632, .f32⟩
  | 22 => ⟨S1x5632, .f32⟩
  | 23 => ⟨S5632, .f32⟩
  | 24 => ⟨S1x1x5632, .f32⟩
  | 25 => ⟨S4x2064x5632, .f32⟩
  | 26 => ⟨S4x2064x5632, .f32⟩
  | 27 => ⟨S4x2064x5632, .f32⟩
  | 28 => ⟨S4x2064x5632, .f32⟩
  | 29 => ⟨S1x5632, .f32⟩
  | 30 => ⟨S5632, .f32⟩
  | 31 => ⟨S1x1x5632, .f32⟩
  | 32 => ⟨S4x2064x5632, .f32⟩
  | 33 => ⟨S4x2064x5632, .f32⟩
  | 34 => ⟨S4x2064x5632, .f32⟩
  | 35 => ⟨S1x1x5632, .f32⟩
  | 36 => ⟨S4x2064x5632, .f32⟩
  | 37 => ⟨S4x2064x5632, .f32⟩
  | 38 => ⟨S8256x5632, .f32⟩
  | 39 => ⟨S8256x2816, .f32⟩
  | 40 => ⟨S8256x2816, .f32⟩
  | 41 => ⟨S8256x2816, .f32⟩
  | 42 => ⟨S_, .f32⟩
  | 43 => ⟨S8256x2816, .f32⟩
  | 44 => ⟨S8256x2816, .f32⟩
  | 45 => ⟨S_, .f32⟩
  | 46 => ⟨S8256x2816, .f32⟩
  | 47 => ⟨S8256x2816, .f32⟩
  | 48 => ⟨S8256x2816, .f32⟩
  | 49 => ⟨S8256x2816, .f32⟩
  | 50 => ⟨S8256x2816, .f32⟩
  | 51 => ⟨S8256x1024, .f32⟩
  | 52 => ⟨S8256x1024, .f32⟩
  | 53 => ⟨S4x2064x1024, .f32⟩
  | 54 => ⟨S4x2048x1024, .f32⟩
  | 55 => ⟨S4x2048x1024, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1024, .f32⟩
  | 71 => ⟨S4x2048x1024, .f32⟩
  | 72 => ⟨S1x1x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048, .f32⟩
  | 82 => ⟨S_, .f32⟩
  | 83 => ⟨S4x2048, .f32⟩
  | 84 => ⟨S4x2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4x2048, .f32⟩
  | 93 => ⟨S_, .f32⟩
  | 94 => ⟨S4x2048, .f32⟩
  | 95 => ⟨S4x2048, .f32⟩
  | 96 => ⟨S4x2048x1024, .f32⟩
  | 97 => ⟨S4x2048x1024, .f32⟩
  | 98 => ⟨S4x2048x1024, .f32⟩
  | 99 => ⟨S_, .f32⟩
  | 100 => ⟨S1024, .f32⟩
  | 101 => ⟨S1x1x1024, .f32⟩
  | 102 => ⟨S4x2048x1024, .f32⟩
  | 103 => ⟨S4x2048x1024, .f32⟩
  | 104 => ⟨S_, .f32⟩
  | 105 => ⟨S1024, .f32⟩
  | 106 => ⟨S4x2048x1024, .f32⟩
  | 107 => ⟨S_, .f32⟩
  | 108 => ⟨S4x2048, .f32⟩
  | 109 => ⟨S4x2048x1, .f32⟩
  | 110 => ⟨S4x2048x1024, .f32⟩
  | 111 => ⟨S4x2048x1024, .f32⟩
  | 112 => ⟨S4x2048x1, .f32⟩
  | 113 => ⟨S_, .f32⟩
  | 114 => ⟨S4x2048x1, .f32⟩
  | 115 => ⟨S4x2048x1, .f32⟩
  | 116 => ⟨S_, .f32⟩
  | 117 => ⟨S4x2048, .f32⟩
  | 118 => ⟨S4x2048x1024, .f32⟩
  | 119 => ⟨S4x2048x1024, .f32⟩
  | 120 => ⟨S4x2048x1024, .f32⟩
  | 121 => ⟨S4x2048x1024, .f32⟩
  | 122 => ⟨S4x2048x1024, .f32⟩
  | 123 => ⟨S_, .f32⟩
  | 124 => ⟨S4x2064x1024, .f32⟩
  | 125 => ⟨S8256x1024, .f32⟩
  | 126 => ⟨S8256x2x4x704, .f32⟩
  | 127 => ⟨S2x4x8256x704, .f32⟩
  | _ => ⟨S8256x5632, .bf16⟩

abbrev hbmTy0_1 (i : Nat) : BufTy := match i % 128 with
  | 0 => ⟨S2x4x8256x704, .bf16⟩
  | 1 => ⟨S1x4x8256x704, .bf16⟩
  | 2 => ⟨S4x8256x704, .bf16⟩
  | 3 => ⟨S1x4x8256x704, .bf16⟩
  | 4 => ⟨S4x8256x704, .bf16⟩
  | 5 => ⟨S1x128, .f32⟩
  | 6 => ⟨S1x1024, .f32⟩
  | _ => ⟨S8256x5632, .bf16⟩

abbrev hbmTy (i : Nat) : BufTy := match i / 128 with
  | 0 => hbmTy0_0 i
  | 1 => hbmTy0_1 i
  | _ => ⟨S8256x5632, .bf16⟩

abbrev bufTy : (tb : Table) → Fin (tcTables nBuf tb) → BufTy
  | .hbm, ⟨i, _⟩ => hbmTy i
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_cst_10 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]
-- ==== S5.lean ====
abbrev S4x2064x1024 : Shape := ⟨3, ![4, 2064, 1024]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩
abbrev S16x64x64 : Shape := ⟨3, ![16, 64, 64]⟩
abbrev S16x8x8x64 : Shape := ⟨4, ![16, 8, 8, 64]⟩
abbrev S8x16x8x64 : Shape := ⟨4, ![8, 16, 8, 64]⟩
abbrev S8x1x16x8x64 : Shape := ⟨5, ![8, 1, 16, 8, 64]⟩
abbrev S8x8 : Shape := ⟨2, ![8, 8]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x16x64 : Shape := ⟨4, ![8, 8, 16, 64]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x512 : Shape := ⟨2, ![8, 512]⟩
abbrev S8x1024 : Shape := ⟨2, ![8, 1024]⟩
abbrev S8x1x1024 : Shape := ⟨3, ![8, 1, 1024]⟩
abbrev S8x2x1024 : Shape := ⟨3, ![8, 2, 1024]⟩
abbrev S8x2x1x1024 : Shape := ⟨4, ![8, 2, 1, 1024]⟩
abbrev S8x2x8x1024 : Shape := ⟨4, ![8, 2, 8, 1024]⟩
abbrev S8x1x128 : Shape := ⟨3, ![8, 1, 128]⟩
abbrev S4x2112x1024 : Shape := ⟨3, ![4, 2112, 1024]⟩
abbrev S4x8x264x1024 : Shape := ⟨4, ![4, 8, 264, 1024]⟩
abbrev S4x264x8x1024 : Shape := ⟨4, ![4, 264, 8, 1024]⟩
abbrev S4x8x2112x1024 : Shape := ⟨4, ![4, 8, 2112, 1024]⟩
abbrev S1x2112x128 : Shape := ⟨3, ![1, 2112, 128]⟩
abbrev S1x128x1024 : Shape := ⟨3, ![1, 128, 1024]⟩
abbrev S1x1024x128 : Shape := ⟨3, ![1, 1024, 128]⟩
abbrev S1x2x8x1024 : Shape := ⟨4, ![1, 2, 8, 1024]⟩
abbrev S1x1x128 : Shape := ⟨3, ![1, 1, 128]⟩
abbrev S1x1x2112x1024 : Shape := ⟨4, ![1, 1, 2112, 1024]⟩
abbrev S2112x1024 : Shape := ⟨2, ![2112, 1024]⟩
abbrev S2112x128 : Shape := ⟨2, ![2112, 128]⟩
abbrev S128x1024 : Shape := ⟨2, ![128, 1024]⟩
abbrev S1x1x8x1024 : Shape := ⟨4, ![1, 1, 8, 1024]⟩
abbrev S1024x128 : Shape := ⟨2, ![1024, 128]⟩
abbrev S1x128 : Shape := ⟨2, ![1, 128]⟩
abbrev S1x1x1024 : Shape := ⟨3, ![1, 1, 1024]⟩
abbrev S1x1024 : Shape := ⟨2, ![1, 1024]⟩
abbrev S128 : Shape := ⟨1, ![128]⟩
abbrev S512 : Shape := ⟨1, ![512]⟩
abbrev S1x512 : Shape := ⟨2, ![1, 512]⟩
abbrev S8x1x512 : Shape := ⟨3, ![8, 1, 512]⟩

abbrev nBuf : Space → Nat
  | .hbm => 247
  | .vmem => 41
  | .smem => 0
  | _ => 0

abbrev hbmTy0_0 (i : Nat) : BufTy := match i % 128 with
  | 0 => ⟨S4x2064x1024, .bf16⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S1024, .f32⟩
  | 8 => ⟨S4x2064x1024, .bf16⟩
  | 9 => ⟨S64x64, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S16x64x64, .f32⟩
  | 72 => ⟨S16x8x8x64, .f32⟩
  | 73 => ⟨S8x16x8x64, .f32⟩
  | 74 => ⟨S8x1x16x8x64, .f32⟩
  | 75 => ⟨S8x8, .i32⟩
  | 76 => ⟨S8x8, .i32⟩
  | 77 => ⟨S_, .i32⟩
  | 78 => ⟨S8x8, .i32⟩
  | 79 => ⟨S8x8, .i32⟩
  | 80 => ⟨S8x8, .i1⟩
  | 81 => ⟨S8x8, .f32⟩
  | 82 => ⟨S1x8x1x8x1, .f32⟩
  | 83 => ⟨S8x8x16x8x64, .f32⟩
  | 84 => ⟨S8x8x16x8x64, .f32⟩
  | 85 => ⟨S8x8x16x8x64, .f32⟩
  | 86 => ⟨S8x128x512, .f32⟩
  | 87 => ⟨S16x64x64, .f32⟩
  | 88 => ⟨S16x8x8x64, .f32⟩
  | 89 => ⟨S8x16x8x64, .f32⟩
  | 90 => ⟨S8x1x16x8x64, .f32⟩
  | 91 => ⟨S8x8, .i32⟩
  | 92 => ⟨S8x8, .i32⟩
  | 93 => ⟨S_, .i32⟩
  | 94 => ⟨S8x8, .i32⟩
  | 95 => ⟨S8x8, .i32⟩
  | 96 => ⟨S8x8, .i1⟩
  | 97 => ⟨S8x8, .f32⟩
  | 98 => ⟨S1x8x1x8x1, .f32⟩
  | 99 => ⟨S8x8x16x8x64, .f32⟩
  | 100 => ⟨S8x8x16x8x64, .f32⟩
  | 101 => ⟨S8x8x16x8x64, .f32⟩
  | 102 => ⟨S8x128x512, .f32⟩
  | 103 => ⟨S8x128x1024, .f32⟩
  | 104 => ⟨S8x128x1024, .bf16⟩
  | 105 => ⟨S8x8x16x64, .f32⟩
  | 106 => ⟨S8x8x64x16, .f32⟩
  | 107 => ⟨S8x8x64x1x16, .f32⟩
  | 108 => ⟨S8x8, .i32⟩
  | 109 => ⟨S8x8, .i32⟩
  | 110 => ⟨S_, .i32⟩
  | 111 => ⟨S8x8, .i32⟩
  | 112 => ⟨S8x8, .i32⟩
  | 113 => ⟨S8x8, .i1⟩
  | 114 => ⟨S8x8, .f32⟩
  | 115 => ⟨S1x8x1x8x1, .f32⟩
  | 116 => ⟨S8x8x64x8x16, .f32⟩
  | 117 => ⟨S8x8x64x8x16, .f32⟩
  | 118 => ⟨S8x8x64x8x16, .f32⟩
  | 119 => ⟨S8x512x128, .f32⟩
  | 120 => ⟨S8x8x16x64, .f32⟩
  | 121 => ⟨S8x8x64x16, .f32⟩
  | 122 => ⟨S8x8x64x1x16, .f32⟩
  | 123 => ⟨S8x8, .i32⟩
  | 124 => ⟨S8x8, .i32⟩
  | 125 => ⟨S_, .i32⟩
  | 126 => ⟨S8x8, .i32⟩
  | 127 => ⟨S8x8, .i32⟩
  | _ => ⟨S4x2064x1024, .bf16⟩

abbrev hbmTy0_1 (i : Nat) : BufTy := match i % 128 with
  | 0 => ⟨S8x8, .i1⟩
  | 1 => ⟨S8x8, .f32⟩
  | 2 => ⟨S1x8x1x8x1, .f32⟩
  | 3 => ⟨S8x8x64x8x16, .f32⟩
  | 4 => ⟨S8x8x64x8x16, .f32⟩
  | 5 => ⟨S8x8x64x8x16, .f32⟩
  | 6 => ⟨S8x512x128, .f32⟩
  | 7 => ⟨S8x512x128, .f32⟩
  | 8 => ⟨S8x1024x128, .f32⟩
  | 9 => ⟨S8x1024x128, .bf16⟩
  | 10 => ⟨S8x512, .f32⟩
  | 11 => ⟨S8x512, .f32⟩
  | 12 => ⟨S8x1024, .f32⟩
  | 13 => ⟨S8x512, .f32⟩
  | 14 => ⟨S8x512, .f32⟩
  | 15 => ⟨S8x1024, .f32⟩
  | 16 => ⟨S8x1x1024, .f32⟩
  | 17 => ⟨S8x1x1024, .f32⟩
  | 18 => ⟨S8x2x1024, .f32⟩
  | 19 => ⟨S8x2x1x1024, .f32⟩
  | 20 => ⟨S8x2x8x1024, .f32⟩
  | 21 => ⟨S8x1x128, .f32⟩
  | 22 => ⟨S_, .i32⟩
  | 23 => ⟨S_, .bf16⟩
  | 24 => ⟨S4x2112x1024, .bf16⟩
  | 25 => ⟨S4x8x264x1024, .bf16⟩
  | 26 => ⟨S4x264x8x1024, .bf16⟩
  | 27 => ⟨S4x2112x1024, .bf16⟩
  | 28 => ⟨S4x2112x1024, .bf16⟩
  | 29 => ⟨S4x8x2112x1024, .bf16⟩
  | 30 => ⟨S_, .i32⟩
  | 31 => ⟨S_, .bf16⟩
  | 32 => ⟨S4x2112x1024, .bf16⟩
  | 33 => ⟨S4x8x264x1024, .bf16⟩
  | 34 => ⟨S4x264x8x1024, .bf16⟩
  | 35 => ⟨S4x2112x1024, .bf16⟩
  | 36 => ⟨S4x2112x1024, .bf16⟩
  | 37 => ⟨S8x128x1024, .f32⟩
  | 38 => ⟨S8x1024x128, .f32⟩
  | 39 => ⟨S8x1x1024, .f32⟩
  | 40 => ⟨S8x1x128, .f32⟩
  | 41 => ⟨S4x264x8x1024, .bf16⟩
  | 42 => ⟨S4x8x264x1024, .bf16⟩
  | 43 => ⟨S4x2112x1024, .bf16⟩
  | 44 => ⟨S4x2064x1024, .bf16⟩
  | 45 => ⟨S8x1x512, .f32⟩
  | 46 => ⟨S8x512, .f32⟩
  | 47 => ⟨S64x64, .f32⟩
  | 48 => ⟨S8x1x512, .f32⟩
  | 49 => ⟨S8x512, .f32⟩
  | 50 => ⟨S64x64, .f32⟩
  | 51 => ⟨S8x128x512, .f32⟩
  | 52 => ⟨S8x8, .i32⟩
  | 53 => ⟨S8x8, .i32⟩
  | 54 => ⟨S_, .i32⟩
  | 55 => ⟨S8x8, .i32⟩
  | 56 => ⟨S8x8, .i32⟩
  | 57 => ⟨S8x8, .i1⟩
  | 58 => ⟨S8x8, .f32⟩
  | 59 => ⟨S8x8x16x8x64, .f32⟩
  | 60 => ⟨S1x8x1x8x1, .f32⟩
  | 61 => ⟨S8x8x16x8x64, .f32⟩
  | 62 => ⟨S8x8x16x8x64, .f32⟩
  | 63 => ⟨S_, .f32⟩
  | 64 => ⟨S8x16x8x64, .f32⟩
  | 65 => ⟨S16x8x8x64, .f32⟩
  | 66 => ⟨S16x64x64, .f32⟩
  | 67 => ⟨S64x64x16, .f32⟩
  | 68 => ⟨S8x128x512, .f32⟩
  | 69 => ⟨S8x8, .i32⟩
  | 70 => ⟨S8x8, .i32⟩
  | 71 => ⟨S_, .i32⟩
  | 72 => ⟨S8x8, .i32⟩
  | 73 => ⟨S8x8, .i32⟩
  | 74 => ⟨S8x8, .i1⟩
  | 75 => ⟨S8x8, .f32⟩
  | 76 => ⟨S8x8x16x8x64, .f32⟩
  | 77 => ⟨S1x8x1x8x1, .f32⟩
  | 78 => ⟨S8x8x16x8x64, .f32⟩
  | 79 => ⟨S8x8x16x8x64, .f32⟩
  | 80 => ⟨S_, .f32⟩
  | 81 => ⟨S8x16x8x64, .f32⟩
  | 82 => ⟨S16x8x8x64, .f32⟩
  | 83 => ⟨S16x64x64, .f32⟩
  | 84 => ⟨S64x64x16, .f32⟩
  | 85 => ⟨S8x512x128, .f32⟩
  | 86 => ⟨S8x8, .i32⟩
  | 87 => ⟨S8x8, .i32⟩
  | 88 => ⟨S_, .i32⟩
  | 89 => ⟨S8x8, .i32⟩
  | 90 => ⟨S8x8, .i32⟩
  | 91 => ⟨S8x8, .i1⟩
  | 92 => ⟨S8x8, .f32⟩
  | 93 => ⟨S8x8x64x8x16, .f32⟩
  | 94 => ⟨S1x8x1x8x1, .f32⟩
  | 95 => ⟨S8x8x64x8x16, .f32⟩
  | 96 => ⟨S8x8x64x8x16, .f32⟩
  | 97 => ⟨S_, .f32⟩
  | 98 => ⟨S8x8x64x16, .f32⟩
  | 99 => ⟨S8x8x16x64, .f32⟩
  | 100 => ⟨S64x16x64, .f32⟩
  | 101 => ⟨S8x512x128, .f32⟩
  | 102 => ⟨S8x8, .i32⟩
  | 103 => ⟨S8x8, .i32⟩
  | 104 => ⟨S_, .i32⟩
  | 105 => ⟨S8x8, .i32⟩
  | 106 => ⟨S8x8, .i32⟩
  | 107 => ⟨S8x8, .i1⟩
  | 108 => ⟨S8x8, .f32⟩
  | 109 => ⟨S8x8x64x8x16, .f32⟩
  | 110 => ⟨S1x8x1x8x1, .f32⟩
  | 111 => ⟨S8x8x64x8x16, .f32⟩
  | 112 => ⟨S8x8x64x8x16, .f32⟩
  | 113 => ⟨S_, .f32⟩
  | 114 => ⟨S8x8x64x16, .f32⟩
  | 115 => ⟨S8x8x16x64, .f32⟩
  | 116 => ⟨S64x16x64, .f32⟩
  | 117 => ⟨S64x16x64, .f32⟩
  | 118 => ⟨S1024, .f32⟩
  | _ => ⟨S4x2064x1024, .bf16⟩

abbrev hbmTy (i : Nat) : BufTy := match i / 128 with
  | 0 => hbmTy0_0 i
  | 1 => hbmTy0_1 i
  | _ => ⟨S4x2064x1024, .bf16⟩

abbrev bufTy : (tb : Table) → Fin (tcTables nBuf tb) → BufTy
  | .hbm, ⟨i, _⟩ => hbmTy i
  | .local _ .vmem, ⟨0, _⟩ => ⟨S1x2112x128, .bf16⟩
  | .local _ .vmem, ⟨1, _⟩ => ⟨S1x2112x128, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x2x8x1024, .f32⟩
  | .local _ .vmem, ⟨7, _⟩ => ⟨S1x2x8x1024, .f32⟩
  | .local _ .vmem, ⟨8, _⟩ => ⟨S1x1x128, .f32⟩
  | .local _ .vmem, ⟨9, _⟩ => ⟨S1x1x128, .f32⟩
  | .local _ .vmem, ⟨10, _⟩ => ⟨S1x2112x128, .bf16⟩
  | .local _ .vmem, ⟨11, _⟩ => ⟨S1x2112x128, .bf16⟩
  | .local _ .vmem, ⟨12, _⟩ => ⟨S1x1x2112x1024, .bf16⟩
  | .local _ .vmem, ⟨13, _⟩ => ⟨S1x1x2112x1024, .bf16⟩
  | .local _ .vmem, ⟨14, _⟩ => ⟨S2112x1024, .f32⟩
  | .local _ .vmem, ⟨15, _⟩ => ⟨S1x2112x128, .bf16⟩
  | .local _ .vmem, ⟨16, _⟩ => ⟨S1x2112x128, .bf16⟩
  | .local _ .vmem, ⟨17, _⟩ => ⟨S1x1x2112x1024, .bf16⟩
  | .local _ .vmem, ⟨18, _⟩ => ⟨S1x1x2112x1024, .bf16⟩
  | .local _ .vmem, ⟨19, _⟩ => ⟨S1x2112x128, .bf16⟩
  | .local _ .vmem, ⟨20, _⟩ => ⟨S1x2112x128, .bf16⟩
  | .local _ .vmem, ⟨21, _⟩ => ⟨S1x128x1024, .bf16⟩
  | .local _ .vmem, ⟨22, _⟩ => ⟨S1x128x1024, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x2x8x1024, .f32⟩
  | .local _ .vmem, ⟨26, _⟩ => ⟨S1x2x8x1024, .f32⟩
  | .local _ .vmem, ⟨27, _⟩ => ⟨S1x1x128, .f32⟩
  | .local _ .vmem, ⟨28, _⟩ => ⟨S1x1x128, .f32⟩
  | .local _ .vmem, ⟨29, _⟩ => ⟨S1x2112x128, .bf16⟩
  | .local _ .vmem, ⟨30, _⟩ => ⟨S1x2112x128, .bf16⟩
  | .local _ .vmem, ⟨31, _⟩ => ⟨S1x128x1024, .f32⟩
  | .local _ .vmem, ⟨32, _⟩ => ⟨S1x128x1024, .f32⟩
  | .local _ .vmem, ⟨33, _⟩ => ⟨S1x1024x128, .f32⟩
  | .local _ .vmem, ⟨34, _⟩ => ⟨S1x1024x128, .f32⟩
  | .local _ .vmem, ⟨35, _⟩ => ⟨S1x1x1024, .f32⟩
  | .local _ .vmem, ⟨36, _⟩ => ⟨S1x1x1024, .f32⟩
  | .local _ .vmem, ⟨37, _⟩ => ⟨S1x1x128, .f32⟩
  | .local _ .vmem, ⟨38, _⟩ => ⟨S1x1x128, .f32⟩
  | .local _ .vmem, ⟨39, _⟩ => ⟨S2112x1024, .f32⟩
  | .local _ .vmem, ⟨40, _⟩ => ⟨S2112x1024, .f32⟩
  | _, _ => ⟨S4x2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_7 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_c_8 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_c_9 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_c_10 : Ref sig .tc := ⟨.hbm, 150, rfl⟩
abbrev main_call0_v0 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133_0 : Ref sig .tc := ⟨.hbm, 156, rfl⟩
abbrev main_v133_1 : Ref sig .tc := ⟨.hbm, 157, rfl⟩
abbrev main_c_11 : Ref sig .tc := ⟨.hbm, 158, rfl⟩
abbrev main_call1_v0 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138_0 : Ref sig .tc := ⟨.hbm, 164, rfl⟩
abbrev main_v138_1 : Ref sig .tc := ⟨.hbm, 165, rfl⟩
abbrev main_v138_2 : Ref sig .tc := ⟨.hbm, 166, rfl⟩
abbrev main_v138_3 : Ref sig .tc := ⟨.hbm, 167, rfl⟩
abbrev main_v138_4 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_c_12 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_cst_13 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_c_14 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_15 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_c_16 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_cst_17 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_c_18 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_cst_19 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc1_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c33_i32 : BitVec 32 := 33#32
  let v25 : BitVec 32 := Scalar.addi c0_i32 c33_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v161 : BitVec 32 := Scalar.muli arg10 c8_i32
  let c0_i32_79 : BitVec 32 := 0#32
  let v162 : BitVec 32 := Scalar.addi v161 c0_i32_79
  let c8_i32_80 : BitVec 32 := 8#32
  let v163 : BitVec 32 := Scalar.muli v162 c8_i32_80
  v163
def k0_off1 (k0_t1 : Fin k0_t1_loop.trips) (c0_i32_79 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v165 : Index := Scalar.indexCast v164
  let c0_81 : Index := 0#32
  ![v165.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_82 : BitVec 32 := 8#32
  let v177 : BitVec 32 := Scalar.muli arg10 c8_i32_82
  let c1_i32_83 : BitVec 32 := 1#32
  let v178 : BitVec 32 := Scalar.addi v177 c1_i32_83
  let c8_i32_84 : BitVec 32 := 8#32
  let v179 : BitVec 32 := Scalar.muli v178 c8_i32_84
  v179
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_86 : BitVec 32 := 8#32
  let v193 : BitVec 32 := Scalar.muli arg10 c8_i32_86
  let c2_i32 : BitVec 32 := 2#32
  let v194 : BitVec 32 := Scalar.addi v193 c2_i32
  let c8_i32_87 : BitVec 32 := 8#32
  let v195 : BitVec 32 := Scalar.muli v194 c8_i32_87
  v195
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_89 : BitVec 32 := 8#32
  let v209 : BitVec 32 := Scalar.muli arg10 c8_i32_89
  let c3_i32 : BitVec 32 := 3#32
  let v210 : BitVec 32 := Scalar.addi v209 c3_i32
  let c8_i32_90 : BitVec 32 := 8#32
  let v211 : BitVec 32 := Scalar.muli v210 c8_i32_90
  v211
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_92 : BitVec 32 := 8#32
  let v225 : BitVec 32 := Scalar.muli arg10 c8_i32_92
  let c4_i32 : BitVec 32 := 4#32
  let v226 : BitVec 32 := Scalar.addi v225 c4_i32
  let c8_i32_93 : BitVec 32 := 8#32
  let v227 : BitVec 32 := Scalar.muli v226 c8_i32_93
  v227
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_95 : BitVec 32 := 8#32
  let v241 : BitVec 32 := Scalar.muli arg10 c8_i32_95
  let c5_i32 : BitVec 32 := 5#32
  let v242 : BitVec 32 := Scalar.addi v241 c5_i32
  let c8_i32_96 : BitVec 32 := 8#32
  let v243 : BitVec 32 := Scalar.muli v242 c8_i32_96
  v243
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_98 : BitVec 32 := 8#32
  let v257 : BitVec 32 := Scalar.muli arg10 c8_i32_98
  let c6_i32 : BitVec 32 := 6#32
  let v258 : BitVec 32 := Scalar.addi v257 c6_i32
  let c8_i32_99 : BitVec 32 := 8#32
  let v259 : BitVec 32 := Scalar.muli v258 c8_i32_99
  v259
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_101 : BitVec 32 := 8#32
  let v273 : BitVec 32 := Scalar.muli arg10 c8_i32_101
  let c7_i32 : BitVec 32 := 7#32
  let v274 : BitVec 32 := Scalar.addi v273 c7_i32
  let c8_i32_102 : BitVec 32 := 8#32
  let v275 : BitVec 32 := Scalar.muli v274 c8_i32_102
  v275
@[reducible] def k0_t2_loop : Scf.Loop 32 :=
  let c0_i32_55 : BitVec 32 := 0#32
  let c33_i32_56 : BitVec 32 := 33#32
  let v128 : BitVec 32 := Scalar.addi c0_i32_55 c33_i32_56
  let c1_i32_57 : BitVec 32 := 1#32
  ⟨c0_i32_55, v128, c1_i32_57⟩
def k0_mult9 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let c0_i32_79 : BitVec 32 := 0#32
  let v162 : BitVec 32 := Scalar.addi v161 c0_i32_79
  let c8_i32_80 : BitVec 32 := 8#32
  let v163 : BitVec 32 := Scalar.muli v162 c8_i32_80
  v163
def k0_off2 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v165 : Index := Scalar.indexCast v164
  let c0_81 : Index := 0#32
  ![v165.toNat, 0]
def k0_off3 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v177 : Index := Scalar.indexCast v164
  let c0_82 : Index := 0#32
  ![v177.toNat, 0]
def k0_off4 (k0_t2 : Fin k0_t2_loop.trips) (c0_i32_79 : BitVec 32) : Fin 2 → Nat :=
  let c0_i32_55 : BitVec 32 := 0#32
  let c1_i32_57 : BitVec 32 := 1#32
  let arg10 : BitVec 32 := Scf.iv c0_i32_55 c1_i32_57 k0_t2
  let c8_i32 : BitVec 32 := 8#32
  let v161 : BitVec 32 := Scalar.muli arg10 c8_i32
  let v162 : BitVec 32 := Scalar.addi v161 c0_i32_79
  let c8_i32_80 : BitVec 32 := 8#32
  let v163 : BitVec 32 := Scalar.muli v162 c8_i32_80
  let v164 : BitVec 32 := v163
  let v181 : Index := Scalar.indexCast v164
  let c512 : Index := 512#32
  ![v181.toNat, 512]
def k0_mult10 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_83 : BitVec 32 := 8#32
  let v185 : BitVec 32 := Scalar.muli arg10 c8_i32_83
  let c1_i32_84 : BitVec 32 := 1#32
  let v186 : BitVec 32 := Scalar.addi v185 c1_i32_84
  let c8_i32_85 : BitVec 32 := 8#32
  let v187 : BitVec 32 := Scalar.muli v186 c8_i32_85
  v187
def k0_mult11 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_89 : BitVec 32 := 8#32
  let v209 : BitVec 32 := Scalar.muli arg10 c8_i32_89
  let c2_i32 : BitVec 32 := 2#32
  let v210 : BitVec 32 := Scalar.addi v209 c2_i32
  let c8_i32_90 : BitVec 32 := 8#32
  let v211 : BitVec 32 := Scalar.muli v210 c8_i32_90
  v211
def k0_mult12 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_94 : BitVec 32 := 8#32
  let v233 : BitVec 32 := Scalar.muli arg10 c8_i32_94
  let c3_i32 : BitVec 32 := 3#32
  let v234 : BitVec 32 := Scalar.addi v233 c3_i32
  let c8_i32_95 : BitVec 32 := 8#32
  let v235 : BitVec 32 := Scalar.muli v234 c8_i32_95
  v235
def k0_mult13 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_99 : BitVec 32 := 8#32
  let v257 : BitVec 32 := Scalar.muli arg10 c8_i32_99
  let c4_i32 : BitVec 32 := 4#32
  let v258 : BitVec 32 := Scalar.addi v257 c4_i32
  let c8_i32_100 : BitVec 32 := 8#32
  let v259 : BitVec 32 := Scalar.muli v258 c8_i32_100
  v259
def k0_mult14 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_104 : BitVec 32 := 8#32
  let v281 : BitVec 32 := Scalar.muli arg10 c8_i32_104
  let c5_i32 : BitVec 32 := 5#32
  let v282 : BitVec 32 := Scalar.addi v281 c5_i32
  let c8_i32_105 : BitVec 32 := 8#32
  let v283 : BitVec 32 := Scalar.muli v282 c8_i32_105
  v283
def k0_mult15 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_109 : BitVec 32 := 8#32
  let v305 : BitVec 32 := Scalar.muli arg10 c8_i32_109
  let c6_i32 : BitVec 32 := 6#32
  let v306 : BitVec 32 := Scalar.addi v305 c6_i32
  let c8_i32_110 : BitVec 32 := 8#32
  let v307 : BitVec 32 := Scalar.muli v306 c8_i32_110
  v307
def k0_mult16 (k0_t2 : Fin k0_t2_loop.trips) : BitVec 32 :=
  let c0_i32_55 : BitVec 32 := 0#32
  let c1_i32_57 : BitVec 32 := 1#32
  let arg10 : BitVec 32 := Scf.iv c0_i32_55 c1_i32_57 k0_t2
  let c8_i32_114 : BitVec 32 := 8#32
  let v329 : BitVec 32 := Scalar.muli arg10 c8_i32_114
  let c7_i32 : BitVec 32 := 7#32
  let v330 : BitVec 32 := Scalar.addi v329 c7_i32
  let c8_i32_115 : BitVec 32 := 8#32
  let v331 : BitVec 32 := Scalar.muli v330 c8_i32_115
  v331
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2112x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2112x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2112x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

@[reducible] def k1_t1_loop : Scf.Loop 32 :=
  let c0_i32_59 : BitVec 32 := 0#32
  let c33_i32 : BitVec 32 := 33#32
  let v88 : BitVec 32 := Scalar.addi c0_i32_59 c33_i32
  let c1_i32 : BitVec 32 := 1#32
  ⟨c0_i32_59, v88, c1_i32⟩
def k1_mult1 (k1_t1 : Fin k1_t1_loop.trips) : BitVec 32 :=
  let c263_i32 : BitVec 32 := 263#32
  let c0_i32_59 : BitVec 32 := 0#32
  let c1_i32 : BitVec 32 := 1#32
  let arg16 : BitVec 32 := Scf.iv c0_i32_59 c1_i32 k1_t1
  let c8_i32 : BitVec 32 := 8#32
  let v252 : BitVec 32 := Scalar.muli arg16 c8_i32
  let c0_i32_141 : BitVec 32 := 0#32
  let v253 : BitVec 32 := Scalar.addi v252 c0_i32_141
  let v254 : BitVec 32 := Scalar.subi c263_i32 v253
  let c8_i32_142 : BitVec 32 := 8#32
  let v255 : BitVec 32 := Scalar.muli v254 c8_i32_142
  v255
def k1_off1 (k1_t1 : Fin k1_t1_loop.trips) (c0_i32_141 : BitVec 32) : Fin 2 → Nat :=
  let c263_i32 : BitVec 32 := 263#32
  let c0_i32_59 : BitVec 32 := 0#32
  let c1_i32 : BitVec 32 := 1#32
  let arg16 : BitVec 32 := Scf.iv c0_i32_59 c1_i32 k1_t1
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v257 : Index := Scalar.indexCast v256
  let c0_143 : Index := 0#32
  ![v257.toNat, 0]
def k1_mult2 (k1_t1 : Fin k1_t1_loop.trips) : BitVec 32 :=
  let c263_i32_146 : BitVec 32 := 263#32
  let c0_i32_59 : BitVec 32 := 0#32
  let c1_i32 : BitVec 32 := 1#32
  let arg16 : BitVec 32 := Scf.iv c0_i32_59 c1_i32 k1_t1
  let c8_i32_144 : BitVec 32 := 8#32
  let v269 : BitVec 32 := Scalar.muli arg16 c8_i32_144
  let c1_i32_145 : BitVec 32 := 1#32
  let v270 : BitVec 32 := Scalar.addi v269 c1_i32_145
  let v271 : BitVec 32 := Scalar.subi c263_i32_146 v270
  let c8_i32_147 : BitVec 32 := 8#32
  let v272 : BitVec 32 := Scalar.muli v271 c8_i32_147
  v272
def k1_mult3 (k1_t1 : Fin k1_t1_loop.trips) : BitVec 32 :=
  let c263_i32_150 : BitVec 32 := 263#32
  let c0_i32_59 : BitVec 32 := 0#32
  let c1_i32 : BitVec 32 := 1#32
  let arg16 : BitVec 32 := Scf.iv c0_i32_59 c1_i32 k1_t1
  let c8_i32_149 : BitVec 32 := 8#32
  let v286 : BitVec 32 := Scalar.muli arg16 c8_i32_149
  let c2_i32 : BitVec 32 := 2#32
  let v287 : BitVec 32 := Scalar.addi v286 c2_i32
  let v288 : BitVec 32 := Scalar.subi c263_i32_150 v287
  let c8_i32_151 : BitVec 32 := 8#32
  let v289 : BitVec 32 := Scalar.muli v288 c8_i32_151
  v289
def k1_mult4 (k1_t1 : Fin k1_t1_loop.trips) : BitVec 32 :=
  let c263_i32_154 : BitVec 32 := 263#32
  let c0_i32_59 : BitVec 32 := 0#32
  let c1_i32 : BitVec 32 := 1#32
  let arg16 : BitVec 32 := Scf.iv c0_i32_59 c1_i32 k1_t1
  let c8_i32_153 : BitVec 32 := 8#32
  let v303 : BitVec 32 := Scalar.muli arg16 c8_i32_153
  let c3_i32 : BitVec 32 := 3#32
  let v304 : BitVec 32 := Scalar.addi v303 c3_i32
  let v305 : BitVec 32 := Scalar.subi c263_i32_154 v304
  let c8_i32_155 : BitVec 32 := 8#32
  let v306 : BitVec 32 := Scalar.muli v305 c8_i32_155
  v306
def k1_mult5 (k1_t1 : Fin k1_t1_loop.trips) : BitVec 32 :=
  let c263_i32_158 : BitVec 32 := 263#32
  let c0_i32_59 : BitVec 32 := 0#32
  let c1_i32 : BitVec 32 := 1#32
  let arg16 : BitVec 32 := Scf.iv c0_i32_59 c1_i32 k1_t1
  let c8_i32_157 : BitVec 32 := 8#32
  let v320 : BitVec 32 := Scalar.muli arg16 c8_i32_157
  let c4_i32 : BitVec 32 := 4#32
  let v321 : BitVec 32 := Scalar.addi v320 c4_i32
  let v322 : BitVec 32 := Scalar.subi c263_i32_158 v321
  let c8_i32_159 : BitVec 32 := 8#32
  let v323 : BitVec 32 := Scalar.muli v322 c8_i32_159
  v323
def k1_mult6 (k1_t1 : Fin k1_t1_loop.trips) : BitVec 32 :=
  let c263_i32_162 : BitVec 32 := 263#32
  let c0_i32_59 : BitVec 32 := 0#32
  let c1_i32 : BitVec 32 := 1#32
  let arg16 : BitVec 32 := Scf.iv c0_i32_59 c1_i32 k1_t1
  let c8_i32_161 : BitVec 32 := 8#32
  let v337 : BitVec 32 := Scalar.muli arg16 c8_i32_161
  let c5_i32 : BitVec 32 := 5#32
  let v338 : BitVec 32 := Scalar.addi v337 c5_i32
  let v339 : BitVec 32 := Scalar.subi c263_i32_162 v338
  let c8_i32_163 : BitVec 32 := 8#32
  let v340 : BitVec 32 := Scalar.muli v339 c8_i32_163
  v340
def k1_mult7 (k1_t1 : Fin k1_t1_loop.trips) : BitVec 32 :=
  let c263_i32_166 : BitVec 32 := 263#32
  let c0_i32_59 : BitVec 32 := 0#32
  let c1_i32 : BitVec 32 := 1#32
  let arg16 : BitVec 32 := Scf.iv c0_i32_59 c1_i32 k1_t1
  let c8_i32_165 : BitVec 32 := 8#32
  let v354 : BitVec 32 := Scalar.muli arg16 c8_i32_165
  let c6_i32 : BitVec 32 := 6#32
  let v355 : BitVec 32 := Scalar.addi v354 c6_i32
  let v356 : BitVec 32 := Scalar.subi c263_i32_166 v355
  let c8_i32_167 : BitVec 32 := 8#32
  let v357 : BitVec 32 := Scalar.muli v356 c8_i32_167
  v357
def k1_mult8 (k1_t1 : Fin k1_t1_loop.trips) : BitVec 32 :=
  let c263_i32_171 : BitVec 32 := 263#32
  let c0_i32_59 : BitVec 32 := 0#32
  let c1_i32 : BitVec 32 := 1#32
  let arg16 : BitVec 32 := Scf.iv c0_i32_59 c1_i32 k1_t1
  let c8_i32_169 : BitVec 32 := 8#32
  let v371 : BitVec 32 := Scalar.muli arg16 c8_i32_169
  let c7_i32_170 : BitVec 32 := 7#32
  let v372 : BitVec 32 := Scalar.addi v371 c7_i32_170
  let v373 : BitVec 32 := Scalar.subi c263_i32_171 v372
  let c8_i32_172 : BitVec 32 := 8#32
  let v374 : BitVec 32 := Scalar.muli v373 c8_i32_172
  v374
@[reducible] def k1_t2_loop : Scf.Loop 32 :=
  let c0_i32_89 : BitVec 32 := 0#32
  let c33_i32_90 : BitVec 32 := 33#32
  let v191 : BitVec 32 := Scalar.addi c0_i32_89 c33_i32_90
  let c1_i32_91 : BitVec 32 := 1#32
  ⟨c0_i32_89, v191, c1_i32_91⟩
def k1_mult9 (k1_t2 : Fin k1_t2_loop.trips) : BitVec 32 :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let c0_i32_141 : BitVec 32 := 0#32
  let v253 : BitVec 32 := Scalar.addi v252 c0_i32_141
  let v254 : BitVec 32 := Scalar.subi c263_i32 v253
  let c8_i32_142 : BitVec 32 := 8#32
  let v255 : BitVec 32 := Scalar.muli v254 c8_i32_142
  v255
def k1_off2 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v257 : Index := Scalar.indexCast v256
  let c0_143 : Index := 0#32
  ![v257.toNat, 0]
def k1_off3 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v269 : Index := Scalar.indexCast v256
  let c0_144 : Index := 0#32
  ![v269.toNat, 0]
def k1_off4 (k1_t2 : Fin k1_t2_loop.trips) (c0_i32_141 : BitVec 32) : Fin 2 → Nat :=
  let c263_i32 : BitVec 32 := 263#32
  let c0_i32_89 : BitVec 32 := 0#32
  let c1_i32_91 : BitVec 32 := 1#32
  let arg16 : BitVec 32 := Scf.iv c0_i32_89 c1_i32_91 k1_t2
  let c8_i32 : BitVec 32 := 8#32
  let v252 : BitVec 32 := Scalar.muli arg16 c8_i32
  let v253 : BitVec 32 := Scalar.addi v252 c0_i32_141
  let v254 : BitVec 32 := Scalar.subi c263_i32 v253
  let c8_i32_142 : BitVec 32 := 8#32
  let v255 : BitVec 32 := Scalar.muli v254 c8_i32_142
  let v256 : BitVec 32 := v255
  let v273 : Index := Scalar.indexCast v256
  let c512 : Index := 512#32
  ![v273.toNat, 512]
def k1_mult10 (k1_t2 : Fin k1_t2_loop.trips) : BitVec 32 :=
  let c263_i32_147 : BitVec 32 := 263#32
  let c0_i32_89 : BitVec 32 := 0#32
  let c1_i32_91 : BitVec 32 := 1#32
  let arg16 : BitVec 32 := Scf.iv c0_i32_89 c1_i32_91 k1_t2
  let c8_i32_145 : BitVec 32 := 8#32
  let v277 : BitVec 32 := Scalar.muli arg16 c8_i32_145
  let c1_i32_146 : BitVec 32 := 1#32
  let v278 : BitVec 32 := Scalar.addi v277 c1_i32_146
  let v279 : BitVec 32 := Scalar.subi c263_i32_147 v278
  let c8_i32_148 : BitVec 32 := 8#32
  let v280 : BitVec 32 := Scalar.muli v279 c8_i32_148
  v280
def k1_mult11 (k1_t2 : Fin k1_t2_loop.trips) : BitVec 32 :=
  let c263_i32_153 : BitVec 32 := 263#32
  let c0_i32_89 : BitVec 32 := 0#32
  let c1_i32_91 : BitVec 32 := 1#32
  let arg16 : BitVec 32 := Scf.iv c0_i32_89 c1_i32_91 k1_t2
  let c8_i32_152 : BitVec 32 := 8#32
  let v302 : BitVec 32 := Scalar.muli arg16 c8_i32_152
  let c2_i32 : BitVec 32 := 2#32
  let v303 : BitVec 32 := Scalar.addi v302 c2_i32
  let v304 : BitVec 32 := Scalar.subi c263_i32_153 v303
  let c8_i32_154 : BitVec 32 := 8#32
  let v305 : BitVec 32 := Scalar.muli v304 c8_i32_154
  v305
def k1_mult12 (k1_t2 : Fin k1_t2_loop.trips) : BitVec 32 :=
  let c263_i32_159 : BitVec 32 := 263#32
  let c0_i32_89 : BitVec 32 := 0#32
  let c1_i32_91 : BitVec 32 := 1#32
  let arg16 : BitVec 32 := Scf.iv c0_i32_89 c1_i32_91 k1_t2
  let c8_i32_158 : BitVec 32 := 8#32
  let v327 : BitVec 32 := Scalar.muli arg16 c8_i32_158
  let c3_i32 : BitVec 32 := 3#32
  let v328 : BitVec 32 := Scalar.addi v327 c3_i32
  let v329 : BitVec 32 := Scalar.subi c263_i32_159 v328
  let c8_i32_160 : BitVec 32 := 8#32
  let v330 : BitVec 32 := Scalar.muli v329 c8_i32_160
  v330
def k1_mult13 (k1_t2 : Fin k1_t2_loop.trips) : BitVec 32 :=
  let c263_i32_165 : BitVec 32 := 263#32
  let c0_i32_89 : BitVec 32 := 0#32
  let c1_i32_91 : BitVec 32 := 1#32
  let arg16 : BitVec 32 := Scf.iv c0_i32_89 c1_i32_91 k1_t2
  let c8_i32_164 : BitVec 32 := 8#32
  let v352 : BitVec 32 := Scalar.muli arg16 c8_i32_164
  let c4_i32 : BitVec 32 := 4#32
  let v353 : BitVec 32 := Scalar.addi v352 c4_i32
  let v354 : BitVec 32 := Scalar.subi c263_i32_165 v353
  let c8_i32_166 : BitVec 32 := 8#32
  let v355 : BitVec 32 := Scalar.muli v354 c8_i32_166
  v355
def k1_mult14 (k1_t2 : Fin k1_t2_loop.trips) : BitVec 32 :=
  let c263_i32_171 : BitVec 32 := 263#32
  let c0_i32_89 : BitVec 32 := 0#32
  let c1_i32_91 : BitVec 32 := 1#32
  let arg16 : BitVec 32 := Scf.iv c0_i32_89 c1_i32_91 k1_t2
  let c8_i32_170 : BitVec 32 := 8#32
  let v377 : BitVec 32 := Scalar.muli arg16 c8_i32_170
  let c5_i32 : BitVec 32 := 5#32
  let v378 : BitVec 32 := Scalar.addi v377 c5_i32
  let v379 : BitVec 32 := Scalar.subi c263_i32_171 v378
  let c8_i32_172 : BitVec 32 := 8#32
  let v380 : BitVec 32 := Scalar.muli v379 c8_i32_172
  v380
def k1_mult15 (k1_t2 : Fin k1_t2_loop.trips) : BitVec 32 :=
  let c263_i32_177 : BitVec 32 := 263#32
  let c0_i32_89 : BitVec 32 := 0#32
  let c1_i32_91 : BitVec 32 := 1#32
  let arg16 : BitVec 32 := Scf.iv c0_i32_89 c1_i32_91 k1_t2
  let c8_i32_176 : BitVec 32 := 8#32
  let v402 : BitVec 32 := Scalar.muli arg16 c8_i32_176
  let c6_i32 : BitVec 32 := 6#32
  let v403 : BitVec 32 := Scalar.addi v402 c6_i32
  let v404 : BitVec 32 := Scalar.subi c263_i32_177 v403
  let c8_i32_178 : BitVec 32 := 8#32
  let v405 : BitVec 32 := Scalar.muli v404 c8_i32_178
  v405
def k1_mult16 (k1_t2 : Fin k1_t2_loop.trips) : BitVec 32 :=
  let c263_i32_184 : BitVec 32 := 263#32
  let c0_i32_89 : BitVec 32 := 0#32
  let c1_i32_91 : BitVec 32 := 1#32
  let arg16 : BitVec 32 := Scf.iv c0_i32_89 c1_i32_91 k1_t2
  let c8_i32_182 : BitVec 32 := 8#32
  let v427 : BitVec 32 := Scalar.muli arg16 c8_i32_182
  let c7_i32_183 : BitVec 32 := 7#32
  let v428 : BitVec 32 := Scalar.addi v427 c7_i32_183
  let v429 : BitVec 32 := Scalar.subi c263_i32_184 v428
  let c8_i32_185 : BitVec 32 := 8#32
  let v430 : BitVec 32 := Scalar.muli v429 c8_i32_185
  v430
@[reducible] def k1_t3_loop : Scf.Loop 32 :=
  let c0_i32_129 : BitVec 32 := 0#32
  let c33_i32_130 : BitVec 32 := 33#32
  let v239 : BitVec 32 := Scalar.addi c0_i32_129 c33_i32_130
  let c1_i32_131 : BitVec 32 := 1#32
  ⟨c0_i32_129, v239, c1_i32_131⟩
def k1_mult17 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32 : BitVec 32 := 8#32
  let v252 : BitVec 32 := Scalar.muli arg16 c8_i32
  let c0_i32_141 : BitVec 32 := 0#32
  let v253 : BitVec 32 := Scalar.addi v252 c0_i32_141
  let c8_i32_142 : BitVec 32 := 8#32
  let v254 : BitVec 32 := Scalar.muli v253 c8_i32_142
  v254
def k1_off5 (k1_t3 : Fin k1_t3_loop.trips) (c0_i32_141 : BitVec 32) : Fin 2 → Nat :=
  let c0_i32_129 : BitVec 32 := 0#32
  let c1_i32_131 : BitVec 32 := 1#32
  let arg16 : BitVec 32 := Scf.iv c0_i32_129 c1_i32_131 k1_t3
  let c8_i32 : BitVec 32 := 8#32
  let v252 : BitVec 32 := Scalar.muli arg16 c8_i32
  let v253 : BitVec 32 := Scalar.addi v252 c0_i32_141
  let c8_i32_142 : BitVec 32 := 8#32
  let v254 : BitVec 32 := Scalar.muli v253 c8_i32_142
  let v255 : BitVec 32 := v254
  let v256 : Index := Scalar.indexCast v255
  let c0_143 : Index := 0#32
  ![v256.toNat, 0]
def k1_mult18 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_145 : BitVec 32 := 8#32
  let v272 : BitVec 32 := Scalar.muli arg16 c8_i32_145
  let c1_i32_146 : BitVec 32 := 1#32
  let v273 : BitVec 32 := Scalar.addi v272 c1_i32_146
  let c8_i32_147 : BitVec 32 := 8#32
  let v274 : BitVec 32 := Scalar.muli v273 c8_i32_147
  v274
def k1_mult19 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_150 : BitVec 32 := 8#32
  let v292 : BitVec 32 := Scalar.muli arg16 c8_i32_150
  let c2_i32 : BitVec 32 := 2#32
  let v293 : BitVec 32 := Scalar.addi v292 c2_i32
  let c8_i32_151 : BitVec 32 := 8#32
  let v294 : BitVec 32 := Scalar.muli v293 c8_i32_151
  v294
def k1_mult20 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_154 : BitVec 32 := 8#32
  let v312 : BitVec 32 := Scalar.muli arg16 c8_i32_154
  let c3_i32 : BitVec 32 := 3#32
  let v313 : BitVec 32 := Scalar.addi v312 c3_i32
  let c8_i32_155 : BitVec 32 := 8#32
  let v314 : BitVec 32 := Scalar.muli v313 c8_i32_155
  v314
def k1_mult21 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_158 : BitVec 32 := 8#32
  let v332 : BitVec 32 := Scalar.muli arg16 c8_i32_158
  let c4_i32 : BitVec 32 := 4#32
  let v333 : BitVec 32 := Scalar.addi v332 c4_i32
  let c8_i32_159 : BitVec 32 := 8#32
  let v334 : BitVec 32 := Scalar.muli v333 c8_i32_159
  v334
def k1_mult22 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_162 : BitVec 32 := 8#32
  let v352 : BitVec 32 := Scalar.muli arg16 c8_i32_162
  let c5_i32 : BitVec 32 := 5#32
  let v353 : BitVec 32 := Scalar.addi v352 c5_i32
  let c8_i32_163 : BitVec 32 := 8#32
  let v354 : BitVec 32 := Scalar.muli v353 c8_i32_163
  v354
def k1_mult23 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_166 : BitVec 32 := 8#32
  let v372 : BitVec 32 := Scalar.muli arg16 c8_i32_166
  let c6_i32 : BitVec 32 := 6#32
  let v373 : BitVec 32 := Scalar.addi v372 c6_i32
  let c8_i32_167 : BitVec 32 := 8#32
  let v374 : BitVec 32 := Scalar.muli v373 c8_i32_167
  v374
def k1_mult24 (k1_t3 : Fin k1_t3_loop.trips) : BitVec 32 :=
  let c0_i32_129 : BitVec 32 := 0#32
  let c1_i32_131 : BitVec 32 := 1#32
  let arg16 : BitVec 32 := Scf.iv c0_i32_129 c1_i32_131 k1_t3
  let c8_i32_170 : BitVec 32 := 8#32
  let v392 : BitVec 32 := Scalar.muli arg16 c8_i32_170
  let c7_i32_171 : BitVec 32 := 7#32
  let v393 : BitVec 32 := Scalar.addi v392 c7_i32_171
  let c8_i32_172 : BitVec 32 := 8#32
  let v394 : BitVec 32 := Scalar.muli v393 c8_i32_172
  v394
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2112x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2112x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2112x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x2112x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== MergeFwd.lean ====
abbrev S8256x1024 : Shape := ⟨2, ![8256, 1024]⟩
abbrev S8256x2048 : Shape := ⟨2, ![8256, 2048]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 13
  | .vmem => 21
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x2048, .bf16⟩
  | .hbm, ⟨3, _⟩ => ⟨S8256x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S8256x1024, .f32⟩
  | .hbm, ⟨10, _⟩ => ⟨S8256x1024, .bf16⟩
  | .hbm, ⟨11, _⟩ => ⟨S8256x1024, .bf16⟩
  | .hbm, ⟨12, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .f32⟩
  | .local _ .vmem, ⟨9, _⟩ => ⟨S688x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S688x1024, .f32⟩
  | .local _ .vmem, ⟨14, _⟩ => ⟨S688x1024, .f32⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | .local _ .vmem, ⟨18, _⟩ => ⟨S688x1024, .bf16⟩
  | .local _ .vmem, ⟨19, _⟩ => ⟨S688x1024, .bf16⟩
  | .local _ .vmem, ⟨20, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeFwdRefIdeal.lean ====
abbrev S8256x1024 : Shape := ⟨2, ![8256, 1024]⟩
abbrev S8256x2048 : Shape := ⟨2, ![8256, 2048]⟩
abbrev S1024x1024 : Shape := ⟨2, ![1024, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 53
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x2048, .bf16⟩
  | .hbm, ⟨3, _⟩ => ⟨S8256x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8256x1024, .bf16⟩
  | .hbm, ⟨11, _⟩ => ⟨S8256x1024, .f32⟩
  | .hbm, ⟨12, _⟩ => ⟨S8256x1024, .bf16⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S_, .f32⟩
  | .hbm, ⟨17, _⟩ => ⟨S8256x1024, .f32⟩
  | .hbm, ⟨18, _⟩ => ⟨S8256x1024, .f32⟩
  | .hbm, ⟨19, _⟩ => ⟨S_, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S_, .f32⟩
  | .hbm, ⟨26, _⟩ => ⟨S8256x1024, .f32⟩
  | .hbm, ⟨27, _⟩ => ⟨S8256x1024, .f32⟩
  | .hbm, ⟨28, _⟩ => ⟨S_, .f32⟩
  | .hbm, ⟨29, _⟩ => ⟨S8256x1024, .f32⟩
  | .hbm, ⟨30, _⟩ => ⟨S8256x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S8256x1024, .bf16⟩
  | .hbm, ⟨36, _⟩ => ⟨S8256x1024, .bf16⟩
  | .hbm, ⟨37, _⟩ => ⟨S8256x1024, .f32⟩
  | .hbm, ⟨38, _⟩ => ⟨S_, .f32⟩
  | .hbm, ⟨39, _⟩ => ⟨S8256, .f32⟩
  | .hbm, ⟨40, _⟩ => ⟨S8256x1, .f32⟩
  | .hbm, ⟨41, _⟩ => ⟨S_, .f32⟩
  | .hbm, ⟨42, _⟩ => ⟨S8256x1, .f32⟩
  | .hbm, ⟨43, _⟩ => ⟨S8256x1, .f32⟩
  | .hbm, ⟨44, _⟩ => ⟨S_, .f32⟩
  | .hbm, ⟨45, _⟩ => ⟨S8256x1, .f32⟩
  | .hbm, ⟨46, _⟩ => ⟨S8256x1, .f32⟩
  | .hbm, ⟨47, _⟩ => ⟨S8256x1, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== GluFwd.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S8256x1024, .bf16⟩
  | .hbm, ⟨6, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdRefIdeal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S8256x1024, .f32⟩
  | .hbm, ⟨14, _⟩ => ⟨S8256x1024, .bf16⟩
  | .hbm, ⟨15, _⟩ => ⟨S8256x1024, .f32⟩
  | .hbm, ⟨16, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== NormFwd.lean ====
abbrev S8256x1024 : Shape := ⟨2, ![8256, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .bf16⟩
  | .local _ .vmem, ⟨4, _⟩ => ⟨S688x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 18
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DiscAFwd.lean ====
abbrev S64x64 : Shape := ⟨2, ![64, 64]⟩
abbrev S64 : Shape := ⟨1, ![64]⟩
abbrev S64x1 : Shape := ⟨2, ![64, 1]⟩

abbrev nBuf : Space → Nat
  | .hbm => 10
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscAFwdRefIdeal.lean ====
abbrev S64x64 : Shape := ⟨2, ![64, 64]⟩
abbrev S64 : Shape := ⟨1, ![64]⟩
abbrev S64x1 : Shape := ⟨2, ![64, 1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64x1, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64, .f32⟩
  | .hbm, ⟨31, _⟩ => ⟨S64x1, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== DiscBFwd.lean ====
abbrev S64x64 : Shape := ⟨2, ![64, 64]⟩
abbrev S64x64x16 : Shape := ⟨3, ![64, 64, 16]⟩
abbrev S16x64x64 : Shape := ⟨3, ![16, 64, 64]⟩
abbrev S16x4096 : Shape := ⟨2, ![16, 4096]⟩
abbrev S1x4096 : Shape := ⟨2, ![1, 4096]⟩

abbrev nBuf : Space → Nat
  | .hbm => 12
  | .vmem => 6
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64x16, .f32⟩
  | .hbm, ⟨3, _⟩ => ⟨S64x64x16, .f32⟩
  | .hbm, ⟨4, _⟩ => ⟨S16x64x64, .f32⟩
  | .hbm, ⟨5, _⟩ => ⟨S16x4096, .f32⟩
  | .hbm, ⟨6, _⟩ => ⟨S16x64x64, .f32⟩
  | .hbm, ⟨7, _⟩ => ⟨S16x4096, .f32⟩
  | .hbm, ⟨8, _⟩ => ⟨S1x4096, .f32⟩
  | .hbm, ⟨9, _⟩ => ⟨S1x4096, .f32⟩
  | .hbm, ⟨10, _⟩ => ⟨S16x4096, .f32⟩
  | .hbm, ⟨11, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S16x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DiscBFwdRefIdeal.lean ====
abbrev S64x64 : Shape := ⟨2, ![64, 64]⟩
abbrev S64x64x16 : Shape := ⟨3, ![64, 64, 16]⟩
abbrev S64x64x1 : Shape := ⟨3, ![64, 64, 1]⟩
abbrev S16x64x64 : Shape := ⟨3, ![16, 64, 64]⟩
abbrev S16x4096 : Shape := ⟨2, ![16, 4096]⟩

abbrev nBuf : Space → Nat
  | .hbm => 22
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64x16, .f32⟩
  | .hbm, ⟨3, _⟩ => ⟨S64x64x16, .f32⟩
  | .hbm, ⟨4, _⟩ => ⟨S64x64x1, .f32⟩
  | .hbm, ⟨5, _⟩ => ⟨S64x64x16, .f32⟩
  | .hbm, ⟨6, _⟩ => ⟨S64x64x16, .f32⟩
  | .hbm, ⟨7, _⟩ => ⟨S64x64x1, .f32⟩
  | .hbm, ⟨8, _⟩ => ⟨S64x64x16, .f32⟩
  | .hbm, ⟨9, _⟩ => ⟨S64x64x16, .f32⟩
  | .hbm, ⟨10, _⟩ => ⟨S64x64x16, .f32⟩
  | .hbm, ⟨11, _⟩ => ⟨S64x64x1, .f32⟩
  | .hbm, ⟨12, _⟩ => ⟨S64x64x16, .f32⟩
  | .hbm, ⟨13, _⟩ => ⟨S64x64x16, .f32⟩
  | .hbm, ⟨14, _⟩ => ⟨S64x64x1, .f32⟩
  | .hbm, ⟨15, _⟩ => ⟨S64x64x16, .f32⟩
  | .hbm, ⟨16, _⟩ => ⟨S64x64x16, .f32⟩
  | .hbm, ⟨17, _⟩ => ⟨S64x64x16, .f32⟩
  | .hbm, ⟨18, _⟩ => ⟨S16x64x64, .f32⟩
  | .hbm, ⟨19, _⟩ => ⟨S16x4096, .f32⟩
  | .hbm, ⟨20, _⟩ => ⟨S16x64x64, .f32⟩
  | .hbm, ⟨21, _⟩ => ⟨S16x4096, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== BoundFwd.lean ====
abbrev S2x1024 : Shape := ⟨2, ![2, 1024]⟩
abbrev S1x1024 : Shape := ⟨2, ![1, 1024]⟩
abbrev S1024 : Shape := ⟨1, ![1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .local _ .vmem, ⟨0, _⟩ => ⟨S2x1024, .f32⟩
  | .local _ .vmem, ⟨1, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundFwdRefIdeal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== InProd.lean ====
abbrev S8256x1024 : Shape := ⟨2, ![8256, 1024]⟩
abbrev S1024x7168 : Shape := ⟨2, ![1024, 7168]⟩
abbrev S1024x8x896 : Shape := ⟨3, ![1024, 8, 896]⟩
abbrev S8x1024x896 : Shape := ⟨3, ![8, 1024, 896]⟩
abbrev S8256x7168 : Shape := ⟨2, ![8256, 7168]⟩
abbrev S688x1024 : Shape := ⟨2, ![688, 1024]⟩
abbrev S1x1024x896 : Shape := ⟨3, ![1, 1024, 896]⟩
abbrev S688x896 : Shape := ⟨2, ![688, 896]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x7168, .f32⟩
  | .hbm, ⟨2, _⟩ => ⟨S1024x8x896, .f32⟩
  | .hbm, ⟨3, _⟩ => ⟨S8x1024x896, .f32⟩
  | .hbm, ⟨4, _⟩ => ⟨S8x1024x896, .bf16⟩
  | .hbm, ⟨5, _⟩ => ⟨S8256x7168, .bf16⟩
  | .local _ .vmem, ⟨0, _⟩ => ⟨S688x1024, .bf16⟩
  | .local _ .vmem, ⟨1, _⟩ => ⟨S688x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S688x896, .bf16⟩
  | .local _ .vmem, ⟨5, _⟩ => ⟨S688x896, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProdRefIdeal.lean ====
abbrev S8256x1024 : Shape := ⟨2, ![8256, 1024]⟩
abbrev S1024x7168 : Shape := ⟨2, ![1024, 7168]⟩
abbrev S8256x7168 : Shape := ⟨2, ![8256, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x7168, .f32⟩
  | .hbm, ⟨2, _⟩ => ⟨S8256x1024, .f32⟩
  | .hbm, ⟨3, _⟩ => ⟨S8256x7168, .f32⟩
  | .hbm, ⟨4, _⟩ => ⟨S8256x7168, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S8256x1024 : Shape := ⟨2, ![8256, 1024]⟩
abbrev S8256x7168 : Shape := ⟨2, ![8256, 7168]⟩
abbrev S8x1024x896 : Shape := ⟨3, ![8, 1024, 896]⟩
abbrev S688x1024 : Shape := ⟨2, ![688, 1024]⟩
abbrev S688x896 : Shape := ⟨2, ![688, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x7168, .bf16⟩
  | .hbm, ⟨2, _⟩ => ⟨S8x1024x896, .f32⟩
  | .local _ .vmem, ⟨0, _⟩ => ⟨S688x1024, .bf16⟩
  | .local _ .vmem, ⟨1, _⟩ => ⟨S688x1024, .bf16⟩
  | .local _ .vmem, ⟨2, _⟩ => ⟨S688x896, .bf16⟩
  | .local _ .vmem, ⟨3, _⟩ => ⟨S688x896, .bf16⟩
  | .local _ .vmem, ⟨4, _⟩ => ⟨S1x1024x896, .f32⟩
  | .local _ .vmem, ⟨5, _⟩ => ⟨S1x1024x896, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S688x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S8256x1024 : Shape := ⟨2, ![8256, 1024]⟩
abbrev S8256x7168 : Shape := ⟨2, ![8256, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 11
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x7168, .bf16⟩
  | .hbm, ⟨2, _⟩ => ⟨S_, .f32⟩
  | .hbm, ⟨3, _⟩ => ⟨S1024x7168, .f32⟩
  | .hbm, ⟨4, _⟩ => ⟨S8256x1024, .f32⟩
  | .hbm, ⟨5, _⟩ => ⟨S8256x7168, .f32⟩
  | .hbm, ⟨6, _⟩ => ⟨S8256x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LinProd.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S1024x1024, .bf16⟩
  | .hbm, ⟨4, _⟩ => ⟨S8256x1024, .bf16⟩
  | .hbm, ⟨5, _⟩ => ⟨S1024x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S688x1024, .bf16⟩
  | .local _ .vmem, ⟨6, _⟩ => ⟨S688x1024, .bf16⟩
  | .local _ .vmem, ⟨7, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LinProdRefIdeal.lean ====
abbrev S8256x1024 : Shape := ⟨2, ![8256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | .hbm, ⟨8, _⟩ => ⟨S8256x1024, .f32⟩
  | .hbm, ⟨9, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S1024x896 : Shape := ⟨2, ![1024, 896]⟩
abbrev S8x1024x896 : Shape := ⟨3, ![8, 1024, 896]⟩
abbrev S128x896 : Shape := ⟨2, ![128, 896]⟩
abbrev S8x128x896 : Shape := ⟨3, ![8, 128, 896]⟩
abbrev S1x128x896 : Shape := ⟨3, ![1, 128, 896]⟩

abbrev nBuf : Space → Nat
  | .hbm => 8
  | .vmem => 16
  | .smem => 0
  | _ => 0

abbrev bufTy : (tb : Table) → Fin (tcTables nBuf tb) → BufTy
  | .hbm, ⟨0, _⟩ => ⟨S1024x896, .f32⟩
  | .hbm, ⟨1, _⟩ => ⟨S8x1024x896, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .local _ .vmem, ⟨0, _⟩ => ⟨S128x896, .f32⟩
  | .local _ .vmem, ⟨1, _⟩ => ⟨S128x896, .f32⟩
  | .local _ .vmem, ⟨2, _⟩ => ⟨S8x128x896, .bf16⟩
  | .local _ .vmem, ⟨3, _⟩ => ⟨S8x128x896, .bf16⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1024x896 : Shape := ⟨2, ![1024, 896]⟩
abbrev S8x1024x896 : Shape := ⟨3, ![8, 1024, 896]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S8x1024x896, .bf16⟩
  | .hbm, ⟨2, _⟩ => ⟨S1024x896, .f32⟩
  | .hbm, ⟨3, _⟩ => ⟨S1024x896, .f32⟩
  | .hbm, ⟨4, _⟩ => ⟨S8x1024x896, .f32⟩
  | .hbm, ⟨5, _⟩ => ⟨S_, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S_, .f32⟩
  | .hbm, ⟨11, _⟩ => ⟨S1024x896, .f32⟩
  | .hbm, ⟨12, _⟩ => ⟨S1024x896, .f32⟩
  | .hbm, ⟨13, _⟩ => ⟨S1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S1024x896, .f32⟩
  | .hbm, ⟨18, _⟩ => ⟨S_, .f32⟩
  | .hbm, ⟨19, _⟩ => ⟨S1024x896, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S_, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S1024x896, .f32⟩
  | .hbm, ⟨33, _⟩ => ⟨S_, .f32⟩
  | .hbm, ⟨34, _⟩ => ⟨S1024x896, .f32⟩
  | .hbm, ⟨35, _⟩ => ⟨S1024x896, .f32⟩
  | .hbm, ⟨36, _⟩ => ⟨S1024x896, .f32⟩
  | .hbm, ⟨37, _⟩ => ⟨S_, .f32⟩
  | .hbm, ⟨38, _⟩ => ⟨S1024x896, .f32⟩
  | .hbm, ⟨39, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== MetaGrad.lean ====
abbrev S4x2064x1024 : Shape := ⟨3, ![4, 2064, 1024]⟩
abbrev S16x1024 : Shape := ⟨2, ![16, 1024]⟩
abbrev S4x16x1024 : Shape := ⟨3, ![4, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x2064x1024, .f32⟩
  | .hbm, ⟨1, _⟩ => ⟨S16x1024, .f32⟩
  | .local _ .vmem, ⟨0, _⟩ => ⟨S4x16x1024, .f32⟩
  | .local _ .vmem, ⟨1, _⟩ => ⟨S16x1024, .f32⟩
  | _, _ => ⟨S4x2064x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== MetaGradRefIdeal.lean ====
abbrev S4x2064x1024 : Shape := ⟨3, ![4, 2064, 1024]⟩
abbrev S_ : Shape := ⟨0, ![]⟩
abbrev S16x1024 : Shape := ⟨2, ![16, 1024]⟩
abbrev S1x16x1024 : Shape := ⟨3, ![1, 16, 1024]⟩
abbrev S4x16x1024 : Shape := ⟨3, ![4, 16, 1024]⟩
abbrev S4x2048x1024 : Shape := ⟨3, ![4, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S_, .f32⟩
  | .hbm, ⟨2, _⟩ => ⟨S16x1024, .f32⟩
  | .hbm, ⟨3, _⟩ => ⟨S1x16x1024, .f32⟩
  | .hbm, ⟨4, _⟩ => ⟨S4x16x1024, .f32⟩
  | .hbm, ⟨5, _⟩ => ⟨S_, .f32⟩
  | .hbm, ⟨6, _⟩ => ⟨S4x2048x1024, .f32⟩
  | .hbm, ⟨7, _⟩ => ⟨S4x2064x1024, .f32⟩
  | .hbm, ⟨8, _⟩ => ⟨S_, .f32⟩
  | .hbm, ⟨9, _⟩ => ⟨S4x2048x1024, .f32⟩
  | .hbm, ⟨10, _⟩ => ⟨S4x16x1024, .f32⟩
  | .hbm, ⟨11, _⟩ => ⟨S4x2048x1024, .f32⟩
  | .hbm, ⟨12, _⟩ => ⟨S_, .f32⟩
  | .hbm, ⟨13, _⟩ => ⟨S16x1024, .f32⟩
  | .hbm, ⟨14, _⟩ => ⟨S1x16x1024, .f32⟩
  | .hbm, ⟨15, _⟩ => ⟨S_, .f32⟩
  | .hbm, ⟨16, _⟩ => ⟨S16x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.GluValue.lean ====
/- The gradient of the S5 branch's gate `y * sigmoid(y @ w)`: the two arrays the kernel leaves are the reference's. -/
module

public import proofs.«01_k».proof.Defs
public import proofs.«01_k».proof.Proof.Gen.GluBwdIdeal.Value
public import proofs.«01_k».proof.Proof.Gen.GluRefIdeal.Run
public import proofs.«01_k».proof.Proof.Gen.GluRefIdeal.Read
public import Idealize.ShloMosaic.Lib.Pipeline.ValueKit
public import Idealize.ShloMosaic.Lib.Pointwise

@[expose] public section

set_option maxRecDepth 16384

noncomputable section

namespace Cert.GluBwdIdeal.Value

open Cert.GluBwdIdeal Cert.GluBwdIdeal.Gen Idealize.ShloMosaic Idealize.ShloMosaic.TcCoe Idealize.SL.Sem
open Idealize.ShloMosaic.Pipeline (Dat)
open Cert.GluRefIdeal.Read

variable (m : (ℓ : Loc nD τ sig) → Buf (Elt Ideal) ℓ)

/-- Block indices of the five windows: row tile `t`, or the one whole block. -/
theorem idx : ∀ t : Fin cfg0.N, win0_0.index t = ![t.val, 0] ∧ win0_1.index t = ![t.val, 0] ∧
    win0_2.index t = ![0, 0] ∧ win0_3.index t = ![t.val, 0] ∧ win0_4.index t = ![0, 0] ∧ t.val < 12 :=
  (by decide +kernel : ∀ t : Fin grid0.N, _)

/-- The gate: the logistic of a row of `y` against a column of the weight. -/
def gate (f g : Fin 1024 → EReal) : EReal := Ideal.logistic (∑ k, f k * g k)

/-- The gradient of the gate's argument, from the entry of `y`, its cotangent and the gate. -/
def darg (y dy s : EReal) : EReal := dy * y * (s * (1 - s))

theorem pay4_apply (v3 v5 : (⟨S688x1024, .bf16⟩ : BufTy).Contents (Elt Ideal))
    (v7 : (⟨S1024x1024, .bf16⟩ : BufTy).Contents (Elt Ideal)) (a : Fin 688) (b : Fin 1024) :
    k0_pay4 (F := Ideal) v3 v5 v7 (ix2 a b)
      = darg (v3 (ix2 a b)) (v5 (ix2 a b)) (gate (fun k => v3 (ix2 a k)) fun k => v7 (ix2 k b)) := by
  unfold darg gate
  pointwise! [k0_pay4, k0_pay3, k0_pay2]

theorem pay5_apply (v3 v5 : (⟨S688x1024, .bf16⟩ : BufTy).Contents (Elt Ideal))
    (v7 v17 : (⟨S1024x1024, .bf16⟩ : BufTy).Contents (Elt Ideal)) (a : Fin 688) (b : Fin 1024) :
    k0_pay5 (F := Ideal) v3 v5 v7 v17 (ix2 a b)
      = v5 (ix2 a b) * gate (fun k => v3 (ix2 a k)) (fun k => v7 (ix2 k b))
        + ∑ x : Fin 1024, k0_pay4 (F := Ideal) v3 v5 v7 (ix2 a x) * v17 (ix2 b x) := by
  unfold gate
  pointwise! [k0_pay5, k0_pay3, k0_pay2]

theorem pay6_apply (v3 v5 : (⟨S688x1024, .bf16⟩ : BufTy).Contents (Elt Ideal))
    (v7 : (⟨S1024x1024, .bf16⟩ : BufTy).Contents (Elt Ideal))
    (v24 : (⟨S1024x1024, .f32⟩ : BufTy).Contents (Elt Ideal)) (a b : Fin 1024) :
    k0_pay6 (F := Ideal) v3 v5 v7 v24 (ix2 a b)
      = v24 (ix2 a b) + ∑ k : Fin 688, v3 (ix2 k a) * k0_pay4 (F := Ideal) v3 v5 v7 (ix2 k b) := by
  pointwise! [k0_pay6, k0_pay2]

theorem pay1_apply (j : S1024x1024.Idx) : k0_pay1 (F := Ideal) j = 0 := by pointwise [k0_pay1]

variable (x0 x1 : (⟨S8256x1024, .bf16⟩ : BufTy).Contents (Elt Ideal)) (x2 : (⟨S1024x1024, .f32⟩ : BufTy).Contents (Elt Ideal))

theorem ref7_apply (a : Fin 8256) (b : Fin 1024) : val_main_v7 (F := Ideal) x0 x2 (ix2 a b)
    = gate (fun k => x0 (ix2 a k)) fun k => x2 (ix2 k b) := by
  unfold gate
  pointwise! [val_main_v7, val_main_v6, val_main_v5, val_main_v4, val_main_v3, val_main_v2, val_main_v1, val_main_v0,
    val_main_cst, val_main_cst_0]

theorem ref15_apply (a : Fin 8256) (b : Fin 1024) : val_main_v15 (F := Ideal) x0 x1 x2 (ix2 a b)
    = darg (x0 (ix2 a b)) (x1 (ix2 a b)) (gate (fun k => x0 (ix2 a k)) fun k => x2 (ix2 k b)) := by
  rw [← ref7_apply, darg]
  pointwise! [val_main_v15, val_main_v13, val_main_v12, val_main_v11, val_main_v10, val_main_v9, val_main_v8,
    val_main_v0, val_main_cst_1]

theorem ref20_apply (a : Fin 8256) (b : Fin 1024) : val_main_v20 (F := Ideal) x0 x1 x2 (ix2 a b)
    = x1 (ix2 a b) * gate (fun k => x0 (ix2 a k)) (fun k => x2 (ix2 k b))
      + ∑ x : Fin 1024, val_main_v15 (F := Ideal) x0 x1 x2 (ix2 a x) * x2 (ix2 b x) := by
  rw [← ref7_apply]
  pointwise! [val_main_v20, val_main_v19, val_main_v18, val_main_v14, val_main_v12, val_main_v11]

theorem ref17_apply (a b : Fin 1024) : val_main_v17 (F := Ideal) x0 x1 x2 (ix2 a b)
    = ∑ k : Fin 8256, x0 (ix2 k a) * val_main_v15 (F := Ideal) x0 x1 x2 (ix2 k b) := by
  pointwise! [val_main_v17, val_main_v16, val_main_v0]

/-- A point's block of the gate's argument gradient is the reference's rows of tile `t`. -/
theorem point4 (c : Dev nD) (t : Fin cfg0.N) (a : Fin 688) (b : Fin 1024) (h : t.val * 688 + a.val < 8256) :
    k0_pay4 (F := Ideal) (iblk m c 0 t) (iblk m c 1 t) (iblk m c 2 t) (ix2 a b)
      = val_main_v15 (F := Ideal) (m ((c : Thread nD τ).loc main_arg0)) (m ((c : Thread nD τ).loc main_arg1))
        (m ((c : Thread nD τ).loc main_arg2)) (ix2 ⟨t.val * 688 + a.val, h⟩ b) := by
  rw [pay4_apply, ref15_apply]
  blk_point [iblk, V, idx t]

theorem row_lt (t : Fin cfg0.N) (a : Fin 688) : t.val * 688 + a.val < 8256 := by
  have := (idx t).2.2.2.2.2
  omega

/-- Window 3's block `t` embeds its rows at `688 t`. -/
theorem emb3 (t : Fin cfg0.N) (a : Fin 688) (b : Fin 1024) :
    ((cfg0.win 3).blk t).view.emb (ix2 a b) = ix2 (n0 := 8256) (n1 := 1024) ⟨t.val * 688 + a.val, row_lt t a⟩ b := by
  blk_ext [idx t]

/-- What a point stores of the gradient of `y` is the reference's array there. -/
theorem point3 (c : Dev nD) (t : Fin cfg0.N) (a : Fin 688) (b : Fin 1024) :
    k0_pay5 (F := Ideal) (iblk m c 0 t) (iblk m c 1 t) (iblk m c 2 t) (iblk m c 2 t) (ix2 a b)
      = val_main_v20 (F := Ideal) (m ((c : Thread nD τ).loc main_arg0)) (m ((c : Thread nD τ).loc main_arg1))
        (m ((c : Thread nD τ).loc main_arg2)) (((cfg0.win 3).blk t).view.emb (ix2 a b)) := by
  rw [emb3, pay5_apply, ref20_apply]
  refine Ideal.add_congr ?_ (Finset.sum_congr rfl fun x _ => Ideal.mul_congr (point4 m c t a x _) ?_)
  · blk_point [iblk, V, idx t]
  · blk_point [iblk, V, idx t]

/-- The array of window 3: the gradient of `y`. -/
theorem final3 (c : Dev nD) : (dats m 0 c).arrAt 3 cfg0.N
    = val_main_v20 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  idx_vars y
  blk_simp
  rw [after0_3]
  by_cases h : t.val % 12 = 0
  · rw [outsAt0_A m c t h]; frame_out; exact point3 m c t y0 y1
  · rw [outsAt0_B m c t h]; frame_out; exact point3 m c t y0 y1

/-- What a point adds to the weight's gradient. -/
def wterm (c : Dev nD) (t : Fin cfg0.N) (j : S1024x1024.Idx) : EReal :=
  ∑ k : Fin 688, (show EReal from iblk m c 0 t (ix2 k (j 0)))
    * k0_pay4 (F := Ideal) (iblk m c 0 t) (iblk m c 1 t) (iblk m c 2 t) (ix2 k (j 1))

/-- The twelve tiles' terms together are the reference's sum over all rows. -/
theorem wterm_sum (c : Dev nD) (a b : Fin 1024) : ∑ t : Fin cfg0.N, wterm m c t (ix2 a b)
    = val_main_v17 (F := Ideal) (m ((c : Thread nD τ).loc main_arg0)) (m ((c : Thread nD τ).loc main_arg1))
        (m ((c : Thread nD τ).loc main_arg2)) (ix2 a b) := by
  rw [ref17_apply]
  refine Fin.sum_mul_add_congr fun t k h => ?_
  refine Ideal.mul_congr ?_ (point4 m c t k b h)
  blk_point [iblk, V, idx t]

/-- The array of window 4: the gradient of the weight. -/
theorem final4 (c : Dev nD) : (dats m 0 c).arrAt 4 cfg0.N
    = val_main_v17 (F := Ideal) (m ((c : Thread nD τ).loc main_arg0)) (m ((c : Thread nD τ).loc main_arg1))
        (m ((c : Thread nD τ).loc main_arg2)) := by
  refine (dats m 0 c).arrAt_eq_of_after_last 4 t0_11 (by decide +kernel) _ fun j => ?_
  idx_vars j
  blk_simp
  rw [after0_4, Pipeline.eq_sum_fin_of_reset_step_apply_last (fun n h => (outsAt0 m c n h).2) 12 (fun _ => 0) (wterm m c)
    (fun t h j => by
      rw [outsAt0_A m c t h]; frame_out; idx_vars j; exact (pay6_apply _ _ _ _ j0 j1).trans (by rw [pay1_apply]; rfl))
    (fun t h j => by rw [outsAt0_B m c t h]; frame_out; idx_vars j; exact pay6_apply _ _ _ _ j0 j1)
    (le_of_eq N_0) t0_11 rfl, zero_add]
  exact wterm_sum m c j0 j1

end Cert.GluBwdIdeal.Value

namespace Cert.Glu

open Idealize.ShloMosaic Idealize.SL.Sem Cert.GluRefIdeal.Read

/-- The kernel's two gradients of the S5 gate are the reference's. -/
theorem algebraic : Cert.algebraic_GluBwdIdeal_GluRefIdeal := by
  pair_intro
  · run_from Cert.GluBwdIdeal.Value.run_blocks m g
  · run_from Cert.GluRefIdeal.Value.run m' g'
    · exact (val_main_v20_eq _ _ _).trans (Cert.GluBwdIdeal.Value.final3 m c).symm
    · exact (val_main_v17_eq _ _ _).trans (Cert.GluBwdIdeal.Value.final4 m c).symm

end Cert.Glu

end
-- ==== Proof.GateRead.lean ====
/- The reference's gradient of the gated product `(silu a * b) @ w`, read entry by entry. -/
module

public import proofs.«01_k».proof.Proof.Gen.GateRefIdeal.Run
public import proofs.«01_k».proof.Proof.Gen.GateRefIdeal.Read
public import Idealize.ShloMosaic.Lib.Pointwise

@[expose] public section

set_option maxRecDepth 16384

noncomputable section

namespace Cert.GateRefIdeal.Entry

open Cert.GateRefIdeal Cert.GateRefIdeal.Read Idealize.ShloMosaic

/-- The column of lane `l` of pair `p` within a half. -/
def col (p : Fin 4) (l : Fin 704) : Fin 2816 := ⟨p.val * 704 + l.val, by omega⟩

/-- A column of the first half, among all columns. -/
def fst (q : Fin 2816) : Fin 5632 := ⟨q.val, by omega⟩

/-- A column of the second half, among all columns. -/
def snd (q : Fin 2816) : Fin 5632 := ⟨2816 + q.val, by omega⟩

/-- The gradient of the product's left operand, an entry. -/
def dact (f g : Fin 1024 → EReal) : EReal := ∑ k, f k * g k

variable (x0 : (⟨S8256x5632, .f32⟩ : BufTy).Contents (Elt Ideal)) (x1 : (⟨S5632, .f32⟩ : BufTy).Contents (Elt Ideal))
  (x2 : (⟨S2816x1024, .f32⟩ : BufTy).Contents (Elt Ideal)) (x3 : (⟨S8256x1024, .f32⟩ : BufTy).Contents (Elt Ideal))

/-- The gate's argument: taps plus bias. -/
def pre (r : Fin 8256) (q : Fin 5632) : EReal := x0 (ix2 r q) + x1 (ix1 q)

theorem v3_apply (r : Fin 8256) (q : Fin 2816) : val_main_v3 (F := Ideal) x0 x1 (ix2 r q) = pre x0 x1 r (fst q) := by
  unfold pre fst
  pointwise! [val_main_v3, val_main_v2, val_main_v1, val_main_v0]

theorem v5_apply (r : Fin 8256) (q : Fin 2816) : val_main_v5 (F := Ideal) x0 x1 (ix2 r q) = pre x0 x1 r (snd q) := by
  unfold pre snd
  pointwise! [val_main_v5, val_main_v2, val_main_v1, val_main_v0]

theorem v4_2_apply (r : Fin 8256) (q : Fin 2816) :
    val_main_v4_2 (F := Ideal) x0 x1 (ix2 r q) = Ideal.logistic (pre x0 x1 r (fst q)) := by
  rw [← v3_apply]
  pointwise! [val_main_v4_2, val_main_call0_v0, val_main_call0_v1, val_main_call0_v2, val_main_call0_v3,
    val_main_call0_v4, val_main_call0_cst, val_main_call0_cst_0]

theorem v10_apply (r : Fin 8256) (q : Fin 2816) : val_main_v10 (F := Ideal) x2 x3 (ix2 r q)
    = dact (fun k => x3 (ix2 r k)) fun k => x2 (ix2 q k) := by
  unfold dact
  pointwise! [val_main_v10]

/-- The activation's entry. -/
def act (a b : EReal) : EReal := a * Ideal.logistic a * b

theorem v6_apply (r : Fin 8256) (q : Fin 2816) : val_main_v6 (F := Ideal) x0 x1 (ix2 r q)
    = act (pre x0 x1 r (fst q)) (pre x0 x1 r (snd q)) := by
  unfold act
  rw [← v4_2_apply, ← v3_apply, ← v5_apply]
  pointwise! [val_main_v6, val_main_v4_0]

/-- The gradient of the second half's entry. -/
def dval (d a : EReal) : EReal := d * (a * Ideal.logistic a)

/-- The gradient of the first half's entry, as the derivative rule of the product leaves it. -/
def dgateSum (d a b : EReal) : EReal :=
  d * b * Ideal.logistic a + a * (d * b) * (Ideal.logistic a * (1 - Ideal.logistic a))

theorem v11_apply (r : Fin 8256) (q : Fin 2816) : val_main_v11 (F := Ideal) x0 x1 x2 x3 (ix2 r q)
    = dval (dact (fun k => x3 (ix2 r k)) fun k => x2 (ix2 q k)) (pre x0 x1 r (fst q)) := by
  unfold dval
  rw [← v10_apply, ← v4_2_apply, ← v3_apply]
  pointwise! [val_main_v11, val_main_v4_0]

theorem v14_apply (r : Fin 8256) (q : Fin 2816) : val_main_v14 (F := Ideal) x0 x1 x2 x3 (ix2 r q)
    = dgateSum (dact (fun k => x3 (ix2 r k)) fun k => x2 (ix2 q k)) (pre x0 x1 r (fst q)) (pre x0 x1 r (snd q)) := by
  unfold dgateSum
  rw [← v10_apply, ← v4_2_apply, ← v3_apply, ← v5_apply]
  pointwise! [val_main_v14, val_main_call1_v0, val_main_call1_v1, val_main_call1_v2, val_main_v4_1, val_main_v12,
    val_main_call0_v6, val_main_call0_v7, val_main_call0_cst_1]

theorem v16_fst (r : Fin 8256) (q : Fin 2816) : val_main_v16 (F := Ideal) x0 x1 x2 x3 (ix2 r (fst q))
    = val_main_v14 (F := Ideal) x0 x1 x2 x3 (ix2 r q) := by
  unfold fst
  pointwise! [val_main_v16, val_main_v15, val_main_v13, val_main_cst, val_main_cst_0]

theorem v16_snd (r : Fin 8256) (q : Fin 2816) : val_main_v16 (F := Ideal) x0 x1 x2 x3 (ix2 r (snd q))
    = val_main_v11 (F := Ideal) x0 x1 x2 x3 (ix2 r q) := by
  unfold snd
  pointwise! [val_main_v16, val_main_v15, val_main_v13, val_main_cst, val_main_cst_0]

theorem v25_apply (p : Fin 4) (r : Fin 8256) (l : Fin 704) : val_main_v25 (F := Ideal) x0 x1 x2 x3 (ix3 p r l)
    = val_main_v14 (F := Ideal) x0 x1 x2 x3 (ix2 r (col p l)) := by
  rw [← v16_fst]; unfold col fst
  pointwise! [val_main_v25, val_main_v24, val_main_v22, val_main_v21, val_main_v20]

theorem v27_apply (p : Fin 4) (r : Fin 8256) (l : Fin 704) : val_main_v27 (F := Ideal) x0 x1 x2 x3 (ix3 p r l)
    = val_main_v11 (F := Ideal) x0 x1 x2 x3 (ix2 r (col p l)) := by
  rw [← v16_snd]; unfold col snd
  pointwise! [val_main_v27, val_main_v26, val_main_v22, val_main_v21, val_main_v20]

theorem v28_apply (p : Fin 4) (l : Fin 704) (d : Fin 1024) : val_main_v28 (F := Ideal) x0 x1 x3 (ix3 p l d)
    = ∑ r : Fin 8256, val_main_v6 (F := Ideal) x0 x1 (ix2 r (col p l)) * x3 (ix2 r d) := by
  unfold col
  pointwise! [val_main_v28, val_main_v9, val_main_v8]

theorem v19_apply (q : Fin 5632) : val_main_v19 (F := Ideal) x0 x1 x2 x3 (ix1 q)
    = ∑ r : Fin 8256, val_main_v16 (F := Ideal) x0 x1 x2 x3 (ix2 r q) := by
  have h17 (q : Fin 5632) : val_main_v17 (F := Ideal) x0 x1 x2 x3 (ix1 q)
      = ∑ r : Fin 8256, val_main_v16 (F := Ideal) x0 x1 x2 x3 (ix2 r q) := by
    unfold val_main_v17
    generalize val_main_v16 (F := Ideal) x0 x1 x2 x3 = y
    pointwise! [val_main_cst_1]
  rw [← h17]
  unfold val_main_v19 val_main_v18
  generalize val_main_v17 (F := Ideal) x0 x1 x2 x3 = y
  pointwise! [val_main_cst_2]
  exact Fin.sum_univ_one _

theorem v30_apply (p : Fin 4) (l : Fin 704) : val_main_v30 (F := Ideal) x0 x1 x2 x3 (ix3 p (0 : Fin 1) l)
    = ∑ r : Fin 8256, val_main_v14 (F := Ideal) x0 x1 x2 x3 (ix2 r (col p l)) := by
  refine Eq.trans ?_ ((v19_apply x0 x1 x2 x3 (fst (col p l))).trans
    (Finset.sum_congr rfl fun r _ => v16_fst x0 x1 x2 x3 r (col p l)))
  rw [val_main_v30_apply, val_main_v29_apply, val_main_v23_apply]
  generalize val_main_v19 (F := Ideal) x0 x1 x2 x3 = y
  refine congrArg y (funext fun a => ?_)
  match a with
  | ⟨0, _⟩ =>
    apply Fin.ext
    have h1 := p.isLt
    have h2 := l.isLt
    show _ = p.val * 704 + l.val
    show (((0 * 4 + ((p.val * 1 + 0) * 704 + l.val) / 704 % 4) * 1 + 0) * 704 + ((p.val * 1 + 0) * 704 + l.val) % 704)
      = p.val * 704 + l.val
    omega

theorem v32_apply (p : Fin 4) (l : Fin 704) : val_main_v32 (F := Ideal) x0 x1 x2 x3 (ix3 p (0 : Fin 1) l)
    = ∑ r : Fin 8256, val_main_v11 (F := Ideal) x0 x1 x2 x3 (ix2 r (col p l)) := by
  refine Eq.trans ?_ ((v19_apply x0 x1 x2 x3 (snd (col p l))).trans
    (Finset.sum_congr rfl fun r _ => v16_snd x0 x1 x2 x3 r (col p l)))
  unfold col snd val_main_v32 val_main_v31 val_main_v23
  generalize val_main_v19 (F := Ideal) x0 x1 x2 x3 = y
  pointwise!

end Cert.GateRefIdeal.Entry

end
-- ==== Proof.Reals.lean ====
/- Arrays of finite entries: what the precondition says of an entry, and arithmetic on real entries. -/
module

public import Idealize.ShloMosaic.Lib.Pointwise
public import Idealize.ShloMosaic.Lib.KernelVsHost

@[expose] public section

noncomputable section

namespace Cert.Reals

open Idealize.ShloMosaic

/-- The entry is a real number. -/
def IsReal (x : EReal) : Prop := ∃ r : ℝ, x = (r : EReal)

theorem IsReal.of_lt {x : EReal} (h : max x (-x) < ⊤) : IsReal x := by
  induction x with
  | bot => simp at h
  | top => simp at h
  | coe r => exact ⟨r, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {n : Nat} {f : Fin n → EReal} (h : ∀ k, IsReal (f k)) : IsReal (∑ k, f k) := by
  induction n with
  | zero => exact ⟨0, by simp⟩
  | succ n ih => rw [Fin.sum_univ_succ]; exact (h 0).add (ih fun k => h k.succ)

/-- The logistic of a real number is a real number. -/
theorem IsReal.logistic {x : EReal} : IsReal x → IsReal (Ideal.logistic x) := by
  rintro ⟨a, rfl⟩
  have h : Ideal.logistic (a : EReal) = Ideal.div 1 ((1 + Real.exp (-a) : ℝ) : EReal) := rfl
  rw [h, Ideal.div_coe (ne_of_gt (by positivity)), one_mul]
  exact ⟨_, rfl⟩

/-- A left fold of "and" that ends at one met only ones. -/
theorem foldl_and_one {ι : Type} (f : ι → BitVec 1) (l : List ι) (a : BitVec 1) :
    l.foldl (fun r n => IntOp.andi r (f n)) a = 1#1 → ∀ n ∈ l, f n = 1#1 := by
  suffices h : l.foldl (fun r n => IntOp.andi r (f n)) a = 1#1 → a = 1#1 ∧ ∀ n ∈ l, f n = 1#1 from fun e => (h e).2
  induction l generalizing a with
  | nil => exact fun e => ⟨e, fun n hn => absurd hn (List.not_mem_nil)⟩
  | cons b l ih =>
    intro e
    obtain ⟨h1, h2⟩ := ih _ e
    have h3 : ∀ a v : BitVec 1, IntOp.andi a v = 1#1 → a = 1#1 ∧ v = 1#1 := by decide
    have h3 := h3 _ _ h1
    exact ⟨h3.1, fun n hn => by rcases List.mem_cons.mp hn with rfl | hn; exacts [h3.2, h2 n hn]⟩

/-- A conjunction over a whole array that is one was one at each entry. -/
theorem all_of_reduce {s t u : Shape} {axes : List (Fin s.rank)} (x : IVec s 1) (v : u.Idx → BitVec 1) (h : s.ReducesTo axes t)
    (hu : 0 < u.numel) [Subsingleton t.Idx] (j : t.Idx) (e : Host.reduce IntOp.andi x v h hu j = 1#1) (i : s.Idx) : x i = 1#1 := by
  have := foldl_and_one (fun n => x (s.rowMajor.symm n)) _ _ e (s.rowMajor i)
    (List.mem_filter.mpr ⟨List.mem_finRange _, decide_eq_true (Subsingleton.elim _ _)⟩)
  simpa using this

/-- "All magnitudes below infinity" makes each entry a real number. -/
theorem real_of_all {s t u w : Shape} {axes : List (Fin s.rank)} (x : FVec Ideal s .f32) (d : Fin w.rank → Fin s.rank)
    (hb : w.BroadcastsInDim s d) (v : u.Idx → BitVec 1) (h : s.ReducesTo axes t) (hu : 0 < u.numel) [Subsingleton t.Idx] (j : t.Idx)
    (e : Host.reduce IntOp.andi (cmpf .olt (Host.absf x) (broadcastInDim s d hb (constant (F := Ideal) w .f32 0x7F800000#32))) v h hu j
      = 1#1) (i : s.Idx) : IsReal (x i) := by
  have h1 := all_of_reduce _ v h hu j e i
  have htop : Ideal.ofBits .f32 0x7F800000#32 = ⊤ := by simp [Ideal.ofBits, Ideal.ieee]
  have h2 : Ideal.cmp .olt (max (x i : EReal) (-(x i : EReal))) (Ideal.ofBits .f32 0x7F800000#32) = 1 := h1
  rw [htop, Ideal.cmp_olt_eq_one] at h2
  exact IsReal.of_lt h2

/-- A bit of a conjunction. -/
theorem and_one {s : Shape} {x y : IVec s 1} {i : s.Idx} (e : andi x y i = 1#1) : x i = 1#1 ∧ y i = 1#1 := by
  revert e
  show IntOp.andi (x i) (y i) = 1#1 → _
  generalize x i = a
  generalize y i = b
  revert a b
  decide

end Cert.Reals

end
-- ==== Proof.GateValue.lean ====
/- The gradient of the gated product `(silu a * b) @ w`: the five arrays the kernel leaves are the reference's. -/
module

public import proofs.«01_k».proof.Defs
public import proofs.«01_k».proof.Proof.Gen.GateIdeal.Value
public import proofs.«01_k».proof.Proof.GateRead
public import proofs.«01_k».proof.Proof.Reals
public import Idealize.ShloMosaic.Lib.Pipeline.ValueKit
public import Idealize.ShloMosaic.Lib.Pointwise

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)
open Cert.GateRefIdeal.Read Cert.GateRefIdeal.Entry Cert.Reals

variable (m : (ℓ : Loc nD τ sig) → Buf (Elt Ideal) ℓ)

/-- Block indices: point `t` works on row tile `t % 12` of the pair of column blocks `t / 12`. -/
theorem idx : ∀ t : Fin cfg0.N, win0_0.index t = ![t.val % 12, 0] ∧ win0_1.index t = ![t.val / 12, t.val % 12, 0] ∧
    win0_2.index t = ![t.val / 12, t.val % 12, 0] ∧ win0_3.index t = ![t.val / 12, 0, 0] ∧
    win0_4.index t = ![t.val / 12, t.val % 12, 0] ∧ win0_5.index t = ![t.val / 12, t.val % 12, 0] ∧
    win0_6.index t = ![t.val / 12, 0, 0] ∧ win0_7.index t = ![t.val / 12, 0, 0] ∧ win0_8.index t = ![t.val / 12, 0, 0] ∧
    t.val < 48 :=
  (by decide +kernel : ∀ t : Fin grid0.N, _)

section Payloads

variable (v3 : (⟨S688x1024, .f32⟩ : BufTy).Contents (Elt Ideal)) (v4 v7 : (⟨S1x688x704, .bf16⟩ : BufTy).Contents (Elt Ideal))
  (v12 : (⟨S1x704x1024, .bf16⟩ : BufTy).Contents (Elt Ideal))

theorem pay13_apply (a : Fin 688) (l : Fin 704) : k0_pay13 (F := Ideal) v3 v12 (ix2 a l)
    = dact (fun k => v3 (ix2 a k)) fun k => v12 (ix3 0 l k) := by
  unfold dact
  pointwise! [k0_pay13]

theorem pay15_apply (a : Fin 688) (l : Fin 704) : k0_pay15 (F := Ideal) v3 v4 v12 (ix2 a l)
    = dval (dact (fun k => v3 (ix2 a k)) fun k => v12 (ix3 0 l k)) (v4 (ix3 0 a l)) := by
  unfold dval
  rw [← pay13_apply]
  pointwise! [k0_pay15, k0_pay12, k0_pay11, k0_pay9]

/-- The gradient of the first half's entry, as the kernel writes it. -/
def dgateProd (d a b : EReal) : EReal :=
  d * b * Ideal.logistic a * (1 + a * (1 - Ideal.logistic a))

/-- On real entries the two forms agree. -/
theorem dgateProd_eq {d a b : EReal} (hd : IsReal d) (ha : IsReal a) (hb : IsReal b) : dgateProd d a b = dgateSum d a b := by
  unfold dgateProd dgateSum
  obtain ⟨s, hs⟩ := ha.logistic
  rw [hs]
  obtain ⟨d, rfl⟩ := hd
  obtain ⟨a, rfl⟩ := ha
  obtain ⟨b, rfl⟩ := hb
  norm_cast
  ring

theorem pay1_apply (a : Fin 688) (l : Fin 704) :
    k0_pay1 (F := Ideal) (k0_pay16 v3 v4 v7 v12) (k0_pay17 v4) (k0_pay18) (ix2 a l)
      = dgateProd (dact (fun k => v3 (ix2 a k)) fun k => v12 (ix3 0 l k)) (v4 (ix3 0 a l)) (v7 (ix3 0 a l)) := by
  unfold dgateProd
  rw [← pay13_apply]
  pointwise! [k0_pay1, k0_pay16, k0_pay17, k0_pay18, k0_pay11, k0_pay9, k0_pay10]

theorem pay4_apply (a : Fin 688) (l : Fin 704) :
    k0_pay4 (F := Ideal) (k0_pay16 v3 v4 v7 v12) (k0_pay17 v4) (k0_pay18) (ix3 0 a l)
      = dgateProd (dact (fun k => v3 (ix2 a k)) fun k => v12 (ix3 0 l k)) (v4 (ix3 0 a l)) (v7 (ix3 0 a l)) := by
  rw [← pay1_apply]
  pointwise! [k0_pay4]

theorem pay5_apply (a : Fin 688) (l : Fin 704) : k0_pay5 (F := Ideal) (k0_pay15 v3 v4 v12) (ix3 0 a l)
    = dval (dact (fun k => v3 (ix2 a k)) fun k => v12 (ix3 0 l k)) (v4 (ix3 0 a l)) := by
  rw [← pay15_apply]
  pointwise! [k0_pay5]

theorem pay14_apply (v16 : (⟨S1x704x1024, .f32⟩ : BufTy).Contents (Elt Ideal)) (l : Fin 704) (k : Fin 1024) :
    k0_pay14 (F := Ideal) v3 v4 v7 v16 (ix3 0 l k)
      = v16 (ix3 0 l k) + ∑ a : Fin 688, act (v4 (ix3 0 a l)) (v7 (ix3 0 a l)) * v3 (ix2 a k) := by
  unfold act
  pointwise! [k0_pay14, k0_pay12, k0_pay11, k0_pay9, k0_pay10]

theorem pay2_apply (v35 : (⟨S1x1x704, .f32⟩ : BufTy).Contents (Elt Ideal)) (l : Fin 704) :
    k0_pay2 (F := Ideal) (k0_pay16 v3 v4 v7 v12) (k0_pay17 v4) (k0_pay18) v35 (ix3 0 0 l)
      = v35 (ix3 0 0 l) + ∑ a : Fin 688,
          dgateProd (dact (fun k => v3 (ix2 a k)) fun k => v12 (ix3 0 l k)) (v4 (ix3 0 a l)) (v7 (ix3 0 a l)) := by
  simp only [← pay1_apply]
  pointwise! [k0_pay2]

theorem pay3_apply (v43 : (⟨S1x1x704, .f32⟩ : BufTy).Contents (Elt Ideal)) (l : Fin 704) :
    k0_pay3 (F := Ideal) (k0_pay15 v3 v4 v12) v43 (ix3 0 0 l)
      = v43 (ix3 0 0 l) + ∑ a : Fin 688, dval (dact (fun k => v3 (ix2 a k)) fun k => v12 (ix3 0 l k)) (v4 (ix3 0 a l)) := by
  simp only [← pay15_apply]
  pointwise! [k0_pay3]

theorem pay6_apply (j : S1x704x1024.Idx) : k0_pay6 (F := Ideal) j = 0 := by pointwise [k0_pay6]
theorem pay7_apply (j : S1x1x704.Idx) : k0_pay7 (F := Ideal) j = 0 := by pointwise [k0_pay7]
theorem pay8_apply (j : S1x1x704.Idx) : k0_pay8 (F := Ideal) j = 0 := by pointwise [k0_pay8]

end Payloads

section Operands

/-- The row tile `t % 12`'s row `a`, among all rows. -/
def row (t : Fin cfg0.N) (a : Fin 688) : Fin 8256 := ⟨t.val % 12 * 688 + a.val, by omega⟩

/-- The pair of column blocks of a point. -/
def pr (t : Fin cfg0.N) : Fin 4 := ⟨t.val / 12, by have := (idx t).2.2.2.2.2.2.2.2.2; omega⟩

theorem blk0 (c : Dev nD) (t : Fin cfg0.N) (a : Fin 688) (k : Fin 1024) :
    iblk m c 0 t (ix2 a k) = m ((c : Thread nD τ).loc main_arg3) (ix2 (row t a) k) := by
  unfold row
  blk_point [iblk, V, idx t]

theorem blk3 (c : Dev nD) (t : Fin cfg0.N) (l : Fin 704) (k : Fin 1024) :
    iblk m c 3 t (ix3 0 l k) = m ((c : Thread nD τ).loc main_arg2) (ix2 (col (pr t) l) k) := by
  unfold pr col
  blk_point [iblk, V, idx t]

/-- The gate's argument, as the host adds the bias. -/
def uarg (x0 : FVec Ideal S8256x5632 .f32) (x1 : FVec Ideal S5632 .f32) : FVec Ideal S8256x5632 .bf16 :=
  truncf .bf16 (addf x0 (broadcastInDim S8256x5632 ![0, 1] bcast_S1x5632_S8256x5632_0_1
    (broadcastInDim S1x5632 ![1] bcast_S5632_S1x5632_1 x1))) bitsLt_bf16_f32

theorem uarg_apply (x0 : FVec Ideal S8256x5632 .f32) (x1 : FVec Ideal S5632 .f32)
    (r : Fin 8256) (q : Fin 5632) : uarg x0 x1 (ix2 r q) = pre x0 x1 r q := by
  unfold pre
  pointwise! [uarg]

/-- The first half of the gate's argument, as the host lays it out by pairs of column blocks. -/
theorem fst_pairs (x0 : FVec Ideal S8256x5632 .f32) (x1 : FVec Ideal S5632 .f32)
    (p : Fin 4) (r : Fin 8256) (l : Fin 704) :
    shapeCast S4x8256x704 (extractStridedSlice S1x4x8256x704 ![0, 0, 0, 0] (transpose S2x4x8256x704 [1, 2, 0, 3]
      (fun i => shapeCast S8256x2x4x704 (uarg x0 x1) shapeCasts_S8256x5632_S8256x2x4x704 i)
      transposes_S8256x2x4x704_S2x4x8256x704_1_2_0_3) slices_S2x4x8256x704_S1x4x8256x704_0_0_0_0)
      shapeCasts_S1x4x8256x704_S4x8256x704 (ix3 p r l) = pre x0 x1 r (fst (col p l)) := by
  rw [← uarg_apply]
  unfold fst col
  generalize uarg x0 x1 = y
  pointwise!

theorem blk1 (c : Dev nD) (t : Fin cfg0.N) (a : Fin 688) (l : Fin 704) :
    iblk m c 1 t (ix3 0 a l)
      = pre (m ((c : Thread nD τ).loc main_arg0)) (m ((c : Thread nD τ).loc main_arg1)) (row t a) (fst (col (pr t) l)) := by
  have e : ((cfg0.win 1).blk t).view.emb (ix3 0 a l) = ix3 (n0 := 4) (n1 := 8256) (n2 := 704) (pr t) (row t a) l := by
    unfold pr row
    blk_ext [idx t]
  unfold iblk
  blk_simp
  rw [e]
  entry_read
  exact fst_pairs _ _ _ _ _

/-- The second half of the gate's argument, as the host lays it out by pairs of column blocks. -/
theorem snd_pairs (x0 : FVec Ideal S8256x5632 .f32) (x1 : FVec Ideal S5632 .f32)
    (p : Fin 4) (r : Fin 8256) (l : Fin 704) :
    shapeCast S4x8256x704 (extractStridedSlice S1x4x8256x704 ![1, 0, 0, 0] (transpose S2x4x8256x704 [1, 2, 0, 3]
      (fun i => shapeCast S8256x2x4x704 (uarg x0 x1) shapeCasts_S8256x5632_S8256x2x4x704 i)
      transposes_S8256x2x4x704_S2x4x8256x704_1_2_0_3) slices_S2x4x8256x704_S1x4x8256x704_1_0_0_0)
      shapeCasts_S1x4x8256x704_S4x8256x704 (ix3 p r l) = pre x0 x1 r (snd (col p l)) := by
  rw [← uarg_apply]
  unfold snd col
  generalize uarg x0 x1 = y
  pointwise!

theorem blk2 (c : Dev nD) (t : Fin cfg0.N) (a : Fin 688) (l : Fin 704) :
    iblk m c 2 t (ix3 0 a l)
      = pre (m ((c : Thread nD τ).loc main_arg0)) (m ((c : Thread nD τ).loc main_arg1)) (row t a) (snd (col (pr t) l)) := by
  have e : ((cfg0.win 2).blk t).view.emb (ix3 0 a l) = ix3 (n0 := 4) (n1 := 8256) (n2 := 704) (pr t) (row t a) l := by
    unfold pr row
    blk_ext [idx t]
  unfold iblk
  blk_simp
  rw [e]
  entry_read
  exact snd_pairs _ _ _ _ _

end Operands

section Finals

/-- The reference's column `q` gradient of the product at row `r`. -/
abbrev dactAt (c : Dev nD) (r : Fin 8256) (q : Fin 2816) : EReal :=
  dact (fun k => m ((c : Thread nD τ).loc main_arg3) (ix2 r k)) fun k => m ((c : Thread nD τ).loc main_arg2) (ix2 q k)

/-- The gate's argument at row `r`. -/
abbrev preAt (c : Dev nD) (r : Fin 8256) (q : Fin 5632) : EReal :=
  pre (m ((c : Thread nD τ).loc main_arg0)) (m ((c : Thread nD τ).loc main_arg1)) r q

theorem dact_blk (c : Dev nD) (t : Fin cfg0.N) (a : Fin 688) (l : Fin 704) :
    dact (fun k => (show EReal from iblk m c 0 t (ix2 a k))) (fun k => (show EReal from iblk m c 3 t (ix3 0 l k)))
      = dactAt m c (row t a) (col (pr t) l) := by
  unfold dactAt dact
  exact Finset.sum_congr rfl fun k _ => Ideal.mul_congr (blk0 m c t a k) (blk3 m c t l k)

/-- All entries the gradient reads are real numbers. -/
def Real (c : Dev nD) : Prop := (∀ r q, IsReal (preAt m c r q)) ∧ ∀ r q, IsReal (dactAt m c r q)

/-- A point's entry of the first half's gradient. -/
theorem gate_blk (c : Dev nD) (hr : Real m c) (t : Fin cfg0.N) (a : Fin 688) (l : Fin 704) :
    dgateProd (dact (fun k => (show EReal from iblk m c 0 t (ix2 a k))) fun k => (show EReal from iblk m c 3 t (ix3 0 l k)))
        (iblk m c 1 t (ix3 0 a l)) (iblk m c 2 t (ix3 0 a l))
      = val_main_v14 (F := Ideal) (m ((c : Thread nD τ).loc main_arg0)) (m ((c : Thread nD τ).loc main_arg1))
          (m ((c : Thread nD τ).loc main_arg2)) (m ((c : Thread nD τ).loc main_arg3)) (ix2 (row t a) (col (pr t) l)) := by
  rw [v14_apply, dact_blk, blk1, blk2]
  exact dgateProd_eq (hr.2 _ _) (hr.1 _ _) (hr.1 _ _)

/-- A point's entry of the second half's gradient. -/
theorem val_blk (c : Dev nD) (t : Fin cfg0.N) (a : Fin 688) (l : Fin 704) :
    dval (dact (fun k => (show EReal from iblk m c 0 t (ix2 a k))) fun k => (show EReal from iblk m c 3 t (ix3 0 l k)))
        (iblk m c 1 t (ix3 0 a l))
      = val_main_v11 (F := Ideal) (m ((c : Thread nD τ).loc main_arg0)) (m ((c : Thread nD τ).loc main_arg1))
          (m ((c : Thread nD τ).loc main_arg2)) (m ((c : Thread nD τ).loc main_arg3)) (ix2 (row t a) (col (pr t) l)) := by
  rw [v11_apply, dact_blk, blk1]

theorem emb4 (t : Fin cfg0.N) (a : Fin 688) (l : Fin 704) : ((cfg0.win 4).blk t).view.emb (ix3 0 a l)
    = ix3 (n0 := 4) (n1 := 8256) (n2 := 704) (pr t) (row t a) l := by
  unfold pr row
  blk_ext [idx t]

theorem emb5 (t : Fin cfg0.N) (a : Fin 688) (l : Fin 704) : ((cfg0.win 5).blk t).view.emb (ix3 0 a l)
    = ix3 (n0 := 4) (n1 := 8256) (n2 := 704) (pr t) (row t a) l := by
  unfold pr row
  blk_ext [idx t]

theorem emb6 (t : Fin cfg0.N) (l : Fin 704) (k : Fin 1024) : ((cfg0.win 6).blk t).view.emb (ix3 0 l k)
    = ix3 (n0 := 4) (n1 := 704) (n2 := 1024) (pr t) l k := by
  unfold pr
  blk_ext [idx t]

theorem emb7 (t : Fin cfg0.N) (l : Fin 704) : ((cfg0.win 7).blk t).view.emb (ix3 0 0 l)
    = ix3 (n0 := 4) (n1 := 1) (n2 := 704) (pr t) 0 l := by
  unfold pr
  blk_ext [idx t]

theorem emb8 (t : Fin cfg0.N) (l : Fin 704) : ((cfg0.win 8).blk t).view.emb (ix3 0 0 l)
    = ix3 (n0 := 4) (n1 := 1) (n2 := 704) (pr t) 0 l := by
  unfold pr
  blk_ext [idx t]

theorem point4 (c : Dev nD) (hr : Real m c) (t : Fin cfg0.N) (a : Fin 688) (l : Fin 704) :
    k0_pay4 (F := Ideal) (k0_pay16 (iblk m c 0 t) (iblk m c 1 t) (iblk m c 2 t) (iblk m c 3 t)) (k0_pay17 (iblk m c 1 t))
        k0_pay18 (ix3 0 a l)
      = val_main_v25 (F := Ideal) (m ((c : Thread nD τ).loc main_arg0)) (m ((c : Thread nD τ).loc main_arg1))
          (m ((c : Thread nD τ).loc main_arg2)) (m ((c : Thread nD τ).loc main_arg3))
          (((cfg0.win 4).blk t).view.emb (ix3 0 a l)) := by
  rw [emb4, v25_apply, pay4_apply]
  exact gate_blk m c hr t a l

theorem final4 (c : Dev nD) (hr : Real m c) : (dats m 0 c).arrAt 4 cfg0.N
    = val_main_v25 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  idx_vars y
  obtain rfl : y0 = 0 := Subsingleton.elim _ _
  blk_simp
  rw [after0_4]
  by_cases h : t.val % 12 = 0
  · rw [outsAt0_A m c t h]; frame_out; exact point4 m c hr t y1 y2
  · rw [outsAt0_B m c t h]; frame_out; exact point4 m c hr t y1 y2

theorem point5 (c : Dev nD) (t : Fin cfg0.N) (a : Fin 688) (l : Fin 704) :
    k0_pay5 (F := Ideal) (k0_pay15 (iblk m c 0 t) (iblk m c 1 t) (iblk m c 3 t)) (ix3 0 a l)
      = val_main_v27 (F := Ideal) (m ((c : Thread nD τ).loc main_arg0)) (m ((c : Thread nD τ).loc main_arg1))
          (m ((c : Thread nD τ).loc main_arg2)) (m ((c : Thread nD τ).loc main_arg3))
          (((cfg0.win 5).blk t).view.emb (ix3 0 a l)) := by
  rw [emb5, v27_apply, pay5_apply]
  exact val_blk m c t a l

theorem final5 (c : Dev nD) : (dats m 0 c).arrAt 5 cfg0.N
    = val_main_v27 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  idx_vars y
  obtain rfl : y0 = 0 := Subsingleton.elim _ _
  blk_simp
  rw [after0_5]
  by_cases h : t.val % 12 = 0
  · rw [outsAt0_A m c t h]; frame_out; exact point5 m c t y1 y2
  · rw [outsAt0_B m c t h]; frame_out; exact point5 m c t y1 y2

/-- What a point adds to the three accumulated blocks. -/
def term6 (c : Dev nD) (t : Fin cfg0.N) (j : S1x704x1024.Idx) : EReal :=
  ∑ a : Fin 688, act (preAt m c (row t a) (fst (col (pr t) (j 1)))) (preAt m c (row t a) (snd (col (pr t) (j 1))))
    * m ((c : Thread nD τ).loc main_arg3) (ix2 (row t a) (j 2))

def term7 (c : Dev nD) (t : Fin cfg0.N) (j : S1x1x704.Idx) : EReal :=
  ∑ a : Fin 688, val_main_v14 (F := Ideal) (m ((c : Thread nD τ).loc main_arg0)) (m ((c : Thread nD τ).loc main_arg1))
          (m ((c : Thread nD τ).loc main_arg2)) (m ((c : Thread nD τ).loc main_arg3)) (ix2 (row t a) (col (pr t) (j 2)))

def term8 (c : Dev nD) (t : Fin cfg0.N) (j : S1x1x704.Idx) : EReal :=
  ∑ a : Fin 688, val_main_v11 (F := Ideal) (m ((c : Thread nD τ).loc main_arg0)) (m ((c : Thread nD τ).loc main_arg1))
          (m ((c : Thread nD τ).loc main_arg2)) (m ((c : Thread nD τ).loc main_arg3)) (ix2 (row t a) (col (pr t) (j 2)))

theorem step6 (c : Dev nD) (t : Fin cfg0.N) (v : (⟨S1x704x1024, .f32⟩ : BufTy).Contents (Elt Ideal)) (l : Fin 704) (k : Fin 1024) :
    k0_pay14 (F := Ideal) (iblk m c 0 t) (iblk m c 1 t) (iblk m c 2 t) v (ix3 0 l k) = v (ix3 0 l k) + term6 m c t (ix3 0 l k) := by
  rw [pay14_apply]
  refine Ideal.add_congr rfl (Finset.sum_congr rfl fun a _ => Ideal.mul_congr ?_ (blk0 m c t a k))
  rw [blk1, blk2]
  rfl

theorem step7 (c : Dev nD) (hr : Real m c) (t : Fin cfg0.N) (v : (⟨S1x1x704, .f32⟩ : BufTy).Contents (Elt Ideal)) (l : Fin 704) :
    k0_pay2 (F := Ideal) (k0_pay16 (iblk m c 0 t) (iblk m c 1 t) (iblk m c 2 t) (iblk m c 3 t)) (k0_pay17 (iblk m c 1 t))
        k0_pay18 v (ix3 0 0 l) = v (ix3 0 0 l) + term7 m c t (ix3 0 0 l) := by
  rw [pay2_apply]
  exact Ideal.add_congr rfl (Finset.sum_congr rfl fun a _ => gate_blk m c hr t a l)

theorem step8 (c : Dev nD) (t : Fin cfg0.N) (v : (⟨S1x1x704, .f32⟩ : BufTy).Contents (Elt Ideal)) (l : Fin 704) :
    k0_pay3 (F := Ideal) (k0_pay15 (iblk m c 0 t) (iblk m c 1 t) (iblk m c 3 t)) v (ix3 0 0 l)
      = v (ix3 0 0 l) + term8 m c t (ix3 0 0 l) := by
  rw [pay3_apply]
  exact Ideal.add_congr rfl (Finset.sum_congr rfl fun a _ => val_blk m c t a l)

/-- The points of a run: their rows together are all rows, and their pair is one. -/
theorem row_run (t : Fin cfg0.N) (s : Fin 12) (h : 12 * (t.val / 12) + s.val < cfg0.N) (a : Fin 688) (h' : s.val * 688 + a.val < 8256) :
    row ⟨12 * (t.val / 12) + s.val, h⟩ a = ⟨s.val * 688 + a.val, h'⟩ := by
  apply Fin.ext
  show (12 * (t.val / 12) + s.val) % 12 * 688 + a.val = s.val * 688 + a.val
  have := s.isLt
  omega

theorem pr_run (t : Fin cfg0.N) (s : Fin 12) (h : 12 * (t.val / 12) + s.val < cfg0.N) :
    pr ⟨12 * (t.val / 12) + s.val, h⟩ = pr t := by
  apply Fin.ext
  show (12 * (t.val / 12) + s.val) / 12 = t.val / 12
  have := s.isLt
  omega

theorem final6 (c : Dev nD) : (dats m 0 c).arrAt 6 cfg0.N
    = val_main_v28 (F := Ideal) (m ((c : Thread nD τ).loc main_arg0)) (m ((c : Thread nD τ).loc main_arg1))
          (m ((c : Thread nD τ).loc main_arg3)) := by
  refine (dats m 0 c).arrAt_eq_of_covers 6 _ (by decide +kernel) fun t hf y => ?_
  idx_vars y
  obtain rfl : y0 = 0 := Subsingleton.elim _ _
  blk_simp
  rw [after0_6, Pipeline.eq_sum_fin_of_reset_step_apply_of_flush (fun n h => (outsAt0 m c n h).2.2.1) 12 (fun _ => 0) (term6 m c)
    (fun t h j => by
      rw [outsAt0_A m c t h]; frame_out; idx_vars j; obtain rfl : j0 = 0 := Subsingleton.elim _ _
      exact (step6 m c t _ j1 j2).trans (by rw [pay6_apply]))
    (fun t h j => by
      rw [outsAt0_B m c t h]; frame_out; idx_vars j; obtain rfl : j0 = 0 := Subsingleton.elim _ _
      exact step6 m c t _ j1 j2)
    t ((flush0_6 t).mp hf) _, zero_add, emb6, v28_apply]
  refine Fin.sum_mul_add_congr fun s a h => ?_
  rw [row_run t s _ a h, pr_run, v6_apply]
  rfl

theorem final7 (c : Dev nD) (hr : Real m c) : (dats m 0 c).arrAt 7 cfg0.N
    = val_main_v30 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t hf y => ?_
  idx_vars y
  obtain rfl : y0 = 0 := Subsingleton.elim _ _
  obtain rfl : y1 = 0 := Subsingleton.elim _ _
  blk_simp
  rw [after0_7, Pipeline.eq_sum_fin_of_reset_step_apply_of_flush (fun n h => (outsAt0 m c n h).2.2.2.1) 12 (fun _ => 0) (term7 m c)
    (fun t h j => by
      rw [outsAt0_A m c t h]; frame_out; idx_vars j; obtain rfl : j0 = 0 := Subsingleton.elim _ _
      obtain rfl : j1 = 0 := Subsingleton.elim _ _
      exact (step7 m c hr t _ j2).trans (by rw [pay7_apply]))
    (fun t h j => by
      rw [outsAt0_B m c t h]; frame_out; idx_vars j; obtain rfl : j0 = 0 := Subsingleton.elim _ _
      obtain rfl : j1 = 0 := Subsingleton.elim _ _
      exact step7 m c hr t _ j2)
    t ((flush0_7 t).mp hf) _, zero_add, emb7, v30_apply]
  refine Fin.sum_mul_add_congr fun s a h => ?_
  rw [row_run t s _ a h, pr_run]
  rfl

theorem final8 (c : Dev nD) : (dats m 0 c).arrAt 8 cfg0.N
    = val_main_v32 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 8 _ (by decide +kernel) fun t hf y => ?_
  idx_vars y
  obtain rfl : y0 = 0 := Subsingleton.elim _ _
  obtain rfl : y1 = 0 := Subsingleton.elim _ _
  blk_simp
  rw [after0_8, Pipeline.eq_sum_fin_of_reset_step_apply_of_flush (fun n h => (outsAt0 m c n h).2.2.2.2) 12 (fun _ => 0) (term8 m c)
    (fun t h j => by
      rw [outsAt0_A m c t h]; frame_out; idx_vars j; obtain rfl : j0 = 0 := Subsingleton.elim _ _
      obtain rfl : j1 = 0 := Subsingleton.elim _ _
      exact (step8 m c t _ j2).trans (by rw [pay8_apply]))
    (fun t h j => by
      rw [outsAt0_B m c t h]; frame_out; idx_vars j; obtain rfl : j0 = 0 := Subsingleton.elim _ _
      obtain rfl : j1 = 0 := Subsingleton.elim _ _
      exact step8 m c t _ j2)
    t ((flush0_8 t).mp hf) _, zero_add, emb8, v32_apply]
  refine Fin.sum_mul_add_congr fun s a h => ?_
  rw [row_run t s _ a h, pr_run]
  rfl

/-- The precondition makes every entry the gradient reads a real number. -/
theorem real_of_pre [Cert.Pre_gate_finite.Facts] (h : Cert.Pre_GateIdeal_gate_finite m) (c : Dev nD) : Real m c := by
  have h := congrFun (h c) fun a => Fin.elim0 a
  obtain ⟨h, h3⟩ := and_one h
  obtain ⟨h, h2⟩ := and_one h
  obtain ⟨h0, h1⟩ := and_one h
  have r0 := real_of_all _ _ _ _ _ _ _ h0
  have r1 := real_of_all _ _ _ _ _ _ _ h1
  have r2 := real_of_all _ _ _ _ _ _ _ h2
  have r3 := real_of_all _ _ _ _ _ _ _ h3
  exact ⟨fun r q => (r0 _).add (r1 _), fun r q => IsReal.sum fun k => (r3 _).mul (r2 _)⟩

end Finals

end Cert.GateIdeal.Value

namespace Cert.Gate

open Idealize.ShloMosaic Idealize.SL.Sem Cert.GateRefIdeal.Read

/-- The kernel's five gradients of the gated product are the reference's. -/
theorem algebraic [Cert.Pre_gate_finite.Facts] : Cert.algebraic_GateIdeal_GateRefIdeal_pre_gate_finite := by
  pair_intro
  · run_from Cert.GateIdeal.Value.run_blocks m g
  · run_from Cert.GateRefIdeal.Value.run m' g'
    · rw [val_main_v25_eq, (hagree c).1, (hagree c).2.1, (hagree c).2.2.1, (hagree c).2.2.2]
      exact (Cert.GateIdeal.Value.final4 m c (Cert.GateIdeal.Value.real_of_pre m hpre c)).symm
    · rw [val_main_v27_eq, (hagree c).1, (hagree c).2.1, (hagree c).2.2.1, (hagree c).2.2.2]
      exact (Cert.GateIdeal.Value.final5 m c).symm
    · exact (val_main_v28_eq _ _ _).trans (Cert.GateIdeal.Value.final6 m c).symm
    · rw [val_main_v30_eq, (hagree c).1, (hagree c).2.1, (hagree c).2.2.1, (hagree c).2.2.2]
      exact (Cert.GateIdeal.Value.final7 m c (Cert.GateIdeal.Value.real_of_pre m hpre c)).symm
    · rw [val_main_v32_eq, (hagree c).1, (hagree c).2.1, (hagree c).2.2.1, (hagree c).2.2.2]
      exact (Cert.GateIdeal.Value.final8 m c).symm

end Cert.Gate

end
-- ==== Proof.ConvRead.lean ====
/- The reference's gradient through the causal convolution of three taps, the product before it and the norm before
that, read entry by entry. -/
module

public import proofs.«01_k».proof.Proof.Gen.ConvRefIdeal.Run
public import proofs.«01_k».proof.Proof.Gen.ConvRefIdeal.Read
public import Idealize.ShloMosaic.Lib.Pointwise
public import Idealize.ShloMosaic.Lib.Pipeline.ValueKit

@[expose] public section

set_option maxRecDepth 16384

noncomputable section

namespace Cert.ConvRefIdeal.Entry

open Cert.ConvRefIdeal Cert.ConvRefIdeal.Gen Cert.ConvRefIdeal.Read Idealize.ShloMosaic

/-- A sum over the entries that agree on the last axis is the sum over the two axes before it. -/
theorem sum_axes01 {n0 n1 n2 : ℕ} {t : Shape} (h : (⟨3, ![n0, n1, n2]⟩ : Shape).ReducesTo [0, 1] t) (x : FVec Ideal ⟨3, ![n0, n1, n2]⟩ .f32)
    (init : EReal) (j : t.Idx) (q : Fin n2) (h0 : 0 < t.rank) (hq : (j ⟨0, h0⟩).val = q.val) :
    Ideal.hostReduceAdd h x init j = init + ∑ b : Fin n0, ∑ s : Fin n1, x (ix3 b s q) := by
  have hr : t.rank = 1 := h.1
  refine congrArg (init + ·) ?_
  refine (Finset.sum_filter_eq_sum_of_fiber _ (fun k : Fin n0 × Fin n1 => ix3 k.1 k.2 q)
    (fun _ _ e => Prod.ext (congrFun e 0) (congrFun e 1)) (fun i => ?_) x).trans (by simp only [Fintype.sum_prod_type])
  constructor
  · intro e
    refine ⟨(i 0, i 1), ?_⟩
    funext a
    apply Fin.ext
    match a with
    | ⟨0, _⟩ => rfl
    | ⟨1, _⟩ => rfl
    | ⟨2, _⟩ => exact hq.symm.trans (congrArg Fin.val (congrFun e ⟨0, h0⟩)).symm
  · rintro ⟨k, rfl⟩
    funext b
    apply Fin.ext
    match b with
    | ⟨0, _⟩ => exact hq.symm
    | ⟨_ + 1, hb⟩ => exact absurd hb (by omega)

/-- Step `s` of sequence `b`, among all rows. -/
def seq (b : Fin 4) (s : Fin 2064) : Fin 8256 := ⟨b.val * 2064 + s.val, by omega⟩

variable (x0 : (⟨S8256x1024, .f32⟩ : BufTy).Contents (Elt Ideal)) (x1 : (⟨S1x1024, .f32⟩ : BufTy).Contents (Elt Ideal))
  (x2 : (⟨S1024x5632, .f32⟩ : BufTy).Contents (Elt Ideal)) (x3 : (⟨S3x5632, .f32⟩ : BufTy).Contents (Elt Ideal))
  (x4 : (⟨S8256x5632, .bf16⟩ : BufTy).Contents (Elt Ideal)) (x5 : (⟨S8256x1024, .f32⟩ : BufTy).Contents (Elt Ideal))

/-- The cotangent `d` steps ahead within its sequence, zero past the end. -/
def ahead (d : ℕ) (b : Fin 4) (s : Fin 2064) (q : Fin 5632) : EReal :=
  if h : s.val + d < 2064 then x4 (ix2 (seq b ⟨s.val + d, h⟩) q) else 0

/-- The gradient of the convolution's argument. -/
def dconv (b : Fin 4) (s : Fin 2064) (q : Fin 5632) : EReal :=
  x4 (ix2 (seq b s) q) * x3 (ix2 2 q) + ahead x4 1 b s q * x3 (ix2 1 q) + ahead x4 2 b s q * x3 (ix2 0 q)

theorem v43_apply (b : Fin 4) (s : Fin 2064) (q : Fin 5632) :
    val_main_v43 (F := Ideal) x4 (ix3 b s q) = x4 (ix2 (seq b s) q) := by
  unfold seq
  pointwise! [val_main_v43, val_main_v42]

theorem v48_apply (b : Fin 4) (s : Fin 2064) (q : Fin 5632) :
    val_main_v48 (F := Ideal) x3 x4 (ix3 b s q) = x4 (ix2 (seq b s) q) * x3 (ix2 2 q) := by
  rw [← v43_apply x4]
  unfold val_main_v48
  generalize val_main_v43 (F := Ideal) x4 = y
  pointwise! [val_main_v47, val_main_v38, val_main_v37, val_main_v36]

theorem v57_apply (b : Fin 4) (s : Fin 2064) (q : Fin 5632) :
    val_main_v57 (F := Ideal) x3 x4 (ix3 b s q) = x4 (ix2 (seq b s) q) * x3 (ix2 1 q) := by
  rw [← v43_apply x4]
  unfold val_main_v57
  generalize val_main_v43 (F := Ideal) x4 = y
  pointwise! [val_main_v56, val_main_v31, val_main_v30, val_main_v29]

theorem v68_apply (b : Fin 4) (s : Fin 2064) (q : Fin 5632) :
    val_main_v68 (F := Ideal) x3 x4 (ix3 b s q) = x4 (ix2 (seq b s) q) * x3 (ix2 0 q) := by
  rw [← v43_apply x4]
  unfold val_main_v68
  generalize val_main_v43 (F := Ideal) x4 = y
  pointwise! [val_main_v67, val_main_v23, val_main_v22, val_main_v21]

theorem v52_apply (b : Fin 4) (s : Fin 2064) (q : Fin 5632) (h : s.val + 2 < 2066) :
    val_main_v52 (F := Ideal) x3 x4 (ix3 b ⟨s.val + 2, h⟩ q) = x4 (ix2 (seq b s) q) * x3 (ix2 2 q) := by
  rw [← v48_apply x3 x4]
  unfold val_main_v52
  generalize val_main_v48 (F := Ideal) x3 x4 = y
  pointwise! [val_main_cst_9]
  exact dif_pos s.isLt

theorem v62_apply (b : Fin 4) (s : Fin 2064) (q : Fin 5632) (h : s.val + 2 < 2066) :
    val_main_v62 (F := Ideal) x3 x4 (ix3 b ⟨s.val + 2, h⟩ q) = ahead x4 1 b s q * x3 (ix2 1 q) := by
  have e : ahead x4 1 b s q * x3 (ix2 1 q)
      = if h : s.val + 1 < 2064 then val_main_v57 (F := Ideal) x3 x4 (ix3 b ⟨s.val + 1, h⟩ q) else 0 := by
    unfold ahead
    split
    · rw [v57_apply]
    · exact zero_mul _
  rw [e]
  unfold val_main_v62
  generalize val_main_v57 (F := Ideal) x3 x4 = y
  pointwise! [val_main_cst_13]

theorem v73_apply (b : Fin 4) (s : Fin 2064) (q : Fin 5632) (h : s.val + 2 < 2066) :
    val_main_v73 (F := Ideal) x3 x4 (ix3 b ⟨s.val + 2, h⟩ q) = ahead x4 2 b s q * x3 (ix2 0 q) := by
  have e : ahead x4 2 b s q * x3 (ix2 0 q)
      = if h : s.val + 2 < 2064 then val_main_v68 (F := Ideal) x3 x4 (ix3 b ⟨s.val + 2, h⟩ q) else 0 := by
    unfold ahead
    split
    · rw [v68_apply]
    · exact zero_mul _
  rw [e]
  unfold val_main_v73
  generalize val_main_v68 (F := Ideal) x3 x4 = y
  pointwise! [val_main_cst_17]

theorem v74_apply (b : Fin 4) (s : Fin 2064) (q : Fin 5632) (h : s.val + 2 < 2066) :
    val_main_v74 (F := Ideal) x3 x4 (ix3 b ⟨s.val + 2, h⟩ q) = dconv x3 x4 b s q := by
  unfold dconv
  rw [val_main_v74_apply, val_main_v63_apply, v52_apply, v62_apply, v73_apply]
  rfl

theorem v76_apply (b : Fin 4) (s : Fin 2064) (q : Fin 5632) :
    val_main_v76 (F := Ideal) x3 x4 (ix3 b s q) = dconv x3 x4 b s q := by
  rw [← v74_apply x3 x4 b s q (by omega)]
  unfold val_main_v76
  generalize val_main_v74 (F := Ideal) x3 x4 = y
  pointwise!

theorem v77_apply (b : Fin 4) (s : Fin 2064) (q : Fin 5632) :
    val_main_v77 (F := Ideal) x3 x4 (ix2 (seq b s) q) = dconv x3 x4 b s q := by
  rw [← v76_apply x3 x4]
  unfold val_main_v77 seq
  generalize val_main_v76 (F := Ideal) x3 x4 = y
  pointwise!

/-- The column of lane `l` of pair `p` of the first half. -/
def fst (p : Fin 4) (l : Fin 704) : Fin 5632 := ⟨p.val * 704 + l.val, by omega⟩

/-- The column of lane `l` of pair `p` of the second half. -/
def snd (p : Fin 4) (l : Fin 704) : Fin 5632 := ⟨2816 + p.val * 704 + l.val, by omega⟩

theorem v104_apply (p : Fin 4) (r : Fin 8256) (l : Fin 704) :
    val_main_v104 (F := Ideal) x3 x4 (ix3 p r l) = val_main_v77 (F := Ideal) x3 x4 (ix2 r (fst p l)) := by
  unfold val_main_v104 val_main_v103 val_main_v100 val_main_v99 val_main_v98 fst
  generalize val_main_v77 (F := Ideal) x3 x4 = y
  pointwise!

theorem v106_apply (p : Fin 4) (r : Fin 8256) (l : Fin 704) :
    val_main_v106 (F := Ideal) x3 x4 (ix3 p r l) = val_main_v77 (F := Ideal) x3 x4 (ix2 r (snd p l)) := by
  unfold val_main_v106 val_main_v105 val_main_v100 val_main_v99 val_main_v98 snd
  generalize val_main_v77 (F := Ideal) x3 x4 = y
  pointwise!

/-- A row's mean square, with the small constant that keeps it from zero. -/
def msq (x : Fin 1024 → EReal) : EReal :=
  Ideal.div (∑ k, x k * x k) (Ideal.ofBits .f32 0x44800000#32) + Ideal.ofBits .f32 0x358637BD#32

theorem v6_apply (r : Fin 8256) : val_main_v6 (F := Ideal) x0 (ix2 r 0) = msq fun k => x0 (ix2 r k) := by
  unfold msq
  pointwise! [val_main_v6, val_main_v5, val_main_v4, val_main_v3, val_main_v2, val_main_v1, val_main_v0, val_main_cst,
    val_main_cst_0, val_main_cst_1]

/-- The gradient of the product's left operand. -/
def dz (r : Fin 8256) (k : Fin 1024) : EReal := ∑ q : Fin 5632, val_main_v77 (F := Ideal) x3 x4 (ix2 r q) * x2 (ix2 k q)

theorem v78_apply (r : Fin 8256) (k : Fin 1024) : val_main_v78 (F := Ideal) x2 x3 x4 (ix2 r k) = dz x2 x3 x4 r k := by
  unfold dz val_main_v78
  generalize val_main_v77 (F := Ideal) x3 x4 = y
  pointwise!

/-- What a row adds to the gradient of the norm's gain. -/
def gain (x z : Fin 1024 → EReal) (k : Fin 1024) : EReal := x k * Ideal.rsqrt (msq x) * z k

theorem v79_apply (r : Fin 8256) (k : Fin 1024) : val_main_v79 (F := Ideal) x0 x2 x3 x4 (ix2 r k)
    = gain (fun k => x0 (ix2 r k)) (dz x2 x3 x4 r) k := by
  unfold gain
  rw [← v6_apply, ← v78_apply]
  unfold val_main_v79
  generalize val_main_v78 (F := Ideal) x2 x3 x4 = y
  unfold val_main_v12 val_main_v11 val_main_v7
  generalize val_main_v6 (F := Ideal) x0 = y'
  pointwise!

theorem v81_apply (k : Fin 1024) : val_main_v81 (F := Ideal) x0 x2 x3 x4 (ix2 (0 : Fin 1) k)
    = ∑ r : Fin 8256, gain (fun k => x0 (ix2 r k)) (dz x2 x3 x4 r) k := by
  refine Eq.trans ?_ (Finset.sum_congr rfl fun r _ => v79_apply x0 x2 x3 x4 r k)
  unfold val_main_v81 val_main_v80
  generalize val_main_v79 (F := Ideal) x0 x2 x3 x4 = y
  pointwise! [val_main_cst_18]

/-- The gradient of the norm's argument, a row at a time. -/
def dnorm (x g z : Fin 1024 → EReal) (k : Fin 1024) : EReal :=
  z k * g k * Ideal.rsqrt (msq x)
    + x k * Ideal.div ((∑ j, x j * (z j * g j)) * (Ideal.ofBits .f32 0xBF000000#32 * Ideal.div (Ideal.rsqrt (msq x)) (msq x)))
        (Ideal.ofBits .f32 0x44800000#32)
    + Ideal.div ((∑ j, x j * (z j * g j)) * (Ideal.ofBits .f32 0xBF000000#32 * Ideal.div (Ideal.rsqrt (msq x)) (msq x)))
        (Ideal.ofBits .f32 0x44800000#32) * x k

theorem v83_apply (r : Fin 8256) (k : Fin 1024) : val_main_v83 (F := Ideal) x1 x2 x3 x4 (ix2 r k)
    = dz x2 x3 x4 r k * x1 (ix2 0 k) := by
  rw [← v78_apply]
  unfold val_main_v83
  generalize val_main_v78 (F := Ideal) x2 x3 x4 = y
  pointwise! [val_main_v82]

theorem v86_apply (r : Fin 8256) : val_main_v86 (F := Ideal) x0 x1 x2 x3 x4 (ix2 r 0)
    = ∑ j, x0 (ix2 r j) * (dz x2 x3 x4 r j * x1 (ix2 0 j)) := by
  refine Eq.trans ?_ (Finset.sum_congr rfl fun j _ => congrArg (x0 (ix2 r j) * ·) (v83_apply x1 x2 x3 x4 r j))
  unfold val_main_v86 val_main_v85 val_main_v84
  generalize val_main_v83 (F := Ideal) x1 x2 x3 x4 = y
  pointwise! [val_main_cst_19]

theorem v91_apply (r : Fin 8256) : val_main_v91 (F := Ideal) x0 x1 x2 x3 x4 (ix2 r 0)
    = Ideal.div ((∑ j, x0 (ix2 r j) * (dz x2 x3 x4 r j * x1 (ix2 0 j)))
        * (Ideal.ofBits .f32 0xBF000000#32 * Ideal.div (Ideal.rsqrt (msq fun k => x0 (ix2 r k))) (msq fun k => x0 (ix2 r k))))
        (Ideal.ofBits .f32 0x44800000#32) := by
  rw [← v6_apply, ← v86_apply x0 x1 x2 x3 x4]
  unfold val_main_v91 val_main_v89
  generalize val_main_v86 (F := Ideal) x0 x1 x2 x3 x4 = y
  unfold val_main_v10 val_main_v8 val_main_v7
  generalize val_main_v6 (F := Ideal) x0 = y'
  pointwise! [val_main_v90, val_main_v9, val_main_cst_20, val_main_cst_2]

theorem v93_apply (r : Fin 8256) (k : Fin 1024) : val_main_v93 (F := Ideal) x0 x1 x2 x3 x4 (ix2 r k)
    = val_main_v91 (F := Ideal) x0 x1 x2 x3 x4 (ix2 r 0) := by
  unfold val_main_v93 val_main_v92
  generalize val_main_v91 (F := Ideal) x0 x1 x2 x3 x4 = y
  pointwise! [val_main_cst_21]
  exact Fin.sum_univ_one _

theorem v107_apply (r : Fin 8256) (k : Fin 1024) : val_main_v107 (F := Ideal) x0 x1 x2 x3 x4 x5 (ix2 r k)
    = x5 (ix2 r k) + dnorm (fun k => x0 (ix2 r k)) (fun k => x1 (ix2 0 k)) (dz x2 x3 x4 r) k := by
  unfold dnorm
  rw [← v91_apply x0 x1 x2 x3 x4, ← v93_apply x0 x1 x2 x3 x4 r k, ← v83_apply x1 x2 x3 x4, ← v6_apply]
  unfold val_main_v107 val_main_v97 val_main_v96 val_main_v95 val_main_v94 val_main_v88
  generalize val_main_v93 (F := Ideal) x0 x1 x2 x3 x4 = y
  generalize val_main_v83 (F := Ideal) x1 x2 x3 x4 = y'
  unfold val_main_v87 val_main_v7
  generalize val_main_v6 (F := Ideal) x0 = y''
  pointwise!

/-- The convolution's argument, `d` steps back within its sequence, zero before the start. -/
def back (d : ℕ) (b : Fin 4) (s : Fin 2064) (q : Fin 5632) : EReal :=
  if h : d ≤ s.val then val_main_v15 (F := Ideal) x0 x1 x2 (ix2 (seq b ⟨s.val - d, by omega⟩) q) else 0

theorem v16_apply (b : Fin 4) (s : Fin 2064) (q : Fin 5632) :
    val_main_v16 (F := Ideal) x0 x1 x2 (ix3 b s q) = val_main_v15 (F := Ideal) x0 x1 x2 (ix2 (seq b s) q) := by
  unfold val_main_v16 seq
  generalize val_main_v15 (F := Ideal) x0 x1 x2 = y
  pointwise!

theorem v18_apply (b : Fin 4) (s : Fin 2066) (q : Fin 5632) : val_main_v18 (F := Ideal) x0 x1 x2 (ix3 b s q)
    = if h : 2 ≤ s.val then val_main_v16 (F := Ideal) x0 x1 x2 (ix3 b ⟨s.val - 2, by omega⟩ q) else 0 := by
  unfold val_main_v18
  generalize val_main_v16 (F := Ideal) x0 x1 x2 = y
  pointwise! [val_main_v17, val_main_cst_3]
  by_cases h : 2 ≤ s.val
  · rw [dif_neg (show ¬s.val < 2 by omega), dif_pos h]
  · rw [dif_pos (show s.val < 2 by omega), dif_neg h]

theorem v18_back (d : ℕ) (b : Fin 4) (s : Fin 2064) (q : Fin 5632) (hd : d ≤ 2) :
    val_main_v18 (F := Ideal) x0 x1 x2 (ix3 b ⟨s.val + (2 - d), by omega⟩ q) = back x0 x1 x2 d b s q := by
  rw [v18_apply]
  unfold back
  by_cases h : d ≤ s.val
  · rw [dif_pos h, dif_pos (show 2 ≤ s.val + (2 - d) by omega), v16_apply]
    exact congrArg (fun e => val_main_v15 (F := Ideal) x0 x1 x2 (ix2 (seq b e) q)) (Fin.ext (by show s.val + (2 - d) - 2 = s.val - d; omega))
  · rw [dif_neg h, dif_neg (show ¬2 ≤ s.val + (2 - d) by omega)]

/-- The gradient of the tap that reads `d` steps back. -/
def dtap (d : ℕ) (q : Fin 5632) : EReal := ∑ b : Fin 4, ∑ s : Fin 2064, back x0 x1 x2 d b s q * x4 (ix2 (seq b s) q)

theorem v45_apply (q : Fin 5632) : val_main_v45 (F := Ideal) x0 x1 x2 x4 (ix1 q) = dtap x0 x1 x2 x4 0 q := by
  unfold val_main_v45 dtap
  refine (sum_axes01 _ _ _ (ix1 q) q (by decide) rfl).trans ?_
  simp only [← v18_back x0 x1 x2 0 _ _ q (by decide), ← v43_apply x4]
  unfold val_main_v44 val_main_v35
  generalize val_main_v18 (F := Ideal) x0 x1 x2 = y
  generalize val_main_v43 (F := Ideal) x4 = y'
  pointwise! [val_main_cst_6]

theorem v54_apply (q : Fin 5632) : val_main_v54 (F := Ideal) x0 x1 x2 x4 (ix1 q) = dtap x0 x1 x2 x4 1 q := by
  unfold val_main_v54 dtap
  refine (sum_axes01 _ _ _ (ix1 q) q (by decide) rfl).trans ?_
  simp only [← v18_back x0 x1 x2 1 _ _ q (by decide), ← v43_apply x4]
  unfold val_main_v53 val_main_v28
  generalize val_main_v18 (F := Ideal) x0 x1 x2 = y
  generalize val_main_v43 (F := Ideal) x4 = y'
  pointwise! [val_main_cst_10]

theorem v65_apply (q : Fin 5632) : val_main_v65 (F := Ideal) x0 x1 x2 x4 (ix1 q) = dtap x0 x1 x2 x4 2 q := by
  unfold val_main_v65 dtap
  refine (sum_axes01 _ _ _ (ix1 q) q (by decide) rfl).trans ?_
  simp only [← v18_back x0 x1 x2 2 _ _ q (by decide), ← v43_apply x4]
  unfold val_main_v64 val_main_v20
  generalize val_main_v18 (F := Ideal) x0 x1 x2 = y
  generalize val_main_v43 (F := Ideal) x4 = y'
  pointwise! [val_main_cst_14]

/-- A sum over the two axes of extent one. -/
theorem sum_ones (y : FVec Ideal S5632 .f32) (init : FVec Ideal S_ .f32) (hc : S5632.ShapeCasts S1x1x5632)
    (hr : S1x1x5632.ReducesTo [0, 1] S5632) (hn : 0 < S_.numel) (hi : ∀ i, init i = 0) (q : Fin 5632) :
    Host.reduceAdd (F := Ideal) (shapeCast S1x1x5632 y hc) init hr hn (ix1 q) = y (ix1 q) := by
  refine (sum_axes01 _ _ _ (ix1 q) q (by decide) rfl).trans ?_
  rw [Fin.sum_univ_one, Fin.sum_univ_one, hi, zero_add]
  pointwise!

theorem v51_apply (k : Fin 3) (q : Fin 5632) :
    val_main_v51 (F := Ideal) x0 x1 x2 x4 (ix2 k q) = if k.val = 2 then dtap x0 x1 x2 x4 0 q else 0 := by
  rw [← v45_apply]
  unfold val_main_v51 val_main_v50 val_main_v49 val_main_v46
  generalize val_main_v45 (F := Ideal) x0 x1 x2 x4 = y
  rw [← sum_ones y (val_main_cst_7 (F := Ideal)) shapeCasts_S5632_S1x1x5632 reducesTo_S1x1x5632_S5632_d0_1 h_S_ (fun _ => by pointwise! [val_main_cst_7]) q]
  generalize Host.reduceAdd (F := Ideal) (s := S1x1x5632) _ _ _ _ = y'
  pointwise! [val_main_cst_8]
  fin_cases k <;> rfl

theorem v60_apply (k : Fin 3) (q : Fin 5632) :
    val_main_v60 (F := Ideal) x0 x1 x2 x4 (ix2 k q) = if k.val = 1 then dtap x0 x1 x2 x4 1 q else 0 := by
  rw [← v54_apply]
  unfold val_main_v60 val_main_v59 val_main_v58 val_main_v55
  generalize val_main_v54 (F := Ideal) x0 x1 x2 x4 = y
  rw [← sum_ones y (val_main_cst_11 (F := Ideal)) shapeCasts_S5632_S1x1x5632 reducesTo_S1x1x5632_S5632_d0_1 h_S_ (fun _ => by pointwise! [val_main_cst_11]) q]
  generalize Host.reduceAdd (F := Ideal) (s := S1x1x5632) _ _ _ _ = y'
  pointwise! [val_main_cst_12]
  fin_cases k <;> rfl

theorem v71_apply (k : Fin 3) (q : Fin 5632) :
    val_main_v71 (F := Ideal) x0 x1 x2 x4 (ix2 k q) = if k.val = 0 then dtap x0 x1 x2 x4 2 q else 0 := by
  rw [← v65_apply]
  unfold val_main_v71 val_main_v70 val_main_v69 val_main_v66
  generalize val_main_v65 (F := Ideal) x0 x1 x2 x4 = y
  rw [← sum_ones y (val_main_cst_15 (F := Ideal)) shapeCasts_S5632_S1x1x5632 reducesTo_S1x1x5632_S5632_d0_1 h_S_ (fun _ => by pointwise! [val_main_cst_15]) q]
  generalize Host.reduceAdd (F := Ideal) (s := S1x1x5632) _ _ _ _ = y'
  pointwise! [val_main_cst_16]
  fin_cases k <;> rfl

theorem v72_apply (k : Fin 3) (q : Fin 5632) :
    val_main_v72 (F := Ideal) x0 x1 x2 x4 (ix2 k q) = dtap x0 x1 x2 x4 (2 - k.val) q := by
  rw [val_main_v72_apply, val_main_v61_apply, v51_apply, v60_apply, v71_apply]
  match k with
  | ⟨0, _⟩ => exact (congrArg (· + _) (zero_add (0 : EReal))).trans (zero_add _)
  | ⟨1, _⟩ => exact (add_zero (0 + dtap x0 x1 x2 x4 1 q)).trans (zero_add _)
  | ⟨2, _⟩ => exact (add_zero (dtap x0 x1 x2 x4 0 q + 0)).trans (add_zero _)

theorem v109_apply (p : Fin 4) (k : Fin 3) (l : Fin 704) :
    val_main_v109 (F := Ideal) x0 x1 x2 x4 (ix3 p k l) = dtap x0 x1 x2 x4 (2 - k.val) (fst p l) := by
  rw [← v72_apply]
  unfold val_main_v109 val_main_v108 val_main_v102 val_main_v101 fst
  generalize val_main_v72 (F := Ideal) x0 x1 x2 x4 = y
  pointwise!

theorem v111_apply (p : Fin 4) (k : Fin 3) (l : Fin 704) :
    val_main_v111 (F := Ideal) x0 x1 x2 x4 (ix3 p k l) = dtap x0 x1 x2 x4 (2 - k.val) (snd p l) := by
  rw [← v72_apply]
  unfold val_main_v111 val_main_v110 val_main_v102 val_main_v101 snd
  generalize val_main_v72 (F := Ideal) x0 x1 x2 x4 = y
  pointwise!

/-- A sum over all columns is a sum over the pairs of column blocks. -/
theorem sum_cols (f : Fin 5632 → EReal) : ∑ p : Fin 4, (∑ l : Fin 704, f (fst p l) + ∑ l : Fin 704, f (snd p l)) = ∑ q, f q := by
  rw [Finset.sum_add_distrib]
  refine Eq.trans ?_ (Fin.sum_univ_add (a := 2816) (b := 2816) f).symm
  congr 1
  · exact Fin.sum_mul_add_congr (f := fun q : Fin 2816 => f (Fin.castAdd 2816 q)) fun p l h => rfl
  · refine Fin.sum_mul_add_congr (f := fun q : Fin 2816 => f (Fin.natAdd 2816 q)) fun p l h => congrArg f (Fin.ext ?_)
    show 2816 + p.val * 704 + l.val = 2816 + (p.val * 704 + l.val)
    omega

/-- Multiplying by what comes `d` steps later or by what came `d` steps earlier gives one sum. -/
theorem sum_shift (d : ℕ) (v u : Fin 2064 → EReal) :
    ∑ s : Fin 2064, v s * (if h : s.val + d < 2064 then u ⟨s.val + d, h⟩ else 0)
      = ∑ s : Fin 2064, (if h : d ≤ s.val then v ⟨s.val - d, by omega⟩ else 0) * u s := by
  let V : ℕ → EReal := fun k => if h : k < 2064 then v ⟨k, h⟩ else 0
  let U : ℕ → EReal := fun k => if h : k < 2064 then u ⟨k, h⟩ else 0
  let W : ℕ → EReal := fun k => if d ≤ k then V (k - d) * U k else 0
  have e1 : ∑ k ∈ Finset.range (d + 2064), W k = ∑ k ∈ Finset.range 2064, V k * U (k + d) := by
    rw [Finset.sum_range_add, Finset.sum_eq_zero fun k hk => if_neg (by have := Finset.mem_range.mp hk; omega), zero_add]
    exact Finset.sum_congr rfl fun k _ => by
      show (if d ≤ d + k then V (d + k - d) * U (d + k) else 0) = _
      rw [if_pos (by omega), Nat.add_sub_cancel_left, Nat.add_comm d k]
  have e2 : ∑ k ∈ Finset.range (d + 2064), W k = ∑ k ∈ Finset.range 2064, W k := by
    rw [Nat.add_comm, Finset.sum_range_add, Finset.sum_eq_zero (s := Finset.range d) fun k hk => ?_, add_zero]
    show (if d ≤ 2064 + k then V (2064 + k - d) * (if h : 2064 + k < 2064 then u ⟨2064 + k, h⟩ else 0) else 0) = 0
    rw [dif_neg (show ¬2064 + k < 2064 by omega), mul_zero, ite_self]
  have l : ∑ s : Fin 2064, v s * (if h : s.val + d < 2064 then u ⟨s.val + d, h⟩ else 0) = ∑ k ∈ Finset.range 2064, V k * U (k + d) := by
    rw [← Fin.sum_univ_eq_sum_range (fun k => V k * U (k + d))]
    exact Finset.sum_congr rfl fun s _ => by
      show _ = (if h : s.val < 2064 then v ⟨s.val, h⟩ else 0) * _
      rw [dif_pos s.isLt]
  have r : ∑ s : Fin 2064, (if h : d ≤ s.val then v ⟨s.val - d, by omega⟩ else 0) * u s = ∑ k ∈ Finset.range 2064, W k := by
    rw [← Fin.sum_univ_eq_sum_range W]
    refine Finset.sum_congr rfl fun s _ => ?_
    show _ = (if d ≤ s.val then (if h : s.val - d < 2064 then v ⟨s.val - d, h⟩ else 0) * (if h : s.val < 2064 then u ⟨s.val, h⟩ else 0) else 0)
    rw [dif_pos s.isLt]
    by_cases h : d ≤ s.val
    · rw [dif_pos h, if_pos h, dif_pos (show s.val - d < 2064 by omega)]
    · rw [dif_neg h, if_neg h, zero_mul]
  rw [l, r, ← e1, e2]

/-- The gradient of a tap, as a sum over what comes later. -/
theorem dtap_eq (d : ℕ) (q : Fin 5632) : dtap x0 x1 x2 x4 d q
    = ∑ b : Fin 4, ∑ s : Fin 2064, val_main_v15 (F := Ideal) x0 x1 x2 (ix2 (seq b s) q) * ahead x4 d b s q :=
  Finset.sum_congr rfl fun b _ => (sum_shift d (fun s => val_main_v15 (F := Ideal) x0 x1 x2 (ix2 (seq b s) q)) fun s => x4 (ix2 (seq b s) q)).symm

open Idealize.SL.Sem Cert.ConvRefIdeal.Gen in
/-- What the reference's results hold, as its named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = val_main_v104 (F := Ideal) (m ((c.tc : Thread nD τ).loc main_arg3)) (m ((c.tc : Thread nD τ).loc main_arg4))
      ∧ r.2.mem ((c.tc : Thread nD τ).loc main_v106) = val_main_v106 (F := Ideal) (m ((c.tc : Thread nD τ).loc main_arg3)) (m ((c.tc : Thread nD τ).loc main_arg4))
      ∧ r.2.mem ((c.tc : Thread nD τ).loc main_v107) = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = val_main_v81 (F := Ideal) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v109) = val_main_v109 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v111) = val_main_v111 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v104_eq _ _),
      (h c).2.1.trans (val_main_v106_eq _ _),
      (h c).2.2.1.trans (val_main_v107_eq m c),
      (h c).2.2.2.1.trans (val_main_v81_eq _ _ _ _),
      (h c).2.2.2.2.1.trans (val_main_v109_eq m c),
      (h c).2.2.2.2.2.1.trans (val_main_v111_eq m c),
      (h c).2.2.2.2.2.2⟩) (Cert.ConvRefIdeal.Value.run m ρ)

end Cert.ConvRefIdeal.Entry

end
-- ==== Proof.ConvValue.lean ====
/- The gradient through the causal convolution of three taps, the product before it and the norm before that: the six
arrays the kernel leaves are the reference's. -/
module

public import proofs.«01_k».proof.Defs
public import proofs.«01_k».proof.Proof.Gen.ConvIdeal.Value
public import proofs.«01_k».proof.Proof.ConvRead
public import Idealize.ShloMosaic.Lib.Pipeline.ValueKit
public import Idealize.ShloMosaic.Lib.Pointwise
public import Idealize.ShloMosaic.Lib.WritesUnit

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)
open Cert.ConvRefIdeal.Read Cert.ConvRefIdeal.Entry

variable (m : (ℓ : Loc nD τ sig) → Buf (Elt Ideal) ℓ)

/-- Block indices: point `t` works on row tile `t / 4` of the pair of column blocks `t % 4`. -/
theorem idx : ∀ t : Fin cfg0.N, win0_0.index t = ![t.val % 4, t.val / 4, 0] ∧
    win0_1.index t = ![t.val % 4, min ((t.val / 4 + 1) * 43) 515, 0] ∧ win0_2.index t = ![t.val % 4, t.val / 4, 0] ∧
    win0_3.index t = ![t.val % 4, min ((t.val / 4 + 1) * 43) 515, 0] ∧ win0_4.index t = ![t.val % 4, t.val / 4, 0] ∧
    win0_5.index t = ![t.val % 4 + 4, t.val / 4, 0] ∧ win0_6.index t = ![t.val % 4, 0, 0] ∧
    win0_7.index t = ![t.val % 4 + 4, 0, 0] ∧ win0_8.index t = ![t.val % 4, 0, 0] ∧ win0_9.index t = ![t.val % 4 + 4, 0, 0] ∧
    win0_10.index t = ![t.val / 4, 0] ∧ win0_11.index t = ![0, 0] ∧ win0_12.index t = ![t.val / 4, 0] ∧
    win0_13.index t = ![t.val % 4, t.val / 4, 0] ∧ win0_14.index t = ![t.val % 4, t.val / 4, 0] ∧
    win0_15.index t = ![t.val / 4, 0] ∧ win0_16.index t = ![0, 0] ∧ win0_17.index t = ![0, 0, 0] ∧
    win0_18.index t = ![0, 0, 0] :=
  (by decide +kernel : ∀ t : Fin grid0.N, _)

theorem lt48 (t : Fin cfg0.N) : t.val < 48 := (by decide +kernel : ∀ t : Fin grid0.N, t.val < 48) t

/-- Whether the row tile is the last of its sequence, as the kernel computes it. -/
def edge (i : grid0.Coords) : BitVec 1 :=
  let arg0 : BitVec 32 := BitVec.ofNat 32 (i 0).val
  let v0 : BitVec 1 := Scalar.cmpi .eq 3#32 0#32
  let v1 : BitVec 32 := Scalar.select v0 1#32 3#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 2#32

theorem edge_eq : ∀ t : Fin cfg0.N, edge (grid0.coords t) = if t.val / 4 % 3 = 2 then 1#1 else 0#1 :=
  (by decide +kernel : ∀ t : Fin grid0.N, _)

section Points

/-- The sequence of a point's row tile. -/
def sq (t : Fin cfg0.N) : Fin 4 := ⟨t.val / 12, by have := lt48 t; omega⟩

/-- The step in its sequence of row `a` of a point's row tile. -/
def st (t : Fin cfg0.N) (a : Fin 688) : Fin 2064 := ⟨t.val / 4 % 3 * 688 + a.val, by omega⟩

/-- Row `a` of a point's row tile, among all rows. -/
def row (t : Fin cfg0.N) (a : Fin 688) : Fin 8256 := ⟨t.val / 4 * 688 + a.val, by have := lt48 t; omega⟩

/-- The pair of column blocks of a point. -/
def pr (t : Fin cfg0.N) : Fin 4 := ⟨t.val % 4, by omega⟩

theorem seq_sq (t : Fin cfg0.N) (a : Fin 688) : seq (sq t) (st t a) = row t a := by
  apply Fin.ext
  show t.val / 12 * 2064 + (t.val / 4 % 3 * 688 + a.val) = t.val / 4 * 688 + a.val
  omega

end Points

section Payloads

theorem pay10_apply (v : (⟨S1x688x704, .bf16⟩ : BufTy).Contents (Elt Ideal)) (a : Fin 688) (l : Fin 704) :
    k0_pay10 (F := Ideal) v (ix2 a l) = v (ix3 0 a l) := by
  pointwise! [k0_pay10]

theorem pay15_apply (v : (⟨S1x688x704, .bf16⟩ : BufTy).Contents (Elt Ideal)) (a : Fin 688) (l : Fin 704) :
    k0_pay15 (F := Ideal) v (ix2 a l) = v (ix3 0 a l) := by
  pointwise! [k0_pay15]

theorem pay16_apply (t : Fin cfg0.N) (v : (⟨S1x16x704, .bf16⟩ : BufTy).Contents (Elt Ideal)) (h : Fin 16) (l : Fin 704) :
    k0_pay16 (F := Ideal) (edge (grid0.coords t)) v (ix2 h l) = if t.val / 4 % 3 = 2 then 0 else v (ix3 0 h l) := by
  have e : k0_pay16 (F := Ideal) (edge (grid0.coords t)) v (ix2 h l)
      = if edge (grid0.coords t) = 1#1 then 0 else v (ix3 0 h l) := by
    generalize edge (grid0.coords t) = b
    pointwise! [k0_pay16]
  rw [e, edge_eq]
  split <;> rfl

theorem pay11_apply (t : Fin cfg0.N) (v : (⟨S1x16x704, .bf16⟩ : BufTy).Contents (Elt Ideal)) (h : Fin 16) (l : Fin 704) :
    k0_pay11 (F := Ideal) (grid0.coords t) v (ix2 h l) = if t.val / 4 % 3 = 2 then 0 else v (ix3 0 h l) :=
  pay16_apply t v h l

variable (t0 t1 t2 : (⟨S688x704, .f32⟩ : BufTy).Contents (Elt Ideal)) (w : (⟨S1x3x704, .f32⟩ : BufTy).Contents (Elt Ideal))

theorem pay12_apply (a : Fin 688) (l : Fin 704) : k0_pay12 (F := Ideal) t0 t1 t2 w (ix2 a l)
    = w (ix3 0 2 l) * t0 (ix2 a l) + w (ix3 0 1 l) * t1 (ix2 a l) + w (ix3 0 0 l) * t2 (ix2 a l) := by
  pointwise! [k0_pay12]

theorem pay13_apply (a : Fin 688) (l : Fin 704) : k0_pay13 (F := Ideal) t0 t1 t2 w (ix3 0 a l)
    = k0_pay12 (F := Ideal) t0 t1 t2 w (ix2 a l) := by
  unfold k0_pay13
  generalize k0_pay12 (F := Ideal) t0 t1 t2 w = y
  pointwise!

/-- What a tile adds to the gradients of the taps. -/
theorem pay14_apply (u : (⟨S1x688x704, .bf16⟩ : BufTy).Contents (Elt Ideal)) (k : Fin 3) (l : Fin 704) :
    k0_pay14 (F := Ideal) t0 t1 t2 u w (ix3 0 k l) = w (ix3 0 k l)
      + ∑ a : Fin 688, u (ix3 0 a l) * (![t2, t1, t0] k) (ix2 a l) := by
  match k with
  | ⟨0, _⟩ => pointwise! [k0_pay14]
  | ⟨1, _⟩ => pointwise! [k0_pay14]
  | ⟨2, _⟩ => pointwise! [k0_pay14]

theorem pay20_apply (x y : (⟨S688x704, .f32⟩ : BufTy).Contents (Elt Ideal)) (wa wb : (⟨S1x1024x704, .bf16⟩ : BufTy).Contents (Elt Ideal))
    (a : Fin 688) (k : Fin 1024) : k0_pay20 (F := Ideal) x y wa wb (ix2 a k)
      = ∑ l : Fin 704, x (ix2 a l) * wa (ix3 0 k l) + ∑ l : Fin 704, y (ix2 a l) * wb (ix3 0 k l) := by
  pointwise! [k0_pay20]

theorem pay1_apply (x y : (⟨S688x1024, .f32⟩ : BufTy).Contents (Elt Ideal)) (j : S688x1024.Idx) :
    k0_pay1 (F := Ideal) x y j = y j + x j := by
  idx_vars j
  pointwise! [k0_pay1]

theorem pay4_apply (x : (⟨S688x1024, .f32⟩ : BufTy).Contents (Elt Ideal)) (a : Fin 688) :
    k0_pay4 (F := Ideal) x (ix2 a 0) = msq fun k => x (ix2 a k) := by
  unfold msq
  pointwise! [k0_pay4]

theorem pay6_apply (x z : (⟨S688x1024, .f32⟩ : BufTy).Contents (Elt Ideal)) (k : Fin 1024) :
    k0_pay6 (F := Ideal) x z (ix2 0 k) = ∑ a : Fin 688, gain (fun k => x (ix2 a k)) (fun k => z (ix2 a k)) k := by
  unfold gain
  simp only [← pay4_apply]
  unfold k0_pay6 k0_pay5
  generalize k0_pay4 (F := Ideal) x = y
  pointwise!

theorem pay7_apply (x z e : (⟨S688x1024, .f32⟩ : BufTy).Contents (Elt Ideal)) (g : (⟨S1x1024, .f32⟩ : BufTy).Contents (Elt Ideal))
    (a : Fin 688) (k : Fin 1024) : k0_pay7 (F := Ideal) x g z e (ix2 a k)
      = e (ix2 a k) + dnorm (fun k => x (ix2 a k)) (fun k => g (ix2 0 k)) (fun k => z (ix2 a k)) k := by
  unfold dnorm
  rw [← pay4_apply]
  unfold k0_pay7 k0_pay5
  generalize k0_pay4 (F := Ideal) x = y
  pointwise!
  simp only [Fin.sum_univ_one]

theorem pay3_apply (x y : (⟨S1x1024, .f32⟩ : BufTy).Contents (Elt Ideal)) (j : S1x1024.Idx) : k0_pay3 (F := Ideal) x y j = y j + x j := by
  idx_vars j
  pointwise! [k0_pay3]

theorem pay2_apply (j : S1x1024.Idx) : k0_pay2 (F := Ideal) j = 0 := by pointwise [k0_pay2]
theorem pay8_apply (j : S4x3x704.Idx) : k0_pay8 (F := Ideal) j = 0 := by pointwise [k0_pay8]
theorem pay9_apply (j : S4x3x704.Idx) : k0_pay9 (F := Ideal) j = 0 := by pointwise [k0_pay9]

end Payloads

section Operands

theorem fst_du (x : FVec Ideal S8256x5632 .bf16) (p : Fin 4) (r : Fin 8256) (l : Fin 704) :
    shapeCast S4x8256x704 (extractStridedSlice S1x4x8256x704 ![0, 0, 0, 0] (transpose S2x4x8256x704 [1, 2, 0, 3]
      (fun i => shapeCast S8256x2x4x704 x shapeCasts_S8256x5632_S8256x2x4x704 i)
      transposes_S8256x2x4x704_S2x4x8256x704_1_2_0_3) slices_S2x4x8256x704_S1x4x8256x704_0_0_0_0)
      shapeCasts_S1x4x8256x704_S4x8256x704 (ix3 p r l) = x (ix2 r (fst p l)) := by
  unfold fst
  pointwise!

theorem fst_up (x : FVec Ideal S8256x5632 .f32) (p : Fin 4) (r : Fin 8256) (l : Fin 704) :
    shapeCast S8x8256x704 (truncf .bf16 (transpose S2x4x8256x704 [1, 2, 0, 3]
      (fun i => shapeCast S8256x2x4x704 x shapeCasts_S8256x5632_S8256x2x4x704 i)
      transposes_S8256x2x4x704_S2x4x8256x704_1_2_0_3) bitsLt_bf16_f32) shapeCasts_S2x4x8256x704_S8x8256x704
      (ix3 (n0 := 8) ⟨p.val, by omega⟩ r l) = x (ix2 r (fst p l)) := by
  unfold fst
  pointwise!
  exact congrArg (fun q => x (ix2 r q)) (Fin.ext (by show p.val / 4 * 2816 + p.val % 4 * 704 + l.val = p.val * 704 + l.val; omega))

theorem fst_cw (x : FVec Ideal S3x5632 .f32) (p : Fin 4) (k : Fin 3) (l : Fin 704) :
    transpose S8x3x704 [1, 0, 2] (fun i => shapeCast S3x8x704 x shapeCasts_S3x5632_S3x8x704 i)
      transposes_S3x8x704_S8x3x704_1_0_2 (ix3 (n0 := 8) ⟨p.val, by omega⟩ k l) = x (ix2 k (fst p l)) := by
  unfold fst
  pointwise!

theorem fst_wup (x : FVec Ideal S1024x5632 .f32) (p : Fin 4) (k : Fin 1024) (l : Fin 704) :
    transpose S8x1024x704 [1, 0, 2] (fun i => shapeCast S1024x8x704 (truncf .bf16 x bitsLt_bf16_f32) shapeCasts_S1024x5632_S1024x8x704 i)
      transposes_S1024x8x704_S8x1024x704_1_0_2 (ix3 (n0 := 8) ⟨p.val, by omega⟩ k l) = x (ix2 k (fst p l)) := by
  unfold fst
  pointwise!

theorem blk0 (c : Dev nD) (t : Fin cfg0.N) (a : Fin 688) (l : Fin 704) :
    iblk m c 0 t (ix3 0 a l) = m ((c : Thread nD τ).loc main_arg4) (ix2 (row t a) (fst (pr t) l)) := by
  have e : ((cfg0.win 0).blk t).view.emb (ix3 0 a l) = ix3 (n0 := 4) (n1 := 8256) (n2 := 704) (pr t) (row t a) l := by
    unfold pr row
    blk_ext [idx t]
  unfold iblk
  blk_simp
  rw [e]
  entry_read
  exact fst_du _ _ _ _

theorem blk1 (c : Dev nD) (t : Fin cfg0.N) (a : Fin 688) (h : Fin 16) (l : Fin 704) (ht : t.val / 4 % 3 ≠ 2)
    (r : Fin 8256) (hr : r.val = (t.val / 4 + 1) * 688 + h.val) :
    iblk m c 1 t (ix3 0 h l) = m ((c : Thread nD τ).loc main_arg4) (ix2 r (fst (pr t) l)) := by
  have e : ((cfg0.win 1).blk t).view.emb (ix3 0 h l) = ix3 (n0 := 4) (n1 := 8256) (n2 := 704) (pr t) r l := by
    have h48 := lt48 t
    have hm : min ((t.val / 4 + 1) * 43) 515 = (t.val / 4 + 1) * 43 := by omega
    unfold pr
    blk_ext [idx t, hm, hr]
  unfold iblk
  blk_simp
  rw [e]
  entry_read
  exact fst_du _ _ _ _

theorem blk4 (c : Dev nD) (t : Fin cfg0.N) (a : Fin 688) (l : Fin 704) :
    iblk m c 4 t (ix3 0 a l) = val_main_v15 (F := Ideal) (m ((c : Thread nD τ).loc main_arg0)) (m ((c : Thread nD τ).loc main_arg1)) (m ((c : Thread nD τ).loc main_arg2)) (ix2 (row t a) (fst (pr t) l)) := by
  have e : ((cfg0.win 4).blk t).view.emb (ix3 0 a l) = ix3 (n0 := 8) (n1 := 8256) (n2 := 704) ⟨(pr t).val, by have := (pr t).isLt; omega⟩ (row t a) l := by
    unfold pr row
    blk_ext [idx t]
  unfold iblk
  blk_simp
  rw [e]
  entry_read
  exact fst_up (val_main_v15 (F := Ideal) (m ((c : Thread nD τ).loc main_arg0)) (m ((c : Thread nD τ).loc main_arg1)) (m ((c : Thread nD τ).loc main_arg2))) _ _ _

theorem blk6 (c : Dev nD) (t : Fin cfg0.N) (k : Fin 3) (l : Fin 704) :
    iblk m c 6 t (ix3 0 k l) = m ((c : Thread nD τ).loc main_arg3) (ix2 k (fst (pr t) l)) := by
  have e : ((cfg0.win 6).blk t).view.emb (ix3 0 k l) = ix3 (n0 := 8) (n1 := 3) (n2 := 704) ⟨(pr t).val, by have := (pr t).isLt; omega⟩ k l := by
    unfold pr
    blk_ext [idx t]
  unfold iblk
  blk_simp
  rw [e]
  entry_read
  exact fst_cw _ _ _ _

theorem blk8 (c : Dev nD) (t : Fin cfg0.N) (k : Fin 1024) (l : Fin 704) :
    iblk m c 8 t (ix3 0 k l) = m ((c : Thread nD τ).loc main_arg2) (ix2 k (fst (pr t) l)) := by
  have e : ((cfg0.win 8).blk t).view.emb (ix3 0 k l) = ix3 (n0 := 8) (n1 := 1024) (n2 := 704) ⟨(pr t).val, by have := (pr t).isLt; omega⟩ k l := by
    unfold pr
    blk_ext [idx t]
  unfold iblk
  blk_simp
  rw [e]
  entry_read
  exact fst_wup _ _ _ _

theorem snd_du (x : FVec Ideal S8256x5632 .bf16) (p : Fin 4) (r : Fin 8256) (l : Fin 704) :
    shapeCast S4x8256x704 (extractStridedSlice S1x4x8256x704 ![1, 0, 0, 0] (transpose S2x4x8256x704 [1, 2, 0, 3]
      (fun i => shapeCast S8256x2x4x704 x shapeCasts_S8256x5632_S8256x2x4x704 i)
      transposes_S8256x2x4x704_S2x4x8256x704_1_2_0_3) slices_S2x4x8256x704_S1x4x8256x704_1_0_0_0)
      shapeCasts_S1x4x8256x704_S4x8256x704 (ix3 p r l) = x (ix2 r (snd p l)) := by
  unfold snd
  pointwise!

theorem snd_up (x : FVec Ideal S8256x5632 .f32) (p : Fin 4) (r : Fin 8256) (l : Fin 704) :
    shapeCast S8x8256x704 (truncf .bf16 (transpose S2x4x8256x704 [1, 2, 0, 3]
      (fun i => shapeCast S8256x2x4x704 x shapeCasts_S8256x5632_S8256x2x4x704 i)
      transposes_S8256x2x4x704_S2x4x8256x704_1_2_0_3) bitsLt_bf16_f32) shapeCasts_S2x4x8256x704_S8x8256x704
      (ix3 (n0 := 8) ⟨p.val + 4, by omega⟩ r l) = x (ix2 r (snd p l)) := by
  unfold snd
  pointwise!
  exact congrArg (fun q => x (ix2 r q)) (Fin.ext (by show (p.val + 4) / 4 * 2816 + p.val * 704 + l.val = 2816 + p.val * 704 + l.val; omega))

theorem snd_cw (x : FVec Ideal S3x5632 .f32) (p : Fin 4) (k : Fin 3) (l : Fin 704) :
    transpose S8x3x704 [1, 0, 2] (fun i => shapeCast S3x8x704 x shapeCasts_S3x5632_S3x8x704 i)
      transposes_S3x8x704_S8x3x704_1_0_2 (ix3 (n0 := 8) ⟨p.val + 4, by omega⟩ k l) = x (ix2 k (snd p l)) := by
  unfold snd
  pointwise!
  exact congrArg (fun q => x (ix2 k q)) (Fin.ext (by show (p.val + 4) * 704 + l.val = 2816 + p.val * 704 + l.val; omega))

theorem snd_wup (x : FVec Ideal S1024x5632 .f32) (p : Fin 4) (k : Fin 1024) (l : Fin 704) :
    transpose S8x1024x704 [1, 0, 2] (fun i => shapeCast S1024x8x704 (truncf .bf16 x bitsLt_bf16_f32) shapeCasts_S1024x5632_S1024x8x704 i)
      transposes_S1024x8x704_S8x1024x704_1_0_2 (ix3 (n0 := 8) ⟨p.val + 4, by omega⟩ k l) = x (ix2 k (snd p l)) := by
  unfold snd
  pointwise!
  exact congrArg (fun q => x (ix2 k q)) (Fin.ext (by show (p.val + 4) * 704 + l.val = 2816 + p.val * 704 + l.val; omega))

theorem blk2 (c : Dev nD) (t : Fin cfg0.N) (a : Fin 688) (l : Fin 704) :
    iblk m c 2 t (ix3 0 a l) = m ((c : Thread nD τ).loc main_arg4) (ix2 (row t a) (snd (pr t) l)) := by
  have e : ((cfg0.win 2).blk t).view.emb (ix3 0 a l) = ix3 (n0 := 4) (n1 := 8256) (n2 := 704) (pr t) (row t a) l := by
    unfold pr row
    blk_ext [idx t]
  unfold iblk
  blk_simp
  rw [e]
  entry_read
  exact snd_du _ _ _ _

theorem blk3 (c : Dev nD) (t : Fin cfg0.N) (a : Fin 688) (h : Fin 16) (l : Fin 704) (ht : t.val / 4 % 3 ≠ 2)
    (r : Fin 8256) (hr : r.val = (t.val / 4 + 1) * 688 + h.val) :
    iblk m c 3 t (ix3 0 h l) = m ((c : Thread nD τ).loc main_arg4) (ix2 r (snd (pr t) l)) := by
  have e : ((cfg0.win 3).blk t).view.emb (ix3 0 h l) = ix3 (n0 := 4) (n1 := 8256) (n2 := 704) (pr t) r l := by
    have h48 := lt48 t
    have hm : min ((t.val / 4 + 1) * 43) 515 = (t.val / 4 + 1) * 43 := by omega
    unfold pr
    blk_ext [idx t, hm, hr]
  unfold iblk
  blk_simp
  rw [e]
  entry_read
  exact snd_du _ _ _ _

theorem blk5 (c : Dev nD) (t : Fin cfg0.N) (a : Fin 688) (l : Fin 704) :
    iblk m c 5 t (ix3 0 a l) = val_main_v15 (F := Ideal) (m ((c : Thread nD τ).loc main_arg0)) (m ((c : Thread nD τ).loc main_arg1)) (m ((c : Thread nD τ).loc main_arg2)) (ix2 (row t a) (snd (pr t) l)) := by
  have e : ((cfg0.win 5).blk t).view.emb (ix3 0 a l) = ix3 (n0 := 8) (n1 := 8256) (n2 := 704) ⟨(pr t).val + 4, by have := (pr t).isLt; omega⟩ (row t a) l := by
    unfold pr row
    blk_ext [idx t]
  unfold iblk
  blk_simp
  rw [e]
  entry_read
  exact snd_up (val_main_v15 (F := Ideal) (m ((c : Thread nD τ).loc main_arg0)) (m ((c : Thread nD τ).loc main_arg1)) (m ((c : Thread nD τ).loc main_arg2))) _ _ _

theorem blk7 (c : Dev nD) (t : Fin cfg0.N) (k : Fin 3) (l : Fin 704) :
    iblk m c 7 t (ix3 0 k l) = m ((c : Thread nD τ).loc main_arg3) (ix2 k (snd (pr t) l)) := by
  have e : ((cfg0.win 7).blk t).view.emb (ix3 0 k l) = ix3 (n0 := 8) (n1 := 3) (n2 := 704) ⟨(pr t).val + 4, by have := (pr t).isLt; omega⟩ k l := by
    unfold pr
    blk_ext [idx t]
  unfold iblk
  blk_simp
  rw [e]
  entry_read
  exact snd_cw _ _ _ _

theorem blk9 (c : Dev nD) (t : Fin cfg0.N) (k : Fin 1024) (l : Fin 704) :
    iblk m c 9 t (ix3 0 k l) = m ((c : Thread nD τ).loc main_arg2) (ix2 k (snd (pr t) l)) := by
  have e : ((cfg0.win 9).blk t).view.emb (ix3 0 k l) = ix3 (n0 := 8) (n1 := 1024) (n2 := 704) ⟨(pr t).val + 4, by have := (pr t).isLt; omega⟩ k l := by
    unfold pr
    blk_ext [idx t]
  unfold iblk
  blk_simp
  rw [e]
  entry_read
  exact snd_wup _ _ _ _

theorem blk10 (c : Dev nD) (t : Fin cfg0.N) (a : Fin 688) (k : Fin 1024) :
    iblk m c 10 t (ix2 a k) = m ((c : Thread nD τ).loc main_arg0) (ix2 (row t a) k) := by
  unfold row
  blk_point [iblk, V, idx t]

theorem blk11 (c : Dev nD) (t : Fin cfg0.N) (k : Fin 1024) : iblk m c 11 t (ix2 0 k) = m ((c : Thread nD τ).loc main_arg1) (ix2 0 k) := by
  blk_point [iblk, V, idx t]

theorem blk12 (c : Dev nD) (t : Fin cfg0.N) (a : Fin 688) (k : Fin 1024) :
    iblk m c 12 t (ix2 a k) = m ((c : Thread nD τ).loc main_arg5) (ix2 (row t a) k) := by
  unfold row
  blk_point [iblk, V, idx t]

end Operands

section Taps

/-- The scratch holds a tile over the rows after it: read `o` rows further on. -/
theorem tap_read (L : List (View.Piece (Elt Ideal) S704x704 .f32)) (hi0 : ∀ a, (![688, 0] : Fin 2 → ℕ) a + (![16, 704] : Fin 2 → ℕ) a ≤ S704x704.size a)
    (hi1 : ∀ a, (![0, 0] : Fin 2 → ℕ) a + (![688, 704] : Fin 2 → ℕ) a ≤ S704x704.size a)
    (y : (⟨S16x704, .f32⟩ : BufTy).Contents (Elt Ideal)) (x : (⟨S688x704, .f32⟩ : BufTy).Contents (Elt Ideal)) (o : ℕ) (ho : o ≤ 16)
    (hi2 : ∀ a, (![o, 0] : Fin 2 → ℕ) a + (![688, 704] : Fin 2 → ℕ) a ≤ S704x704.size a) (a : Fin 688) (l : Fin 704) :
    (View.whole cc0_scratch1).readCov (Val := Elt Ideal) (⟨Rect.unit (s := S704x704) ![688, 0] S16x704.size hi0, y⟩ :: ⟨Rect.unit (s := S704x704) ![0, 0] S688x704.size hi1, x⟩ :: L)
        (Rect.unit (s := S704x704) ![o, 0] S688x704.size hi2).toLoadRect (ix2 a l)
      = if h : a.val + o < 688 then x (ix2 ⟨a.val + o, h⟩ l) else y (ix2 ⟨a.val + o - 688, by omega⟩ l) := by
  unfold View.readCov
  rw [View.readAt_apply]
  by_cases h : a.val + o < 688
  · rw [dif_pos h]
    refine (View.read_writes_cons_rows_of_not_mem _ _ _ _ _ _ rfl rfl (Or.inl ?_)).trans
      (View.read_writes_cons_rows_of_mem _ _ _ _ _ _ (ix2 ⟨a.val + o, h⟩ l) rfl ?_ ?_)
    · rw [Rect.idx_unit_val]; show o + a.val < 688; omega
    · rw [Rect.idx_unit_val]; show o + a.val = 0 + (a.val + o); omega
    · rw [Rect.idx_unit_val]; show 0 + l.val = l.val; omega
  · rw [dif_neg h]
    refine View.read_writes_cons_rows_of_mem _ _ _ _ _ _ (ix2 ⟨a.val + o - 688, by omega⟩ l) rfl ?_ ?_
    · rw [Rect.idx_unit_val]; show o + a.val = 688 + (a.val + o - 688); omega
    · rw [Rect.idx_unit_val]; show 0 + l.val = l.val; omega

/-- A tile over the rows after it, with zeros past the end of the sequence, is the cotangent some steps ahead. -/
theorem tap_ahead (x4 : FVec Ideal S8256x5632 .bf16) (t : Fin cfg0.N) (q : Fin 704 → Fin 5632) (o : ℕ) (ho : o ≤ 2)
    (x : (⟨S688x704, .f32⟩ : BufTy).Contents (Elt Ideal)) (y : (⟨S16x704, .f32⟩ : BufTy).Contents (Elt Ideal))
    (hx : ∀ a l, x (ix2 a l) = x4 (ix2 (row t a) (q l)))
    (hz : ∀ h l, t.val / 4 % 3 = 2 → y (ix2 h l) = 0)
    (hy : ∀ h l r, t.val / 4 % 3 ≠ 2 → r.val = (t.val / 4 + 1) * 688 + h.val → y (ix2 h l) = x4 (ix2 r (q l)))
    (a : Fin 688) (l : Fin 704) :
    (if h : a.val + o < 688 then x (ix2 ⟨a.val + o, h⟩ l) else y (ix2 ⟨a.val + o - 688, by omega⟩ l))
      = ahead x4 o (sq t) (st t a) (q l) := by
  have h48 := lt48 t
  unfold ahead
  by_cases h : a.val + o < 688
  · have hs : (st t a).val + o < 2064 := by show t.val / 4 % 3 * 688 + a.val + o < 2064; omega
    rw [dif_pos h, dif_pos hs, hx, ← seq_sq]
    refine congrArg (fun s => x4 (ix2 (seq (sq t) s) (q l))) (Fin.ext ?_)
    show t.val / 4 % 3 * 688 + (a.val + o) = t.val / 4 % 3 * 688 + a.val + o
    omega
  · rw [dif_neg h]
    by_cases he : t.val / 4 % 3 = 2
    · have hs : ¬(st t a).val + o < 2064 := by show ¬t.val / 4 % 3 * 688 + a.val + o < 2064; omega
      rw [dif_neg hs, hz _ _ he]
    · have hs : (st t a).val + o < 2064 := by show t.val / 4 % 3 * 688 + a.val + o < 2064; omega
      rw [dif_pos hs, hy _ _ (seq (sq t) ⟨(st t a).val + o, hs⟩) he ?_]
      show t.val / 12 * 2064 + (t.val / 4 % 3 * 688 + a.val + o) = (t.val / 4 + 1) * 688 + (a.val + o - 688)
      omega

theorem tap_fst (c : Dev nD) (t : Fin cfg0.N) (L : List (View.Piece (Elt Ideal) S704x704 .f32)) (o : ℕ) (ho : o ≤ 2)
    (hi2 : ∀ a, (![o, 0] : Fin 2 → ℕ) a + (![688, 704] : Fin 2 → ℕ) a ≤ S704x704.size a) (a : Fin 688) (l : Fin 704) :
    (View.whole cc0_scratch1).readCov (Val := Elt Ideal)
        (⟨Rect.unit (s := S704x704) ![688, 0] S16x704.size inb_S704x704_S16x704_688_0, k0_pay11 (F := Ideal) (grid0.coords t) (iblk m c 1 t)⟩
          :: ⟨Rect.unit (s := S704x704) ![0, 0] S688x704.size inb_S704x704_S688x704_0_0, k0_pay10 (F := Ideal) (iblk m c 0 t)⟩ :: L)
        (Rect.unit (s := S704x704) ![o, 0] S688x704.size hi2).toLoadRect (ix2 a l)
      = ahead (m ((c : Thread nD τ).loc main_arg4)) o (sq t) (st t a) (fst (pr t) l) :=
  (tap_read L _ _ _ _ o (by omega) hi2 a l).trans (tap_ahead _ t (fst (pr t)) o ho _ _
    (fun a l => (pay10_apply _ a l).trans (blk0 m c t a l))
    (fun h l he => (pay11_apply t _ h l).trans (if_pos he))
    (fun h l r he hr => ((pay11_apply t _ h l).trans (if_neg he)).trans (blk1 m c t a h l he r hr)) a l)

theorem tap_snd (c : Dev nD) (t : Fin cfg0.N) (L : List (View.Piece (Elt Ideal) S704x704 .f32)) (o : ℕ) (ho : o ≤ 2)
    (hi2 : ∀ a, (![o, 0] : Fin 2 → ℕ) a + (![688, 704] : Fin 2 → ℕ) a ≤ S704x704.size a) (a : Fin 688) (l : Fin 704) :
    (View.whole cc0_scratch1).readCov (Val := Elt Ideal)
        (⟨Rect.unit (s := S704x704) ![688, 0] S16x704.size inb_S704x704_S16x704_688_0, k0_pay16 (F := Ideal) (edge (grid0.coords t)) (iblk m c 3 t)⟩
          :: ⟨Rect.unit (s := S704x704) ![0, 0] S688x704.size inb_S704x704_S688x704_0_0, k0_pay15 (F := Ideal) (iblk m c 2 t)⟩ :: L)
        (Rect.unit (s := S704x704) ![o, 0] S688x704.size hi2).toLoadRect (ix2 a l)
      = ahead (m ((c : Thread nD τ).loc main_arg4)) o (sq t) (st t a) (snd (pr t) l) :=
  (tap_read L _ _ _ _ o (by omega) hi2 a l).trans (tap_ahead _ t (snd (pr t)) o ho _ _
    (fun a l => (pay15_apply _ a l).trans (blk2 m c t a l))
    (fun h l he => (pay16_apply t _ h l).trans (if_pos he))
    (fun h l r he hr => ((pay16_apply t _ h l).trans (if_neg he)).trans (blk3 m c t a h l he r hr)) a l)

end Taps

section Tiles

variable (c : Dev nD) (t : Fin cfg0.N) (q : Fin 704 → Fin 5632) (t0 t1 t2 : (⟨S688x704, .f32⟩ : BufTy).Contents (Elt Ideal))
  (h0 : ∀ a l, t0 (ix2 a l) = ahead (m ((c : Thread nD τ).loc main_arg4)) 0 (sq t) (st t a) (q l))
  (h1 : ∀ a l, t1 (ix2 a l) = ahead (m ((c : Thread nD τ).loc main_arg4)) 1 (sq t) (st t a) (q l))
  (h2 : ∀ a l, t2 (ix2 a l) = ahead (m ((c : Thread nD τ).loc main_arg4)) 2 (sq t) (st t a) (q l))

include h0 h1 h2

theorem tile12 (w : (⟨S1x3x704, .f32⟩ : BufTy).Contents (Elt Ideal)) (hw : ∀ k l, w (ix3 0 k l) = m ((c : Thread nD τ).loc main_arg3) (ix2 k (q l)))
    (a : Fin 688) (l : Fin 704) : k0_pay12 (F := Ideal) t0 t1 t2 w (ix2 a l)
      = val_main_v77 (F := Ideal) (m ((c : Thread nD τ).loc main_arg3)) (m ((c : Thread nD τ).loc main_arg4)) (ix2 (row t a) (q l)) := by
  rw [pay12_apply, hw, hw, hw, h0, h1, h2, ← seq_sq, v77_apply, mul_comm, mul_comm (_ : EReal) (ahead _ 1 _ _ _), mul_comm (_ : EReal) (ahead _ 2 _ _ _)]
  unfold dconv
  rw [ahead, dif_pos (show (st t a).val + 0 < 2064 from (st t a).isLt)]
  rfl

theorem tile14 (u : (⟨S1x688x704, .bf16⟩ : BufTy).Contents (Elt Ideal)) (w : (⟨S1x3x704, .f32⟩ : BufTy).Contents (Elt Ideal))
    (hu : ∀ a l, u (ix3 0 a l) = val_main_v15 (F := Ideal) (m ((c : Thread nD τ).loc main_arg0)) (m ((c : Thread nD τ).loc main_arg1)) (m ((c : Thread nD τ).loc main_arg2)) (ix2 (row t a) (q l)))
    (k : Fin 3) (l : Fin 704) : k0_pay14 (F := Ideal) t0 t1 t2 u w (ix3 0 k l) = w (ix3 0 k l)
      + ∑ a : Fin 688, val_main_v15 (F := Ideal) (m ((c : Thread nD τ).loc main_arg0)) (m ((c : Thread nD τ).loc main_arg1)) (m ((c : Thread nD τ).loc main_arg2)) (ix2 (row t a) (q l))
          * ahead (m ((c : Thread nD τ).loc main_arg4)) (2 - k.val) (sq t) (st t a) (q l) := by
  rw [pay14_apply]
  refine Ideal.add_congr rfl (Finset.sum_congr rfl fun a _ => Ideal.mul_congr (hu a l) ?_)
  match k with
  | ⟨0, _⟩ => exact h2 a l
  | ⟨1, _⟩ => exact h1 a l
  | ⟨2, _⟩ => exact h0 a l

end Tiles

section Finals

theorem emb13 (t : Fin cfg0.N) (a : Fin 688) (l : Fin 704) : ((cfg0.win 13).blk t).view.emb (ix3 0 a l)
    = ix3 (n0 := 4) (n1 := 8256) (n2 := 704) (pr t) (row t a) l := by
  unfold pr row
  blk_ext [idx t]

theorem emb14 (t : Fin cfg0.N) (a : Fin 688) (l : Fin 704) : ((cfg0.win 14).blk t).view.emb (ix3 0 a l)
    = ix3 (n0 := 4) (n1 := 8256) (n2 := 704) (pr t) (row t a) l := by
  unfold pr row
  blk_ext [idx t]

theorem emb15 (t : Fin cfg0.N) (a : Fin 688) (k : Fin 1024) : ((cfg0.win 15).blk t).view.emb (ix2 a k)
    = ix2 (n0 := 8256) (n1 := 1024) (row t a) k := by
  unfold row
  blk_ext [idx t]

theorem point13 (c : Dev nD) (t : Fin cfg0.N) (t0 t1 t2 : (⟨S688x704, .f32⟩ : BufTy).Contents (Elt Ideal))
    (h0 : ∀ a l, t0 (ix2 a l) = ahead (m ((c : Thread nD τ).loc main_arg4)) 0 (sq t) (st t a) (fst (pr t) l))
    (h1 : ∀ a l, t1 (ix2 a l) = ahead (m ((c : Thread nD τ).loc main_arg4)) 1 (sq t) (st t a) (fst (pr t) l))
    (h2 : ∀ a l, t2 (ix2 a l) = ahead (m ((c : Thread nD τ).loc main_arg4)) 2 (sq t) (st t a) (fst (pr t) l)) (a : Fin 688) (l : Fin 704) :
    k0_pay13 (F := Ideal) t0 t1 t2 (iblk m c 6 t) (ix3 0 a l)
      = val_main_v104 (F := Ideal) (m ((c : Thread nD τ).loc main_arg3)) (m ((c : Thread nD τ).loc main_arg4)) (((cfg0.win 13).blk t).view.emb (ix3 0 a l)) := by
  rw [emb13, v104_apply, pay13_apply]
  exact tile12 m c t (fst (pr t)) t0 t1 t2 h0 h1 h2 _ (fun k l => blk6 m c t k l) a l

theorem point14 (c : Dev nD) (t : Fin cfg0.N) (t0 t1 t2 : (⟨S688x704, .f32⟩ : BufTy).Contents (Elt Ideal))
    (h0 : ∀ a l, t0 (ix2 a l) = ahead (m ((c : Thread nD τ).loc main_arg4)) 0 (sq t) (st t a) (snd (pr t) l))
    (h1 : ∀ a l, t1 (ix2 a l) = ahead (m ((c : Thread nD τ).loc main_arg4)) 1 (sq t) (st t a) (snd (pr t) l))
    (h2 : ∀ a l, t2 (ix2 a l) = ahead (m ((c : Thread nD τ).loc main_arg4)) 2 (sq t) (st t a) (snd (pr t) l)) (a : Fin 688) (l : Fin 704) :
    k0_pay18 (F := Ideal) t0 t1 t2 (iblk m c 7 t) (ix3 0 a l)
      = val_main_v106 (F := Ideal) (m ((c : Thread nD τ).loc main_arg3)) (m ((c : Thread nD τ).loc main_arg4)) (((cfg0.win 14).blk t).view.emb (ix3 0 a l)) := by
  rw [emb14, v106_apply]
  refine (pay13_apply t0 t1 t2 (iblk m c 7 t) a l).trans ?_
  exact tile12 m c t (snd (pr t)) t0 t1 t2 h0 h1 h2 _ (fun k l => blk7 m c t k l) a l

/-- The four kinds of points: the first, the later first of a row tile, the middle ones and the last of a row tile. -/
theorem cases (t : Fin cfg0.N) {P : Prop} (hA : t.val % 48 = 0 → t.val % 4 = 0 → ¬1 ≤ t.val % 4 → ¬t.val % 4 = 3 → P)
    (hD : ¬t.val % 48 = 0 → t.val % 4 = 0 → ¬1 ≤ t.val % 4 → ¬t.val % 4 = 3 → P)
    (hB : ¬t.val % 48 = 0 → ¬t.val % 4 = 0 → 1 ≤ t.val % 4 → ¬t.val % 4 = 3 → P)
    (hC : ¬t.val % 48 = 0 → ¬t.val % 4 = 0 → 1 ≤ t.val % 4 → t.val % 4 = 3 → P) : P := by
  by_cases h : t.val % 48 = 0
  · exact hA h (by omega) (by omega) (by omega)
  · by_cases h' : t.val % 4 = 0
    · exact hD h h' (by omega) (by omega)
    · by_cases h3 : t.val % 4 = 3
      · exact hC h h' (by omega) h3
      · exact hB h h' (by omega) h3

theorem result13 (c : Dev nD) : (dats m 0 c).arrAt 13 cfg0.N
    = val_main_v104 (F := Ideal) (m ((c : Thread nD τ).loc main_arg3)) (m ((c : Thread nD τ).loc main_arg4)) := by
  refine (dats m 0 c).arrAt_eq_of_covers 13 _ (by decide +kernel) fun t _ y => ?_
  idx_vars y
  obtain rfl : y0 = 0 := Subsingleton.elim _ _
  blk_simp
  rw [after0_13]
  refine cases t (fun h h1 h2 h3 => ?_) (fun h h1 h2 h3 => ?_) (fun h h1 h2 h3 => ?_) (fun h h1 h2 h3 => ?_)
  · rw [outsAt0_A m c t h h1 h2 h h3]; frame_out
    exact point13 m c t _ _ _ (tap_fst m c t _ 0 (by decide) _) (tap_fst m c t _ 1 (by decide) _) (tap_fst m c t _ 2 (by decide) _) y1 y2
  · rw [outsAt0_D m c t h h1 h2 h h3]; frame_out
    exact point13 m c t _ _ _ (tap_fst m c t _ 0 (by decide) _) (tap_fst m c t _ 1 (by decide) _) (tap_fst m c t _ 2 (by decide) _) y1 y2
  · rw [outsAt0_B m c t h h1 h2 h h3]; frame_out
    exact point13 m c t _ _ _ (tap_fst m c t _ 0 (by decide) _) (tap_fst m c t _ 1 (by decide) _) (tap_fst m c t _ 2 (by decide) _) y1 y2
  · rw [outsAt0_C m c t h h1 h2 h h3]; frame_out
    exact point13 m c t _ _ _ (tap_fst m c t _ 0 (by decide) _) (tap_fst m c t _ 1 (by decide) _) (tap_fst m c t _ 2 (by decide) _) y1 y2

theorem result14 (c : Dev nD) : (dats m 0 c).arrAt 14 cfg0.N
    = val_main_v106 (F := Ideal) (m ((c : Thread nD τ).loc main_arg3)) (m ((c : Thread nD τ).loc main_arg4)) := by
  refine (dats m 0 c).arrAt_eq_of_covers 14 _ (by decide +kernel) fun t _ y => ?_
  idx_vars y
  obtain rfl : y0 = 0 := Subsingleton.elim _ _
  blk_simp
  rw [after0_14]
  refine cases t (fun h h1 h2 h3 => ?_) (fun h h1 h2 h3 => ?_) (fun h h1 h2 h3 => ?_) (fun h h1 h2 h3 => ?_)
  · rw [outsAt0_A m c t h h1 h2 h h3]; frame_out
    exact point14 m c t _ _ _ (tap_snd m c t _ 0 (by decide) _) (tap_snd m c t _ 1 (by decide) _) (tap_snd m c t _ 2 (by decide) _) y1 y2
  · rw [outsAt0_D m c t h h1 h2 h h3]; frame_out
    exact point14 m c t _ _ _ (tap_snd m c t _ 0 (by decide) _) (tap_snd m c t _ 1 (by decide) _) (tap_snd m c t _ 2 (by decide) _) y1 y2
  · rw [outsAt0_B m c t h h1 h2 h h3]; frame_out
    exact point14 m c t _ _ _ (tap_snd m c t _ 0 (by decide) _) (tap_snd m c t _ 1 (by decide) _) (tap_snd m c t _ 2 (by decide) _) y1 y2
  · rw [outsAt0_C m c t h h1 h2 h h3]; frame_out
    exact point14 m c t _ _ _ (tap_snd m c t _ 0 (by decide) _) (tap_snd m c t _ 1 (by decide) _) (tap_snd m c t _ 2 (by decide) _) y1 y2

/-- What a point adds to the gradient of the product's left operand. -/
def dzTerm (c : Dev nD) (t : Fin cfg0.N) (j : S688x1024.Idx) : EReal :=
  ∑ l : Fin 704, val_main_v77 (F := Ideal) (m ((c : Thread nD τ).loc main_arg3)) (m ((c : Thread nD τ).loc main_arg4)) (ix2 (row t (j 0)) (fst (pr t) l)) * m ((c : Thread nD τ).loc main_arg2) (ix2 (j 1) (fst (pr t) l))
    + ∑ l : Fin 704, val_main_v77 (F := Ideal) (m ((c : Thread nD τ).loc main_arg3)) (m ((c : Thread nD τ).loc main_arg4)) (ix2 (row t (j 0)) (snd (pr t) l)) * m ((c : Thread nD τ).loc main_arg2) (ix2 (j 1) (snd (pr t) l))

theorem step_dz (c : Dev nD) (t : Fin cfg0.N) (t0 t1 t2 s0 s1 s2 : (⟨S688x704, .f32⟩ : BufTy).Contents (Elt Ideal))
    (t0h : ∀ a l, t0 (ix2 a l) = ahead (m ((c : Thread nD τ).loc main_arg4)) 0 (sq t) (st t a) (fst (pr t) l))
    (t1h : ∀ a l, t1 (ix2 a l) = ahead (m ((c : Thread nD τ).loc main_arg4)) 1 (sq t) (st t a) (fst (pr t) l))
    (t2h : ∀ a l, t2 (ix2 a l) = ahead (m ((c : Thread nD τ).loc main_arg4)) 2 (sq t) (st t a) (fst (pr t) l))
    (s0h : ∀ a l, s0 (ix2 a l) = ahead (m ((c : Thread nD τ).loc main_arg4)) 0 (sq t) (st t a) (snd (pr t) l))
    (s1h : ∀ a l, s1 (ix2 a l) = ahead (m ((c : Thread nD τ).loc main_arg4)) 1 (sq t) (st t a) (snd (pr t) l))
    (s2h : ∀ a l, s2 (ix2 a l) = ahead (m ((c : Thread nD τ).loc main_arg4)) 2 (sq t) (st t a) (snd (pr t) l))
    (a : Fin 688) (k : Fin 1024) :
    k0_pay20 (F := Ideal) (k0_pay12 (F := Ideal) t0 t1 t2 (iblk m c 6 t)) (k0_pay17 (F := Ideal) s0 s1 s2 (iblk m c 7 t)) (iblk m c 8 t)
        (iblk m c 9 t) (ix2 a k) = dzTerm m c t (ix2 a k) := by
  rw [pay20_apply]
  refine Ideal.add_congr (Finset.sum_congr rfl fun l _ => Ideal.mul_congr ?_ (blk8 m c t k l))
    (Finset.sum_congr rfl fun l _ => Ideal.mul_congr ?_ (blk9 m c t k l))
  · exact tile12 m c t (fst (pr t)) t0 t1 t2 t0h t1h t2h _ (fun k l => blk6 m c t k l) a l
  · exact tile12 m c t (snd (pr t)) s0 s1 s2 s0h s1h s2h _ (fun k l => blk7 m c t k l) a l

theorem pay21_apply (x y : (⟨S688x704, .f32⟩ : BufTy).Contents (Elt Ideal)) (wa wb : (⟨S1x1024x704, .bf16⟩ : BufTy).Contents (Elt Ideal))
    (a : Fin 688) (k : Fin 1024) : k0_pay21 (F := Ideal) x y wa wb (ix2 a k) = k0_pay20 (F := Ideal) x y wa wb (ix2 a k) := by
  unfold k0_pay21
  generalize k0_pay20 (F := Ideal) x y wa wb = z
  pointwise!

theorem first_dz (c : Dev nD) (t : Fin cfg0.N) (h : t.val % 4 = 0) (j : S688x1024.Idx) :
    (outsAt0 m c t.val t.isLt).2.2.2.2.2.2 j = 0 + dzTerm m c t j := by
  idx_vars j
  rw [zero_add]
  by_cases h' : t.val % 48 = 0
  · rw [outsAt0_A m c t h' h (by omega) h' (by omega)]; frame_out
    exact (pay21_apply _ _ _ _ _ _).trans (step_dz m c t _ _ _ _ _ _ (tap_fst m c t _ 0 (by decide) _) (tap_fst m c t _ 1 (by decide) _) (tap_fst m c t _ 2 (by decide) _)
      (tap_snd m c t _ 0 (by decide) _) (tap_snd m c t _ 1 (by decide) _) (tap_snd m c t _ 2 (by decide) _) j0 j1)
  · rw [outsAt0_D m c t h' h (by omega) h' (by omega)]; frame_out
    exact (pay21_apply _ _ _ _ _ _).trans (step_dz m c t _ _ _ _ _ _ (tap_fst m c t _ 0 (by decide) _) (tap_fst m c t _ 1 (by decide) _) (tap_fst m c t _ 2 (by decide) _)
      (tap_snd m c t _ 0 (by decide) _) (tap_snd m c t _ 1 (by decide) _) (tap_snd m c t _ 2 (by decide) _) j0 j1)

theorem next_dz (c : Dev nD) (t : Fin cfg0.N) (h : ¬t.val % 4 = 0) (j : S688x1024.Idx) :
    (outsAt0 m c t.val t.isLt).2.2.2.2.2.2 j
      = (outsAt0 m c (t.val - 1) (Nat.lt_of_le_of_lt (Nat.sub_le _ _) t.isLt)).2.2.2.2.2.2 j + dzTerm m c t j := by
  idx_vars j
  by_cases h' : t.val % 4 = 3
  · rw [outsAt0_C m c t (by omega) h (by omega) (by omega) h']; frame_out
    refine (pay1_apply _ _ _).trans (Ideal.add_congr ?_ ?_)
    · exact congrFun (Memref.IsWhole.read_unread _ _) _
    · exact step_dz m c t _ _ _ _ _ _ (tap_fst m c t _ 0 (by decide) _) (tap_fst m c t _ 1 (by decide) _) (tap_fst m c t _ 2 (by decide) _)
        (tap_snd m c t _ 0 (by decide) _) (tap_snd m c t _ 1 (by decide) _) (tap_snd m c t _ 2 (by decide) _) j0 j1
  · rw [outsAt0_B m c t (by omega) h (by omega) (by omega) h']; frame_out
    refine (pay1_apply _ _ _).trans (Ideal.add_congr ?_ ?_)
    · exact congrFun (Memref.IsWhole.read_unread _ _) _
    · exact step_dz m c t _ _ _ _ _ _ (tap_fst m c t _ 0 (by decide) _) (tap_fst m c t _ 1 (by decide) _) (tap_fst m c t _ 2 (by decide) _)
        (tap_snd m c t _ 0 (by decide) _) (tap_snd m c t _ 1 (by decide) _) (tap_snd m c t _ 2 (by decide) _) j0 j1

/-- At the last point of a row tile the accumulator holds the gradient of the product's left operand. -/
theorem last_dz (c : Dev nD) (t : Fin cfg0.N) (h : t.val % 4 = 3) (a : Fin 688) (k : Fin 1024) :
    (outsAt0 m c t.val t.isLt).2.2.2.2.2.2 (ix2 a k) = dz (m ((c : Thread nD τ).loc main_arg2)) (m ((c : Thread nD τ).loc main_arg3)) (m ((c : Thread nD τ).loc main_arg4)) (row t a) k := by
  rw [Pipeline.eq_sum_fin_of_reset_step_apply_of_flush (fun n h => (outsAt0 m c n h).2.2.2.2.2.2) 4 (fun _ => 0) (dzTerm m c)
    (first_dz m c) (next_dz m c) t h _, zero_add]
  unfold dz
  rw [← sum_cols]
  refine Finset.sum_congr rfl fun s _ => ?_
  have er : row ⟨4 * (t.val / 4) + s.val, by have := t.isLt; omega⟩ a = row t a := by
    apply Fin.ext
    show (4 * (t.val / 4) + s.val) / 4 * 688 + a.val = t.val / 4 * 688 + a.val
    omega
  have ep : pr ⟨4 * (t.val / 4) + s.val, by have := t.isLt; omega⟩ = s := by
    apply Fin.ext
    show (4 * (t.val / 4) + s.val) % 4 = s.val
    omega
  show ∑ l : Fin 704, val_main_v77 (F := Ideal) (m ((c : Thread nD τ).loc main_arg3)) (m ((c : Thread nD τ).loc main_arg4)) (ix2 (row _ a) (fst (pr _) l)) * m ((c : Thread nD τ).loc main_arg2) (ix2 k (fst (pr _) l))
    + ∑ l : Fin 704, val_main_v77 (F := Ideal) (m ((c : Thread nD τ).loc main_arg3)) (m ((c : Thread nD τ).loc main_arg4)) (ix2 (row _ a) (snd (pr _) l)) * m ((c : Thread nD τ).loc main_arg2) (ix2 k (snd (pr _) l)) = _
  rw [er, ep]

theorem point15 (c : Dev nD) (t : Fin cfg0.N) (z : (⟨S688x1024, .f32⟩ : BufTy).Contents (Elt Ideal))
    (hz : ∀ a k, z (ix2 a k) = dz (m ((c : Thread nD τ).loc main_arg2)) (m ((c : Thread nD τ).loc main_arg3)) (m ((c : Thread nD τ).loc main_arg4)) (row t a) k) (a : Fin 688) (k : Fin 1024) :
    k0_pay7 (F := Ideal) (iblk m c 10 t) (iblk m c 11 t) z (iblk m c 12 t) (ix2 a k)
      = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 15).blk t).view.emb (ix2 a k)) := by
  rw [emb15, v107_apply, pay7_apply, blk12, funext (hz a), funext (blk10 m c t a), funext (blk11 m c t)]

theorem flush15 : ∀ t : Fin cfg0.N, (cfg0.win 15).flush t = true → t.val % 4 = 3 :=
  (by decide +kernel : ∀ t : Fin grid0.N, _)

theorem result15 (c : Dev nD) : (dats m 0 c).arrAt 15 cfg0.N
    = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 15 _ (by decide +kernel) fun t hf y => ?_
  have h := flush15 t hf
  idx_vars y
  blk_simp
  rw [after0_15, outsAt0_C m c t (by omega) (by omega) (by omega) (by omega) h]; frame_out
  refine point15 m c t _ (fun a k => Eq.trans ?_ (last_dz m c t h a k)) y0 y1
  rw [outsAt0_C m c t (by omega) (by omega) (by omega) (by omega) h]; frame_out

/-- What a point adds to the gradient of the norm's gain. -/
def gainTerm (c : Dev nD) (t : Fin cfg0.N) (j : S1x1024.Idx) : EReal :=
  if t.val % 4 = 3 then ∑ a : Fin 688, gain (fun k => m ((c : Thread nD τ).loc main_arg0) (ix2 (row t a) k)) (dz (m ((c : Thread nD τ).loc main_arg2)) (m ((c : Thread nD τ).loc main_arg3)) (m ((c : Thread nD τ).loc main_arg4)) (row t a)) (j 1) else 0

theorem first_gain (c : Dev nD) (t : Fin cfg0.N) (h : t.val % 48 = 0) (j : S1x1024.Idx) :
    (outsAt0 m c t.val t.isLt).2.2.2.1 j = 0 + gainTerm m c t j := by
  rw [outsAt0_A m c t h (by omega) (by omega) h (by omega)]; frame_out
  rw [gainTerm, if_neg (by omega), add_zero]
  exact pay2_apply j

theorem next_gain (c : Dev nD) (t : Fin cfg0.N) (h : ¬t.val % 48 = 0) (j : S1x1024.Idx) :
    (outsAt0 m c t.val t.isLt).2.2.2.1 j
      = (outsAt0 m c (t.val - 1) (Nat.lt_of_le_of_lt (Nat.sub_le _ _) t.isLt)).2.2.2.1 j + gainTerm m c t j := by
  idx_vars j
  obtain rfl : j0 = 0 := Subsingleton.elim _ _
  unfold gainTerm
  by_cases h3 : t.val % 4 = 3
  · rw [outsAt0_C m c t h (by omega) (by omega) h h3, if_pos h3]; frame_out
    refine (pay3_apply _ _ _).trans (Ideal.add_congr rfl ((pay6_apply _ _ _).trans (Finset.sum_congr rfl fun a _ => ?_)))
    rw [funext (blk10 m c t a)]
    refine congrArg (fun z => gain _ z j1) (funext fun k => Eq.trans ?_ (last_dz m c t h3 a k))
    rw [outsAt0_C m c t h (by omega) (by omega) h h3]; frame_out
  · rw [if_neg h3, add_zero]
    by_cases h1 : t.val % 4 = 0
    · rw [outsAt0_D m c t h h1 (by omega) h h3]; frame_out
      rfl
    · rw [outsAt0_B m c t h h1 (by omega) h h3]; frame_out
      rfl

theorem sum_rows (f : Fin 8256 → EReal) : ∑ i : Fin 12, ∑ a : Fin 688, f ⟨i.val * 688 + a.val, by omega⟩ = ∑ r, f r :=
  Fin.sum_mul_add_congr fun _ _ _ => rfl

/-- A sum over the points of what happens in one column block is a sum over the row tiles. -/
theorem sum_tiles (p : Fin 4) (f : Fin 8256 → EReal) (F : Fin cfg0.N → EReal)
    (hF : ∀ t, F t = if t.val % 4 = p.val then ∑ a : Fin 688, f (row t a) else 0) : ∑ t, F t = ∑ r, f r := by
  rw [← sum_rows]
  refine (Fin.sum_divmod_congr (A := 12) (S := 4) (f := fun i k => if k = p then ∑ a : Fin 688, f ⟨i.val * 688 + a.val, by omega⟩ else 0)
    fun t ha hs => ?_).trans (Finset.sum_congr rfl fun i _ => ?_)
  · rw [hF]
    by_cases h : t.val % 4 = p.val
    · rw [if_pos h, if_pos (Fin.ext h)]
      rfl
    · rw [if_neg h, if_neg fun e => h (congrArg Fin.val e)]
  · rw [Finset.sum_ite_eq' Finset.univ p, if_pos (Finset.mem_univ p)]

theorem after_last (w : Fin 19) (hw : w = 16 ∨ w = 17 ∨ w = 18) (t : Fin cfg0.N) (h : (cfg0.win w).flush t = true) : t.val + 1 = cfg0.N :=
  (by decide +kernel : ∀ w : Fin 19, w = 16 ∨ w = 17 ∨ w = 18 → ∀ t : Fin grid0.N, (cfg0.win w).flush t = true → t.val + 1 = grid0.N) w hw t h

theorem result16 (c : Dev nD) : (dats m 0 c).arrAt 16 cfg0.N
    = val_main_v81 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have hN := after_last 16 (by decide) t hf
  idx_vars y
  obtain rfl : y0 = 0 := Subsingleton.elim _ _
  blk_simp
  have e : ((cfg0.win 16).blk t).view.emb (ix2 (0 : Fin 1) y1) = ix2 (0 : Fin 1) y1 := by blk_ext [idx t]
  rw [after0_16, Pipeline.eq_sum_fin_of_reset_step_apply_last (fun n h => (outsAt0 m c n h).2.2.2.1) 48 (fun _ => 0) (gainTerm m c)
    (first_gain m c) (next_gain m c) (by decide) t hN, zero_add, e, v81_apply]
  exact sum_tiles 3 _ _ fun t => rfl

theorem off1 (t : Fin cfg0.N) : k0_off1 (grid0.coords t) = ![(pr t).val, 0, 0] :=
  (by decide +kernel : ∀ t : Fin grid0.N, k0_off1 (grid0.coords t) = ![t.val % 4, 0, 0]) t

/-- What is read back where one column block was written over `prev`. -/
def put (t : Fin cfg0.N) (w : (⟨S1x3x704, .f32⟩ : BufTy).Contents (Elt Ideal)) (prev : (⟨S4x3x704, .f32⟩ : BufTy).Contents (Elt Ideal))
    (p : Fin 4) (k : Fin 3) (l : Fin 704) : EReal :=
  if p = pr t then w (ix3 0 k l) else prev (ix3 p k l)

theorem read_put (t : Fin cfg0.N) {sp : Space} {κ : Kind} (a : Memref sig κ sp S4x3x704 .f32) (h : a.IsWhole)
    (prev : (⟨S4x3x704, .f32⟩ : BufTy).Contents (Elt Ideal))
    (inb : ∀ a, k0_off1 (grid0.coords t) a + (![1, 3, 704] : Fin 3 → ℕ) a ≤ S4x3x704.size a)
    (w : (⟨S1x3x704, .f32⟩ : BufTy).Contents (Elt Ideal)) (p : Fin 4) (k : Fin 3) (l : Fin 704) :
    a.view.read (Elt Ideal) (a.view.writes (Elt Ideal) (h.unread prev)
        [(⟨Rect.unit (s := S4x3x704) (k0_off1 (grid0.coords t)) ![1, 3, 704] inb, w⟩ : View.Piece (Elt Ideal) S4x3x704 .f32)]) (ix3 p k l)
      = put t w prev p k l := by
  unfold put
  by_cases e : p = pr t
  · rw [if_pos e]
    refine View.read_writes_cons_unit_of_mem a.view _ inb w [] (ix3 p k l) (ix3 (0 : Fin 1) k l) (off1 t) fun b => ?_
    fin_cases b
    · exact congrArg Fin.val e
    · exact (Nat.zero_add _).symm
    · exact (Nat.zero_add _).symm
  · rw [if_neg e]
    refine (View.read_writes_cons_unit_of_not_mem a.view _ inb w [] (ix3 p k l) (off1 t) 0 ?_).trans (congrFun (h.read_unread prev) _)
    show p.val < (pr t).val ∨ (pr t).val + 1 ≤ p.val
    have : p.val ≠ (pr t).val := fun h => e (Fin.ext h)
    omega

theorem canon_put (t : Fin cfg0.N)
    (inb : ∀ a, k0_off1 (grid0.coords t) a + (![1, 3, 704] : Fin 3 → ℕ) a ≤ S4x3x704.size a)
    (w : (⟨S1x3x704, .f32⟩ : BufTy).Contents (Elt Ideal)) (L : List (View.Piece (Elt Ideal) S4x3x704 .f32))
    (p : Fin 4) (k : Fin 3) (l : Fin 704) :
    View.canon ((⟨Rect.unit (s := S4x3x704) (k0_off1 (grid0.coords t)) ![1, 3, 704] inb, w⟩ : View.Piece (Elt Ideal) S4x3x704 .f32) :: L)
        (ix3 p k l) = put t w (View.canon L) p k l := by
  unfold put
  by_cases e : p = pr t
  · rw [if_pos e]
    refine (View.read_writes_junk_apply_eq_canon (ms0_17 t).view _ _).symm.trans ?_
    refine View.read_writes_cons_unit_of_mem (ms0_17 t).view _ inb w L (ix3 p k l) (ix3 (0 : Fin 1) k l) (off1 t) fun b => ?_
    fin_cases b
    · exact congrArg Fin.val e
    · exact (Nat.zero_add _).symm
    · exact (Nat.zero_add _).symm
  · rw [if_neg e]
    refine (View.read_writes_junk_apply_eq_canon (ms0_17 t).view _ _).symm.trans
      ((View.read_writes_cons_unit_of_not_mem (ms0_17 t).view _ inb w L (ix3 p k l) (off1 t) 0 ?_).trans (View.read_writes_junk_apply_eq_canon _ _ _))
    show p.val < (pr t).val ∨ (pr t).val + 1 ≤ p.val
    have : p.val ≠ (pr t).val := fun h => e (Fin.ext h)
    omega

/-- What a point adds to the gradient of the convolution's taps. -/
def tapTerm (c : Dev nD) (col : Fin 4 → Fin 704 → Fin 5632) (t : Fin cfg0.N) (j : S4x3x704.Idx) : EReal :=
  if t.val % 4 = (j 0).val then ∑ a : Fin 688, val_main_v15 (F := Ideal) (m ((c : Thread nD τ).loc main_arg0)) (m ((c : Thread nD τ).loc main_arg1)) (m ((c : Thread nD τ).loc main_arg2)) (ix2 (row t a) (col (j 0) (j 2)))
    * ahead (m ((c : Thread nD τ).loc main_arg4)) (2 - (j 1).val) (sq t) (st t a) (col (j 0) (j 2)) else 0

theorem tapTerm_apply (c : Dev nD) (col : Fin 4 → Fin 704 → Fin 5632) (t : Fin cfg0.N) (p : Fin 4) (k : Fin 3) (l : Fin 704) :
    tapTerm m c col t (ix3 p k l) = if t.val % 4 = p.val then ∑ a : Fin 688, val_main_v15 (F := Ideal) (m ((c : Thread nD τ).loc main_arg0)) (m ((c : Thread nD τ).loc main_arg1)) (m ((c : Thread nD τ).loc main_arg2)) (ix2 (row t a) (col p l))
      * ahead (m ((c : Thread nD τ).loc main_arg4)) (2 - k.val) (sq t) (st t a) (col p l) else 0 := rfl

theorem pay19_eq (t0 t1 t2 : (⟨S688x704, .f32⟩ : BufTy).Contents (Elt Ideal)) (u : (⟨S1x688x704, .bf16⟩ : BufTy).Contents (Elt Ideal))
    (w : (⟨S1x3x704, .f32⟩ : BufTy).Contents (Elt Ideal)) : k0_pay19 (F := Ideal) t0 t1 t2 u w = k0_pay14 (F := Ideal) t0 t1 t2 u w := rfl

theorem step_tap (c : Dev nD) (t : Fin cfg0.N) (col : Fin 4 → Fin 704 → Fin 5632) (t0 t1 t2 : (⟨S688x704, .f32⟩ : BufTy).Contents (Elt Ideal))
    (h0 : ∀ a l, t0 (ix2 a l) = ahead (m ((c : Thread nD τ).loc main_arg4)) 0 (sq t) (st t a) (col (pr t) l))
    (h1 : ∀ a l, t1 (ix2 a l) = ahead (m ((c : Thread nD τ).loc main_arg4)) 1 (sq t) (st t a) (col (pr t) l))
    (h2 : ∀ a l, t2 (ix2 a l) = ahead (m ((c : Thread nD τ).loc main_arg4)) 2 (sq t) (st t a) (col (pr t) l))
    (u : (⟨S1x688x704, .bf16⟩ : BufTy).Contents (Elt Ideal))
    (hu : ∀ a l, u (ix3 0 a l) = val_main_v15 (F := Ideal) (m ((c : Thread nD τ).loc main_arg0)) (m ((c : Thread nD τ).loc main_arg1)) (m ((c : Thread nD τ).loc main_arg2)) (ix2 (row t a) (col (pr t) l)))
    (p : Fin 4) (k : Fin 3) (l : Fin 704)
    (prev : (⟨S4x3x704, .f32⟩ : BufTy).Contents (Elt Ideal))
    (inb : ∀ a, k0_off1 (grid0.coords t) a + (![1, 3, 704] : Fin 3 → ℕ) a ≤ S4x3x704.size a) :
    put t (k0_pay14 (F := Ideal) t0 t1 t2 u (View.ld prev (Rect.unit (s := S4x3x704) (k0_off1 (grid0.coords t)) ![1, 3, 704] inb))) prev p k l
      = prev (ix3 p k l) + tapTerm m c col t (ix3 p k l) := by
  rw [tapTerm_apply]
  unfold put
  by_cases e : p = pr t
  · subst e
    rw [if_pos rfl, if_pos (show t.val % 4 = (pr t).val from rfl), tile14 m c t (col (pr t)) t0 t1 t2 h0 h1 h2 u _ hu k l]
    refine Ideal.add_congr (View.ld_unit_apply_of prev _ _ inb _ _ fun b => ?_) rfl
    refine Eq.trans ?_ (congrArg (· + _) (congrFun (off1 t) b).symm)
    fin_cases b
    · rfl
    · exact (Nat.zero_add _).symm
    · exact (Nat.zero_add _).symm
  · rw [if_neg e, if_neg (fun h => e (Fin.ext h.symm)), add_zero]

theorem sum_taps (c : Dev nD) (col : Fin 4 → Fin 704 → Fin 5632) (p : Fin 4) (k : Fin 3) (l : Fin 704) :
    ∑ t, tapTerm m c col t (ix3 p k l) = dtap (m ((c : Thread nD τ).loc main_arg0)) (m ((c : Thread nD τ).loc main_arg1)) (m ((c : Thread nD τ).loc main_arg2)) (m ((c : Thread nD τ).loc main_arg4)) (2 - k.val) (col p l) := by
  rw [dtap_eq]
  have hd : ∀ d : ℕ, ∑ b : Fin 4, ∑ s : Fin 2064, val_main_v15 (F := Ideal) (m ((c : Thread nD τ).loc main_arg0)) (m ((c : Thread nD τ).loc main_arg1)) (m ((c : Thread nD τ).loc main_arg2)) (ix2 (seq b s) (col p l)) * ahead (m ((c : Thread nD τ).loc main_arg4)) d b s (col p l)
      = ∑ r : Fin 8256, val_main_v15 (F := Ideal) (m ((c : Thread nD τ).loc main_arg0)) (m ((c : Thread nD τ).loc main_arg1)) (m ((c : Thread nD τ).loc main_arg2)) (ix2 r (col p l)) * ahead (m ((c : Thread nD τ).loc main_arg4)) d ⟨r.val / 2064, by omega⟩ ⟨r.val % 2064, by omega⟩ (col p l) := fun d =>
    Fin.sum_mul_add_congr fun b s h => by
      have eb : (⟨(b.val * 2064 + s.val) / 2064, by omega⟩ : Fin 4) = b := Fin.ext (by show _ / _ = _; omega)
      have es : (⟨(b.val * 2064 + s.val) % 2064, by omega⟩ : Fin 2064) = s := Fin.ext (by show _ % _ = _; omega)
      rw [eb, es]
      rfl
  rw [hd]
  refine sum_tiles p _ _ fun t => ?_
  unfold tapTerm
  refine if_congr Iff.rfl (Finset.sum_congr rfl fun a _ => ?_) rfl
  have eb : sq t = ⟨(row t a).val / 2064, by omega⟩ := Fin.ext (by show t.val / 12 = (t.val / 4 * 688 + a.val) / 2064; omega)
  have es : st t a = ⟨(row t a).val % 2064, by omega⟩ := by
    have e := congrArg Fin.val (seq_sq t a)
    have e' : (sq t).val * 2064 + (st t a).val = (row t a).val := e
    exact Fin.ext (by show (st t a).val = (row t a).val % 2064; have := (st t a).isLt; omega)
  rw [eb, es]
  rfl

theorem first_fst_tap (c : Dev nD) (t : Fin cfg0.N) (h : t.val % 48 = 0) (j : S4x3x704.Idx) :
    (outsAt0 m c t.val t.isLt).2.2.2.2.1 j = 0 + tapTerm m c fst t j := by
  idx_vars j
  rw [outsAt0_A m c t h (by omega) (by omega) h (by omega)]; frame_out
  refine (canon_put t _ _ _ j0 j1 j2).trans ?_
  rw [View.canon_cons_unit_lit _ _ _ (by decide)]
  refine (step_tap m c t fst _ _ _ ?_ ?_ ?_ _ (fun a l => blk4 m c t a l) j0 j1 j2 _ _).trans (Ideal.add_congr (pay8_apply _) rfl)
  · exact tap_fst m c t _ 0 (by decide) _
  · exact tap_fst m c t _ 1 (by decide) _
  · exact tap_fst m c t _ 2 (by decide) _

theorem next_fst_tap (c : Dev nD) (t : Fin cfg0.N) (h : ¬t.val % 48 = 0) (j : S4x3x704.Idx) :
    (outsAt0 m c t.val t.isLt).2.2.2.2.1 j
      = (outsAt0 m c (t.val - 1) (Nat.lt_of_le_of_lt (Nat.sub_le _ _) t.isLt)).2.2.2.2.1 j + tapTerm m c fst t j := by
  idx_vars j
  refine cases t (fun h' _ _ _ => absurd h' h) (fun h h1 h2 h3 => ?_) (fun h h1 h2 h3 => ?_) (fun h h1 h2 h3 => ?_)
  · rw [outsAt0_D m c t h h1 h2 h h3]; frame_out
    refine (read_put t _ _ _ _ _ j0 j1 j2).trans ?_
    refine step_tap m c t fst _ _ _ ?_ ?_ ?_ _ (fun a l => blk4 m c t a l) j0 j1 j2 _ _
    · exact tap_fst m c t _ 0 (by decide) _
    · exact tap_fst m c t _ 1 (by decide) _
    · exact tap_fst m c t _ 2 (by decide) _
  · rw [outsAt0_B m c t h h1 h2 h h3]; frame_out
    refine (read_put t _ _ _ _ _ j0 j1 j2).trans ?_
    refine step_tap m c t fst _ _ _ ?_ ?_ ?_ _ (fun a l => blk4 m c t a l) j0 j1 j2 _ _
    · exact tap_fst m c t _ 0 (by decide) _
    · exact tap_fst m c t _ 1 (by decide) _
    · exact tap_fst m c t _ 2 (by decide) _
  · rw [outsAt0_C m c t h h1 h2 h h3]; frame_out
    refine (read_put t _ _ _ _ _ j0 j1 j2).trans ?_
    refine step_tap m c t fst _ _ _ ?_ ?_ ?_ _ (fun a l => blk4 m c t a l) j0 j1 j2 _ _
    · exact tap_fst m c t _ 0 (by decide) _
    · exact tap_fst m c t _ 1 (by decide) _
    · exact tap_fst m c t _ 2 (by decide) _

theorem result17 (c : Dev nD) : (dats m 0 c).arrAt 17 cfg0.N
    = val_main_v109 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 17 _ (by decide +kernel) fun t hf y => ?_
  have hN := after_last 17 (by decide) t hf
  idx_vars y
  blk_simp
  have e : ((cfg0.win 17).blk t).view.emb (ix3 y0 y1 y2) = ix3 y0 y1 y2 := by blk_ext [idx t]
  rw [after0_17, Pipeline.eq_sum_fin_of_reset_step_apply_last (fun n h => (outsAt0 m c n h).2.2.2.2.1) 48 (fun _ => 0) (tapTerm m c fst)
    (first_fst_tap m c) (next_fst_tap m c) (by decide) t hN, zero_add, e, v109_apply]
  exact sum_taps m c fst y0 y1 y2

theorem first_snd_tap (c : Dev nD) (t : Fin cfg0.N) (h : t.val % 48 = 0) (j : S4x3x704.Idx) :
    (outsAt0 m c t.val t.isLt).2.2.2.2.2.1 j = 0 + tapTerm m c snd t j := by
  idx_vars j
  rw [outsAt0_A m c t h (by omega) (by omega) h (by omega)]; frame_out
  refine (canon_put t _ _ _ j0 j1 j2).trans ?_
  rw [View.canon_cons_unit_lit _ _ _ (by decide)]
  rw [pay19_eq]
  refine (step_tap m c t snd _ _ _ ?_ ?_ ?_ _ (fun a l => blk5 m c t a l) j0 j1 j2 _ _).trans (Ideal.add_congr (pay9_apply _) rfl)
  · exact tap_snd m c t _ 0 (by decide) _
  · exact tap_snd m c t _ 1 (by decide) _
  · exact tap_snd m c t _ 2 (by decide) _

theorem next_snd_tap (c : Dev nD) (t : Fin cfg0.N) (h : ¬t.val % 48 = 0) (j : S4x3x704.Idx) :
    (outsAt0 m c t.val t.isLt).2.2.2.2.2.1 j
      = (outsAt0 m c (t.val - 1) (Nat.lt_of_le_of_lt (Nat.sub_le _ _) t.isLt)).2.2.2.2.2.1 j + tapTerm m c snd t j := by
  idx_vars j
  refine cases t (fun h' _ _ _ => absurd h' h) (fun h h1 h2 h3 => ?_) (fun h h1 h2 h3 => ?_) (fun h h1 h2 h3 => ?_)
  · rw [outsAt0_D m c t h h1 h2 h h3]; frame_out
    refine (read_put t _ _ _ _ _ j0 j1 j2).trans ?_
    rw [pay19_eq]
    refine step_tap m c t snd _ _ _ ?_ ?_ ?_ _ (fun a l => blk5 m c t a l) j0 j1 j2 _ _
    · exact tap_snd m c t _ 0 (by decide) _
    · exact tap_snd m c t _ 1 (by decide) _
    · exact tap_snd m c t _ 2 (by decide) _
  · rw [outsAt0_B m c t h h1 h2 h h3]; frame_out
    refine (read_put t _ _ _ _ _ j0 j1 j2).trans ?_
    rw [pay19_eq]
    refine step_tap m c t snd _ _ _ ?_ ?_ ?_ _ (fun a l => blk5 m c t a l) j0 j1 j2 _ _
    · exact tap_snd m c t _ 0 (by decide) _
    · exact tap_snd m c t _ 1 (by decide) _
    · exact tap_snd m c t _ 2 (by decide) _
  · rw [outsAt0_C m c t h h1 h2 h h3]; frame_out
    refine (read_put t _ _ _ _ _ j0 j1 j2).trans ?_
    rw [pay19_eq]
    refine step_tap m c t snd _ _ _ ?_ ?_ ?_ _ (fun a l => blk5 m c t a l) j0 j1 j2 _ _
    · exact tap_snd m c t _ 0 (by decide) _
    · exact tap_snd m c t _ 1 (by decide) _
    · exact tap_snd m c t _ 2 (by decide) _

theorem result18 (c : Dev nD) : (dats m 0 c).arrAt 18 cfg0.N
    = val_main_v111 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 18 _ (by decide +kernel) fun t hf y => ?_
  have hN := after_last 18 (by decide) t hf
  idx_vars y
  blk_simp
  have e : ((cfg0.win 18).blk t).view.emb (ix3 y0 y1 y2) = ix3 y0 y1 y2 := by blk_ext [idx t]
  rw [after0_18, Pipeline.eq_sum_fin_of_reset_step_apply_last (fun n h => (outsAt0 m c n h).2.2.2.2.2.1) 48 (fun _ => 0) (tapTerm m c snd)
    (first_snd_tap m c) (next_snd_tap m c) (by decide) t hN, zero_add, e, v111_apply]
  exact sum_taps m c snd y0 y1 y2

end Finals

end Cert.ConvIdeal.Value

namespace Cert.Conv

open Idealize.ShloMosaic Idealize.SL.Sem Cert.ConvRefIdeal.Read

/-- The kernel's six gradients of the convolution and of the norm before it are the reference's. -/
theorem algebraic : Cert.algebraic_ConvIdeal_ConvRefIdeal := by
  pair_intro
  · run_from Cert.ConvIdeal.Value.run_blocks m g
  · run_from Cert.ConvRefIdeal.Entry.run m' g'
    · exact (Cert.ConvIdeal.Value.result13 m c).symm
    · exact (Cert.ConvIdeal.Value.result14 m c).symm
    · exact (Cert.ConvIdeal.Value.result15 m c).symm
    · exact (Cert.ConvIdeal.Value.result16 m c).symm
    · exact (Cert.ConvIdeal.Value.result17 m c).symm
    · exact (Cert.ConvIdeal.Value.result18 m c).symm

end Cert.Conv

end
-- ==== Proof.InRead.lean ====
/- The reference's gradient through the norm before the recurrences' input product, read entry by entry. -/
module

public import proofs.«01_k».proof.Proof.ConvRead
public import proofs.«01_k».proof.Proof.Gen.InRefIdeal.Run
public import proofs.«01_k».proof.Proof.Gen.InRefIdeal.Read
public import Idealize.ShloMosaic.Lib.Pointwise
public import Idealize.ShloMosaic.Lib.Pipeline.ValueKit

@[expose] public section

set_option maxRecDepth 16384

noncomputable section

namespace Cert.InRefIdeal.Entry

open Cert.InRefIdeal Cert.InRefIdeal.Gen Cert.InRefIdeal.Read Idealize.ShloMosaic
open Cert.ConvRefIdeal.Entry (msq gain dnorm)

variable (x0 : (⟨S8256x7168, .bf16⟩ : BufTy).Contents (Elt Ideal)) (x1 : (⟨S1024x7168, .f32⟩ : BufTy).Contents (Elt Ideal))
  (x2 : (⟨S8256x1024, .f32⟩ : BufTy).Contents (Elt Ideal)) (x3 : (⟨S1x1024, .f32⟩ : BufTy).Contents (Elt Ideal))
  (x4 : (⟨S8256x1024, .f32⟩ : BufTy).Contents (Elt Ideal))

theorem v6_apply (r : Fin 8256) : val_main_v6 (F := Ideal) x2 (ix2 r 0) = msq fun k => x2 (ix2 r k) := by
  unfold msq
  pointwise! [val_main_v6, val_main_v5, val_main_v4, val_main_v3, val_main_v2, val_main_v1, val_main_v0, val_main_cst,
    val_main_cst_0, val_main_cst_1]

/-- One column's part of the gradient of the product's left operand. -/
def dprod (r : Fin 8256) (k : Fin 1024) (q : Fin 7168) : EReal := x0 (ix2 r q) * x1 (ix2 k q)

/-- The gradient of the product's left operand. -/
def dz (r : Fin 8256) (k : Fin 1024) : EReal := ∑ q : Fin 7168, dprod x0 x1 r k q

theorem v17_apply (r : Fin 8256) (k : Fin 1024) : val_main_v17 (F := Ideal) x0 x1 (ix2 r k) = dz x0 x1 r k := by
  unfold dz dprod
  pointwise! [val_main_v17, val_main_v16]

theorem v18_apply (r : Fin 8256) (k : Fin 1024) : val_main_v18 (F := Ideal) x0 x1 x2 (ix2 r k)
    = gain (fun k => x2 (ix2 r k)) (dz x0 x1 r) k := by
  unfold gain
  rw [← v6_apply, ← v17_apply]
  unfold val_main_v18
  generalize val_main_v17 (F := Ideal) x0 x1 = y
  unfold val_main_v12 val_main_v11 val_main_v7
  generalize val_main_v6 (F := Ideal) x2 = y'
  pointwise!

theorem v20_apply (k : Fin 1024) : val_main_v20 (F := Ideal) x0 x1 x2 (ix2 (0 : Fin 1) k)
    = ∑ r : Fin 8256, gain (fun k => x2 (ix2 r k)) (dz x0 x1 r) k := by
  refine Eq.trans ?_ (Finset.sum_congr rfl fun r _ => v18_apply x0 x1 x2 r k)
  unfold val_main_v20 val_main_v19
  generalize val_main_v18 (F := Ideal) x0 x1 x2 = y
  pointwise! [val_main_cst_3]

theorem v22_apply (r : Fin 8256) (k : Fin 1024) : val_main_v22 (F := Ideal) x0 x1 x3 (ix2 r k) = dz x0 x1 r k * x3 (ix2 0 k) := by
  rw [← v17_apply]
  unfold val_main_v22
  generalize val_main_v17 (F := Ideal) x0 x1 = y
  pointwise! [val_main_v21]

theorem v25_apply (r : Fin 8256) : val_main_v25 (F := Ideal) x0 x1 x2 x3 (ix2 r 0)
    = ∑ j, x2 (ix2 r j) * (dz x0 x1 r j * x3 (ix2 0 j)) := by
  refine Eq.trans ?_ (Finset.sum_congr rfl fun j _ => congrArg (x2 (ix2 r j) * ·) (v22_apply x0 x1 x3 r j))
  unfold val_main_v25 val_main_v24 val_main_v23
  generalize val_main_v22 (F := Ideal) x0 x1 x3 = y
  pointwise! [val_main_cst_4]

theorem v31_apply (r : Fin 8256) : val_main_v31 (F := Ideal) x0 x1 x2 x3 (ix2 r 0)
    = Ideal.div ((∑ j, x2 (ix2 r j) * (dz x0 x1 r j * x3 (ix2 0 j)))
        * (Ideal.ofBits .f32 0xBF000000#32 * Ideal.div (Ideal.rsqrt (msq fun k => x2 (ix2 r k))) (msq fun k => x2 (ix2 r k))))
        (Ideal.ofBits .f32 0x44800000#32) := by
  rw [← v6_apply, ← v25_apply x0 x1 x2 x3]
  unfold val_main_v31 val_main_v29
  generalize val_main_v25 (F := Ideal) x0 x1 x2 x3 = y
  unfold val_main_v10 val_main_v8 val_main_v7
  generalize val_main_v6 (F := Ideal) x2 = y'
  pointwise! [val_main_v30, val_main_v9, val_main_cst_5, val_main_cst_2]

theorem v33_apply (r : Fin 8256) (k : Fin 1024) : val_main_v33 (F := Ideal) x0 x1 x2 x3 (ix2 r k)
    = val_main_v31 (F := Ideal) x0 x1 x2 x3 (ix2 r 0) := by
  unfold val_main_v33 val_main_v32
  generalize val_main_v31 (F := Ideal) x0 x1 x2 x3 = y
  pointwise! [val_main_cst_6]
  exact Fin.sum_univ_one _

theorem v37_apply (r : Fin 8256) (k : Fin 1024) : val_main_v37 (F := Ideal) x0 x1 x2 x3 x4 (ix2 r k)
    = x4 (ix2 r k) + dnorm (fun k => x2 (ix2 r k)) (fun k => x3 (ix2 0 k)) (dz x0 x1 r) k := by
  unfold dnorm
  rw [← v31_apply x0 x1 x2 x3, ← v33_apply x0 x1 x2 x3 r k, ← v22_apply x0 x1 x3, ← v6_apply, ← add_assoc, ← add_assoc]
  unfold val_main_v37 val_main_v36 val_main_v35 val_main_v34 val_main_v28 val_main_v27
  generalize val_main_v33 (F := Ideal) x0 x1 x2 x3 = y
  generalize val_main_v22 (F := Ideal) x0 x1 x3 = y'
  unfold val_main_v26 val_main_v7
  generalize val_main_v6 (F := Ideal) x2 = y''
  pointwise!

open Idealize.SL.Sem Cert.InRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v37_eq m c),
      (h c).2.1.trans (val_main_v20_eq _ _ _),
      (h c).2.2⟩) (Cert.InRefIdeal.Value.run m ρ)

end Cert.InRefIdeal.Entry

end
-- ==== Proof.InValue.lean ====
/- The gradient through the recurrences' input product and the norm before it: the two arrays the kernel leaves are the
reference's. -/
module

public import proofs.«01_k».proof.Defs
public import proofs.«01_k».proof.Proof.Gen.InIdeal.Value
public import proofs.«01_k».proof.Proof.InRead
public import Idealize.ShloMosaic.Lib.Pipeline.ValueKit
public import Idealize.ShloMosaic.Lib.Pointwise

@[expose] public section

set_option maxRecDepth 16384

noncomputable section

namespace Cert.InIdeal.Value

open Cert.InIdeal Cert.InIdeal.Gen Idealize.ShloMosaic Idealize.ShloMosaic.TcCoe Idealize.SL.Sem
open Idealize.ShloMosaic.Pipeline (Dat)
open Cert.InRefIdeal.Read Cert.InRefIdeal.Entry
open Cert.ConvRefIdeal.Entry (msq gain dnorm)

variable (m : (ℓ : Loc nD τ sig) → Buf (Elt Ideal) ℓ)

theorem idx : ∀ t : Fin cfg0.N, win0_0.index t = ![t.val / 8, t.val % 8] ∧ win0_1.index t = ![t.val % 8, 0, 0] ∧
    win0_2.index t = ![t.val / 8, 0] ∧ win0_3.index t = ![0, 0] ∧ win0_4.index t = ![t.val / 8, 0] ∧
    win0_5.index t = ![t.val / 8, 0] ∧ win0_6.index t = ![0, 0] :=
  (by decide +kernel : ∀ t : Fin grid0.N, _)

theorem lt96 (t : Fin cfg0.N) : t.val < 96 := (by decide +kernel : ∀ t : Fin grid0.N, t.val < 96) t

/-- Row `a` of a point's row tile, among all rows. -/
def row (t : Fin cfg0.N) (a : Fin 688) : Fin 8256 := ⟨t.val / 8 * 688 + a.val, by have := lt96 t; omega⟩

/-- Column `l` of a point's column block, among all columns. -/
def col (t : Fin cfg0.N) (l : Fin 896) : Fin 7168 := ⟨t.val % 8 * 896 + l.val, by omega⟩

theorem pay1_apply (x : (⟨S688x896, .bf16⟩ : BufTy).Contents (Elt Ideal)) (w : (⟨S1x1024x896, .bf16⟩ : BufTy).Contents (Elt Ideal))
    (a : Fin 688) (k : Fin 1024) : k0_pay1 (F := Ideal) x w (ix2 a k) = ∑ l : Fin 896, x (ix2 a l) * w (ix3 0 k l) := by
  pointwise! [k0_pay1]

theorem pay2_apply (x : (⟨S688x896, .bf16⟩ : BufTy).Contents (Elt Ideal)) (w : (⟨S1x1024x896, .bf16⟩ : BufTy).Contents (Elt Ideal))
    (a : Fin 688) (k : Fin 1024) : k0_pay2 (F := Ideal) x w (ix2 a k) = ∑ l : Fin 896, x (ix2 a l) * w (ix3 0 k l) := by
  rw [← pay1_apply]
  unfold k0_pay2
  generalize k0_pay1 (F := Ideal) x w = y
  pointwise!

theorem pay3_apply (x : (⟨S688x896, .bf16⟩ : BufTy).Contents (Elt Ideal)) (w : (⟨S1x1024x896, .bf16⟩ : BufTy).Contents (Elt Ideal))
    (v : (⟨S688x1024, .f32⟩ : BufTy).Contents (Elt Ideal)) (a : Fin 688) (k : Fin 1024) :
    k0_pay3 (F := Ideal) x w v (ix2 a k) = v (ix2 a k) + ∑ l : Fin 896, x (ix2 a l) * w (ix3 0 k l) := by
  rw [← pay1_apply]
  unfold k0_pay3
  generalize k0_pay1 (F := Ideal) x w = y
  pointwise!

theorem pay4_apply (j : S1x1024.Idx) : k0_pay4 (F := Ideal) j = 0 := by pointwise [k0_pay4]

theorem pay5_apply (x y : (⟨S1x1024, .f32⟩ : BufTy).Contents (Elt Ideal)) (j : S1x1024.Idx) : k0_pay5 (F := Ideal) x y j = y j + x j := by
  idx_vars j
  pointwise! [k0_pay5]

theorem pay6_apply (x : (⟨S688x1024, .f32⟩ : BufTy).Contents (Elt Ideal)) (a : Fin 688) :
    k0_pay6 (F := Ideal) x (ix2 a 0) = msq fun k => x (ix2 a k) := by
  unfold msq
  pointwise! [k0_pay6]

theorem pay8_apply (x z : (⟨S688x1024, .f32⟩ : BufTy).Contents (Elt Ideal)) (k : Fin 1024) :
    k0_pay8 (F := Ideal) x z (ix2 0 k) = ∑ a : Fin 688, gain (fun k => x (ix2 a k)) (fun k => z (ix2 a k)) k := by
  unfold gain
  simp only [← pay6_apply]
  unfold k0_pay8 k0_pay7
  generalize k0_pay6 (F := Ideal) x = y
  pointwise!

theorem pay9_apply (x z e : (⟨S688x1024, .f32⟩ : BufTy).Contents (Elt Ideal)) (g : (⟨S1x1024, .f32⟩ : BufTy).Contents (Elt Ideal))
    (a : Fin 688) (k : Fin 1024) : k0_pay9 (F := Ideal) x g z e (ix2 a k)
      = e (ix2 a k) + dnorm (fun k => x (ix2 a k)) (fun k => g (ix2 0 k)) (fun k => z (ix2 a k)) k := by
  unfold dnorm
  rw [← pay6_apply]
  unfold k0_pay9 k0_pay7
  generalize k0_pay6 (F := Ideal) x = y
  pointwise!
  simp only [Fin.sum_univ_one]

section Operands

theorem w_split (x : FVec Ideal S1024x7168 .f32) (p : Fin 8) (k : Fin 1024) (l : Fin 896) :
    transpose S8x1024x896 [1, 0, 2] (fun i => shapeCast S1024x8x896 (truncf .bf16 x bitsLt_bf16_f32) shapeCasts_S1024x7168_S1024x8x896 i)
      transposes_S1024x8x896_S8x1024x896_1_0_2 (ix3 p k l) = x (ix2 k ⟨p.val * 896 + l.val, by omega⟩) := by
  pointwise!

theorem blk0 (c : Dev nD) (t : Fin cfg0.N) (a : Fin 688) (l : Fin 896) :
    iblk m c 0 t (ix2 a l) = m ((c : Thread nD τ).loc main_arg0) (ix2 (row t a) (col t l)) := by
  unfold row col
  blk_point [iblk, V, idx t]

theorem blk1 (c : Dev nD) (t : Fin cfg0.N) (k : Fin 1024) (l : Fin 896) :
    iblk m c 1 t (ix3 0 k l) = m ((c : Thread nD τ).loc main_arg1) (ix2 k (col t l)) := by
  have e : ((cfg0.win 1).blk t).view.emb (ix3 0 k l) = ix3 (n0 := 8) (n1 := 1024) (n2 := 896) ⟨t.val % 8, by omega⟩ k l := by
    blk_ext [idx t]
  unfold iblk
  blk_simp
  rw [e]
  entry_read
  exact w_split _ _ _ _

theorem blk2 (c : Dev nD) (t : Fin cfg0.N) (a : Fin 688) (k : Fin 1024) :
    iblk m c 2 t (ix2 a k) = m ((c : Thread nD τ).loc main_arg2) (ix2 (row t a) k) := by
  unfold row
  blk_point [iblk, V, idx t]

theorem blk3 (c : Dev nD) (t : Fin cfg0.N) (k : Fin 1024) : iblk m c 3 t (ix2 0 k) = m ((c : Thread nD τ).loc main_arg3) (ix2 0 k) := by
  blk_point [iblk, V, idx t]

theorem blk4 (c : Dev nD) (t : Fin cfg0.N) (a : Fin 688) (k : Fin 1024) :
    iblk m c 4 t (ix2 a k) = m ((c : Thread nD τ).loc main_arg4) (ix2 (row t a) k) := by
  unfold row
  blk_point [iblk, V, idx t]

end Operands

section Finals

/-- What a point's column block adds to the gradient of the product's left operand. -/
def dzTerm (c : Dev nD) (t : Fin cfg0.N) (j : S688x1024.Idx) : EReal :=
  ∑ l : Fin 896, dprod (m ((c : Thread nD τ).loc main_arg0)) (m ((c : Thread nD τ).loc main_arg1)) (row t (j 0)) (j 1) (col t l)

theorem blk_term (c : Dev nD) (t : Fin cfg0.N) (a : Fin 688) (k : Fin 1024) (x : (⟨S688x896, .bf16⟩ : BufTy).Contents (Elt Ideal))
    (w : (⟨S1x1024x896, .bf16⟩ : BufTy).Contents (Elt Ideal)) (hx : x = iblk m c 0 t) (hw : w = iblk m c 1 t) :
    ∑ l : Fin 896, x (ix2 a l) * w (ix3 0 k l) = dzTerm m c t (ix2 a k) := by
  subst hx hw
  exact Finset.sum_congr rfl fun l _ => congrArg₂ (fun x y : EReal => x * y) (blk0 m c t a l) (blk1 m c t k l)

theorem first_dz (c : Dev nD) (t : Fin cfg0.N) (h : t.val % 8 = 0) (j : S688x1024.Idx) :
    (outsAt0 m c t.val t.isLt).2.2 j = 0 + dzTerm m c t j := by
  idx_vars j
  rw [zero_add]
  by_cases h' : t.val % 96 = 0
  · rw [outsAt0_A m c t h (by omega) h' (by omega)]; frame_out
    exact (pay2_apply _ _ _ _).trans (blk_term m c t _ _ _ _ rfl rfl)
  · rw [outsAt0_D m c t h (by omega) h' (by omega)]; frame_out
    exact (pay2_apply _ _ _ _).trans (blk_term m c t _ _ _ _ rfl rfl)

theorem next_dz (c : Dev nD) (t : Fin cfg0.N) (h : ¬t.val % 8 = 0) (j : S688x1024.Idx) :
    (outsAt0 m c t.val t.isLt).2.2 j
      = (outsAt0 m c (t.val - 1) (Nat.lt_of_le_of_lt (Nat.sub_le _ _) t.isLt)).2.2 j + dzTerm m c t j := by
  idx_vars j
  by_cases h' : t.val % 8 = 7
  · rw [outsAt0_C m c t h (by omega) (by omega) h']; frame_out
    exact (pay3_apply _ _ _ _ _).trans (Ideal.add_congr (congrFun (Memref.IsWhole.read_unread _ _) _) (blk_term m c t _ _ _ _ rfl rfl))
  · rw [outsAt0_B m c t h (by omega) (by omega) h']; frame_out
    exact (pay3_apply _ _ _ _ _).trans (Ideal.add_congr (congrFun (Memref.IsWhole.read_unread _ _) _) (blk_term m c t _ _ _ _ rfl rfl))

/-- At the last point of a row tile the accumulator holds the gradient of the product's left operand. -/
theorem last_dz (c : Dev nD) (t : Fin cfg0.N) (h : t.val % 8 = 7) (a : Fin 688) (k : Fin 1024) :
    (outsAt0 m c t.val t.isLt).2.2 (ix2 a k) = dz (m ((c : Thread nD τ).loc main_arg0)) (m ((c : Thread nD τ).loc main_arg1)) (row t a) k := by
  rw [Pipeline.eq_sum_fin_of_reset_step_apply_of_flush (fun n h => (outsAt0 m c n h).2.2) 8 (fun _ => 0) (dzTerm m c)
    (first_dz m c) (next_dz m c) t h _, zero_add]
  unfold dz
  refine Eq.trans ?_ (Fin.sum_mul_add_congr (f := dprod (m ((c : Thread nD τ).loc main_arg0)) (m ((c : Thread nD τ).loc main_arg1)) (row t a) k)
    (F := fun (s : Fin 8) (l : Fin 896) => dprod (m ((c : Thread nD τ).loc main_arg0)) (m ((c : Thread nD τ).loc main_arg1)) (row t a) k ⟨s.val * 896 + l.val, by omega⟩) fun s l h => rfl)
  refine Finset.sum_congr rfl fun s _ => ?_
  have er : row ⟨8 * (t.val / 8) + s.val, by have := t.isLt; omega⟩ a = row t a := by
    apply Fin.ext
    show (8 * (t.val / 8) + s.val) / 8 * 688 + a.val = t.val / 8 * 688 + a.val
    omega
  refine Finset.sum_congr rfl fun l _ => ?_
  have ep : col ⟨8 * (t.val / 8) + s.val, by have := t.isLt; omega⟩ l = ⟨s.val * 896 + l.val, by omega⟩ := by
    apply Fin.ext
    show (8 * (t.val / 8) + s.val) % 8 * 896 + l.val = s.val * 896 + l.val
    omega
  show dprod (m ((c : Thread nD τ).loc main_arg0)) (m ((c : Thread nD τ).loc main_arg1)) (row _ a) k (col _ l) = _
  rw [er, ep]

theorem flush5 : ∀ t : Fin cfg0.N, (cfg0.win 5).flush t = true → t.val % 8 = 7 :=
  (by decide +kernel : ∀ t : Fin grid0.N, _)

theorem emb5 (t : Fin cfg0.N) (a : Fin 688) (k : Fin 1024) : ((cfg0.win 5).blk t).view.emb (ix2 a k)
    = ix2 (n0 := 8256) (n1 := 1024) (row t a) k := by
  unfold row
  blk_ext [idx t]

theorem point5 (c : Dev nD) (t : Fin cfg0.N) (z : (⟨S688x1024, .f32⟩ : BufTy).Contents (Elt Ideal))
    (hz : ∀ a k, z (ix2 a k) = dz (m ((c : Thread nD τ).loc main_arg0)) (m ((c : Thread nD τ).loc main_arg1)) (row t a) k) (a : Fin 688) (k : Fin 1024) :
    k0_pay9 (F := Ideal) (iblk m c 2 t) (iblk m c 3 t) z (iblk m c 4 t) (ix2 a k)
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 a k)) := by
  rw [emb5, v37_apply, pay9_apply, blk4, funext (hz a), funext (blk2 m c t a), funext (blk3 m c t)]

theorem result5 (c : Dev nD) : (dats m 0 c).arrAt 5 cfg0.N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := flush5 t hf
  idx_vars y
  blk_simp
  rw [after0_5, outsAt0_C m c t (by omega) (by omega) (by omega) h]; frame_out
  refine point5 m c t _ (fun a k => Eq.trans ?_ (last_dz m c t h a k)) y0 y1
  rw [outsAt0_C m c t (by omega) (by omega) (by omega) h]; frame_out

/-- What a point adds to the gradient of the norm's gain. -/
def gainTerm (c : Dev nD) (t : Fin cfg0.N) (j : S1x1024.Idx) : EReal :=
  if t.val % 8 = 7 then ∑ a : Fin 688, gain (fun k => m ((c : Thread nD τ).loc main_arg2) (ix2 (row t a) k)) (dz (m ((c : Thread nD τ).loc main_arg0)) (m ((c : Thread nD τ).loc main_arg1)) (row t a)) (j 1) else 0

theorem first_gain (c : Dev nD) (t : Fin cfg0.N) (h : t.val % 96 = 0) (j : S1x1024.Idx) :
    (outsAt0 m c t.val t.isLt).2.1 j = 0 + gainTerm m c t j := by
  rw [outsAt0_A m c t (by omega) (by omega) h (by omega)]; frame_out
  rw [gainTerm, if_neg (by omega), add_zero]
  exact pay4_apply j

theorem next_gain (c : Dev nD) (t : Fin cfg0.N) (h : ¬t.val % 96 = 0) (j : S1x1024.Idx) :
    (outsAt0 m c t.val t.isLt).2.1 j
      = (outsAt0 m c (t.val - 1) (Nat.lt_of_le_of_lt (Nat.sub_le _ _) t.isLt)).2.1 j + gainTerm m c t j := by
  idx_vars j
  obtain rfl : j0 = 0 := Subsingleton.elim _ _
  unfold gainTerm
  by_cases h3 : t.val % 8 = 7
  · rw [outsAt0_C m c t (by omega) (by omega) h h3, if_pos h3]; frame_out
    refine (pay5_apply _ _ _).trans (Ideal.add_congr rfl ((pay8_apply _ _ _).trans (Finset.sum_congr rfl fun a _ => ?_)))
    rw [funext (blk2 m c t a)]
    refine congrArg (fun z => gain _ z j1) (funext fun k => Eq.trans ?_ (last_dz m c t h3 a k))
    rw [outsAt0_C m c t (by omega) (by omega) h h3]; frame_out
  · rw [if_neg h3, add_zero]
    by_cases h1 : t.val % 8 = 0
    · rw [outsAt0_D m c t h1 (by omega) h h3]; frame_out
      rfl
    · rw [outsAt0_B m c t h1 (by omega) h h3]; frame_out
      rfl

theorem after_last (t : Fin cfg0.N) (h : (cfg0.win 6).flush t = true) : t.val + 1 = cfg0.N :=
  (by decide +kernel : ∀ t : Fin grid0.N, (cfg0.win 6).flush t = true → t.val + 1 = grid0.N) t h

/-- The points that add something cover every row once. -/
theorem sum_tiles (f : Fin 8256 → EReal) (F : Fin cfg0.N → EReal)
    (hF : ∀ t, F t = if t.val % 8 = 7 then ∑ a : Fin 688, f (row t a) else 0) : ∑ t, F t = ∑ r, f r := by
  refine Eq.trans ?_ (Fin.sum_mul_add_congr (F := fun (i : Fin 12) (a : Fin 688) => f ⟨i.val * 688 + a.val, by omega⟩) (f := f) fun i a h => rfl)
  refine (Fin.sum_divmod_congr (A := 12) (S := 8) (f := fun i k => if k = 7 then ∑ a : Fin 688, f ⟨i.val * 688 + a.val, by omega⟩ else 0)
    fun t ha hs => ?_).trans (Finset.sum_congr rfl fun i _ => ?_)
  · rw [hF]
    by_cases h : t.val % 8 = 7
    · rw [if_pos h, if_pos (Fin.ext h)]
      rfl
    · rw [if_neg h, if_neg fun e => h (congrArg Fin.val e)]
  · rw [Finset.sum_ite_eq' Finset.univ (7 : Fin 8), if_pos (Finset.mem_univ _)]

theorem result6 (c : Dev nD) : (dats m 0 c).arrAt 6 cfg0.N
    = val_main_v20 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN := after_last t hf
  idx_vars y
  obtain rfl : y0 = 0 := Subsingleton.elim _ _
  blk_simp
  have e : ((cfg0.win 6).blk t).view.emb (ix2 (0 : Fin 1) y1) = ix2 (0 : Fin 1) y1 := by blk_ext [idx t]
  rw [after0_6, Pipeline.eq_sum_fin_of_reset_step_apply_last (fun n h => (outsAt0 m c n h).2.1) 96 (fun _ => 0) (gainTerm m c)
    (first_gain m c) (next_gain m c) (by decide) t hN, zero_add, e, v20_apply]
  exact sum_tiles _ _ fun t => rfl

end Finals

end Cert.InIdeal.Value

namespace Cert.In

open Idealize.ShloMosaic Idealize.SL.Sem Cert.InRefIdeal.Read

/-- The kernel's two gradients of the norm before the recurrences' input product are the reference's. -/
theorem algebraic : Cert.algebraic_InIdeal_InRefIdeal := by
  pair_intro
  · run_from Cert.InIdeal.Value.run_blocks m g
  · run_from Cert.InRefIdeal.Entry.run m' g'
    · exact (Cert.InIdeal.Value.result5 m c).symm
    · exact (Cert.InIdeal.Value.result6 m c).symm

end Cert.In

end
-- ==== Proof.BoundValue.lean ====
/- The gradient of the recurrence's lower bound: the array the kernel leaves is the reference's. -/
module

public import proofs.«01_k».proof.Defs
public import proofs.«01_k».proof.Proof.Gen.BoundIdeal.Value
public import proofs.«01_k».proof.Proof.Gen.BoundRefIdeal.Run
public import proofs.«01_k».proof.Proof.Gen.BoundRefIdeal.Read
public import Idealize.ShloMosaic.Lib.Pointwise

@[expose] public section

set_option maxRecDepth 16384

noncomputable section

namespace Cert.BoundRefIdeal.Entry

open Cert.BoundRefIdeal Cert.BoundRefIdeal.Gen Cert.BoundRefIdeal.Read Idealize.ShloMosaic

theorem foldl_two {α : Type} {n : ℕ} (h : n = 2) (f : α → Fin n → α) (a : α) :
    (List.finRange n).foldl f a = f (f a ⟨0, by omega⟩) ⟨1, by omega⟩ := by
  subst h
  simp only [List.finRange_succ, List.finRange_zero, List.map_cons, List.map_nil, List.foldl_cons, List.foldl_nil]
  rfl

theorem steps : ∀ (n : Fin 2), ((⟨2, ![2, 1]⟩ : Shape).rowMajor.symm n 0).val = n.val ∧ ((⟨2, ![2, 1]⟩ : Shape).rowMajor.symm n 1).val = 0 := by
  decide +kernel

theorem v30_apply (x1 : (⟨S1x1024, .f32⟩ : BufTy).Contents (Elt Ideal)) (k : Fin 1024) :
    val_main_v30 (F := Ideal) x1 (ix2 0 k) = x1 (ix2 0 k) ∧ val_main_v30 (F := Ideal) x1 (ix2 1 k) = 0 := by
  constructor
  · pointwise! [val_main_v30, val_main_cst_9]
  · pointwise! [val_main_v30, val_main_cst_9]

theorem window (x : FVec Ideal S2x1024 .f32) (init : EReal) (r : Fin 2) (k : Fin 1024) :
    Ideal.hostReduceWindowAdd ![2, 1] ![1, 1] ![0, 0] ![1, 0] reduceWindows_S2x1024_S2x1024_w2s1p0_1_w1s1p0_0 x init (ix2 r k)
      = init + x (ix2 r k) + if h : r.val + 1 < 2 then x (ix2 ⟨r.val + 1, h⟩ k) else init := by
  unfold Ideal.hostReduceWindowAdd Host.reduceWindow
  refine (foldl_two (by decide) _ _).trans ?_
  have e0 := steps 0
  have e1 := steps 1
  have p0 : ∀ n : Fin 2, ∀ a : Fin 2, (![0, 0] : Fin 2 → ℕ) a ≤ ((ix2 r k : S2x1024.Idx) a).val * (![1, 1] : Fin 2 → ℕ) a
      + ((⟨2, ![2, 1]⟩ : Shape).rowMajor.symm n a).val := fun n a => by fin_cases a <;> exact Nat.zero_le _
  have q00 : r.val * 1 + ((⟨2, ![2, 1]⟩ : Shape).rowMajor.symm (0 : Fin 2) 0).val - 0 = r.val := by have : _ = 0 := e0.1; omega
  have q01 : k.val * 1 + ((⟨2, ![2, 1]⟩ : Shape).rowMajor.symm (0 : Fin 2) 1).val - 0 = k.val := by have := e0.2; omega
  have q10 : r.val * 1 + ((⟨2, ![2, 1]⟩ : Shape).rowMajor.symm (1 : Fin 2) 0).val - 0 = r.val + 1 := by have : _ = 1 := e1.1; omega
  have q11 : k.val * 1 + ((⟨2, ![2, 1]⟩ : Shape).rowMajor.symm (1 : Fin 2) 1).val - 0 = k.val := by have := e1.2; omega
  refine Ideal.add_congr (Ideal.add_congr rfl ?first) ?second
  case first =>
    refine (dif_pos fun a => ⟨p0 0 a, ?_⟩).trans (congrArg x (funext fun a => Fin.ext ?_))
    · match a with
      | ⟨0, _⟩ => exact q00
      | ⟨1, _⟩ => exact q01
    · match a with
      | ⟨0, _⟩ => exact lt_of_eq_of_lt q00 r.isLt
      | ⟨1, _⟩ => exact lt_of_eq_of_lt q01 k.isLt
  case second =>
    by_cases h : r.val + 1 < 2
    · rw [dif_pos h]
      refine (dif_pos fun a => ⟨p0 1 a, ?_⟩).trans (congrArg x (funext fun a => Fin.ext ?_))
      · match a with
        | ⟨0, _⟩ => exact q10
        | ⟨1, _⟩ => exact q11
      · match a with
        | ⟨0, _⟩ => exact lt_of_eq_of_lt q10 h
        | ⟨1, _⟩ => exact lt_of_eq_of_lt q11 k.isLt
    · rw [dif_neg h]
      exact dif_neg fun hin => h (lt_of_eq_of_lt q10.symm (hin 0).2)

theorem v31_apply (x1 : (⟨S1x1024, .f32⟩ : BufTy).Contents (Elt Ideal)) (k : Fin 1024) :
    val_main_v31 (F := Ideal) x1 (ix2 0 k) = x1 (ix2 0 k) ∧ val_main_v31 (F := Ideal) x1 (ix2 1 k) = 0 := by
  have i0 : val_main_call1_call0_v0 (F := Ideal) (Shape.Idx.first h_S_) = 0 := by pointwise! [val_main_call1_call0_v0, val_main_call1_call0_cst]
  constructor
  · refine (window _ _ 0 k).trans ?_
    rw [dif_pos (by decide), i0, (v30_apply x1 k).1, zero_add]
    exact (congrArg (x1 (ix2 0 k) + ·) (v30_apply x1 k).2).trans (add_zero _)
  · refine (window _ _ 1 k).trans ?_
    rw [dif_neg (by decide), i0, (v30_apply x1 k).2, zero_add, zero_add]

open Idealize.SL.Sem Cert.BoundRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = val_main_v43 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v43_eq _ _),
      (h c).2⟩) (Cert.BoundRefIdeal.Value.run m ρ)

end Cert.BoundRefIdeal.Entry

namespace Cert.BoundIdeal.Value

open Cert.BoundIdeal Cert.BoundIdeal.Gen Idealize.ShloMosaic Cert.BoundRefIdeal.Read

open Cert.BoundRefIdeal.Entry

theorem value (x : (⟨S2x1024, .f32⟩ : BufTy).Contents (Elt Ideal)) (d : (⟨S1x1024, .f32⟩ : BufTy).Contents (Elt Ideal)) :
    val_main_v43 (F := Ideal) x d = k0_pay1 (F := Ideal) x d := by
  have h0 := fun k => (v31_apply d k).1
  have h1 := fun k => (v31_apply d k).2
  funext j
  idx_vars j
  unfold val_main_v43 val_main_v42 val_main_v41 val_main_v40 val_main_v39 val_main_v37 val_main_v36 val_main_v35 val_main_v34 val_main_v33
  generalize val_main_v31 (F := Ideal) d = y at *
  have hj : j0 = 0 ∨ j0 = 1 := by omega
  rcases hj with rfl | rfl <;>
  · pointwise! [k0_pay1, val_main_cst_11, val_main_v38, val_main_v32, val_main_cst_10, val_main_v27, val_main_v26, val_main_cst_8, val_main_v25, val_main_v22, val_main_v21, val_main_cst_7, val_main_v20, val_main_v19, val_main_v18, val_main_v17, val_main_v7, val_main_v6, val_main_v0, val_main_cst, val_main_cst_1]
    simp only [Fin.sum_univ_one, Fin.sum_univ_two, h0, h1, zero_sub]

end Cert.BoundIdeal.Value

namespace Cert.Bound

open Idealize.ShloMosaic Idealize.SL.Sem Cert.BoundRefIdeal.Read

/-- The kernel's gradient of the recurrence's lower bound is the reference's. -/
theorem algebraic : Cert.algebraic_BoundIdeal_BoundRefIdeal := by
  pair_intro
  · run_from Cert.BoundIdeal.Value.run m g
  · run_from Cert.BoundRefIdeal.Entry.run m' g'
    exact Cert.BoundIdeal.Value.value _ _

end Cert.Bound

end
-- ==== Proof.MergeValue.lean ====
/- The gradient through the output product and the gated sum of the two branches before it: the five arrays the kernel
leaves are the reference's. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeRefIdeal.Entry

open Cert.MergeRefIdeal Cert.MergeRefIdeal.Gen Cert.MergeRefIdeal.Read Idealize.ShloMosaic

variable (x0 x1 : (⟨S8256x1024, .bf16⟩ : BufTy).Contents (Elt Ideal)) (x2 : (⟨S8256x2048, .bf16⟩ : BufTy).Contents (Elt Ideal))
  (x3 x4 : (⟨S1024x1024, .f32⟩ : BufTy).Contents (Elt Ideal)) (x5 : (⟨S8256x1024, .f32⟩ : BufTy).Contents (Elt Ideal))

/-- The logistic function's dlogistic at an argument. -/
def dlogistic (x : EReal) : EReal := Ideal.logistic x * (1 - Ideal.logistic x)

theorem v12_apply (r : Fin 8256) (k : Fin 1024) : val_main_v12 (F := Ideal) x2 (ix2 r k)
    = Ideal.logistic (x2 (ix2 r ⟨k.val, by omega⟩)) := by
  unfold Ideal.logistic
  pointwise! [val_main_v12, val_main_v11, val_main_cst_0, val_main_v10, val_main_v9, val_main_cst, val_main_v8, val_main_v7, val_main_v4, val_main_v3]

theorem v22_apply (r : Fin 8256) (k : Fin 1024) : val_main_v22 (F := Ideal) x2 (ix2 r k)
    = Ideal.logistic (x2 (ix2 r ⟨1024 + k.val, by omega⟩)) := by
  unfold Ideal.logistic
  pointwise! [val_main_v22, val_main_v21, val_main_cst_3, val_main_v20, val_main_v19, val_main_cst_2, val_main_v18, val_main_v17, val_main_v6, val_main_v5]

theorem v15_apply (r : Fin 8256) (k : Fin 1024) : val_main_v15 (F := Ideal) x2 (ix2 r k)
    = dlogistic (x2 (ix2 r ⟨k.val, by omega⟩)) := by
  unfold dlogistic
  rw [← v12_apply]
  unfold val_main_v15 val_main_v14
  generalize val_main_v12 (F := Ideal) x2 = y
  pointwise! [val_main_v13, val_main_cst_1]

theorem v25_apply (r : Fin 8256) (k : Fin 1024) : val_main_v25 (F := Ideal) x2 (ix2 r k)
    = dlogistic (x2 (ix2 r ⟨1024 + k.val, by omega⟩)) := by
  unfold dlogistic
  rw [← v22_apply]
  unfold val_main_v25 val_main_v24
  generalize val_main_v22 (F := Ideal) x2 = y
  pointwise! [val_main_v23, val_main_cst_4]

/-- The gradient of the gated sum. -/
def dsum (r : Fin 8256) (k : Fin 1024) : EReal := ∑ j : Fin 1024, x5 (ix2 r j) * x4 (ix2 k j)

theorem v31_apply (r : Fin 8256) (k : Fin 1024) : val_main_v31 (F := Ideal) x4 x5 (ix2 r k) = dsum x4 x5 r k := by
  unfold dsum
  pointwise! [val_main_v31]

theorem v38_apply (r : Fin 8256) (k : Fin 1024) : val_main_v38 (F := Ideal) x2 x4 x5 (ix2 r k)
    = Ideal.logistic (x2 (ix2 r ⟨k.val, by omega⟩)) * dsum x4 x5 r k := by
  rw [← v12_apply, ← v31_apply]
  unfold val_main_v38 val_main_v35
  generalize val_main_v12 (F := Ideal) x2 = y
  generalize val_main_v31 (F := Ideal) x4 x5 = y'
  pointwise!

theorem v39_apply (r : Fin 8256) (k : Fin 1024) : val_main_v39 (F := Ideal) x2 x4 x5 (ix2 r k)
    = Ideal.logistic (x2 (ix2 r ⟨1024 + k.val, by omega⟩)) * dsum x4 x5 r k := by
  rw [← v22_apply, ← v31_apply]
  unfold val_main_v39 val_main_v32
  generalize val_main_v22 (F := Ideal) x2 = y
  generalize val_main_v31 (F := Ideal) x4 x5 = y'
  pointwise!

theorem v40_apply (r : Fin 8256) (k : Fin 1024) : val_main_v40 (F := Ideal) x1 x2 x4 x5 (ix2 r k)
    = dsum x4 x5 r k * x1 (ix2 r k) * dlogistic (x2 (ix2 r ⟨k.val, by omega⟩)) := by
  rw [← v15_apply, ← v31_apply]
  unfold val_main_v40 val_main_v37 val_main_v36
  generalize val_main_v15 (F := Ideal) x2 = y
  generalize val_main_v31 (F := Ideal) x4 x5 = y'
  pointwise! [val_main_v2]

theorem v41_apply (r : Fin 8256) (k : Fin 1024) : val_main_v41 (F := Ideal) x0 x2 x3 x4 x5 (ix2 r k)
    = dsum x4 x5 r k * val_main_v1 (F := Ideal) x0 x3 (ix2 r k) * dlogistic (x2 (ix2 r ⟨1024 + k.val, by omega⟩)) := by
  rw [← v25_apply, ← v31_apply]
  unfold val_main_v41 val_main_v34 val_main_v33
  generalize val_main_v25 (F := Ideal) x2 = y
  generalize val_main_v31 (F := Ideal) x4 x5 = y'
  generalize val_main_v1 (F := Ideal) x0 x3 = y''
  pointwise!

theorem v30_apply (j k : Fin 1024) : val_main_v30 (F := Ideal) x0 x1 x2 x3 x5 (ix2 j k)
    = ∑ r : Fin 8256, x5 (ix2 r k) * val_main_v27 (F := Ideal) x0 x1 x2 x3 (ix2 r j) := by
  unfold val_main_v30 val_main_v29
  generalize val_main_v27 (F := Ideal) x0 x1 x2 x3 = y
  pointwise!

open Idealize.SL.Sem Cert.MergeRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = val_main_v38 (F := Ideal) (m ((c.tc : Thread nD τ).loc main_arg2)) (m ((c.tc : Thread nD τ).loc main_arg4)) (m ((c.tc : Thread nD τ).loc main_arg5))
      ∧ r.2.mem ((c.tc : Thread nD τ).loc main_v39) = val_main_v39 (F := Ideal) (m ((c.tc : Thread nD τ).loc main_arg2)) (m ((c.tc : Thread nD τ).loc main_arg4)) (m ((c.tc : Thread nD τ).loc main_arg5))
      ∧ r.2.mem ((c.tc : Thread nD τ).loc main_v40) = val_main_v40 (F := Ideal) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v41) = val_main_v41 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v30) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v38_eq _ _ _),
      (h c).2.1.trans (val_main_v39_eq _ _ _),
      (h c).2.2.1.trans (val_main_v40_eq _ _ _ _),
      (h c).2.2.2.1.trans (val_main_v41_eq _ _ _ _ _),
      (h c).2.2.2.2.1.trans (val_main_v30_eq _ _ _ _ _),
      (h c).2.2.2.2.2⟩) (Cert.MergeRefIdeal.Value.run m ρ)

end Cert.MergeRefIdeal.Entry

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read Cert.MergeRefIdeal.Entry

variable (m : (ℓ : Loc nD τ sig) → Buf (Elt Ideal) ℓ)

theorem idx : ∀ t : Fin cfg0.N, win0_0.index t = ![t.val, 0] ∧ win0_1.index t = ![t.val, 0] ∧
    win0_2.index t = ![0, 0] ∧ win0_3.index t = ![t.val, 0] ∧ win0_4.index t = ![t.val, 0] ∧
    win0_5.index t = ![t.val, 0] ∧ win0_6.index t = ![t.val, 1] ∧ win0_7.index t = ![t.val, 0] ∧ win0_8.index t = ![t.val, 0] ∧
    win0_9.index t = ![t.val, 0] ∧ win0_10.index t = ![t.val, 0] ∧ win0_11.index t = ![0, 0] :=
  (by decide +kernel : ∀ t : Fin grid0.N, _)

theorem lt12 (t : Fin cfg0.N) : t.val < 12 := (by decide +kernel : ∀ t : Fin grid0.N, t.val < 12) t

/-- Row `a` of a point's row tile, among all rows. -/
def row (t : Fin cfg0.N) (a : Fin 688) : Fin 8256 := ⟨t.val * 688 + a.val, by have := lt12 t; omega⟩

section Payloads

variable (d : (⟨S688x1024, .f32⟩ : BufTy).Contents (Elt Ideal)) (w : (⟨S1024x1024, .bf16⟩ : BufTy).Contents (Elt Ideal))
  (u v : (⟨S688x1024, .bf16⟩ : BufTy).Contents (Elt Ideal)) (a : Fin 688) (k : Fin 1024)

theorem pay7_apply : k0_pay7 (F := Ideal) d w (ix2 a k) = ∑ j : Fin 1024, d (ix2 a j) * w (ix2 k j) := by
  pointwise! [k0_pay7]

theorem pay10_apply : k0_pay10 (F := Ideal) u (ix2 a k) = Ideal.logistic (u (ix2 a k)) := by
  pointwise! [k0_pay10]

theorem pay12_apply : k0_pay12 (F := Ideal) u (ix2 a k) = Ideal.logistic (u (ix2 a k)) := by
  pointwise! [k0_pay12]

theorem pay11_apply : k0_pay11 (F := Ideal) u (ix2 a k) = dlogistic (u (ix2 a k)) := by
  unfold dlogistic
  rw [← pay10_apply]
  unfold k0_pay11
  generalize k0_pay10 (F := Ideal) u = y
  pointwise!

theorem pay13_apply : k0_pay13 (F := Ideal) u (ix2 a k) = dlogistic (u (ix2 a k)) := by
  unfold dlogistic
  rw [← pay12_apply]
  unfold k0_pay13
  generalize k0_pay12 (F := Ideal) u = y
  pointwise!

theorem pay1_apply : k0_pay1 (F := Ideal) (k0_pay7 (F := Ideal) d w) (k0_pay10 (F := Ideal) u) (ix2 a k)
    = Ideal.logistic (u (ix2 a k)) * ∑ j : Fin 1024, d (ix2 a j) * w (ix2 k j) := by
  rw [← pay10_apply, ← pay7_apply]
  generalize k0_pay10 (F := Ideal) u = y
  generalize k0_pay7 (F := Ideal) d w = y'
  pointwise! [k0_pay1]

theorem pay2_apply : k0_pay2 (F := Ideal) (k0_pay7 (F := Ideal) d w) (k0_pay12 (F := Ideal) u) (ix2 a k)
    = Ideal.logistic (u (ix2 a k)) * ∑ j : Fin 1024, d (ix2 a j) * w (ix2 k j) := by
  rw [← pay12_apply, ← pay7_apply]
  generalize k0_pay12 (F := Ideal) u = y
  generalize k0_pay7 (F := Ideal) d w = y'
  pointwise! [k0_pay2]

theorem pay3_apply : k0_pay3 (F := Ideal) (k0_pay7 (F := Ideal) d w) (k0_pay8 (F := Ideal) v) (k0_pay11 (F := Ideal) u) (ix2 a k)
    = (∑ j : Fin 1024, d (ix2 a j) * w (ix2 k j)) * v (ix2 a k) * dlogistic (u (ix2 a k)) := by
  rw [← pay11_apply, ← pay7_apply]
  generalize k0_pay11 (F := Ideal) u = y
  generalize k0_pay7 (F := Ideal) d w = y'
  pointwise! [k0_pay3, k0_pay8]

theorem pay4_apply : k0_pay4 (F := Ideal) (k0_pay7 (F := Ideal) d w) (k0_pay9 (F := Ideal) v) (k0_pay13 (F := Ideal) u) (ix2 a k)
    = (∑ j : Fin 1024, d (ix2 a j) * w (ix2 k j)) * v (ix2 a k) * dlogistic (u (ix2 a k)) := by
  rw [← pay13_apply, ← pay7_apply]
  generalize k0_pay13 (F := Ideal) u = y
  generalize k0_pay7 (F := Ideal) d w = y'
  pointwise! [k0_pay4, k0_pay9]

theorem pay5_apply (j : S1024x1024.Idx) : k0_pay5 (F := Ideal) j = 0 := by pointwise [k0_pay5]

theorem pay6_apply (acc : (⟨S1024x1024, .f32⟩ : BufTy).Contents (Elt Ideal)) (j k : Fin 1024) :
    k0_pay6 (F := Ideal) d acc u (ix2 j k) = acc (ix2 j k) + ∑ a : Fin 688, d (ix2 a k) * u (ix2 a j) := by
  pointwise! [k0_pay6]

end Payloads

section Operands

theorem blk0 (c : Dev nD) (t : Fin cfg0.N) (a : Fin 688) (k : Fin 1024) :
    iblk m c 0 t (ix2 a k) = val_main_v27 (F := Ideal) (m ((c : Thread nD τ).loc main_arg0)) (m ((c : Thread nD τ).loc main_arg1)) (m ((c : Thread nD τ).loc main_arg2)) (m ((c : Thread nD τ).loc main_arg3)) (ix2 (row t a) k) := by
  have e : ((cfg0.win 0).blk t).view.emb (ix2 a k) = ix2 (n0 := 8256) (n1 := 1024) (row t a) k := by
    unfold row
    blk_ext [idx t]
  unfold iblk
  blk_simp
  rw [e]
  entry_read
  rfl

theorem blk1 (c : Dev nD) (t : Fin cfg0.N) (a : Fin 688) (k : Fin 1024) :
    iblk m c 1 t (ix2 a k) = m ((c : Thread nD τ).loc main_arg5) (ix2 (row t a) k) := by
  unfold row
  blk_point [iblk, V, idx t]

theorem blk2 (c : Dev nD) (t : Fin cfg0.N) (j k : Fin 1024) : iblk m c 2 t (ix2 j k) = m ((c : Thread nD τ).loc main_arg4) (ix2 j k) := by
  have e : ((cfg0.win 2).blk t).view.emb (ix2 j k) = ix2 (n0 := 1024) (n1 := 1024) j k := by
    blk_ext [idx t]
  unfold iblk
  blk_simp
  rw [e]
  entry_read
  rfl

theorem blk3 (c : Dev nD) (t : Fin cfg0.N) (a : Fin 688) (k : Fin 1024) :
    iblk m c 3 t (ix2 a k) = m ((c : Thread nD τ).loc main_arg1) (ix2 (row t a) k) := by
  unfold row
  blk_point [iblk, V, idx t]

theorem blk4 (c : Dev nD) (t : Fin cfg0.N) (a : Fin 688) (k : Fin 1024) :
    iblk m c 4 t (ix2 a k) = val_main_v1 (F := Ideal) (m ((c : Thread nD τ).loc main_arg0)) (m ((c : Thread nD τ).loc main_arg3)) (ix2 (row t a) k) := by
  have e : ((cfg0.win 4).blk t).view.emb (ix2 a k) = ix2 (n0 := 8256) (n1 := 1024) (row t a) k := by
    unfold row
    blk_ext [idx t]
  unfold iblk
  blk_simp
  rw [e]
  entry_read
  rfl

theorem blk5 (c : Dev nD) (t : Fin cfg0.N) (a : Fin 688) (k : Fin 1024) :
    iblk m c 5 t (ix2 a k) = m ((c : Thread nD τ).loc main_arg2) (ix2 (row t a) ⟨k.val, by omega⟩) := by
  unfold row
  blk_point [iblk, V, idx t]

theorem blk6 (c : Dev nD) (t : Fin cfg0.N) (a : Fin 688) (k : Fin 1024) :
    iblk m c 6 t (ix2 a k) = m ((c : Thread nD τ).loc main_arg2) (ix2 (row t a) ⟨1024 + k.val, by omega⟩) := by
  unfold row
  blk_point [iblk, V, idx t]

theorem blk_dsum (c : Dev nD) (t : Fin cfg0.N) (a : Fin 688) (k : Fin 1024) (d : (⟨S688x1024, .f32⟩ : BufTy).Contents (Elt Ideal))
    (w : (⟨S1024x1024, .bf16⟩ : BufTy).Contents (Elt Ideal)) (hd : d = iblk m c 1 t) (hw : w = iblk m c 2 t) :
    ∑ j : Fin 1024, d (ix2 a j) * w (ix2 k j) = dsum (m ((c : Thread nD τ).loc main_arg4)) (m ((c : Thread nD τ).loc main_arg5)) (row t a) k := by
  subst hd hw
  exact Finset.sum_congr rfl fun j _ => congrArg₂ (fun x y : EReal => x * y) (blk1 m c t a j) (blk2 m c t k j)

end Operands

section Finals

theorem point7 (c : Dev nD) (t : Fin cfg0.N) (a : Fin 688) (k : Fin 1024) :
    k0_pay1 (F := Ideal) (k0_pay7 (F := Ideal) (iblk m c 1 t) (iblk m c 2 t)) (k0_pay10 (F := Ideal) (iblk m c 5 t)) (ix2 a k)
      = val_main_v38 (F := Ideal) (m ((c : Thread nD τ).loc main_arg2)) (m ((c : Thread nD τ).loc main_arg4)) (m ((c : Thread nD τ).loc main_arg5)) (((cfg0.win 7).blk t).view.emb (ix2 a k)) := by
  have e : ((cfg0.win 7).blk t).view.emb (ix2 a k) = ix2 (n0 := 8256) (n1 := 1024) (row t a) k := by
    unfold row
    blk_ext [idx t]
  rw [e, v38_apply, pay1_apply, blk5, blk_dsum m c t a k _ _ rfl rfl]

theorem point8 (c : Dev nD) (t : Fin cfg0.N) (a : Fin 688) (k : Fin 1024) :
    k0_pay2 (F := Ideal) (k0_pay7 (F := Ideal) (iblk m c 1 t) (iblk m c 2 t)) (k0_pay12 (F := Ideal) (iblk m c 6 t)) (ix2 a k)
      = val_main_v39 (F := Ideal) (m ((c : Thread nD τ).loc main_arg2)) (m ((c : Thread nD τ).loc main_arg4)) (m ((c : Thread nD τ).loc main_arg5)) (((cfg0.win 8).blk t).view.emb (ix2 a k)) := by
  have e : ((cfg0.win 8).blk t).view.emb (ix2 a k) = ix2 (n0 := 8256) (n1 := 1024) (row t a) k := by
    unfold row
    blk_ext [idx t]
  rw [e, v39_apply, pay2_apply, blk6, blk_dsum m c t a k _ _ rfl rfl]

theorem point9 (c : Dev nD) (t : Fin cfg0.N) (a : Fin 688) (k : Fin 1024) :
    k0_pay3 (F := Ideal) (k0_pay7 (F := Ideal) (iblk m c 1 t) (iblk m c 2 t)) (k0_pay8 (F := Ideal) (iblk m c 3 t)) (k0_pay11 (F := Ideal) (iblk m c 5 t)) (ix2 a k)
      = val_main_v40 (F := Ideal) (m ((c : Thread nD τ).loc main_arg1)) (m ((c : Thread nD τ).loc main_arg2)) (m ((c : Thread nD τ).loc main_arg4)) (m ((c : Thread nD τ).loc main_arg5)) (((cfg0.win 9).blk t).view.emb (ix2 a k)) := by
  have e : ((cfg0.win 9).blk t).view.emb (ix2 a k) = ix2 (n0 := 8256) (n1 := 1024) (row t a) k := by
    unfold row
    blk_ext [idx t]
  rw [e, v40_apply, pay3_apply, blk5, blk3, blk_dsum m c t a k _ _ rfl rfl]

theorem point10 (c : Dev nD) (t : Fin cfg0.N) (a : Fin 688) (k : Fin 1024) :
    k0_pay4 (F := Ideal) (k0_pay7 (F := Ideal) (iblk m c 1 t) (iblk m c 2 t)) (k0_pay9 (F := Ideal) (iblk m c 4 t)) (k0_pay13 (F := Ideal) (iblk m c 6 t)) (ix2 a k)
      = val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (((cfg0.win 10).blk t).view.emb (ix2 a k)) := by
  have e : ((cfg0.win 10).blk t).view.emb (ix2 a k) = ix2 (n0 := 8256) (n1 := 1024) (row t a) k := by
    unfold row
    blk_ext [idx t]
  rw [e, v41_apply, pay4_apply, blk6, blk4, blk_dsum m c t a k _ _ rfl rfl]

theorem result7 (c : Dev nD) : (dats m 0 c).arrAt 7 cfg0.N
    = val_main_v38 (F := Ideal) (m ((c : Thread nD τ).loc main_arg2)) (m ((c : Thread nD τ).loc main_arg4)) (m ((c : Thread nD τ).loc main_arg5)) := by
  refine (dats m 0 c).arrAt_eq_of_covers 7 _ (by decide +kernel) fun t hf y => ?_
  idx_vars y
  blk_simp
  rw [after0_7]
  by_cases h : t.val % 12 = 0
  · rw [outsAt0_A m c t h]; frame_out
    exact point7 m c t y0 y1
  · rw [outsAt0_B m c t h]; frame_out
    exact point7 m c t y0 y1

theorem result8 (c : Dev nD) : (dats m 0 c).arrAt 8 cfg0.N
    = val_main_v39 (F := Ideal) (m ((c : Thread nD τ).loc main_arg2)) (m ((c : Thread nD τ).loc main_arg4)) (m ((c : Thread nD τ).loc main_arg5)) := by
  refine (dats m 0 c).arrAt_eq_of_covers 8 _ (by decide +kernel) fun t hf y => ?_
  idx_vars y
  blk_simp
  rw [after0_8]
  by_cases h : t.val % 12 = 0
  · rw [outsAt0_A m c t h]; frame_out
    exact point8 m c t y0 y1
  · rw [outsAt0_B m c t h]; frame_out
    exact point8 m c t y0 y1

theorem result9 (c : Dev nD) : (dats m 0 c).arrAt 9 cfg0.N
    = val_main_v40 (F := Ideal) (m ((c : Thread nD τ).loc main_arg1)) (m ((c : Thread nD τ).loc main_arg2)) (m ((c : Thread nD τ).loc main_arg4)) (m ((c : Thread nD τ).loc main_arg5)) := by
  refine (dats m 0 c).arrAt_eq_of_covers 9 _ (by decide +kernel) fun t hf y => ?_
  idx_vars y
  blk_simp
  rw [after0_9]
  by_cases h : t.val % 12 = 0
  · rw [outsAt0_A m c t h]; frame_out
    exact point9 m c t y0 y1
  · rw [outsAt0_B m c t h]; frame_out
    exact point9 m c t y0 y1

theorem result10 (c : Dev nD) : (dats m 0 c).arrAt 10 cfg0.N
    = val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  idx_vars y
  blk_simp
  rw [after0_10]
  by_cases h : t.val % 12 = 0
  · rw [outsAt0_A m c t h]; frame_out
    exact point10 m c t y0 y1
  · rw [outsAt0_B m c t h]; frame_out
    exact point10 m c t y0 y1

/-- A row's part of the output matrix's gradient. -/
def wPart (c : Dev nD) (j k : Fin 1024) (r : Fin 8256) : EReal :=
  (fun x y : EReal => x * y) (m ((c : Thread nD τ).loc main_arg5) (ix2 r k))
    (val_main_v27 (F := Ideal) (m ((c : Thread nD τ).loc main_arg0)) (m ((c : Thread nD τ).loc main_arg1)) (m ((c : Thread nD τ).loc main_arg2)) (m ((c : Thread nD τ).loc main_arg3)) (ix2 r j))

/-- What a point's row tile adds to the output matrix's gradient. -/
def wTerm (c : Dev nD) (t : Fin cfg0.N) (j : S1024x1024.Idx) : EReal := ∑ a : Fin 688, wPart m c (j 0) (j 1) (row t a)

theorem blk_wTerm (c : Dev nD) (t : Fin cfg0.N) (j k : Fin 1024) (d : (⟨S688x1024, .f32⟩ : BufTy).Contents (Elt Ideal))
    (u : (⟨S688x1024, .bf16⟩ : BufTy).Contents (Elt Ideal)) (hd : d = iblk m c 1 t) (hu : u = iblk m c 0 t) :
    ∑ a : Fin 688, d (ix2 a k) * u (ix2 a j) = wTerm m c t (ix2 j k) := by
  subst hd hu
  exact Finset.sum_congr rfl fun a _ => congrArg₂ (fun x y : EReal => x * y) (blk1 m c t a k) (blk0 m c t a j)

theorem first_w (c : Dev nD) (t : Fin cfg0.N) (h : t.val % 12 = 0) (j : S1024x1024.Idx) :
    (outsAt0 m c t.val t.isLt).2.2.2.2 j = 0 + wTerm m c t j := by
  idx_vars j
  rw [outsAt0_A m c t h]; frame_out
  exact (pay6_apply _ _ _ _ _).trans (Ideal.add_congr (pay5_apply _) (blk_wTerm m c t _ _ _ _ rfl rfl))

theorem next_w (c : Dev nD) (t : Fin cfg0.N) (h : ¬t.val % 12 = 0) (j : S1024x1024.Idx) :
    (outsAt0 m c t.val t.isLt).2.2.2.2 j
      = (outsAt0 m c (t.val - 1) (Nat.lt_of_le_of_lt (Nat.sub_le _ _) t.isLt)).2.2.2.2 j + wTerm m c t j := by
  idx_vars j
  rw [outsAt0_B m c t h]; frame_out
  exact (pay6_apply _ _ _ _ _).trans (Ideal.add_congr rfl (blk_wTerm m c t _ _ _ _ rfl rfl))

theorem after_last (t : Fin cfg0.N) (h : (cfg0.win 11).flush t = true) : t.val + 1 = cfg0.N :=
  (by decide +kernel : ∀ t : Fin grid0.N, (cfg0.win 11).flush t = true → t.val + 1 = grid0.N) t h

theorem result11 (c : Dev nD) : (dats m 0 c).arrAt 11 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 11 _ (by decide +kernel) fun t hf y => ?_
  have hN := after_last t hf
  idx_vars y
  blk_simp
  have e : ((cfg0.win 11).blk t).view.emb (ix2 y0 y1) = ix2 y0 y1 := by blk_ext [idx t]
  rw [after0_11, Pipeline.eq_sum_fin_of_reset_step_apply_last (fun n h => (outsAt0 m c n h).2.2.2.2) 12 (fun _ => 0) (wTerm m c)
    (first_w m c) (next_w m c) (by decide) t hN, zero_add, e, v30_apply]
  exact Fin.sum_mul_add_congr (F := fun (s : Fin 12) (a : Fin 688) => wPart m c y0 y1 (row s a)) (f := wPart m c y0 y1) fun s a h => rfl

end Finals

end Cert.MergeIdeal.Value

namespace Cert.Merge

open Idealize.ShloMosaic Idealize.SL.Sem Cert.MergeRefIdeal.Read

/-- The kernel's five gradients of the output product and the gated sum before it are the reference's. -/
theorem algebraic : Cert.algebraic_MergeIdeal_MergeRefIdeal := by
  pair_intro
  · run_from Cert.MergeIdeal.Value.run_blocks m g
  · run_from Cert.MergeRefIdeal.Entry.run m' g'
    · exact (Cert.MergeIdeal.Value.result7 m c).symm
    · exact (Cert.MergeIdeal.Value.result8 m c).symm
    · exact (Cert.MergeIdeal.Value.result9 m c).symm
    · exact (Cert.MergeIdeal.Value.result10 m c).symm
    · exact (Cert.MergeIdeal.Value.result11 m c).symm

end Cert.Merge

end
-- ==== Proof.DiscAValue.lean ====
/- The gradient of the state space's discretisation: every array the kernel leaves is the reference's. -/
module

public import proofs.«01_k».proof.Defs
public import proofs.«01_k».proof.Proof.Gen.DiscAIdeal.Value
public import proofs.«01_k».proof.Proof.Gen.DiscARefIdeal.Run
public import proofs.«01_k».proof.Proof.Gen.DiscARefIdeal.Read
public import Idealize.ShloMosaic.Lib.Pipeline.ValueKit
public import Idealize.ShloMosaic.Lib.Pointwise

@[expose] public section

set_option maxRecDepth 16384

noncomputable section

namespace Cert.DiscARefIdeal.Entry

open Cert.DiscARefIdeal Cert.DiscARefIdeal.Gen Cert.DiscARefIdeal.Read Idealize.ShloMosaic

open Idealize.SL.Sem Cert.DiscARefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v86) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v97) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v94_eq m c),
      (h c).2.1.trans (val_main_v86_eq m c),
      (h c).2.2.1.trans (val_main_v97_eq m c),
      (h c).2.2.2⟩) (Cert.DiscARefIdeal.Value.run m ρ)

end Cert.DiscARefIdeal.Entry

namespace Cert.DiscAIdeal.Value

open Cert.DiscAIdeal Cert.DiscAIdeal.Gen Idealize.ShloMosaic Idealize.ShloMosaic.TcCoe Idealize.SL.Sem
open Cert.DiscARefIdeal.Read

section Stages

variable (x0 x1 x3 x4 x5 x6 : (⟨S64x64, .f32⟩ : BufTy).Contents (Elt Ideal)) (x2 : (⟨S64, .f32⟩ : BufTy).Contents (Elt Ideal))
  (d : (⟨S64x1, .f32⟩ : BufTy).Contents (Elt Ideal)) (h : ∀ g : Fin 64, d (ix2 g 0) = x2 (ix1 g))
include h

theorem step_apply (g : Fin 64) : k0_pay3 (F := Ideal) d (ix2 g 0) = Ideal.exp (x2 (ix1 g)) := by
  pointwise! [k0_pay3]
  rw [h]

theorem decay_eq : k0_pay4 (F := Ideal) x0 d = val_main_v4 (F := Ideal) x0 x2 := by
  have e := step_apply x2 d h
  funext j
  idx_vars j
  unfold k0_pay4
  generalize k0_pay3 (F := Ideal) d = s at *
  pointwise! [val_main_v4, val_main_v3, val_main_v2, val_main_v1, val_main_v0]
  rw [e]

theorem angle_eq : k0_pay5 (F := Ideal) x1 d = val_main_v6 (F := Ideal) x1 x2 := by
  have e := step_apply x2 d h
  funext j
  idx_vars j
  unfold k0_pay5
  generalize k0_pay3 (F := Ideal) d = s at *
  pointwise! [val_main_v6, val_main_v5, val_main_v1, val_main_v0]
  rw [e]

theorem cos_eq : k0_pay6 (F := Ideal) x1 d = val_main_v7 (F := Ideal) x1 x2 := by
  unfold k0_pay6 val_main_v7
  rw [angle_eq x1 x2 d h]
  rfl

theorem sin_eq : k0_pay7 (F := Ideal) x1 d = val_main_v8 (F := Ideal) x1 x2 := by
  unfold k0_pay7 val_main_v8
  rw [angle_eq x1 x2 d h]
  rfl

theorem sin_eq' : k0_pay9 (F := Ideal) x1 d = val_main_v12 (F := Ideal) x1 x2 := sin_eq x1 x2 d h

theorem cos_eq' : k0_pay10 (F := Ideal) x1 d = val_main_v13 (F := Ideal) x1 x2 := cos_eq x1 x2 d h

theorem imag_eq : k0_pay11 (F := Ideal) x0 x1 d = val_main_v14 (F := Ideal) x0 x1 x2 := by
  unfold k0_pay11 val_main_v14
  rw [decay_eq x0 x2 d h, sin_eq' x1 x2 d h]

theorem real_eq : k0_pay13 (F := Ideal) x0 x1 d = val_main_v19 (F := Ideal) x0 x1 x2 := by
  unfold k0_pay13 val_main_v19 val_main_v9
  rw [decay_eq x0 x2 d h, cos_eq x1 x2 d h]
  rfl

theorem num_re_eq : k0_pay14 (F := Ideal) x0 x1 d = val_main_v22 (F := Ideal) x0 x1 x2 := by
  unfold k0_pay14 val_main_v22 val_main_v20 val_main_v21
  rw [real_eq x0 x1 x2 d h, imag_eq x0 x1 x2 d h]

omit h in
theorem sq_eq : k0_pay12 (F := Ideal) x0 x1 = val_main_v17 (F := Ideal) x0 x1 := rfl

omit h in
theorem inv_eq : k0_pay15 (F := Ideal) x0 x1 = val_main_v26 (F := Ideal) x0 x1 := rfl

theorem num_im_eq : k0_pay16 (F := Ideal) x0 x1 d x6 = val_main_v35 (F := Ideal) x0 x1 x2 x6 := by
  unfold k0_pay16 val_main_v35 val_main_v34 val_main_v29 val_main_v27 val_main_v28
  rw [real_eq x0 x1 x2 d h, imag_eq x0 x1 x2 d h]
  rfl

end Stages

section Cotangents

variable (x0 x1 x3 x4 x5 x6 : (⟨S64x64, .f32⟩ : BufTy).Contents (Elt Ideal)) (x2 : (⟨S64, .f32⟩ : BufTy).Contents (Elt Ideal))

theorem neg_eq : k0_pay19 (F := Ideal) x6 (val_main_v17 (F := Ideal) x0 x1) = val_main_v38 (F := Ideal) x0 x1 x6 := by
  funext j
  unfold k0_pay19 val_main_v38 val_main_v37 k0_pay18
  generalize val_main_v17 (F := Ideal) x0 x1 = s
  pointwise! []
  exact zero_sub _

theorem dsq_eq : k0_pay20 (F := Ideal) x5 (val_main_v22 (F := Ideal) x0 x1 x2) (val_main_v26 (F := Ideal) x0 x1)
    (val_main_v35 (F := Ideal) x0 x1 x2 x6) k0_pay17 = val_main_v48 (F := Ideal) x0 x1 x2 x5 x6 := by
  funext j
  unfold k0_pay20 val_main_v48 val_main_v36 val_main_v47 val_main_v46 val_main_v45
  generalize val_main_v22 (F := Ideal) x0 x1 x2 = a
  generalize val_main_v35 (F := Ideal) x0 x1 x2 x6 = b
  generalize val_main_v26 (F := Ideal) x0 x1 = s
  pointwise! [k0_pay17]
  rw [zero_sub, zero_sub]

theorem dim_eq : k0_pay22 (F := Ideal) x0 x1 x4 x5 x6 (val_main_v17 (F := Ideal) x0 x1) = val_main_v53 (F := Ideal) x0 x1 x4 x5 x6 := rfl

theorem dre_eq : k0_pay23 (F := Ideal) x0 x1 x3 x5 x6 (val_main_v17 (F := Ideal) x0 x1) = val_main_v57 (F := Ideal) x0 x1 x3 x5 x6 := by
  unfold k0_pay23 val_main_v57 val_main_v41 val_main_v40
  rw [neg_eq]
  rfl

theorem dlr_eq : k0_pay24 (F := Ideal) x0 x5 x6 (val_main_v14 (F := Ideal) x0 x1 x2) (val_main_v17 (F := Ideal) x0 x1)
    (val_main_v19 (F := Ideal) x0 x1 x2) (val_main_v22 (F := Ideal) x0 x1 x2) (val_main_v26 (F := Ideal) x0 x1)
    (val_main_v35 (F := Ideal) x0 x1 x2 x6) k0_pay17 = val_main_v65 (F := Ideal) x0 x1 x2 x5 x6 := by
  unfold k0_pay24 val_main_v65 val_main_v64 val_main_v63 val_main_v62
  rw [dsq_eq]
  rfl

theorem dangle_cos_eq : k0_pay25 (F := Ideal) x0 x1 x4 x5 x6 (val_main_v4 (F := Ideal) x0 x2) (val_main_v13 (F := Ideal) x1 x2)
    (val_main_v17 (F := Ideal) x0 x1) = val_main_v68 (F := Ideal) x0 x1 x2 x4 x5 x6 := by
  unfold k0_pay25 val_main_v68 val_main_v66
  rw [dim_eq]

theorem dangle_sin_eq : k0_pay26 (F := Ideal) x0 x1 x3 x5 x6 (val_main_v4 (F := Ideal) x0 x2) (val_main_v8 (F := Ideal) x1 x2)
    (val_main_v17 (F := Ideal) x0 x1) = val_main_v79 (F := Ideal) x0 x1 x2 x3 x5 x6 := by
  funext j
  unfold k0_pay26 val_main_v79 val_main_v78 val_main_v75
  rw [dre_eq]
  generalize val_main_v57 (F := Ideal) x0 x1 x3 x5 x6 = a
  generalize val_main_v4 (F := Ideal) x0 x2 = b
  generalize val_main_v8 (F := Ideal) x1 x2 = s
  pointwise! []
  rw [zero_sub]

theorem ddecay_eq : k0_pay29 (F := Ideal) x0 x1 x3 x4 x5 x6 (val_main_v4 (F := Ideal) x0 x2) (val_main_v7 (F := Ideal) x1 x2)
    (val_main_v12 (F := Ideal) x1 x2) (val_main_v17 (F := Ideal) x0 x1) = val_main_v87 (F := Ideal) x0 x1 x2 x3 x4 x5 x6 := by
  unfold k0_pay29 val_main_v87 val_main_v77 val_main_v76 val_main_v67
  rw [dim_eq, dre_eq]

theorem dstep_apply (g : Fin 64) : k0_pay27 (F := Ideal) x0 x1 x3 x4 x5 x6 (val_main_v4 (F := Ideal) x0 x2) (val_main_v8 (F := Ideal) x1 x2)
    (val_main_v13 (F := Ideal) x1 x2) (val_main_v17 (F := Ideal) x0 x1) (ix2 g 0)
      = val_main_v83 (F := Ideal) x0 x1 x2 x3 x4 x5 x6 (ix2 g 0) := by
  unfold k0_pay27 val_main_v83 val_main_v82 val_main_v81 val_main_v80 val_main_v71 val_main_v70 val_main_v69
  rw [dangle_cos_eq, dangle_sin_eq]
  generalize val_main_v68 (F := Ideal) x0 x1 x2 x4 x5 x6 = a
  generalize val_main_v79 (F := Ideal) x0 x1 x2 x3 x5 x6 = b
  pointwise! [val_main_cst_2, val_main_cst_3]

end Cotangents

section Results

variable (x0 x1 x3 x4 x5 x6 : (⟨S64x64, .f32⟩ : BufTy).Contents (Elt Ideal)) (x2 : (⟨S64, .f32⟩ : BufTy).Contents (Elt Ideal))
  (d : (⟨S64x1, .f32⟩ : BufTy).Contents (Elt Ideal)) (h : ∀ g : Fin 64, d (ix2 g 0) = x2 (ix1 g))
include h

theorem point7 (a b : Fin 64) :
    k0_pay1 (F := Ideal) (k0_pay3 d) (val_main_v65 (F := Ideal) x0 x1 x2 x5 x6) (val_main_v87 (F := Ideal) x0 x1 x2 x3 x4 x5 x6) (ix2 a b)
      = val_main_v94 (F := Ideal) x0 x1 x2 x3 x4 x5 x6 (ix2 a b) := by
  have e := step_apply x2 d h
  unfold k0_pay1 val_main_v94 val_main_v93
  generalize k0_pay3 (F := Ideal) d = s at *
  generalize val_main_v87 (F := Ideal) x0 x1 x2 x3 x4 x5 x6 = p
  generalize val_main_v65 (F := Ideal) x0 x1 x2 x5 x6 = q
  pointwise! [val_main_v92, val_main_v1, val_main_v0]
  rw [e]

theorem point8 (a b : Fin 64) :
    k0_pay28 (F := Ideal) x0 x1 x3 x4 x5 x6 (k0_pay3 d) (val_main_v4 (F := Ideal) x0 x2) (val_main_v8 (F := Ideal) x1 x2)
      (val_main_v13 (F := Ideal) x1 x2) (val_main_v14 (F := Ideal) x0 x1 x2) (val_main_v17 (F := Ideal) x0 x1)
      (val_main_v19 (F := Ideal) x0 x1 x2) (val_main_v22 (F := Ideal) x0 x1 x2) (val_main_v26 (F := Ideal) x0 x1)
      (val_main_v35 (F := Ideal) x0 x1 x2 x6) k0_pay17 (ix2 a b) = val_main_v86 (F := Ideal) x0 x1 x2 x3 x4 x5 x6 (ix2 a b) := by
  have e := step_apply x2 d h
  unfold k0_pay28 k0_pay21 val_main_v86 val_main_v85 val_main_v74 val_main_v73 val_main_v61 val_main_v60 val_main_v59 val_main_v58 val_main_v51 val_main_v50 val_main_v49 val_main_v39
  rw [dangle_cos_eq, dangle_sin_eq, dsq_eq, neg_eq]
  generalize k0_pay3 (F := Ideal) d = s at *
  generalize val_main_v68 (F := Ideal) x0 x1 x2 x4 x5 x6 = p
  generalize val_main_v79 (F := Ideal) x0 x1 x2 x3 x5 x6 = q
  generalize val_main_v48 (F := Ideal) x0 x1 x2 x5 x6 = u
  generalize val_main_v38 (F := Ideal) x0 x1 x6 = v
  generalize val_main_v17 (F := Ideal) x0 x1 = w
  generalize val_main_v14 (F := Ideal) x0 x1 x2 = y
  generalize val_main_v19 (F := Ideal) x0 x1 x2 = z
  pointwise! [val_main_v84, val_main_v72, val_main_v1, val_main_v0]
  rw [e]

theorem point9 (a : Fin 64) (s : (⟨S64x1, .f32⟩ : BufTy).Contents (Elt Ideal))
    (hs : s (ix2 a 0) = val_main_v83 (F := Ideal) x0 x1 x2 x3 x4 x5 x6 (ix2 a 0)) :
    k0_pay2 (F := Ideal) x0 (k0_pay3 d) s (val_main_v87 (F := Ideal) x0 x1 x2 x3 x4 x5 x6) (ix2 a 0)
      = val_main_v97 (F := Ideal) x0 x1 x2 x3 x4 x5 x6 (ix2 a 0) := by
  have e := step_apply x2 d h
  unfold k0_pay2 val_main_v97 val_main_v96 val_main_v95 val_main_v91 val_main_v90 val_main_v89 val_main_v88
  generalize k0_pay3 (F := Ideal) d = w at *
  generalize val_main_v87 (F := Ideal) x0 x1 x2 x3 x4 x5 x6 = p
  generalize val_main_v83 (F := Ideal) x0 x1 x2 x3 x4 x5 x6 = q at *
  pointwise! [val_main_v0, val_main_cst_4, val_main_cst_5]
  rw [e, hs, Fin.sum_univ_one]

end Results

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  by decide +kernel

theorem blk0 (c : Dev nD) (t : Fin cfg0.N) : iblk m c 0 t = m ((c : Thread nD τ).loc main_arg0) := by
  funext j
  idx_vars j
  blk_point [iblk, V, idx t]

theorem blk1 (c : Dev nD) (t : Fin cfg0.N) : iblk m c 1 t = m ((c : Thread nD τ).loc main_arg1) := by
  funext j
  idx_vars j
  blk_point [iblk, V, idx t]

theorem blk3 (c : Dev nD) (t : Fin cfg0.N) : iblk m c 3 t = m ((c : Thread nD τ).loc main_arg3) := by
  funext j
  idx_vars j
  blk_point [iblk, V, idx t]

theorem blk4 (c : Dev nD) (t : Fin cfg0.N) : iblk m c 4 t = m ((c : Thread nD τ).loc main_arg4) := by
  funext j
  idx_vars j
  blk_point [iblk, V, idx t]

theorem blk5 (c : Dev nD) (t : Fin cfg0.N) : iblk m c 5 t = m ((c : Thread nD τ).loc main_arg5) := by
  funext j
  idx_vars j
  blk_point [iblk, V, idx t]

theorem blk6 (c : Dev nD) (t : Fin cfg0.N) : iblk m c 6 t = m ((c : Thread nD τ).loc main_arg6) := by
  funext j
  idx_vars j
  blk_point [iblk, V, idx t]

theorem blk2 (c : Dev nD) (t : Fin cfg0.N) (g : Fin 64) : iblk m c 2 t (ix2 g 0) = m ((c : Thread nD τ).loc main_arg2) (ix1 g) := by
  have e : ((cfg0.win 2).blk t).view.emb (ix2 g 0) = ix2 (n0 := 64) (n1 := 1) g 0 := by
    blk_ext [idx t]
  unfold iblk
  blk_simp
  rw [e]
  entry_read
  pointwise!

theorem zero2 : (![0, 0] : Fin 2 → ℕ) = fun _ => 0 := by decide

theorem ld0 (x : (⟨S64x64, .f32⟩ : BufTy).Contents (Elt Ideal)) : View.ld x r0_0 = x := View.ld_unit_zero zero2 _ x

theorem ld1 (x : (⟨S64x1, .f32⟩ : BufTy).Contents (Elt Ideal)) : View.ld x r0_1 = x := View.ld_unit_zero zero2 _ x

theorem out7 (x0 x1 x3 x4 x5 x6 : (⟨S64x64, .f32⟩ : BufTy).Contents (Elt Ideal)) (x2 : (⟨S64, .f32⟩ : BufTy).Contents (Elt Ideal))
    (d : (⟨S64x1, .f32⟩ : BufTy).Contents (Elt Ideal)) (h : ∀ g : Fin 64, d (ix2 g 0) = x2 (ix1 g)) (a b : Fin 64) :
    out0_7 (F := Ideal) x0 x1 d x3 x4 x5 x6 (ix2 a b) = val_main_v94 (F := Ideal) x0 x1 x2 x3 x4 x5 x6 (ix2 a b) := by
  unfold_out out0_7
  frame_out
  simp only [ld0, ld1, decay_eq x0 x2 d h, sin_eq x1 x2 d h, cos_eq x1 x2 d h, sin_eq' x1 x2 d h, cos_eq' x1 x2 d h, imag_eq x0 x1 x2 d h, real_eq x0 x1 x2 d h, num_re_eq x0 x1 x2 d h, sq_eq, inv_eq, num_im_eq x0 x1 x6 x2 d h, ddecay_eq, dlr_eq]
  exact point7 x0 x1 x3 x4 x5 x6 x2 d h a b

theorem out8 (x0 x1 x3 x4 x5 x6 : (⟨S64x64, .f32⟩ : BufTy).Contents (Elt Ideal)) (x2 : (⟨S64, .f32⟩ : BufTy).Contents (Elt Ideal))
    (d : (⟨S64x1, .f32⟩ : BufTy).Contents (Elt Ideal)) (h : ∀ g : Fin 64, d (ix2 g 0) = x2 (ix1 g)) (a b : Fin 64) :
    out0_8 (F := Ideal) x0 x1 d x3 x4 x5 x6 (ix2 a b) = val_main_v86 (F := Ideal) x0 x1 x2 x3 x4 x5 x6 (ix2 a b) := by
  unfold_out out0_8
  frame_out
  simp only [ld0, ld1, decay_eq x0 x2 d h, sin_eq x1 x2 d h, cos_eq x1 x2 d h, sin_eq' x1 x2 d h, cos_eq' x1 x2 d h, imag_eq x0 x1 x2 d h, real_eq x0 x1 x2 d h, num_re_eq x0 x1 x2 d h, sq_eq, inv_eq, num_im_eq x0 x1 x6 x2 d h, ddecay_eq, dlr_eq]
  exact point8 x0 x1 x3 x4 x5 x6 x2 d h a b

theorem out9 (x0 x1 x3 x4 x5 x6 : (⟨S64x64, .f32⟩ : BufTy).Contents (Elt Ideal)) (x2 : (⟨S64, .f32⟩ : BufTy).Contents (Elt Ideal))
    (d : (⟨S64x1, .f32⟩ : BufTy).Contents (Elt Ideal)) (h : ∀ g : Fin 64, d (ix2 g 0) = x2 (ix1 g)) (a : Fin 64) :
    out0_9 (F := Ideal) x0 x1 d x3 x4 x5 x6 (ix2 a 0) = val_main_v97 (F := Ideal) x0 x1 x2 x3 x4 x5 x6 (ix2 a 0) := by
  unfold_out out0_9
  frame_out
  simp only [ld0, ld1, decay_eq x0 x2 d h, sin_eq x1 x2 d h, cos_eq x1 x2 d h, sin_eq' x1 x2 d h, cos_eq' x1 x2 d h, imag_eq x0 x1 x2 d h, real_eq x0 x1 x2 d h, num_re_eq x0 x1 x2 d h, sq_eq, inv_eq, num_im_eq x0 x1 x6 x2 d h, ddecay_eq, dlr_eq]
  exact point9 x0 x1 x3 x4 x5 x6 x2 d h a _ (dstep_apply x0 x1 x3 x4 x5 x6 x2 a)

theorem result7 (c : Dev nD) : (dats m 0 c).arrAt 7 cfg0.N
    = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  idx_vars y
  blk_simp
  rw [after0_7, blk0, blk1, blk3, blk4, blk5, blk6]
  have e : ((View.whole main_v1_0).slice (win0_7.rect t)).emb (ix2 y0 y1) = ix2 (n0 := 64) (n1 := 64) y0 y1 := by
    blk_ext [idx t]
  rw [e]
  exact out7 _ _ _ _ _ _ _ _ (blk2 m c t) y0 y1

theorem result8 (c : Dev nD) : (dats m 0 c).arrAt 8 cfg0.N
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  idx_vars y
  blk_simp
  rw [after0_8, blk0, blk1, blk3, blk4, blk5, blk6]
  have e : ((View.whole main_v1_1).slice (win0_8.rect t)).emb (ix2 y0 y1) = ix2 (n0 := 64) (n1 := 64) y0 y1 := by
    blk_ext [idx t]
  rw [e]
  exact out8 _ _ _ _ _ _ _ _ (blk2 m c t) y0 y1

theorem result9 (c : Dev nD) : (dats m 0 c).arrAt 9 cfg0.N
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  idx_vars y
  blk_simp
  rw [after0_9, blk0, blk1, blk3, blk4, blk5, blk6]
  have e : ((View.whole main_v1_2).slice (win0_9.rect t)).emb (ix2 y0 y1) = ix2 (n0 := 64) (n1 := 1) y0 y1 := by
    blk_ext [idx t]
  rw [e]
  obtain rfl : y1 = 0 := Subsingleton.elim _ _
  exact out9 _ _ _ _ _ _ _ _ (blk2 m c t) y0

end Cert.DiscAIdeal.Value

namespace Cert.DiscA

open Idealize.ShloMosaic Idealize.SL.Sem Cert.DiscARefIdeal.Read

/-- The kernel's gradient of the discretisation is the reference's. -/
theorem algebraic : Cert.algebraic_DiscAIdeal_DiscARefIdeal := by
  pair_intro
  · run_from Cert.DiscAIdeal.Value.run_blocks m g
  · run_from Cert.DiscARefIdeal.Entry.run m' g'
    · exact (Cert.DiscAIdeal.Value.result7 m c).symm
    · exact (Cert.DiscAIdeal.Value.result8 m c).symm
    · exact (Cert.DiscAIdeal.Value.result9 m c).symm

end Cert.DiscA

end
-- ==== Proof.DiscBValue.lean ====
/- The gradient of the state space's input matrix: every array the kernel leaves is the reference's. -/
module

public import proofs.«01_k».proof.Defs
public import proofs.«01_k».proof.Proof.Gen.DiscBIdeal.Value
public import proofs.«01_k».proof.Proof.Gen.DiscBRefIdeal.Run
public import proofs.«01_k».proof.Proof.Gen.DiscBRefIdeal.Read
public import Idealize.ShloMosaic.Lib.Pipeline.ValueKit
public import Idealize.ShloMosaic.Lib.Pointwise

@[expose] public section

set_option maxRecDepth 16384

noncomputable section

namespace Cert.DiscBRefIdeal.Entry

open Cert.DiscBRefIdeal Cert.DiscBRefIdeal.Gen Cert.DiscBRefIdeal.Read Idealize.ShloMosaic

open Idealize.SL.Sem Cert.DiscBRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = val_main_v72 (F := Ideal) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v73) = val_main_v73 (F := Ideal) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v72_eq _ _ _ _),
      (h c).2.1.trans (val_main_v73_eq _ _ _ _),
      (h c).2.2.1.trans (val_main_v75_eq _ _ _ _ _),
      (h c).2.2.2.1.trans (val_main_v77_eq _ _ _ _ _),
      (h c).2.2.2.2⟩) (Cert.DiscBRefIdeal.Value.run m ρ)

end Cert.DiscBRefIdeal.Entry

namespace Cert.DiscBIdeal.Value

open Cert.DiscBIdeal Cert.DiscBIdeal.Gen Idealize.ShloMosaic Idealize.ShloMosaic.TcCoe Idealize.SL.Sem
open Cert.DiscBRefIdeal.Read

/-- The group and the state of a column of the packed arrays. -/
def grp (q : Fin 4096) : Fin 64 := ⟨q.val / 64, by omega⟩
def st (q : Fin 4096) : Fin 64 := ⟨q.val % 64, by omega⟩

section Points

variable (x0 x1 : (⟨S64x64, .f32⟩ : BufTy).Contents (Elt Ideal)) (x2 : (⟨S64, .f32⟩ : BufTy).Contents (Elt Ideal)) (x3 x4 x5 x6 : (⟨S64x64x16, .f32⟩ : BufTy).Contents (Elt Ideal))
  (u v : (⟨S1x4096, .f32⟩ : BufTy).Contents (Elt Ideal)) (y3 y4 y5 y6 : (⟨S16x4096, .f32⟩ : BufTy).Contents (Elt Ideal))

theorem point6 (h3 : ∀ i q, y3 (ix2 i q) = x3 (ix3 (grp q) (st q) i)) (h4 : ∀ i q, y4 (ix2 i q) = x4 (ix3 (grp q) (st q) i))
    (h5 : ∀ i q, y5 (ix2 i q) = x5 (ix3 (grp q) (st q) i)) (h6 : ∀ i q, y6 (ix2 i q) = x6 (ix3 (grp q) (st q) i)) (q : Fin 4096) :
    k0_pay11 (F := Ideal) y3 y4 y5 y6 (ix2 0 q) = val_main_v72 (F := Ideal) x3 x4 x5 x6 (ix2 0 q) := by
  pointwise! [k0_pay11, k0_pay6, k0_pay5, k0_pay4, k0_pay3, val_main_v72, val_main_v71, val_main_v53, val_main_v52, val_main_v51, val_main_v50, val_main_v40, val_main_v70, val_main_v69, val_main_v68, val_main_v67, val_main_v54, val_main_cst_2, val_main_cst_3, val_main_cst_6, val_main_cst_7]
  simp only [h3, h4, h5, h6, Fin.sum_univ_one, grp, st]

theorem point7 (h3 : ∀ i q, y3 (ix2 i q) = x3 (ix3 (grp q) (st q) i)) (h4 : ∀ i q, y4 (ix2 i q) = x4 (ix3 (grp q) (st q) i))
    (h5 : ∀ i q, y5 (ix2 i q) = x5 (ix3 (grp q) (st q) i)) (h6 : ∀ i q, y6 (ix2 i q) = x6 (ix3 (grp q) (st q) i)) (q : Fin 4096) :
    k0_pay9 (F := Ideal) y3 y4 y5 y6 (ix2 0 q) = val_main_v73 (F := Ideal) x3 x4 x5 x6 (ix2 0 q) := by
  pointwise! [k0_pay9, k0_pay7, k0_pay6, k0_pay5, k0_pay4, k0_pay3, val_main_v73, val_main_v63, val_main_v47, val_main_v46, val_main_v45, val_main_v44, val_main_v41, val_main_v62, val_main_v61, val_main_v60, val_main_v59, val_main_v55, val_main_cst_0, val_main_cst_1, val_main_cst_4, val_main_cst_5]
  simp only [h3, h4, h5, h6, Fin.sum_univ_one, grp, st, zero_sub]

theorem point8 (hu : ∀ q, u (ix2 0 q) = val_main_v21 (F := Ideal) x0 x1 x2 (ix2 (grp q) (st q)))
    (hv : ∀ q, v (ix2 0 q) = val_main_v25 (F := Ideal) x0 x1 x2 (ix2 (grp q) (st q)))
    (h5 : ∀ i q, y5 (ix2 i q) = x5 (ix3 (grp q) (st q) i)) (h6 : ∀ i q, y6 (ix2 i q) = x6 (ix3 (grp q) (st q) i)) (i : Fin 16) (q : Fin 4096) :
    k0_pay10 (F := Ideal) u v y5 y6 (ix2 i q) = val_main_v75 (F := Ideal) x0 x1 x2 x5 x6 (ix2 i q) := by
  unfold val_main_v75 val_main_v74 val_main_v66 val_main_v65 val_main_v43 val_main_v64 val_main_v42 val_main_v36 val_main_v26
  generalize val_main_v21 (F := Ideal) x0 x1 x2 = a at *
  generalize val_main_v25 (F := Ideal) x0 x1 x2 = b at *
  pointwise! [k0_pay10, k0_pay6, k0_pay5, k0_pay2, k0_pay1, val_main_v54, val_main_v41]
  simp only [hu, hv, h5, h6, grp, st]

theorem point9 (hu : ∀ q, u (ix2 0 q) = val_main_v21 (F := Ideal) x0 x1 x2 (ix2 (grp q) (st q)))
    (hv : ∀ q, v (ix2 0 q) = val_main_v25 (F := Ideal) x0 x1 x2 (ix2 (grp q) (st q)))
    (h5 : ∀ i q, y5 (ix2 i q) = x5 (ix3 (grp q) (st q) i)) (h6 : ∀ i q, y6 (ix2 i q) = x6 (ix3 (grp q) (st q) i)) (i : Fin 16) (q : Fin 4096) :
    k0_pay8 (F := Ideal) u v y5 y6 (ix2 i q) = val_main_v77 (F := Ideal) x0 x1 x2 x5 x6 (ix2 i q) := by
  unfold val_main_v77 val_main_v76 val_main_v58 val_main_v57 val_main_v49 val_main_v56 val_main_v48 val_main_v33 val_main_v29
  generalize val_main_v21 (F := Ideal) x0 x1 x2 = a at *
  generalize val_main_v25 (F := Ideal) x0 x1 x2 = b at *
  pointwise! [k0_pay8, k0_pay7, k0_pay6, k0_pay5, k0_pay2, k0_pay1, val_main_v55, val_main_v40]
  simp only [hu, hv, h5, h6, grp, st, zero_sub]

theorem columns (x : (⟨S64x64, .f32⟩ : BufTy).Contents (Elt Ideal)) (q : Fin 4096) :
    shapeCast S1x4096 x shapeCasts_S64x64_S1x4096 (ix2 0 q) = x (ix2 (grp q) (st q)) := by
  unfold grp st
  pointwise!

theorem packed (x : (⟨S64x64x16, .f32⟩ : BufTy).Contents (Elt Ideal)) (i : Fin 16) (q : Fin 4096) :
    shapeCast S16x4096 (transpose S16x64x64 [2, 0, 1] x transposes_S64x64x16_S16x64x64_2_0_1) shapeCasts_S16x64x64_S16x4096 (ix2 i q)
      = x (ix3 (grp q) (st q) i) := by
  unfold grp st
  pointwise!

theorem zero2 : (![0, 0] : Fin 2 → ℕ) = fun _ => 0 := by decide

theorem ld0 (x : (⟨S16x4096, .f32⟩ : BufTy).Contents (Elt Ideal)) : View.ld x r0_1 = x := View.ld_unit_zero zero2 _ x

theorem ld1 (x : (⟨S1x4096, .f32⟩ : BufTy).Contents (Elt Ideal)) : View.ld x r0_0 = x := View.ld_unit_zero zero2 _ x

end Points

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  by decide +kernel

theorem blk0 (c : Dev nD) (t : Fin cfg0.N) (q : Fin 4096) :
    iblk m c 0 t (ix2 0 q) = val_main_v21 (F := Ideal) (m ((c : Thread nD τ).loc main_arg0)) (m ((c : Thread nD τ).loc main_arg1)) (m ((c : Thread nD τ).loc main_arg2)) (ix2 (grp q) (st q)) := by
  have e : ((cfg0.win 0).blk t).view.emb (ix2 0 q) = ix2 (n0 := 1) (n1 := 4096) 0 q := by
    blk_ext [idx t]
  unfold iblk
  blk_simp
  rw [e]
  entry_read
  exact columns _ q

theorem blk1 (c : Dev nD) (t : Fin cfg0.N) (q : Fin 4096) :
    iblk m c 1 t (ix2 0 q) = val_main_v25 (F := Ideal) (m ((c : Thread nD τ).loc main_arg0)) (m ((c : Thread nD τ).loc main_arg1)) (m ((c : Thread nD τ).loc main_arg2)) (ix2 (grp q) (st q)) := by
  have e : ((cfg0.win 1).blk t).view.emb (ix2 0 q) = ix2 (n0 := 1) (n1 := 4096) 0 q := by
    blk_ext [idx t]
  unfold iblk
  blk_simp
  rw [e]
  entry_read
  exact columns _ q

theorem blk2 (c : Dev nD) (t : Fin cfg0.N) (i : Fin 16) (q : Fin 4096) :
    iblk m c 2 t (ix2 i q) = m ((c : Thread nD τ).loc main_arg3) (ix3 (grp q) (st q) i) := by
  have e : ((cfg0.win 2).blk t).view.emb (ix2 i q) = ix2 (n0 := 16) (n1 := 4096) i q := by
    blk_ext [idx t]
  unfold iblk
  blk_simp
  rw [e]
  entry_read
  exact packed _ i q

theorem blk3 (c : Dev nD) (t : Fin cfg0.N) (i : Fin 16) (q : Fin 4096) :
    iblk m c 3 t (ix2 i q) = m ((c : Thread nD τ).loc main_arg4) (ix3 (grp q) (st q) i) := by
  have e : ((cfg0.win 3).blk t).view.emb (ix2 i q) = ix2 (n0 := 16) (n1 := 4096) i q := by
    blk_ext [idx t]
  unfold iblk
  blk_simp
  rw [e]
  entry_read
  exact packed _ i q

theorem blk4 (c : Dev nD) (t : Fin cfg0.N) (i : Fin 16) (q : Fin 4096) :
    iblk m c 4 t (ix2 i q) = m ((c : Thread nD τ).loc main_arg5) (ix3 (grp q) (st q) i) := by
  have e : ((cfg0.win 4).blk t).view.emb (ix2 i q) = ix2 (n0 := 16) (n1 := 4096) i q := by
    blk_ext [idx t]
  unfold iblk
  blk_simp
  rw [e]
  entry_read
  exact packed _ i q

theorem blk5 (c : Dev nD) (t : Fin cfg0.N) (i : Fin 16) (q : Fin 4096) :
    iblk m c 5 t (ix2 i q) = m ((c : Thread nD τ).loc main_arg6) (ix3 (grp q) (st q) i) := by
  have e : ((cfg0.win 5).blk t).view.emb (ix2 i q) = ix2 (n0 := 16) (n1 := 4096) i q := by
    blk_ext [idx t]
  unfold iblk
  blk_simp
  rw [e]
  entry_read
  exact packed _ i q

theorem result6 (c : Dev nD) : (dats m 0 c).arrAt 6 cfg0.N
    = val_main_v72 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  idx_vars y
  blk_simp
  rw [after0_6]
  have e : ((View.whole main_v36_0).slice (win0_6.rect t)).emb (ix2 y0 y1) = ix2 (n0 := 1) (n1 := 4096) y0 y1 := by
    blk_ext [idx t]
  rw [e]
  frame_out
  obtain rfl : y0 = 0 := Subsingleton.elim _ _
  exact point6 _ _ _ _ _ _ _ _ (blk2 m c t) (blk3 m c t) (blk4 m c t) (blk5 m c t) y1

theorem result7 (c : Dev nD) : (dats m 0 c).arrAt 7 cfg0.N
    = val_main_v73 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  idx_vars y
  blk_simp
  rw [after0_7]
  have e : ((View.whole main_v36_1).slice (win0_7.rect t)).emb (ix2 y0 y1) = ix2 (n0 := 1) (n1 := 4096) y0 y1 := by
    blk_ext [idx t]
  rw [e]
  frame_out
  obtain rfl : y0 = 0 := Subsingleton.elim _ _
  exact point7 _ _ _ _ _ _ _ _ (blk2 m c t) (blk3 m c t) (blk4 m c t) (blk5 m c t) y1

theorem result8 (c : Dev nD) : (dats m 0 c).arrAt 8 cfg0.N
    = val_main_v75 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 8 _ (by decide +kernel) fun t hf y => ?_
  idx_vars y
  blk_simp
  rw [after0_8]
  have e : ((View.whole main_v36_2).slice (win0_8.rect t)).emb (ix2 y0 y1) = ix2 (n0 := 16) (n1 := 4096) y0 y1 := by
    blk_ext [idx t]
  rw [e]
  frame_out
  exact point8 _ _ _ _ _ _ _ _ _ (blk0 m c t) (blk1 m c t) (blk4 m c t) (blk5 m c t) y0 y1

theorem result9 (c : Dev nD) : (dats m 0 c).arrAt 9 cfg0.N
    = val_main_v77 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 9 _ (by decide +kernel) fun t hf y => ?_
  idx_vars y
  blk_simp
  rw [after0_9]
  have e : ((View.whole main_v36_3).slice (win0_9.rect t)).emb (ix2 y0 y1) = ix2 (n0 := 16) (n1 := 4096) y0 y1 := by
    blk_ext [idx t]
  rw [e]
  frame_out
  exact point9 _ _ _ _ _ _ _ _ _ (blk0 m c t) (blk1 m c t) (blk4 m c t) (blk5 m c t) y0 y1

end Cert.DiscBIdeal.Value

namespace Cert.DiscB

open Idealize.ShloMosaic Idealize.SL.Sem Cert.DiscBRefIdeal.Read

/-- The kernel's gradient of the input matrix is the reference's. -/
theorem algebraic : Cert.algebraic_DiscBIdeal_DiscBRefIdeal := by
  pair_intro
  · run_from Cert.DiscBIdeal.Value.run_blocks m g
  · run_from Cert.DiscBRefIdeal.Entry.run m' g'
    · exact (Cert.DiscBIdeal.Value.result6 m c).symm
    · exact (Cert.DiscBIdeal.Value.result7 m c).symm
    · exact (Cert.DiscBIdeal.Value.result8 m c).symm
    · exact (Cert.DiscBIdeal.Value.result9 m c).symm

end Cert.DiscB

end
-- ==== Proof.LossRead.lean ====
/- The reference of the convolution, the gate, the product after it, the last norm and the loss, read entry by entry:
the convolution's result, the loss, and the loss's gradients of the state and of the norm's gain. -/
module

public import proofs.«01_k».proof.Proof.Gen.LossRefIdeal.Run
public import proofs.«01_k».proof.Proof.Gen.LossRefIdeal.Read
public import proofs.«01_k».proof.Proof.ConvRead
public import Idealize.ShloMosaic.Lib.Pointwise
public import Idealize.ShloMosaic.Lib.Pipeline.ValueKit

@[expose] public section

set_option maxRecDepth 16384

noncomputable section

namespace Cert.LossRefIdeal.Entry

open Cert.LossRefIdeal Cert.LossRefIdeal.Gen Cert.LossRefIdeal.Read Idealize.ShloMosaic
open Cert.ConvRefIdeal.Entry (seq fst snd msq gain dnorm sum_axes01)

section Numbers

theorem half_bits : Ideal.ofBits .f32 0x3F000000#32 = ((1 / 2 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

/-- Dividing by the width is multiplying by its reciprocal. -/
theorem div_width (x : EReal) : Ideal.div x (Ideal.ofBits .f32 0x44800000#32) = ((1 / 1024 : ℝ) : EReal) * x := by
  rw [width_bits, Ideal.div, if_neg (by exact_mod_cast (by norm_num : (1024 : ℝ) ≠ 0)), mul_comm, ← EReal.coe_inv]
  norm_num

/-- A number that is positive and finite goes through a sum. -/
theorem scale_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The weight of an entry of the error, as the kernel has it. -/
def wk : EReal := Ideal.ofBits .f32 0x3F000000#32 * Ideal.div (Ideal.ofBits .f32 0x3F800000#32) (Ideal.ofBits .f32 0x44800000#32)

/-- The weight of an entry of the error, as the reference has it. -/
def wr : EReal := Ideal.div (Ideal.ofBits .f32 0x3F000000#32 * Ideal.ofBits .f32 0x3F800000#32) (Ideal.ofBits .f32 0x44800000#32)

theorem weight (d : EReal) : d * wk + wk * d = wr * (Ideal.ofBits .f32 0x40000000#32 * d) := by
  have hk : wk = ((1 / 2048 : ℝ) : EReal) := by
    rw [wk, div_width, half_bits, Ideal.ofBits_one_f32, mul_one, ← EReal.coe_mul]; norm_num
  have hr : wr = ((1 / 2048 : ℝ) : EReal) := by
    rw [wr, div_width, half_bits, Ideal.ofBits_one_f32, mul_one, ← EReal.coe_mul]; norm_num
  rw [hk, hr, two_bits, mul_comm d, ← mul_assoc, ← EReal.coe_mul]
  rw [← EReal.right_distrib_of_nonneg (EReal.coe_nonneg.mpr (by norm_num)) (EReal.coe_nonneg.mpr (by norm_num)), ← EReal.coe_add]
  norm_num

end Numbers

variable (x0 : (⟨S8256x5632, .bf16⟩ : BufTy).Contents (Elt Ideal)) (x1 : (⟨S3x5632, .f32⟩ : BufTy).Contents (Elt Ideal))
  (x2 : (⟨S5632, .f32⟩ : BufTy).Contents (Elt Ideal)) (x3 : (⟨S2816x1024, .f32⟩ : BufTy).Contents (Elt Ideal))
  (x4 : (⟨S8256x1024, .f32⟩ : BufTy).Contents (Elt Ideal)) (x5 : (⟨S4x2048x1024, .f32⟩ : BufTy).Contents (Elt Ideal))
  (x6 : (⟨S1024, .f32⟩ : BufTy).Contents (Elt Ideal))

/-- The convolution's argument `d` steps before within its sequence, zero before its start. -/
def behind (d : ℕ) (b : Fin 4) (s : Fin 2064) (q : Fin 5632) : EReal :=
  if h : d ≤ s.val then x0 (ix2 (seq b ⟨s.val - d, by omega⟩) q) else 0

/-- The convolution with its bias, the terms in the kernel's order. -/
def conv (b : Fin 4) (s : Fin 2064) (q : Fin 5632) : EReal :=
  x2 (ix1 q) + x1 (ix2 0 q) * behind x0 2 b s q + x1 (ix2 1 q) * behind x0 1 b s q + x1 (ix2 2 q) * behind x0 0 b s q

theorem v1_apply (b : Fin 4) (s : Fin 2064) (q : Fin 5632) : val_main_v1 (F := Ideal) x0 (ix3 b s q) = x0 (ix2 (seq b s) q) := by
  unfold seq
  pointwise! [val_main_v1, val_main_v0]

theorem v3_apply (b : Fin 4) (s : Fin 2066) (q : Fin 5632) : val_main_v3 (F := Ideal) x0 (ix3 b s q)
    = if h : s.val < 2 then 0 else x0 (ix2 (seq b ⟨s.val - 2, by omega⟩) q) := by
  have e : val_main_v3 (F := Ideal) x0 (ix3 b s q)
      = if h : s.val < 2 then 0 else val_main_v1 (F := Ideal) x0 (ix3 b ⟨s.val - 2, by omega⟩ q) := by
    unfold val_main_v3
    generalize val_main_v1 (F := Ideal) x0 = y
    pointwise! [val_main_v2, val_main_cst]
  rw [e]
  split
  · rfl
  · rw [v1_apply]

theorem v3_behind (d : ℕ) (hd : d ≤ 2) (b : Fin 4) (s : Fin 2064) (q : Fin 5632) (h : 2 - d + s.val < 2066) :
    val_main_v3 (F := Ideal) x0 (ix3 b ⟨2 - d + s.val, h⟩ q) = behind x0 d b s q := by
  rw [v3_apply, behind]
  by_cases e : d ≤ s.val
  · rw [dif_pos e, dif_neg (by show ¬2 - d + s.val < 2; omega)]
    refine congrArg (fun k => x0 (ix2 (seq b k) q)) (Fin.ext ?_)
    show 2 - d + s.val - 2 = s.val - d
    omega
  · rw [dif_neg e, dif_pos (by show 2 - d + s.val < 2; omega)]

theorem v28_apply (b : Fin 4) (s : Fin 2064) (q : Fin 5632) : val_main_v28 (F := Ideal) x0 x1 x2 (ix3 b s q) = conv x0 x1 x2 b s q := by
  unfold conv
  rw [← v3_behind x0 2 (by omega) b s q (by omega), ← v3_behind x0 1 (by omega) b s q (by omega), ← v3_behind x0 0 (by omega) b s q (by omega)]
  have e : val_main_v28 (F := Ideal) x0 x1 x2 (ix3 b s q)
      = val_main_v3 (F := Ideal) x0 (ix3 b ⟨2 - 2 + s.val, by omega⟩ q) * x1 (ix2 0 q)
        + val_main_v3 (F := Ideal) x0 (ix3 b ⟨2 - 1 + s.val, by omega⟩ q) * x1 (ix2 1 q)
        + val_main_v3 (F := Ideal) x0 (ix3 b ⟨2 - 0 + s.val, by omega⟩ q) * x1 (ix2 2 q) + x2 (ix1 q) := by
    unfold val_main_v28 val_main_v25 val_main_v18 val_main_v11 val_main_v24 val_main_v17 val_main_v9 val_main_v4 val_main_v12 val_main_v19
    generalize val_main_v3 (F := Ideal) x0 = y
    pointwise! [val_main_v10, val_main_cst_0, val_main_v8, val_main_v7, val_main_v6, val_main_v5, val_main_v16, val_main_v15, val_main_v14,
      val_main_v13, val_main_v23, val_main_v22, val_main_v21, val_main_v20, val_main_v27, val_main_v26]
  rw [e]
  simp only [mul_comm (x1 _)]
  rw [add_comm _ (x2 (ix1 q))]
  simp only [add_assoc]

/-- The convolution with its bias, among all rows. -/
theorem v29_apply (b : Fin 4) (s : Fin 2064) (q : Fin 5632) :
    val_main_v29 (F := Ideal) x0 x1 x2 (ix2 (seq b s) q) = conv x0 x1 x2 b s q := by
  rw [← v28_apply]
  unfold val_main_v29 seq
  generalize val_main_v28 (F := Ideal) x0 x1 x2 = y
  pointwise!

theorem v95_apply (p : Fin 4) (r : Fin 8256) (l : Fin 704) :
    val_main_v95 (F := Ideal) x0 x1 x2 (ix3 p r l) = val_main_v29 (F := Ideal) x0 x1 x2 (ix2 r (fst p l)) := by
  unfold val_main_v95 val_main_v94 val_main_v93 val_main_v92 val_main_v91 fst
  generalize val_main_v29 (F := Ideal) x0 x1 x2 = y
  pointwise!

theorem v97_apply (p : Fin 4) (r : Fin 8256) (l : Fin 704) :
    val_main_v97 (F := Ideal) x0 x1 x2 (ix3 p r l) = val_main_v29 (F := Ideal) x0 x1 x2 (ix2 r (snd p l)) := by
  unfold val_main_v97 val_main_v96 val_main_v93 val_main_v92 val_main_v91 snd
  generalize val_main_v29 (F := Ideal) x0 x1 x2 = y
  pointwise!

/-- The activation's entry. -/
def act (a b : EReal) : EReal := a * Ideal.logistic a * b

theorem v33_apply (p : Fin 4) (l : Fin 704) (r : Fin 8256) :
    val_main_v33 (F := Ideal) x0 x1 x2 (ix2 r ⟨p.val * 704 + l.val, by omega⟩)
      = act (val_main_v29 (F := Ideal) x0 x1 x2 (ix2 r (fst p l))) (val_main_v29 (F := Ideal) x0 x1 x2 (ix2 r (snd p l))) := by
  unfold val_main_v33 val_main_v31 val_main_v32 val_main_call0_v5 val_main_call0_v3 val_main_call0_v1 val_main_call0_v0 val_main_v30 act fst snd
  generalize val_main_v29 (F := Ideal) x0 x1 x2 = y
  pointwise! [val_main_call0_v2, val_main_call0_v4, val_main_call0_cst, val_main_call0_cst_0]
  simp only [Nat.add_assoc]
  rfl

/-- The state after the block, its row `r`: the state before plus the product, one sum per column block. -/
theorem v35_apply (r : Fin 8256) (k : Fin 1024) : val_main_v35 (F := Ideal) x0 x1 x2 x3 x4 (ix2 r k)
    = x4 (ix2 r k) + ∑ p : Fin 4, ∑ l : Fin 704, act (val_main_v29 (F := Ideal) x0 x1 x2 (ix2 r (fst p l)))
        (val_main_v29 (F := Ideal) x0 x1 x2 (ix2 r (snd p l))) * x3 (ix2 ⟨p.val * 704 + l.val, by omega⟩ k) := by
  have e : val_main_v35 (F := Ideal) x0 x1 x2 x3 x4 (ix2 r k)
      = x4 (ix2 r k) + ∑ q : Fin 2816, val_main_v33 (F := Ideal) x0 x1 x2 (ix2 r q) * x3 (ix2 q k) := by
    unfold val_main_v35 val_main_v34
    generalize val_main_v33 (F := Ideal) x0 x1 x2 = y
    pointwise!
  rw [e]
  congr 1
  symm
  refine Fin.sum_mul_add_congr (f := fun q : Fin 2816 => val_main_v33 (F := Ideal) x0 x1 x2 (ix2 r q) * x3 (ix2 q k)) fun p l h => ?_
  exact (Ideal.mul_congr (v33_apply x0 x1 x2 p l r) rfl).symm

/-- Row `l` of the part of sequence `b` that the loss is of, among all rows. -/
def tail (b : Fin 4) (l : Fin 2048) : Fin 8256 := seq b ⟨16 + l.val, by omega⟩

theorem v37_apply (b : Fin 4) (l : Fin 2048) (k : Fin 1024) : val_main_v37 (F := Ideal) x0 x1 x2 x3 x4 (ix3 b l k)
    = val_main_v35 (F := Ideal) x0 x1 x2 x3 x4 (ix2 (tail b l) k) := by
  unfold val_main_v37 val_main_v36 tail seq
  generalize val_main_v35 (F := Ideal) x0 x1 x2 x3 x4 = y
  pointwise!

/-- The error's entry: the normed row times the gain, less the target. -/
def err (x g t : Fin 1024 → EReal) (k : Fin 1024) : EReal := x k * Ideal.rsqrt (msq x) * g k - t k

/-- A row of the state. -/
def hrow (b : Fin 4) (l : Fin 2048) (k : Fin 1024) : EReal := val_main_v37 (F := Ideal) x0 x1 x2 x3 x4 (ix3 b l k)

/-- The cotangent of the normed row. -/
def zrow (b : Fin 4) (l : Fin 2048) (k : Fin 1024) : EReal :=
  wr * (Ideal.ofBits .f32 0x40000000#32 * err (hrow x0 x1 x2 x3 x4 b l) (fun k => x6 (ix1 k)) (fun k => x5 (ix3 b l k)) k)

theorem v44_apply (b : Fin 4) (l : Fin 2048) : val_main_v44 (F := Ideal) x0 x1 x2 x3 x4 (ix3 b l 0) = msq (hrow x0 x1 x2 x3 x4 b l) := by
  unfold msq hrow val_main_v44 val_main_v42 val_main_v40 val_main_v39 val_main_v38
  generalize val_main_v37 (F := Ideal) x0 x1 x2 x3 x4 = y
  pointwise! [val_main_cst_1, val_main_v41, val_main_cst_2, val_main_v43, val_main_cst_3]

theorem v54_apply (b : Fin 4) (l : Fin 2048) (k : Fin 1024) : val_main_v54 (F := Ideal) x0 x1 x2 x3 x4 x5 x6 (ix3 b l k)
    = err (hrow x0 x1 x2 x3 x4 b l) (fun k => x6 (ix1 k)) (fun k => x5 (ix3 b l k)) k := by
  unfold err
  rw [← v44_apply]
  unfold hrow val_main_v54 val_main_v53 val_main_v50 val_main_v49 val_main_v45
  generalize val_main_v44 (F := Ideal) x0 x1 x2 x3 x4 = z
  generalize val_main_v37 (F := Ideal) x0 x1 x2 x3 x4 = y
  pointwise! [val_main_v52, val_main_v51]

theorem v68_apply (b : Fin 4) (l : Fin 2048) (k : Fin 1024) : val_main_v68 (F := Ideal) x0 x1 x2 x3 x4 x5 x6 (ix3 b l k)
    = zrow x0 x1 x2 x3 x4 x5 x6 b l k := by
  unfold zrow wr
  rw [← v54_apply]
  unfold val_main_v68 val_main_v57
  generalize val_main_v54 (F := Ideal) x0 x1 x2 x3 x4 x5 x6 = y
  pointwise! [val_main_v67, val_main_v66, val_main_v65, val_main_v64, val_main_v63, val_main_cst_10, val_main_cst_11, val_main_cst_12, val_main_v56, val_main_cst_5]

theorem v69_apply (b : Fin 4) (l : Fin 2048) (k : Fin 1024) : val_main_v69 (F := Ideal) x0 x1 x2 x3 x4 x5 x6 (ix3 b l k)
    = gain (hrow x0 x1 x2 x3 x4 b l) (zrow x0 x1 x2 x3 x4 x5 x6 b l) k := by
  unfold gain
  rw [← v44_apply, ← v68_apply]
  unfold hrow val_main_v69 val_main_v50 val_main_v49 val_main_v45
  generalize val_main_v68 (F := Ideal) x0 x1 x2 x3 x4 x5 x6 = w
  generalize val_main_v44 (F := Ideal) x0 x1 x2 x3 x4 = z
  generalize val_main_v37 (F := Ideal) x0 x1 x2 x3 x4 = y
  pointwise!

theorem v70_apply (k : Fin 1024) : val_main_v70 (F := Ideal) x0 x1 x2 x3 x4 x5 x6 (ix1 k)
    = ∑ b : Fin 4, ∑ l : Fin 2048, gain (hrow x0 x1 x2 x3 x4 b l) (zrow x0 x1 x2 x3 x4 x5 x6 b l) k := by
  refine Eq.trans ?_ (Finset.sum_congr rfl fun b _ => Finset.sum_congr rfl fun l _ => v69_apply x0 x1 x2 x3 x4 x5 x6 b l k)
  unfold val_main_v70
  generalize val_main_v69 (F := Ideal) x0 x1 x2 x3 x4 x5 x6 = y
  refine (sum_axes01 _ y _ _ k (by decide) rfl).trans ?_
  exact (congrArg (· + _) (by pointwise! [val_main_cst_13])).trans (zero_add _)

theorem v99_apply (k : Fin 1024) : val_main_v99 (F := Ideal) x0 x1 x2 x3 x4 x5 x6 (ix2 (0 : Fin 1) k)
    = ∑ b : Fin 4, ∑ l : Fin 2048, gain (hrow x0 x1 x2 x3 x4 b l) (zrow x0 x1 x2 x3 x4 x5 x6 b l) k := by
  rw [← v70_apply]
  unfold val_main_v99 val_main_v74 val_main_v71
  generalize val_main_v70 (F := Ideal) x0 x1 x2 x3 x4 x5 x6 = y
  pointwise! [val_main_cst_14]
  refine (sum_axes01 _ _ _ _ k (by decide) rfl).trans ((zero_add _).trans ?_)
  simp only [Fin.sum_univ_one]
  pointwise!

theorem v73_apply (b : Fin 4) (l : Fin 2048) (k : Fin 1024) : val_main_v73 (F := Ideal) x0 x1 x2 x3 x4 x5 x6 (ix3 b l k)
    = zrow x0 x1 x2 x3 x4 x5 x6 b l k * x6 (ix1 k) := by
  rw [← v68_apply]
  unfold val_main_v73
  generalize val_main_v68 (F := Ideal) x0 x1 x2 x3 x4 x5 x6 = y
  pointwise! [val_main_v72, val_main_v51]

theorem v76_apply (b : Fin 4) (l : Fin 2048) : val_main_v76 (F := Ideal) x0 x1 x2 x3 x4 x5 x6 (ix2 b l)
    = ∑ k, hrow x0 x1 x2 x3 x4 b l k * (zrow x0 x1 x2 x3 x4 x5 x6 b l k * x6 (ix1 k)) := by
  refine Eq.trans ?_ (Finset.sum_congr rfl fun k _ => congrArg (hrow x0 x1 x2 x3 x4 b l k * ·) (v73_apply x0 x1 x2 x3 x4 x5 x6 b l k))
  unfold hrow val_main_v76 val_main_v75
  generalize val_main_v73 (F := Ideal) x0 x1 x2 x3 x4 x5 x6 = z
  generalize val_main_v37 (F := Ideal) x0 x1 x2 x3 x4 = y
  pointwise! [val_main_cst_15]

theorem v88_apply (b : Fin 4) (l : Fin 2048) (k : Fin 1024) : val_main_v88 (F := Ideal) x0 x1 x2 x3 x4 x5 x6 (ix3 b l k)
    = dnorm (hrow x0 x1 x2 x3 x4 b l) (fun k => x6 (ix1 k)) (zrow x0 x1 x2 x3 x4 x5 x6 b l) k := by
  unfold dnorm
  rw [← v73_apply, ← v76_apply, ← v44_apply]
  unfold hrow val_main_v88 val_main_v87 val_main_v86 val_main_v85 val_main_v84 val_main_v83 val_main_v82 val_main_v80 val_main_v79 val_main_v78 val_main_v77
    val_main_v48 val_main_v46 val_main_v45
  generalize val_main_v76 (F := Ideal) x0 x1 x2 x3 x4 x5 x6 = w
  generalize val_main_v73 (F := Ideal) x0 x1 x2 x3 x4 x5 x6 = v
  generalize val_main_v44 (F := Ideal) x0 x1 x2 x3 x4 = z
  generalize val_main_v37 (F := Ideal) x0 x1 x2 x3 x4 = y
  pointwise! [val_main_v81, val_main_cst_16, val_main_cst_17, val_main_v47, val_main_cst_4]
  simp only [Fin.sum_univ_one]

theorem v90_apply (b : Fin 4) (s : Fin 2064) (k : Fin 1024) : val_main_v90 (F := Ideal) x0 x1 x2 x3 x4 x5 x6 (ix2 (seq b s) k)
    = if h : 16 ≤ s.val then val_main_v88 (F := Ideal) x0 x1 x2 x3 x4 x5 x6 (ix3 b ⟨s.val - 16, by omega⟩ k) else 0 := by
  unfold val_main_v90 val_main_v89 seq
  generalize val_main_v88 (F := Ideal) x0 x1 x2 x3 x4 x5 x6 = y
  pointwise! [val_main_cst_18]
  by_cases h : 16 ≤ s.val
  · rw [dif_pos h, dif_pos ⟨h, by omega⟩]
  · rw [dif_neg h, dif_neg fun e => h e.1]

theorem v98_apply (i : Fin 128) : val_main_v98 (F := Ideal) x0 x1 x2 x3 x4 x5 x6 (ix2 (0 : Fin 1) i)
    = ((1 / 2048 : ℝ) : EReal) * ∑ b : Fin 4, ∑ l : Fin 2048, ∑ k : Fin 1024,
        err (hrow x0 x1 x2 x3 x4 b l) (fun k => x6 (ix1 k)) (fun k => x5 (ix3 b l k)) k
          * err (hrow x0 x1 x2 x3 x4 b l) (fun k => x6 (ix1 k)) (fun k => x5 (ix3 b l k)) k := by
  have e60 : ∀ b l, val_main_v60 (F := Ideal) x0 x1 x2 x3 x4 x5 x6 (ix2 b l) = ((1 / 1024 : ℝ) : EReal) * ∑ k : Fin 1024,
        err (hrow x0 x1 x2 x3 x4 b l) (fun k => x6 (ix1 k)) (fun k => x5 (ix3 b l k)) k
          * err (hrow x0 x1 x2 x3 x4 b l) (fun k => x6 (ix1 k)) (fun k => x5 (ix3 b l k)) k := fun b l => by
    rw [← div_width]
    simp only [← v54_apply]
    unfold val_main_v60 val_main_v58 val_main_v55
    generalize val_main_v54 (F := Ideal) x0 x1 x2 x3 x4 x5 x6 = y
    pointwise! [val_main_cst_6, val_main_v59, val_main_cst_7]
  have e98 : val_main_v98 (F := Ideal) x0 x1 x2 x3 x4 x5 x6 (ix2 (0 : Fin 1) i)
      = Ideal.ofBits .f32 0x3F000000#32 * ∑ b : Fin 4, ∑ l : Fin 2048, val_main_v60 (F := Ideal) x0 x1 x2 x3 x4 x5 x6 (ix2 b l) := by
    unfold val_main_v98 val_main_v62 val_main_v61
    generalize val_main_v60 (F := Ideal) x0 x1 x2 x3 x4 x5 x6 = y
    pointwise! [val_main_cst_9, val_main_cst_8]
  rw [e98, half_bits]
  simp only [e60]
  simp only [← scale_sum _ (1 / 1024 : ℝ) (by norm_num)]
  rw [← mul_assoc, ← EReal.coe_mul]
  norm_num

open Idealize.SL.Sem Cert.LossRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = val_main_v95 (F := Ideal) (m ((c.tc : Thread nD τ).loc main_arg0)) (m ((c.tc : Thread nD τ).loc main_arg1)) (m ((c.tc : Thread nD τ).loc main_arg2))
      ∧ r.2.mem ((c.tc : Thread nD τ).loc main_v97) = val_main_v97 (F := Ideal) (m ((c.tc : Thread nD τ).loc main_arg0)) (m ((c.tc : Thread nD τ).loc main_arg1)) (m ((c.tc : Thread nD τ).loc main_arg2))
      ∧ r.2.mem ((c.tc : Thread nD τ).loc main_v90) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v98) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v99) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v95_eq _),
      (h c).2.1.trans (val_main_v97_eq _),
      (h c).2.2.1.trans (val_main_v90_eq _),
      (h c).2.2.2.1.trans (val_main_v98_eq _),
      (h c).2.2.2.2.1.trans (val_main_v99_eq _),
      (h c).2.2.2.2.2⟩) (Cert.LossRefIdeal.Value.run m ρ)

end Cert.LossRefIdeal.Entry

end
-- ==== Proof.LossValue.lean ====
/- The convolution, the gate, the product after it, the last norm and the loss: the five arrays the kernel leaves are
the reference's. -/
module

public import proofs.«01_k».proof.Defs
public import proofs.«01_k».proof.Proof.Gen.LossIdeal.Value
public import proofs.«01_k».proof.Proof.LossRead
public import Idealize.ShloMosaic.Lib.Pipeline.ValueKit
public import Idealize.ShloMosaic.Lib.Pointwise
public import Idealize.ShloMosaic.Lib.WritesUnit

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)
open Cert.LossRefIdeal.Read Cert.LossRefIdeal.Entry
open Cert.ConvRefIdeal.Entry (seq fst snd msq gain dnorm)

variable (m : (ℓ : Loc nD τ sig) → Buf (Elt Ideal) ℓ)

/-- Block indices: point `t` works on row tile `t / 4` of the pair of column blocks `t % 4`. -/
theorem idx : ∀ t : Fin cfg0.N, win0_0.index t = ![t.val % 4, t.val / 4, 0] ∧
    win0_1.index t = ![t.val % 4, t.val / 4 * 43 - 1, 0] ∧ win0_2.index t = ![t.val % 4 + 4, t.val / 4, 0] ∧
    win0_3.index t = ![t.val % 4 + 4, t.val / 4 * 43 - 1, 0] ∧ win0_4.index t = ![t.val % 4, 0, 0] ∧
    win0_5.index t = ![t.val % 4 + 4, 0, 0] ∧ win0_6.index t = ![t.val % 4, 0, 0] ∧
    win0_7.index t = ![t.val % 4 + 4, 0, 0] ∧ win0_8.index t = ![t.val % 4, 0, 0] ∧ win0_9.index t = ![t.val / 4, 0] ∧
    win0_10.index t = ![t.val / 4, 0] ∧ win0_11.index t = ![0, 0] ∧
    win0_12.index t = ![t.val % 4, t.val / 4, 0] ∧ win0_13.index t = ![t.val % 4, t.val / 4, 0] ∧
    win0_14.index t = ![t.val / 4, 0] ∧ win0_15.index t = ![0, 0] ∧ win0_16.index t = ![0, 0] :=
  (by decide +kernel : ∀ t : Fin grid0.N, _)

theorem lt48 (t : Fin cfg0.N) : t.val < 48 := lt_of_lt_of_eq t.isLt N_0

/-- The number of a row tile within its sequence, as the kernel computes it. -/
def part (a : BitVec 32) : BitVec 32 :=
  Scalar.select (Scalar.andi (Scalar.xori (Scalar.cmpi .slt (Scalar.remsi a (Scalar.select (Scalar.cmpi .eq 3#32 0#32) 1#32 3#32)) 0#32)
      (Scalar.cmpi .slt (Scalar.select (Scalar.cmpi .eq 3#32 0#32) 1#32 3#32) 0#32))
      (Scalar.cmpi .ne (Scalar.remsi a (Scalar.select (Scalar.cmpi .eq 3#32 0#32) 1#32 3#32)) 0#32))
    (Scalar.addi (Scalar.remsi a (Scalar.select (Scalar.cmpi .eq 3#32 0#32) 1#32 3#32)) (Scalar.select (Scalar.cmpi .eq 3#32 0#32) 1#32 3#32))
    (Scalar.remsi a (Scalar.select (Scalar.cmpi .eq 3#32 0#32) 1#32 3#32))

theorem part_eq : ∀ t : Fin cfg0.N, part (BitVec.ofNat 32 (grid0.coords t 0).val) = BitVec.ofNat 32 (t.val / 4 % 3) :=
  (by decide +kernel : ∀ t : Fin grid0.N, _)

section Points

/-- The sequence of a point's row tile. -/
def sq (t : Fin cfg0.N) : Fin 4 := ⟨t.val / 12, by have := lt48 t; omega⟩

/-- The step in its sequence of row `a` of a point's row tile. -/
def st (t : Fin cfg0.N) (a : Fin 688) : Fin 2064 := ⟨t.val / 4 % 3 * 688 + a.val, by omega⟩

/-- Row `a` of a point's row tile, among all rows. -/
def row (t : Fin cfg0.N) (a : Fin 688) : Fin 8256 := ⟨t.val / 4 * 688 + a.val, by have := lt48 t; omega⟩

/-- The pair of column blocks of a point. -/
def pr (t : Fin cfg0.N) : Fin 4 := ⟨t.val % 4, by omega⟩

theorem seq_sq (t : Fin cfg0.N) (a : Fin 688) : seq (sq t) (st t a) = row t a := by
  apply Fin.ext
  show t.val / 12 * 2064 + (t.val / 4 % 3 * 688 + a.val) = t.val / 4 * 688 + a.val
  omega

end Points

section Payloads

theorem pay18_apply (v : (⟨S1x688x704, .bf16⟩ : BufTy).Contents (Elt Ideal)) (a : Fin 688) (l : Fin 704) :
    k0_pay18 (F := Ideal) v (ix2 a l) = v (ix3 0 a l) := by
  pointwise! [k0_pay18]

theorem pay17_apply (t : Fin cfg0.N) (v : (⟨S1x16x704, .bf16⟩ : BufTy).Contents (Elt Ideal)) (h : Fin 16) (l : Fin 704) :
    k0_pay20 (F := Ideal) (Scalar.cmpi .eq (part (BitVec.ofNat 32 (grid0.coords t 0).val)) 0#32) v (ix2 h l)
      = if t.val / 4 % 3 = 0 then 0 else v (ix3 0 h l) := by
  have e : ∀ b : BitVec 1, k0_pay20 (F := Ideal) b v (ix2 h l) = if b = 1#1 then 0 else v (ix3 0 h l) := fun b => by
    pointwise! [k0_pay20]
  rw [e, part_eq]
  have hb : ∀ n : Fin 3, (Scalar.cmpi .eq (BitVec.ofNat 32 n.val) 0#32 = 1#1) ↔ n.val = 0 := by decide +kernel
  exact if_congr (hb ⟨t.val / 4 % 3, by omega⟩) rfl rfl

variable (t0 t1 t2 : (⟨S688x704, .f32⟩ : BufTy).Contents (Elt Ideal)) (w : (⟨S1x3x704, .f32⟩ : BufTy).Contents (Elt Ideal))
  (z : (⟨S1x1x704, .f32⟩ : BufTy).Contents (Elt Ideal))

theorem pay19_apply (a : Fin 688) (l : Fin 704) : k0_pay19 (F := Ideal) t0 t1 t2 w z (ix2 a l)
    = z (ix3 0 0 l) + w (ix3 0 0 l) * t0 (ix2 a l) + w (ix3 0 1 l) * t1 (ix2 a l) + w (ix3 0 2 l) * t2 (ix2 a l) := by
  pointwise! [k0_pay19]

theorem pay23_eq : k0_pay23 (F := Ideal) t0 t1 t2 (k0_pay22 w) z = k0_pay19 (F := Ideal) t0 t1 t2 w z := rfl

theorem pay24_apply (v : (⟨S688x704, .f32⟩ : BufTy).Contents (Elt Ideal)) (a : Fin 688) (l : Fin 704) :
    k0_pay24 (F := Ideal) v (ix3 0 a l) = v (ix2 a l) := by
  pointwise! [k0_pay24]

theorem pay26_apply (v : (⟨S688x704, .f32⟩ : BufTy).Contents (Elt Ideal)) (wd : (⟨S1x704x1024, .bf16⟩ : BufTy).Contents (Elt Ideal))
    (a : Fin 688) (k : Fin 1024) : k0_pay26 (F := Ideal) v t0 t1 t2 (k0_pay22 w) z wd (ix2 a k)
      = ∑ l : Fin 704, act (v (ix2 a l)) (k0_pay19 (F := Ideal) t0 t1 t2 w z (ix2 a l)) * wd (ix3 0 l k) := by
  unfold act
  rw [← pay23_eq]
  unfold k0_pay26
  generalize k0_pay23 (F := Ideal) t0 t1 t2 (k0_pay22 w) z = y
  pointwise!

theorem pay27_apply (v : (⟨S688x704, .f32⟩ : BufTy).Contents (Elt Ideal)) (wd : (⟨S1x704x1024, .bf16⟩ : BufTy).Contents (Elt Ideal))
    (h : (⟨S688x1024, .f32⟩ : BufTy).Contents (Elt Ideal)) (a : Fin 688) (k : Fin 1024) :
    k0_pay27 (F := Ideal) v t0 t1 t2 (k0_pay22 w) z wd h (ix2 a k)
      = h (ix2 a k) + k0_pay26 (F := Ideal) v t0 t1 t2 (k0_pay22 w) z wd (ix2 a k) := by
  unfold k0_pay27
  generalize k0_pay26 (F := Ideal) v t0 t1 t2 (k0_pay22 w) z wd = y
  pointwise!

variable (x d : (⟨S688x1024, .f32⟩ : BufTy).Contents (Elt Ideal)) (g : (⟨S1x1024, .f32⟩ : BufTy).Contents (Elt Ideal))

theorem pay5_apply (a : Fin 688) : k0_pay5 (F := Ideal) x (ix2 a 0) = msq fun k => x (ix2 a k) := by
  unfold msq
  pointwise! [k0_pay5]

theorem pay9_apply (a : Fin 688) (k : Fin 1024) : k0_pay9 (F := Ideal) d x g (ix2 a k)
    = err (fun k => x (ix2 a k)) (fun k => g (ix2 0 k)) (fun k => d (ix2 a k)) k := by
  unfold err
  rw [← pay5_apply]
  unfold k0_pay9 k0_pay8 k0_pay6 k0_pay4
  generalize k0_pay5 (F := Ideal) x = y
  pointwise!

theorem pay11_apply (t : Fin cfg0.N) (a : Fin 688) (k : Fin 1024) :
    k0_pay11 (BitVec.ofNat 32 (grid0.coords t 0).val) (ix2 a k) = if 16 ≤ (st t a).val then 1#1 else 0#1 := by
  have e : ∀ n : BitVec 32, k0_pay11 n (ix2 a k) = Scalar.cmpi .sge (Scalar.addi (BitVec.ofNat 32 a.val) (Scalar.muli (part n) 688#32)) 16#32 := fun n => by
    pointwise! [k0_pay11]
  have hb : ∀ (n : Fin 3) (a : Fin 688), Scalar.cmpi .sge (Scalar.addi (BitVec.ofNat 32 a.val) (Scalar.muli (BitVec.ofNat 32 n.val) 688#32)) 16#32
      = if 16 ≤ n.val * 688 + a.val then 1#1 else 0#1 := by decide +kernel
  rw [e, part_eq]
  exact hb ⟨t.val / 4 % 3, by omega⟩ a

variable (v : (⟨S688x1024, .i1⟩ : BufTy).Contents (Elt Ideal))

theorem pay13_apply (a : Fin 688) (k : Fin 1024) : k0_pay13 (F := Ideal) d v (ix2 a k)
    = if v (ix2 a k) = 1#1 then d (ix2 a k) * wk + wk * d (ix2 a k) else 0 := by
  unfold wk
  pointwise! [k0_pay13]
  show (if v (ix2 a k) = 1#1 then _ else _) + (if v (ix2 a k) = 1#1 then _ else _) = _
  by_cases h : v (ix2 a k) = 1#1
  · simp only [if_pos h]
  · simp only [if_neg h, add_zero]

theorem pay14_apply (k : Fin 1024) : k0_pay14 (F := Ideal) (k0_pay8 x) d v (ix2 0 k)
    = ∑ a : Fin 688, gain (fun k => x (ix2 a k)) (fun k => k0_pay13 (F := Ideal) d v (ix2 a k)) k := by
  unfold gain
  simp only [← pay5_apply]
  unfold k0_pay14 k0_pay8 k0_pay6
  generalize k0_pay13 (F := Ideal) d v = u
  generalize k0_pay5 (F := Ideal) x = y
  pointwise!

theorem pay15_apply (a : Fin 688) (k : Fin 1024) : k0_pay15 (F := Ideal) x (k0_pay4 g) (k0_pay6 x) (k0_pay7 x) d v (ix2 a k)
    = dnorm (fun k => x (ix2 a k)) (fun k => g (ix2 0 k)) (fun k => k0_pay13 (F := Ideal) d v (ix2 a k)) k := by
  unfold dnorm
  rw [← pay5_apply]
  unfold k0_pay15 k0_pay7 k0_pay6 k0_pay4
  generalize k0_pay13 (F := Ideal) d v = u
  generalize k0_pay5 (F := Ideal) x = y
  pointwise!
  simp only [Fin.sum_univ_one]

theorem pay16_apply (p : (⟨S1x128, .f32⟩ : BufTy).Contents (Elt Ideal)) (i : Fin 128) : k0_pay16 (F := Ideal) d v k0_pay12 p (ix2 0 i)
    = p (ix2 0 i) + Ideal.div (Ideal.ofBits .f32 0x3F000000#32 * ∑ a : Fin 688, ∑ k : Fin 1024, if v (ix2 a k) = 1#1 then d (ix2 a k) else 0)
        (Ideal.ofBits .f32 0x44800000#32) := by
  pointwise! [k0_pay16, k0_pay12]

theorem pay3_apply (p q : (⟨S1x1024, .f32⟩ : BufTy).Contents (Elt Ideal)) (j : S1x1024.Idx) : k0_pay3 (F := Ideal) p q j = q j + p j := by
  idx_vars j
  pointwise! [k0_pay3]

theorem pay1_apply (j : S1x128.Idx) : k0_pay1 (F := Ideal) j = 0 := by pointwise [k0_pay1]
theorem pay2_apply (j : S1x1024.Idx) : k0_pay2 (F := Ideal) j = 0 := by pointwise [k0_pay2]

end Payloads

section Operands

/-- The column of lane `l` of column block `e`. -/
def cl (e : Fin 8) (l : Fin 704) : Fin 5632 := ⟨e.val * 704 + l.val, by omega⟩

/-- The column block of a point in the first half, and in the second. -/
def ea (t : Fin cfg0.N) : Fin 8 := ⟨t.val % 4, by omega⟩
def eb (t : Fin cfg0.N) : Fin 8 := ⟨t.val % 4 + 4, by omega⟩

theorem cl_ea (t : Fin cfg0.N) (l : Fin 704) : cl (ea t) l = fst (pr t) l := rfl

theorem cl_eb (t : Fin cfg0.N) (l : Fin 704) : cl (eb t) l = snd (pr t) l := by
  apply Fin.ext
  show (t.val % 4 + 4) * 704 + l.val = 2816 + t.val % 4 * 704 + l.val
  omega

theorem op_up (x : FVec Ideal S8256x5632 .bf16) (e : Fin 8) (r : Fin 8256) (l : Fin 704) :
    transpose S8x8256x704 [1, 0, 2] (fun i => shapeCast S8256x8x704 x shapeCasts_S8256x5632_S8256x8x704 i)
      transposes_S8256x8x704_S8x8256x704_1_0_2 (ix3 e r l) = x (ix2 r (cl e l)) := by
  unfold cl
  pointwise!

theorem op_cw (x : FVec Ideal S3x5632 .f32) (e : Fin 8) (k : Fin 3) (l : Fin 704) :
    transpose S8x3x704 [1, 0, 2] (fun i => shapeCast S3x8x704 x shapeCasts_S3x5632_S3x8x704 i)
      transposes_S3x8x704_S8x3x704_1_0_2 (ix3 e k l) = x (ix2 k (cl e l)) := by
  unfold cl
  pointwise!

theorem op_cb (x : FVec Ideal S5632 .f32) (e : Fin 8) (l : Fin 704) :
    shapeCast S8x1x704 x shapeCasts_S5632_S8x1x704 (ix3 e (0 : Fin 1) l) = x (ix1 (cl e l)) := by
  unfold cl
  pointwise!

theorem op_wd (x : FVec Ideal S2816x1024 .f32) (p : Fin 4) (l : Fin 704) (k : Fin 1024) :
    shapeCast S4x704x1024 (truncf .bf16 x bitsLt_bf16_f32) shapeCasts_S2816x1024_S4x704x1024 (ix3 p l k)
      = x (ix2 ⟨p.val * 704 + l.val, by omega⟩ k) := by
  pointwise!

theorem op_tgt (x : FVec Ideal S4x2048x1024 .f32) (z : FVec Ideal S_ .f32) (hz : z ix0 = 0) (b : Fin 4) (s : Fin 2064) (k : Fin 1024) :
    shapeCast S8256x1024 (concatenate S4x2064x1024 1 [⟨S4x16x1024, broadcastInDim S4x16x1024 ![] bcast_S_S4x16x1024 z⟩, ⟨S4x2048x1024, x⟩]
      concatenates_S4x16x1024_S4x2048x1024_S4x2064x1024_d1) shapeCasts_S4x2064x1024_S8256x1024 (ix2 (seq b s) k)
      = if h : 16 ≤ s.val then x (ix3 b ⟨s.val - 16, by omega⟩ k) else 0 := by
  unfold seq
  pointwise!
  by_cases h : 16 ≤ s.val
  · rw [dif_pos h, dif_neg (by omega)]
  · rw [dif_neg h, dif_pos (by omega), hz]

theorem blk0 (c : Dev nD) (t : Fin cfg0.N) (a : Fin 688) (l : Fin 704) :
    iblk m c 0 t (ix3 0 a l) = m ((c : Thread nD τ).loc main_arg0) (ix2 (row t a) (cl (ea t) l)) := by
  have e : ((cfg0.win 0).blk t).view.emb (ix3 0 a l) = ix3 (n0 := 8) (n1 := 8256) (n2 := 704) (ea t) (row t a) l := by
    unfold ea row
    blk_ext [idx t]
  unfold iblk
  blk_simp
  rw [e]
  entry_read
  exact op_up _ _ _ _

theorem blk1 (c : Dev nD) (t : Fin cfg0.N) (h : Fin 16) (l : Fin 704) (ht : t.val / 4 % 3 ≠ 0)
    (r : Fin 8256) (hr : r.val + 16 = t.val / 4 * 688 + h.val) :
    iblk m c 1 t (ix3 0 h l) = m ((c : Thread nD τ).loc main_arg0) (ix2 r (cl (ea t) l)) := by
  have e : ((cfg0.win 1).blk t).view.emb (ix3 0 h l) = ix3 (n0 := 8) (n1 := 8256) (n2 := 704) (ea t) r l := by
    have hm : r.val = (t.val / 4 * 43 - 1) * 16 + h.val := by omega
    unfold ea
    blk_ext [idx t, hm]
  unfold iblk
  blk_simp
  rw [e]
  entry_read
  exact op_up _ _ _ _

theorem blk2 (c : Dev nD) (t : Fin cfg0.N) (a : Fin 688) (l : Fin 704) :
    iblk m c 2 t (ix3 0 a l) = m ((c : Thread nD τ).loc main_arg0) (ix2 (row t a) (cl (eb t) l)) := by
  have e : ((cfg0.win 2).blk t).view.emb (ix3 0 a l) = ix3 (n0 := 8) (n1 := 8256) (n2 := 704) (eb t) (row t a) l := by
    unfold eb row
    blk_ext [idx t]
  unfold iblk
  blk_simp
  rw [e]
  entry_read
  exact op_up _ _ _ _

theorem blk3 (c : Dev nD) (t : Fin cfg0.N) (h : Fin 16) (l : Fin 704) (ht : t.val / 4 % 3 ≠ 0)
    (r : Fin 8256) (hr : r.val + 16 = t.val / 4 * 688 + h.val) :
    iblk m c 3 t (ix3 0 h l) = m ((c : Thread nD τ).loc main_arg0) (ix2 r (cl (eb t) l)) := by
  have e : ((cfg0.win 3).blk t).view.emb (ix3 0 h l) = ix3 (n0 := 8) (n1 := 8256) (n2 := 704) (eb t) r l := by
    have hm : r.val = (t.val / 4 * 43 - 1) * 16 + h.val := by omega
    unfold eb
    blk_ext [idx t, hm]
  unfold iblk
  blk_simp
  rw [e]
  entry_read
  exact op_up _ _ _ _

theorem blk4 (c : Dev nD) (t : Fin cfg0.N) (k : Fin 3) (l : Fin 704) :
    iblk m c 4 t (ix3 0 k l) = m ((c : Thread nD τ).loc main_arg1) (ix2 k (cl (ea t) l)) := by
  have e : ((cfg0.win 4).blk t).view.emb (ix3 0 k l) = ix3 (n0 := 8) (n1 := 3) (n2 := 704) (ea t) k l := by
    unfold ea
    blk_ext [idx t]
  unfold iblk
  blk_simp
  rw [e]
  entry_read
  exact op_cw _ _ _ _

theorem blk5 (c : Dev nD) (t : Fin cfg0.N) (k : Fin 3) (l : Fin 704) :
    iblk m c 5 t (ix3 0 k l) = m ((c : Thread nD τ).loc main_arg1) (ix2 k (cl (eb t) l)) := by
  have e : ((cfg0.win 5).blk t).view.emb (ix3 0 k l) = ix3 (n0 := 8) (n1 := 3) (n2 := 704) (eb t) k l := by
    unfold eb
    blk_ext [idx t]
  unfold iblk
  blk_simp
  rw [e]
  entry_read
  exact op_cw _ _ _ _

theorem blk6 (c : Dev nD) (t : Fin cfg0.N) (l : Fin 704) :
    iblk m c 6 t (ix3 0 0 l) = m ((c : Thread nD τ).loc main_arg2) (ix1 (cl (ea t) l)) := by
  have e : ((cfg0.win 6).blk t).view.emb (ix3 0 0 l) = ix3 (n0 := 8) (n1 := 1) (n2 := 704) (ea t) 0 l := by
    unfold ea
    blk_ext [idx t]
  unfold iblk
  blk_simp
  rw [e]
  entry_read
  exact op_cb _ _ _

theorem blk7 (c : Dev nD) (t : Fin cfg0.N) (l : Fin 704) :
    iblk m c 7 t (ix3 0 0 l) = m ((c : Thread nD τ).loc main_arg2) (ix1 (cl (eb t) l)) := by
  have e : ((cfg0.win 7).blk t).view.emb (ix3 0 0 l) = ix3 (n0 := 8) (n1 := 1) (n2 := 704) (eb t) 0 l := by
    unfold eb
    blk_ext [idx t]
  unfold iblk
  blk_simp
  rw [e]
  entry_read
  exact op_cb _ _ _

theorem blk8 (c : Dev nD) (t : Fin cfg0.N) (l : Fin 704) (k : Fin 1024) :
    iblk m c 8 t (ix3 0 l k) = m ((c : Thread nD τ).loc main_arg3) (ix2 ⟨(pr t).val * 704 + l.val, by have := (pr t).isLt; omega⟩ k) := by
  have e : ((cfg0.win 8).blk t).view.emb (ix3 0 l k) = ix3 (n0 := 4) (n1 := 704) (n2 := 1024) (pr t) l k := by
    unfold pr
    blk_ext [idx t]
  unfold iblk
  blk_simp
  rw [e]
  entry_read
  exact op_wd _ _ _ _

theorem blk9 (c : Dev nD) (t : Fin cfg0.N) (a : Fin 688) (k : Fin 1024) :
    iblk m c 9 t (ix2 a k) = m ((c : Thread nD τ).loc main_arg4) (ix2 (row t a) k) := by
  unfold row
  blk_point [iblk, V, idx t]

theorem blk10 (c : Dev nD) (t : Fin cfg0.N) (a : Fin 688) (k : Fin 1024) :
    iblk m c 10 t (ix2 a k) = if h : 16 ≤ (st t a).val then m ((c : Thread nD τ).loc main_arg5) (ix3 (sq t) ⟨(st t a).val - 16, by omega⟩ k) else (0 : EReal) := by
  have e : ((cfg0.win 10).blk t).view.emb (ix2 a k) = ix2 (n0 := 8256) (n1 := 1024) (seq (sq t) (st t a)) k := by
    rw [seq_sq]
    unfold row
    blk_ext [idx t]
  unfold iblk
  blk_simp
  rw [e]
  entry_read
  refine op_tgt _ _ ?_ _ _ _
  pointwise!

theorem blk11 (c : Dev nD) (t : Fin cfg0.N) (k : Fin 1024) : iblk m c 11 t (ix2 0 k) = m ((c : Thread nD τ).loc main_arg6) (ix1 k) := by
  have e : ((cfg0.win 11).blk t).view.emb (ix2 0 k) = ix2 (n0 := 1) (n1 := 1024) 0 k := by blk_ext [idx t]
  unfold iblk
  blk_simp
  rw [e]
  entry_read
  pointwise!

end Operands

section Taps

/-- The scratch holds a tile under the rows before it: read `o` rows further on. -/
theorem tap_read (L : List (View.Piece (Elt Ideal) S704x704 .f32)) (hi0 : ∀ a, (![16, 0] : Fin 2 → ℕ) a + (![688, 704] : Fin 2 → ℕ) a ≤ S704x704.size a)
    (hi1 : ∀ a, (![0, 0] : Fin 2 → ℕ) a + (![16, 704] : Fin 2 → ℕ) a ≤ S704x704.size a)
    (x : (⟨S688x704, .f32⟩ : BufTy).Contents (Elt Ideal)) (y : (⟨S16x704, .f32⟩ : BufTy).Contents (Elt Ideal)) (o : ℕ) (ho : o ≤ 16)
    (hi2 : ∀ a, (![o, 0] : Fin 2 → ℕ) a + (![688, 704] : Fin 2 → ℕ) a ≤ S704x704.size a) (a : Fin 688) (l : Fin 704) :
    (View.whole cc0_scratch1).readCov (Val := Elt Ideal) (⟨Rect.unit (s := S704x704) ![16, 0] S688x704.size hi0, x⟩ :: ⟨Rect.unit (s := S704x704) ![0, 0] S16x704.size hi1, y⟩ :: L)
        (Rect.unit (s := S704x704) ![o, 0] S688x704.size hi2).toLoadRect (ix2 a l)
      = if h : a.val + o < 16 then y (ix2 ⟨a.val + o, h⟩ l) else x (ix2 ⟨a.val + o - 16, by omega⟩ l) := by
  unfold View.readCov
  rw [View.readAt_apply]
  by_cases h : a.val + o < 16
  · rw [dif_pos h]
    refine (View.read_writes_cons_rows_of_not_mem _ _ _ _ _ _ rfl rfl (Or.inl ?_)).trans
      (View.read_writes_cons_rows_of_mem _ _ _ _ _ _ (ix2 ⟨a.val + o, h⟩ l) rfl ?_ ?_)
    · rw [Rect.idx_unit_val]; show o + a.val < 16; omega
    · rw [Rect.idx_unit_val]; show o + a.val = 0 + (a.val + o); omega
    · rw [Rect.idx_unit_val]; show 0 + l.val = l.val; omega
  · rw [dif_neg h]
    refine View.read_writes_cons_rows_of_mem _ _ _ _ _ _ (ix2 ⟨a.val + o - 16, by omega⟩ l) rfl ?_ ?_
    · rw [Rect.idx_unit_val]; show o + a.val = 16 + (a.val + o - 16); omega
    · rw [Rect.idx_unit_val]; show 0 + l.val = l.val; omega

/-- A tile under the rows before it, with zeros before the start of the sequence, is the input some steps behind. -/
theorem tap_behind (x0 : FVec Ideal S8256x5632 .bf16) (t : Fin cfg0.N) (q : Fin 704 → Fin 5632) (d : ℕ) (hd : d ≤ 2)
    (x : (⟨S688x704, .f32⟩ : BufTy).Contents (Elt Ideal)) (y : (⟨S16x704, .f32⟩ : BufTy).Contents (Elt Ideal))
    (hx : ∀ a l, x (ix2 a l) = x0 (ix2 (row t a) (q l)))
    (hz : ∀ h l, t.val / 4 % 3 = 0 → y (ix2 h l) = 0)
    (hy : ∀ h l r, t.val / 4 % 3 ≠ 0 → r.val + 16 = t.val / 4 * 688 + h.val → y (ix2 h l) = x0 (ix2 r (q l)))
    (a : Fin 688) (l : Fin 704) :
    (if h : a.val + (16 - d) < 16 then y (ix2 ⟨a.val + (16 - d), h⟩ l) else x (ix2 ⟨a.val + (16 - d) - 16, by omega⟩ l))
      = behind x0 d (sq t) (st t a) (q l) := by
  have h48 := lt48 t
  unfold behind
  by_cases h : a.val + (16 - d) < 16
  · rw [dif_pos h]
    by_cases he : t.val / 4 % 3 = 0
    · have hs : ¬d ≤ (st t a).val := by show ¬d ≤ t.val / 4 % 3 * 688 + a.val; omega
      rw [dif_neg hs, hz _ _ he]
    · have hs : d ≤ (st t a).val := by show d ≤ t.val / 4 % 3 * 688 + a.val; omega
      rw [dif_pos hs, hy _ _ (seq (sq t) ⟨(st t a).val - d, by omega⟩) he ?_]
      show t.val / 12 * 2064 + (t.val / 4 % 3 * 688 + a.val - d) + 16 = t.val / 4 * 688 + (a.val + (16 - d))
      omega
  · have hs : d ≤ (st t a).val := by show d ≤ t.val / 4 % 3 * 688 + a.val; omega
    rw [dif_neg h, dif_pos hs, hx, ← seq_sq]
    refine congrArg (fun s => x0 (ix2 (seq (sq t) s) (q l))) (Fin.ext ?_)
    show t.val / 4 % 3 * 688 + (a.val + (16 - d) - 16) = t.val / 4 % 3 * 688 + a.val - d
    omega

/-- What the scratch was last filled with: the tile of the first half under the rows before it. -/
abbrev fill_fst (c : Dev nD) (t : Fin cfg0.N) (L : List (View.Piece (Elt Ideal) S704x704 .f32)) : List (View.Piece (Elt Ideal) S704x704 .f32) :=
  ⟨Rect.unit (s := S704x704) ![16, 0] S688x704.size inb_S704x704_S688x704_16_0, k0_pay18 (F := Ideal) (iblk m c 0 t)⟩
          :: ⟨Rect.unit (s := S704x704) ![0, 0] S16x704.size inb_S704x704_S16x704_0_0, k0_pay17 (F := Ideal) (grid0.coords t) (iblk m c 1 t)⟩ :: L

/-- What the scratch was last filled with: the tile of the second half under the rows before it. -/
abbrev fill_snd (c : Dev nD) (t : Fin cfg0.N) (L : List (View.Piece (Elt Ideal) S704x704 .f32)) : List (View.Piece (Elt Ideal) S704x704 .f32) :=
  ⟨Rect.unit (s := S704x704) ![16, 0] S688x704.size inb_S704x704_S688x704_16_0, k0_pay21 (F := Ideal) (iblk m c 2 t)⟩
          :: ⟨Rect.unit (s := S704x704) ![0, 0] S16x704.size inb_S704x704_S16x704_0_0, k0_pay20 (F := Ideal) (Scalar.cmpi .eq (part (BitVec.ofNat 32 (grid0.coords t 0).val)) 0#32) (iblk m c 3 t)⟩ :: L

theorem tap_fst (c : Dev nD) (t : Fin cfg0.N) (L : List (View.Piece (Elt Ideal) S704x704 .f32)) (d : ℕ) (hd : d ≤ 2)
    (hi2 : ∀ a, (![16 - d, 0] : Fin 2 → ℕ) a + (![688, 704] : Fin 2 → ℕ) a ≤ S704x704.size a) (a : Fin 688) (l : Fin 704) :
    (View.whole cc0_scratch1).readCov (Val := Elt Ideal) (fill_fst m c t L)
        (Rect.unit (s := S704x704) ![16 - d, 0] S688x704.size hi2).toLoadRect (ix2 a l)
      = behind (m ((c : Thread nD τ).loc main_arg0)) d (sq t) (st t a) (cl (ea t) l) :=
  (tap_read L _ _ _ _ (16 - d) (by omega) hi2 a l).trans (tap_behind _ t (cl (ea t)) d hd _ _
    (fun a l => (pay18_apply _ a l).trans (blk0 m c t a l))
    (fun h l he => (pay17_apply t _ h l).trans (if_pos he))
    (fun h l r he hr => ((pay17_apply t _ h l).trans (if_neg he)).trans (blk1 m c t h l he r hr)) a l)

theorem tap_snd (c : Dev nD) (t : Fin cfg0.N) (L : List (View.Piece (Elt Ideal) S704x704 .f32)) (d : ℕ) (hd : d ≤ 2)
    (hi2 : ∀ a, (![16 - d, 0] : Fin 2 → ℕ) a + (![688, 704] : Fin 2 → ℕ) a ≤ S704x704.size a) (a : Fin 688) (l : Fin 704) :
    (View.whole cc0_scratch1).readCov (Val := Elt Ideal) (fill_snd m c t L)
        (Rect.unit (s := S704x704) ![16 - d, 0] S688x704.size hi2).toLoadRect (ix2 a l)
      = behind (m ((c : Thread nD τ).loc main_arg0)) d (sq t) (st t a) (cl (eb t) l) :=
  (tap_read L _ _ _ _ (16 - d) (by omega) hi2 a l).trans (tap_behind _ t (cl (eb t)) d hd _ _
    (fun a l => (pay18_apply _ a l).trans (blk2 m c t a l))
    (fun h l he => (pay17_apply t _ h l).trans (if_pos he))
    (fun h l r he hr => ((pay17_apply t _ h l).trans (if_neg he)).trans (blk3 m c t h l he r hr)) a l)

end Taps

section Tiles

/-- The convolution of the whole input, and the state after the block. -/
abbrev U (c : Dev nD) := val_main_v29 (F := Ideal) (m ((c : Thread nD τ).loc main_arg0)) (m ((c : Thread nD τ).loc main_arg1)) (m ((c : Thread nD τ).loc main_arg2))
abbrev H (c : Dev nD) := val_main_v35 (F := Ideal) (m ((c : Thread nD τ).loc main_arg0)) (m ((c : Thread nD τ).loc main_arg1)) (m ((c : Thread nD τ).loc main_arg2))
  (m ((c : Thread nD τ).loc main_arg3)) (m ((c : Thread nD τ).loc main_arg4))

/-- Three reads of the scratch are the input two, one and no steps behind, at the columns `q`. -/
def Taps (c : Dev nD) (t : Fin cfg0.N) (q : Fin 704 → Fin 5632) (t0 t1 t2 : (⟨S688x704, .f32⟩ : BufTy).Contents (Elt Ideal)) : Prop :=
  (∀ a l, t0 (ix2 a l) = behind (m ((c : Thread nD τ).loc main_arg0)) 2 (sq t) (st t a) (q l)) ∧
  (∀ a l, t1 (ix2 a l) = behind (m ((c : Thread nD τ).loc main_arg0)) 1 (sq t) (st t a) (q l)) ∧
  ∀ a l, t2 (ix2 a l) = behind (m ((c : Thread nD τ).loc main_arg0)) 0 (sq t) (st t a) (q l)

variable {m} {c : Dev nD} {t : Fin cfg0.N} {t0 t1 t2 s0 s1 s2 : (⟨S688x704, .f32⟩ : BufTy).Contents (Elt Ideal)}

theorem tile_fst (h : Taps m c t (cl (ea t)) t0 t1 t2) (a : Fin 688) (l : Fin 704) :
    k0_pay19 (F := Ideal) t0 t1 t2 (iblk m c 4 t) (iblk m c 6 t) (ix2 a l) = U m c (ix2 (row t a) (fst (pr t) l)) := by
  rw [pay19_apply, blk4, blk4, blk4, blk6, h.1, h.2.1, h.2.2, ← seq_sq, ← cl_ea]
  exact (v29_apply _ _ _ _ _ _).symm

theorem tile_snd (h : Taps m c t (cl (eb t)) t0 t1 t2) (a : Fin 688) (l : Fin 704) :
    k0_pay19 (F := Ideal) t0 t1 t2 (iblk m c 5 t) (iblk m c 7 t) (ix2 a l) = U m c (ix2 (row t a) (snd (pr t) l)) := by
  rw [pay19_apply, blk5, blk5, blk5, blk7, h.1, h.2.1, h.2.2, ← seq_sq, ← cl_eb]
  exact (v29_apply _ _ _ _ _ _).symm

theorem emb12 (t : Fin cfg0.N) (a : Fin 688) (l : Fin 704) : ((cfg0.win 12).blk t).view.emb (ix3 0 a l)
    = ix3 (n0 := 4) (n1 := 8256) (n2 := 704) (pr t) (row t a) l := by
  unfold pr row
  blk_ext [idx t]

theorem emb13 (t : Fin cfg0.N) (a : Fin 688) (l : Fin 704) : ((cfg0.win 13).blk t).view.emb (ix3 0 a l)
    = ix3 (n0 := 4) (n1 := 8256) (n2 := 704) (pr t) (row t a) l := by
  unfold pr row
  blk_ext [idx t]

theorem point12 (h : Taps m c t (cl (ea t)) t0 t1 t2) (a : Fin 688) (l : Fin 704) :
    k0_pay24 (F := Ideal) (k0_pay19 (F := Ideal) t0 t1 t2 (iblk m c 4 t) (iblk m c 6 t)) (ix3 0 a l)
      = val_main_v95 (F := Ideal) (m ((c : Thread nD τ).loc main_arg0)) (m ((c : Thread nD τ).loc main_arg1)) (m ((c : Thread nD τ).loc main_arg2)) (((cfg0.win 12).blk t).view.emb (ix3 0 a l)) := by
  rw [emb12, v95_apply, pay24_apply, tile_fst h]

theorem point13 (h : Taps m c t (cl (eb t)) t0 t1 t2) (a : Fin 688) (l : Fin 704) :
    k0_pay25 (F := Ideal) t0 t1 t2 (k0_pay22 (iblk m c 5 t)) (iblk m c 7 t) (ix3 0 a l)
      = val_main_v97 (F := Ideal) (m ((c : Thread nD τ).loc main_arg0)) (m ((c : Thread nD τ).loc main_arg1)) (m ((c : Thread nD τ).loc main_arg2)) (((cfg0.win 13).blk t).view.emb (ix3 0 a l)) := by
  rw [emb13, v97_apply]
  exact (pay24_apply _ a l).trans (tile_snd h a l)

/-- A row of the state before the block, taken up only under a condition. -/
def start (m : (ℓ : Loc nD τ sig) → Buf (Elt Ideal) ℓ) (c : Dev nD) (t : Fin cfg0.N) (p : Prop) [Decidable p] (a : Fin 688) (k : Fin 1024) : EReal :=
  if p then m ((c : Thread nD τ).loc main_arg4) (ix2 (row t a) k) else 0

/-- What a point adds to the state after the block: the state before, once, and its part of the product. -/
def accTerm (m : (ℓ : Loc nD τ sig) → Buf (Elt Ideal) ℓ) (c : Dev nD) (t : Fin cfg0.N) (j : S688x1024.Idx) : EReal :=
  start m c t (t.val % 4 = 0) (j 0) (j 1)
    + ∑ l : Fin 704, act (U m c (ix2 (row t (j 0)) (fst (pr t) l))) (U m c (ix2 (row t (j 0)) (snd (pr t) l)))
        * m ((c : Thread nD τ).loc main_arg3) (ix2 ⟨(pr t).val * 704 + l.val, by have := (pr t).isLt; omega⟩ (j 1))

theorem part_acc (ha : Taps m c t (cl (ea t)) t0 t1 t2) (hb : Taps m c t (cl (eb t)) s0 s1 s2) (a : Fin 688) (k : Fin 1024) :
    k0_pay26 (F := Ideal) (k0_pay19 (F := Ideal) t0 t1 t2 (iblk m c 4 t) (iblk m c 6 t)) s0 s1 s2 (k0_pay22 (iblk m c 5 t)) (iblk m c 7 t) (iblk m c 8 t) (ix2 a k)
      = ∑ l : Fin 704, act (U m c (ix2 (row t a) (fst (pr t) l))) (U m c (ix2 (row t a) (snd (pr t) l)))
        * m ((c : Thread nD τ).loc main_arg3) (ix2 ⟨(pr t).val * 704 + l.val, by have := (pr t).isLt; omega⟩ k) := by
  rw [pay26_apply]
  refine Finset.sum_congr rfl fun l _ => Ideal.mul_congr ?_ (blk8 m c t l k)
  rw [tile_fst ha, tile_snd hb]

/-- The four kinds of points: the first, the later first of a row tile, the middle ones and the last of a row tile. -/
theorem cases (t : Fin cfg0.N) {P : Prop} (hA : t.val % 48 = 0 → t.val % 4 = 0 → ¬1 ≤ t.val % 4 → ¬t.val % 4 = 3 → P)
    (hD : ¬t.val % 48 = 0 → t.val % 4 = 0 → ¬1 ≤ t.val % 4 → ¬t.val % 4 = 3 → P)
    (hB : ¬t.val % 48 = 0 → ¬t.val % 4 = 0 → 1 ≤ t.val % 4 → ¬t.val % 4 = 3 → P)
    (hC : ¬t.val % 48 = 0 → ¬t.val % 4 = 0 → 1 ≤ t.val % 4 → t.val % 4 = 3 → P) : P := by
  by_cases h : t.val % 48 = 0
  · exact hA h (by omega) (by omega) (by omega)
  · by_cases h' : t.val % 4 = 0
    · exact hD h h' (by omega) (by omega)
    · by_cases h3 : t.val % 4 = 3
      · exact hC h h' (by omega) h3
      · exact hB h h' (by omega) h3

end Tiles

section Finals

theorem taps_fst (c : Dev nD) (t : Fin cfg0.N) (L : List (View.Piece (Elt Ideal) S704x704 .f32)) (i0 i1 i2) : Taps m c t (cl (ea t))
    ((View.whole cc0_scratch1).readCov (Val := Elt Ideal) (fill_fst m c t L) (Rect.unit (s := S704x704) ![14, 0] S688x704.size i0).toLoadRect)
    ((View.whole cc0_scratch1).readCov (Val := Elt Ideal) (fill_fst m c t L) (Rect.unit (s := S704x704) ![15, 0] S688x704.size i1).toLoadRect)
    ((View.whole cc0_scratch1).readCov (Val := Elt Ideal) (fill_fst m c t L) (Rect.unit (s := S704x704) ![16, 0] S688x704.size i2).toLoadRect) :=
  ⟨tap_fst m c t L 2 (by decide) i0, tap_fst m c t L 1 (by decide) i1, tap_fst m c t L 0 (by decide) i2⟩

theorem taps_snd (c : Dev nD) (t : Fin cfg0.N) (L : List (View.Piece (Elt Ideal) S704x704 .f32)) (i0 i1 i2) : Taps m c t (cl (eb t))
    ((View.whole cc0_scratch1).readCov (Val := Elt Ideal) (fill_snd m c t L) (Rect.unit (s := S704x704) ![14, 0] S688x704.size i0).toLoadRect)
    ((View.whole cc0_scratch1).readCov (Val := Elt Ideal) (fill_snd m c t L) (Rect.unit (s := S704x704) ![15, 0] S688x704.size i1).toLoadRect)
    ((View.whole cc0_scratch1).readCov (Val := Elt Ideal) (fill_snd m c t L) (Rect.unit (s := S704x704) ![16, 0] S688x704.size i2).toLoadRect) :=
  ⟨tap_snd m c t L 2 (by decide) i0, tap_snd m c t L 1 (by decide) i1, tap_snd m c t L 0 (by decide) i2⟩

theorem result12 (c : Dev nD) : (dats m 0 c).arrAt 12 cfg0.N
    = val_main_v95 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  idx_vars y
  obtain rfl : y0 = 0 := Subsingleton.elim _ _
  blk_simp
  rw [after0_12]
  refine cases t (fun h h0 h1 h3 => ?_) (fun h h0 h1 h3 => ?_) (fun h h0 h1 h3 => ?_) (fun h h0 h1 h3 => ?_)
  · rw [outsAt0_A m c t h0 h1 h h3]; frame_out
    exact point12 (taps_fst m c t _ _ _ _) y1 y2
  · rw [outsAt0_D m c t h0 h1 h h3]; frame_out
    exact point12 (taps_fst m c t _ _ _ _) y1 y2
  · rw [outsAt0_B m c t h0 h1 h h3]; frame_out
    exact point12 (taps_fst m c t _ _ _ _) y1 y2
  · rw [outsAt0_C m c t h0 h1 h h3]; frame_out
    exact point12 (taps_fst m c t _ _ _ _) y1 y2

theorem result13 (c : Dev nD) : (dats m 0 c).arrAt 13 cfg0.N
    = val_main_v97 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  idx_vars y
  obtain rfl : y0 = 0 := Subsingleton.elim _ _
  blk_simp
  rw [after0_13]
  refine cases t (fun h h0 h1 h3 => ?_) (fun h h0 h1 h3 => ?_) (fun h h0 h1 h3 => ?_) (fun h h0 h1 h3 => ?_)
  · rw [outsAt0_A m c t h0 h1 h h3]; frame_out
    exact point13 (taps_snd m c t _ _ _ _) y1 y2
  · rw [outsAt0_D m c t h0 h1 h h3]; frame_out
    exact point13 (taps_snd m c t _ _ _ _) y1 y2
  · rw [outsAt0_B m c t h0 h1 h h3]; frame_out
    exact point13 (taps_snd m c t _ _ _ _) y1 y2
  · rw [outsAt0_C m c t h0 h1 h h3]; frame_out
    exact point13 (taps_snd m c t _ _ _ _) y1 y2

theorem first_acc (c : Dev nD) (t : Fin cfg0.N) (h0 : t.val % 4 = 0) (j : S688x1024.Idx) :
    (outsAt0 m c t.val t.isLt).2.2.2.2.2 j = 0 + accTerm m c t j := by
  idx_vars j
  unfold accTerm start
  rw [zero_add, if_pos h0]
  by_cases h : t.val % 48 = 0
  · rw [outsAt0_A m c t h0 (by omega) h (by omega)]; frame_out
    exact (pay27_apply _ _ _ _ _ _ _ _ _ _).trans (Ideal.add_congr (blk9 m c t j0 j1) (part_acc (taps_fst m c t _ _ _ _) (taps_snd m c t _ _ _ _) j0 j1))
  · rw [outsAt0_D m c t h0 (by omega) h (by omega)]; frame_out
    exact (pay27_apply _ _ _ _ _ _ _ _ _ _).trans (Ideal.add_congr (blk9 m c t j0 j1) (part_acc (taps_fst m c t _ _ _ _) (taps_snd m c t _ _ _ _) j0 j1))

theorem next_acc (c : Dev nD) (t : Fin cfg0.N) (h0 : ¬t.val % 4 = 0) (j : S688x1024.Idx) :
    (outsAt0 m c t.val t.isLt).2.2.2.2.2 j
      = (outsAt0 m c (t.val - 1) (Nat.lt_of_le_of_lt (Nat.sub_le _ _) t.isLt)).2.2.2.2.2 j + accTerm m c t j := by
  idx_vars j
  unfold accTerm start
  rw [if_neg h0, zero_add]
  by_cases h3 : t.val % 4 = 3
  · rw [outsAt0_C m c t h0 (by omega) (by omega) h3]; frame_out
    exact (pay27_apply _ _ _ _ _ _ _ _ _ _).trans (Ideal.add_congr (congrFun (Memref.IsWhole.read_unread _ _) _) (part_acc (taps_fst m c t _ _ _ _) (taps_snd m c t _ _ _ _) j0 j1))
  · rw [outsAt0_B m c t h0 (by omega) (by omega) h3]; frame_out
    exact (pay27_apply _ _ _ _ _ _ _ _ _ _).trans (Ideal.add_congr (congrFun (Memref.IsWhole.read_unread _ _) _) (part_acc (taps_fst m c t _ _ _ _) (taps_snd m c t _ _ _ _) j0 j1))

/-- At the last point of a row tile the accumulator holds the state after the block. -/
theorem last_acc (c : Dev nD) (t : Fin cfg0.N) (h : t.val % 4 = 3) (a : Fin 688) (k : Fin 1024) :
    (outsAt0 m c t.val t.isLt).2.2.2.2.2 (ix2 a k) = H m c (ix2 (row t a) k) := by
  rw [Pipeline.eq_sum_fin_of_reset_step_apply_of_flush (fun n h => (outsAt0 m c n h).2.2.2.2.2) 4 (fun _ => 0) (accTerm m c)
    (first_acc m c) (next_acc m c) t h _, zero_add]
  have e : ∀ s : Fin 4, accTerm m c ⟨4 * (t.val / 4) + s.val, by have := t.isLt; omega⟩ (ix2 a k)
      = start m c t (s = 0) a k
        + ∑ l : Fin 704, act (U m c (ix2 (row t a) (fst s l))) (U m c (ix2 (row t a) (snd s l)))
          * m ((c : Thread nD τ).loc main_arg3) (ix2 ⟨s.val * 704 + l.val, by omega⟩ k) := fun s => by
    have er : row ⟨4 * (t.val / 4) + s.val, by have := t.isLt; omega⟩ a = row t a := by
      apply Fin.ext
      show (4 * (t.val / 4) + s.val) / 4 * 688 + a.val = t.val / 4 * 688 + a.val
      omega
    have ep : pr ⟨4 * (t.val / 4) + s.val, by have := t.isLt; omega⟩ = s := by
      apply Fin.ext
      show (4 * (t.val / 4) + s.val) % 4 = s.val
      omega
    have eh : (4 * (t.val / 4) + s.val) % 4 = 0 ↔ s = 0 := by rw [Fin.ext_iff]; show _ ↔ s.val = 0; omega
    unfold accTerm start
    simp only [ix2_0, ix2_1, er, ep, eh]
  refine (Finset.sum_congr rfl fun s _ => e s).trans ?_
  unfold start
  rw [Finset.sum_add_distrib, Finset.sum_ite_eq' Finset.univ (0 : Fin 4), if_pos (Finset.mem_univ _)]
  exact (v35_apply _ _ _ _ _ _ _).symm

end Finals

section Live

/-- What the rows past the sixteen extra ones of each sequence hold, spread over all rows. -/
def live (f : Fin 4 → Fin 2048 → EReal) (r : Fin 8256) : EReal :=
  if h : 16 ≤ r.val % 2064 then f ⟨r.val / 2064, by omega⟩ ⟨r.val % 2064 - 16, by omega⟩ else 0

theorem live_row (f : Fin 4 → Fin 2048 → EReal) (t : Fin cfg0.N) (a : Fin 688) :
    live f (row t a) = if h : 16 ≤ (st t a).val then f (sq t) ⟨(st t a).val - 16, by omega⟩ else 0 := by
  have e1 : (row t a).val % 2064 = (st t a).val := by
    show (t.val / 4 * 688 + a.val) % 2064 = t.val / 4 % 3 * 688 + a.val
    omega
  have e2 : (row t a).val / 2064 = (sq t).val := by
    show (t.val / 4 * 688 + a.val) / 2064 = t.val / 12
    omega
  simp only [live, e1, e2]

/-- The sum over all rows of what only those rows hold. -/
theorem sum_live (f : Fin 4 → Fin 2048 → EReal) : ∑ r, live f r = ∑ b, ∑ l, f b l := by
  refine (Fin.sum_mul_add_congr (n := 2064) (S := 4) (f := live f) (F := fun b s => if h : 16 ≤ s.val then f b ⟨s.val - 16, by omega⟩ else 0)
    fun b s hl => ?_).symm.trans (Finset.sum_congr rfl fun b _ => ?_)
  · have e1 : (b.val * 2064 + s.val) % 2064 = s.val := by omega
    have e2 : (b.val * 2064 + s.val) / 2064 = b.val := by omega
    simp only [live, e1, e2]
  · refine (Fin.sum_univ_add (a := 16) (b := 2048) _).trans ?_
    rw [Finset.sum_eq_zero fun i _ => dif_neg (by show ¬16 ≤ i.val; omega), zero_add]
    refine Finset.sum_congr rfl fun l _ => (dif_pos (by show 16 ≤ 16 + l.val; omega)).trans (congrArg (f b) (Fin.ext ?_))
    show 16 + l.val - 16 = l.val
    omega

theorem sum_rows (f : Fin 8256 → EReal) : ∑ i : Fin 12, ∑ a : Fin 688, f ⟨i.val * 688 + a.val, by omega⟩ = ∑ r, f r :=
  Fin.sum_mul_add_congr fun _ _ _ => rfl

/-- A sum over the points of what happens at the last point of each row tile is a sum over the rows. -/
theorem sum_tiles (f : Fin 8256 → EReal) (F : Fin cfg0.N → EReal)
    (hF : ∀ t, F t = if t.val % 4 = 3 then ∑ a : Fin 688, f (row t a) else 0) : ∑ t, F t = ∑ r, f r := by
  rw [← sum_rows]
  refine (Fin.sum_divmod_congr (A := 12) (S := 4) (f := fun i k => if k = 3 then ∑ a : Fin 688, f ⟨i.val * 688 + a.val, by omega⟩ else 0)
    fun t ha hs => ?_).trans (Finset.sum_congr rfl fun i _ => ?_)
  · rw [hF]
    by_cases h : t.val % 4 = 3
    · rw [if_pos h, if_pos (Fin.ext h)]
      rfl
    · rw [if_neg h, if_neg fun e => h (congrArg Fin.val e)]
  · rw [Finset.sum_ite_eq' Finset.univ (3 : Fin 4), if_pos (Finset.mem_univ _)]

theorem dnorm_zero (x g : Fin 1024 → EReal) (k : Fin 1024) : dnorm x g (fun _ => 0) k = 0 := by
  simp [dnorm, div_width]

end Live

section Rows

/-- A row of the state, the error there and the cotangent of its norm, by sequence and step. -/
abbrev hr (c : Dev nD) := hrow (m ((c : Thread nD τ).loc main_arg0)) (m ((c : Thread nD τ).loc main_arg1)) (m ((c : Thread nD τ).loc main_arg2)) (m ((c : Thread nD τ).loc main_arg3)) (m ((c : Thread nD τ).loc main_arg4))
abbrev zr (c : Dev nD) := zrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def er (c : Dev nD) (b : Fin 4) (l : Fin 2048) (k : Fin 1024) : EReal :=
  err (hr m c b l) (fun k => m ((c : Thread nD τ).loc main_arg6) (ix1 k)) (fun k => m ((c : Thread nD τ).loc main_arg5) (ix3 b l k)) k

theorem h_row (c : Dev nD) (t : Fin cfg0.N) (a : Fin 688) (h : 16 ≤ (st t a).val) :
    (fun k => H m c (ix2 (row t a) k)) = hr m c (sq t) ⟨(st t a).val - 16, by omega⟩ := by
  funext k
  refine Eq.trans ?_ (v37_apply _ _ _ _ _ _ _ _).symm
  rw [← seq_sq]
  refine congrArg (fun s => H m c (ix2 (seq (sq t) s) k)) (Fin.ext ?_)
  show (st t a).val = 16 + ((st t a).val - 16)
  omega

variable {m} {c : Dev nD} {t : Fin cfg0.N} {x : (⟨S688x1024, .f32⟩ : BufTy).Contents (Elt Ideal)} (hx : ∀ a k, x (ix2 a k) = H m c (ix2 (row t a) k))

include hx

theorem err_row (a : Fin 688) (h : 16 ≤ (st t a).val) (k : Fin 1024) :
    k0_pay9 (F := Ideal) (iblk m c 10 t) x (iblk m c 11 t) (ix2 a k) = er m c (sq t) ⟨(st t a).val - 16, by omega⟩ k := by
  have ht : (fun k => iblk m c 10 t (ix2 a k)) = fun k => m ((c : Thread nD τ).loc main_arg5) (ix3 (sq t) ⟨(st t a).val - 16, by omega⟩ k) :=
    funext fun k => (blk10 m c t a k).trans (dif_pos h)
  rw [pay9_apply, ht, funext (hx a), h_row m c t a h, funext (blk11 m c t)]
  rfl

theorem z_row (a : Fin 688) (k : Fin 1024) :
    k0_pay13 (F := Ideal) (k0_pay9 (F := Ideal) (iblk m c 10 t) x (iblk m c 11 t)) (k0_pay11 (BitVec.ofNat 32 (grid0.coords t 0).val)) (ix2 a k)
      = if h : 16 ≤ (st t a).val then zr m c (sq t) ⟨(st t a).val - 16, by omega⟩ k else 0 := by
  rw [pay13_apply, pay11_apply]
  by_cases h : 16 ≤ (st t a).val
  · rw [if_pos (if_pos h), dif_pos h, err_row hx a h k]
    exact weight _
  · rw [if_neg (by rw [if_neg h]; decide), dif_neg h]

theorem grad_row (a : Fin 688) (k : Fin 1024) : k0_pay15 (F := Ideal) x (k0_pay4 (iblk m c 11 t)) (k0_pay6 x) (k0_pay7 x)
      (k0_pay9 (F := Ideal) (iblk m c 10 t) x (iblk m c 11 t)) (k0_pay11 (BitVec.ofNat 32 (grid0.coords t 0).val)) (ix2 a k)
      = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) k) := by
  rw [pay15_apply, funext (z_row hx a), funext (hx a), funext (blk11 m c t), ← seq_sq, v90_apply]
  by_cases h : 16 ≤ (st t a).val
  · simp only [dif_pos h]
    rw [seq_sq, h_row m c t a h, v88_apply]
  · simp only [dif_neg h]
    exact dnorm_zero _ _ _

theorem gain_rows (k : Fin 1024) : k0_pay14 (F := Ideal) (k0_pay8 x) (k0_pay9 (F := Ideal) (iblk m c 10 t) x (iblk m c 11 t))
      (k0_pay11 (BitVec.ofNat 32 (grid0.coords t 0).val)) (ix2 0 k)
      = ∑ a : Fin 688, live (fun b l => gain (hr m c b l) (zr m c b l) k) (row t a) := by
  rw [pay14_apply]
  refine Finset.sum_congr rfl fun a _ => ?_
  rw [live_row, funext (z_row hx a), funext (hx a)]
  by_cases h : 16 ≤ (st t a).val
  · simp only [dif_pos h]
    rw [h_row m c t a h]
  · simp only [dif_neg h]
    exact mul_zero _

theorem loss_rows (p : (⟨S1x128, .f32⟩ : BufTy).Contents (Elt Ideal)) (i : Fin 128) :
    k0_pay16 (F := Ideal) (k0_pay10 (F := Ideal) (iblk m c 10 t) x (iblk m c 11 t)) (k0_pay11 (BitVec.ofNat 32 (grid0.coords t 0).val)) k0_pay12 p (ix2 0 i)
      = p (ix2 0 i) + ∑ a : Fin 688, ((1 / 2048 : ℝ) : EReal) * live (fun b l => ∑ k, er m c b l k * er m c b l k) (row t a) := by
  rw [pay16_apply, div_width, half_bits, ← mul_assoc, ← EReal.coe_mul, show (1 / 1024 * (1 / 2) : ℝ) = 1 / 2048 by norm_num, ← scale_sum _ _ (by norm_num)]
  refine congrArg (fun y : EReal => p (ix2 0 i) + ((1 / 2048 : ℝ) : EReal) * y) (Finset.sum_congr rfl fun a _ => ?_)
  rw [live_row]
  by_cases h : 16 ≤ (st t a).val
  · rw [dif_pos h]
    refine Finset.sum_congr rfl fun k _ => ?_
    rw [pay11_apply, if_pos (if_pos h)]
    exact Ideal.mul_congr (err_row hx a h k) (err_row hx a h k)
  · rw [dif_neg h]
    refine Finset.sum_eq_zero fun k _ => ?_
    rw [pay11_apply, if_neg (by rw [if_neg h]; decide)]

end Rows

section Losses

/-- At the last point of a row tile, what the accumulator was given there is the state after the block. -/
theorem flush14 : ∀ t : Fin cfg0.N, (cfg0.win 14).flush t = true → t.val % 4 = 3 :=
  (by decide +kernel : ∀ t : Fin grid0.N, _)

theorem emb14 (t : Fin cfg0.N) (a : Fin 688) (k : Fin 1024) : ((cfg0.win 14).blk t).view.emb (ix2 a k)
    = ix2 (n0 := 8256) (n1 := 1024) (row t a) k := by
  unfold row
  blk_ext [idx t]

theorem result14 (c : Dev nD) : (dats m 0 c).arrAt 14 cfg0.N
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t hf y => ?_
  have h := flush14 t hf
  idx_vars y
  blk_simp
  rw [after0_14, outsAt0_C m c t (by omega) (by omega) (by omega) h]; frame_out
  rw [emb14]
  refine grad_row (fun a k => Eq.trans ?_ (last_acc m c t h a k)) y0 y1
  rw [outsAt0_C m c t (by omega) (by omega) (by omega) h]; frame_out

/-- What a point adds to the loss, and to the gradient of the norm's gain. -/
def lossTerm (c : Dev nD) (t : Fin cfg0.N) (j : S1x128.Idx) : EReal :=
  if t.val % 4 = 3 then ∑ a : Fin 688, ((1 / 2048 : ℝ) : EReal) * live (fun b l => ∑ k, er m c b l k * er m c b l k) (row t a) else 0
def gainTerm (c : Dev nD) (t : Fin cfg0.N) (j : S1x1024.Idx) : EReal :=
  if t.val % 4 = 3 then ∑ a : Fin 688, live (fun b l => gain (hr m c b l) (zr m c b l) (j 1)) (row t a) else 0

theorem first_loss (c : Dev nD) (t : Fin cfg0.N) (h : t.val % 48 = 0) (j : S1x128.Idx) :
    (outsAt0 m c t.val t.isLt).2.2.2.1 j = 0 + lossTerm m c t j := by
  rw [outsAt0_A m c t (by omega) (by omega) h (by omega)]; frame_out
  unfold lossTerm
  rw [if_neg (by omega), add_zero]
  exact pay1_apply j

theorem first_gain (c : Dev nD) (t : Fin cfg0.N) (h : t.val % 48 = 0) (j : S1x1024.Idx) :
    (outsAt0 m c t.val t.isLt).2.2.2.2.1 j = 0 + gainTerm m c t j := by
  rw [outsAt0_A m c t (by omega) (by omega) h (by omega)]; frame_out
  unfold gainTerm
  rw [if_neg (by omega), add_zero]
  exact pay2_apply j

theorem next_loss (c : Dev nD) (t : Fin cfg0.N) (h : ¬t.val % 48 = 0) (j : S1x128.Idx) :
    (outsAt0 m c t.val t.isLt).2.2.2.1 j
      = (outsAt0 m c (t.val - 1) (Nat.lt_of_le_of_lt (Nat.sub_le _ _) t.isLt)).2.2.2.1 j + lossTerm m c t j := by
  idx_vars j
  obtain rfl : j0 = 0 := Subsingleton.elim _ _
  unfold lossTerm
  by_cases h3 : t.val % 4 = 3
  · rw [outsAt0_C m c t (by omega) (by omega) h h3, if_pos h3]; frame_out
    refine loss_rows (fun a k => Eq.trans ?_ (last_acc m c t h3 a k)) _ _
    rw [outsAt0_C m c t (by omega) (by omega) h h3]; frame_out
  · rw [if_neg h3, add_zero]
    by_cases h0 : t.val % 4 = 0
    · rw [outsAt0_D m c t h0 (by omega) h h3]; frame_out
      rfl
    · rw [outsAt0_B m c t h0 (by omega) h h3]; frame_out
      rfl

theorem next_gain (c : Dev nD) (t : Fin cfg0.N) (h : ¬t.val % 48 = 0) (j : S1x1024.Idx) :
    (outsAt0 m c t.val t.isLt).2.2.2.2.1 j
      = (outsAt0 m c (t.val - 1) (Nat.lt_of_le_of_lt (Nat.sub_le _ _) t.isLt)).2.2.2.2.1 j + gainTerm m c t j := by
  idx_vars j
  obtain rfl : j0 = 0 := Subsingleton.elim _ _
  unfold gainTerm
  by_cases h3 : t.val % 4 = 3
  · rw [outsAt0_C m c t (by omega) (by omega) h h3, if_pos h3]; frame_out
    refine (pay3_apply _ _ _).trans (Ideal.add_congr rfl (gain_rows (fun a k => Eq.trans ?_ (last_acc m c t h3 a k)) _))
    rw [outsAt0_C m c t (by omega) (by omega) h h3]; frame_out
  · rw [if_neg h3, add_zero]
    by_cases h0 : t.val % 4 = 0
    · rw [outsAt0_D m c t h0 (by omega) h h3]; frame_out
      rfl
    · rw [outsAt0_B m c t h0 (by omega) h h3]; frame_out
      rfl

theorem after_last (w : Fin 17) (hw : w = 15 ∨ w = 16) (t : Fin cfg0.N) (h : (cfg0.win w).flush t = true) : t.val + 1 = cfg0.N :=
  (by decide +kernel : ∀ w : Fin 17, w = 15 ∨ w = 16 → ∀ t : Fin grid0.N, (cfg0.win w).flush t = true → t.val + 1 = grid0.N) w hw t h

theorem sum_loss (c : Dev nD) (j : S1x128.Idx) : ∑ t, lossTerm m c t j
    = ((1 / 2048 : ℝ) : EReal) * ∑ b : Fin 4, ∑ l : Fin 2048, ∑ k : Fin 1024, er m c b l k * er m c b l k := by
  rw [← sum_live fun b l => ∑ k, er m c b l k * er m c b l k, scale_sum _ _ (by norm_num)]
  exact sum_tiles (fun r => ((1 / 2048 : ℝ) : EReal) * live (fun b l => ∑ k, er m c b l k * er m c b l k) r) _ fun t => rfl

theorem result15 (c : Dev nD) : (dats m 0 c).arrAt 15 cfg0.N
    = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  have hN := after_last 15 (by decide) t hf
  idx_vars y
  obtain rfl : y0 = 0 := Subsingleton.elim _ _
  blk_simp
  have e : ((cfg0.win 15).blk t).view.emb (ix2 (0 : Fin 1) y1) = ix2 (0 : Fin 1) y1 := by blk_ext [idx t]
  rw [after0_15, Pipeline.eq_sum_fin_of_reset_step_apply_last (fun n h => (outsAt0 m c n h).2.2.2.1) 48 (fun _ => 0) (lossTerm m c)
    (first_loss m c) (next_loss m c) (by decide) t hN, zero_add, e, v98_apply]
  exact sum_loss m c (ix2 0 y1)

theorem result16 (c : Dev nD) : (dats m 0 c).arrAt 16 cfg0.N
    = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t hf y => ?_
  have hN := after_last 16 (by decide) t hf
  idx_vars y
  obtain rfl : y0 = 0 := Subsingleton.elim _ _
  blk_simp
  have e : ((cfg0.win 16).blk t).view.emb (ix2 (0 : Fin 1) y1) = ix2 (0 : Fin 1) y1 := by blk_ext [idx t]
  rw [after0_16, Pipeline.eq_sum_fin_of_reset_step_apply_last (fun n h => (outsAt0 m c n h).2.2.2.2.1) 48 (fun _ => 0) (gainTerm m c)
    (first_gain m c) (next_gain m c) (by decide) t hN, zero_add, e, v99_apply]
  exact (sum_tiles _ _ fun t => rfl).trans (sum_live _)

end Losses

end Cert.LossIdeal.Value

namespace Cert.Loss

open Idealize.ShloMosaic Idealize.SL.Sem Cert.LossRefIdeal.Read

/-- The two halves of the convolution, the gradient of the state, the loss and the gradient of the last norm's gain that
the kernel leaves are the reference's. -/
theorem algebraic : Cert.algebraic_LossIdeal_LossRefIdeal := by
  pair_intro
  · run_from Cert.LossIdeal.Value.run_blocks m g
  · run_from Cert.LossRefIdeal.Entry.run m' g'
    · exact (Cert.LossIdeal.Value.result12 m c).symm
    · exact (Cert.LossIdeal.Value.result13 m c).symm
    · exact (Cert.LossIdeal.Value.result14 m c).symm
    · exact (Cert.LossIdeal.Value.result15 m c).symm
    · exact (Cert.LossIdeal.Value.result16 m c).symm

end Cert.Loss

end
-- ==== Proof.NormFwdValue.lean ====
/- The root mean square norm in front of the mixers: the array the kernel leaves is the reference's. -/
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise

@[expose] public section

set_option maxRecDepth 16384

noncomputable section

namespace Cert.NormFwdRefIdeal.Entry

open Cert.NormFwdRefIdeal Cert.NormFwdRefIdeal.Gen Cert.NormFwdRefIdeal.Read Idealize.ShloMosaic

/-- Entry `k` of a row scaled to root mean square one and by the gain. -/
def normed (f g : Fin 1024 → EReal) (k : Fin 1024) : EReal :=
  f k * Ideal.rsqrt (Ideal.div (∑ j, f j * f j) (Ideal.ofBits .f32 0x44800000#32) + Ideal.ofBits .f32 0x358637BD#32) * g k

variable (x0 : (⟨S8256x1024, .f32⟩ : BufTy).Contents (Elt Ideal)) (x1 : (⟨S1x1024, .f32⟩ : BufTy).Contents (Elt Ideal))

theorem v12_apply (r : Fin 8256) (k : Fin 1024) : val_main_v12 (F := Ideal) x0 x1 (ix2 r k)
    = normed (fun j => x0 (ix2 r j)) (fun j => x1 (ix2 0 j)) k := by
  unfold normed
  pointwise! [val_main_v12, val_main_v11, val_main_v10, val_main_v9, val_main_v8, val_main_v7, val_main_v6, val_main_v5, val_main_cst_1, val_main_v4, val_main_v3, val_main_cst_0, val_main_v2, val_main_v1, val_main_cst, val_main_v0]

open Idealize.SL.Sem Cert.NormFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v12_eq _ _),
      (h c).2⟩) (Cert.NormFwdRefIdeal.Value.run m ρ)

end Cert.NormFwdRefIdeal.Entry

namespace Cert.NormFwdIdeal.Value

open Cert.NormFwdIdeal Cert.NormFwdIdeal.Gen Idealize.ShloMosaic Idealize.ShloMosaic.TcCoe Idealize.SL.Sem
open Idealize.ShloMosaic.Pipeline (Dat)
open Cert.NormFwdRefIdeal.Read Cert.NormFwdRefIdeal.Entry

variable (m : (ℓ : Loc nD τ sig) → Buf (Elt Ideal) ℓ)

/-- Block indices of the windows: row tile `t`, or the one whole block. -/
theorem idx : ∀ t : Fin cfg0.N, win0_0.index t = ![t.val, 0] ∧ win0_1.index t = ![0, 0] ∧ win0_2.index t = ![t.val, 0] :=
  (by decide +kernel : ∀ t : Fin grid0.N, _)

theorem lt12 (t : Fin cfg0.N) : t.val < 12 := (by decide +kernel : ∀ t : Fin grid0.N, t.val < 12) t

/-- Row `a` of a point's row tile, among all rows. -/
def row (t : Fin cfg0.N) (a : Fin 688) : Fin 8256 := ⟨t.val * 688 + a.val, by have := lt12 t; omega⟩

theorem pay1_apply (u : (⟨S688x1024, .f32⟩ : BufTy).Contents (Elt Ideal)) (g : (⟨S1x1024, .f32⟩ : BufTy).Contents (Elt Ideal))
    (a : Fin 688) (k : Fin 1024) : k0_pay1 (F := Ideal) u g (ix2 a k) = normed (fun j => u (ix2 a j)) (fun j => g (ix2 0 j)) k := by
  unfold normed
  pointwise! [k0_pay1]

theorem blk0 (c : Dev nD) (t : Fin cfg0.N) (a : Fin 688) (b : Fin 1024) :
    iblk m c 0 t (ix2 a b) = m ((c : Thread nD τ).loc main_arg0) (ix2 (row t a) b) := by
  unfold row
  blk_point [iblk, V, idx t]

theorem blk1 (c : Dev nD) (t : Fin cfg0.N) (j : Fin 1024) :
    iblk m c 1 t (ix2 0 j) = m ((c : Thread nD τ).loc main_arg1) (ix2 0 j) := by
  blk_point [iblk, V, idx t]

theorem point2 (c : Dev nD) (t : Fin cfg0.N) (a : Fin 688) (b : Fin 1024) : k0_pay1 (F := Ideal) (iblk m c 0 t) (iblk m c 1 t) (ix2 a b)
    = val_main_v12 (F := Ideal) (m ((c : Thread nD τ).loc main_arg0)) (m ((c : Thread nD τ).loc main_arg1)) (ix2 (row t a) b) := by
  rw [pay1_apply, v12_apply]
  simp only [blk0, blk1]

theorem emb2 (t : Fin cfg0.N) (a : Fin 688) (b : Fin 1024) :
    ((cfg0.win 2).blk t).view.emb (ix2 a b) = ix2 (n0 := 8256) (n1 := 1024) (row t a) b := by
  unfold row
  blk_ext [idx t]

theorem result2 (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2, emb2]
  frame_out
  exact point2 m c t y0 y1

end Cert.NormFwdIdeal.Value

namespace Cert.NormFwd

open Idealize.ShloMosaic Idealize.SL.Sem Cert.NormFwdRefIdeal.Read

/-- The kernel's normed rows are the reference's. -/
theorem algebraic : Cert.algebraic_NormFwdIdeal_NormFwdRefIdeal := by
  pair_intro
  · run_from Cert.NormFwdIdeal.Value.run_blocks m g
  · run_from Cert.NormFwdRefIdeal.Entry.run m' g'
    exact (Cert.NormFwdIdeal.Value.result2 m c).symm

end Cert.NormFwd

end
-- ==== Proof.MergeFwdValue.lean ====
/- The merge of the two branches, its output projection, the residual and the next norm: the four arrays the kernel leaves are the reference's. -/
module

public import proofs.«01_k».proof.Defs
public import proofs.«01_k».proof.Proof.NormFwdValue
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise

@[expose] public section

set_option maxRecDepth 16384

noncomputable section

namespace Cert.MergeFwdRefIdeal.Entry

open Cert.MergeFwdRefIdeal Cert.MergeFwdRefIdeal.Gen Cert.MergeFwdRefIdeal.Read Idealize.ShloMosaic

open Cert.NormFwdRefIdeal.Entry (normed)

/-- The two branches, each times the logistic of its gate, added. -/
def merged (ga gb a b : EReal) : EReal := Ideal.logistic ga * a + Ideal.logistic gb * b

section Reads

variable (x0 x1 : (⟨S8256x1024, .bf16⟩ : BufTy).Contents (Elt Ideal)) (x2 : (⟨S8256x2048, .bf16⟩ : BufTy).Contents (Elt Ideal)) (x3 : (⟨S8256x1024, .f32⟩ : BufTy).Contents (Elt Ideal))
  (x4 x5 : (⟨S1024x1024, .f32⟩ : BufTy).Contents (Elt Ideal)) (x6 : (⟨S1x1024, .f32⟩ : BufTy).Contents (Elt Ideal)) (r : Fin 8256) (k : Fin 1024)

theorem v1_apply : val_main_v1 (F := Ideal) x0 x4 (ix2 r k) = ∑ j : Fin 1024, x0 (ix2 r j) * x4 (ix2 j k) := by
  pointwise! [val_main_v1, val_main_v0]

theorem v25_apply : val_main_v25 (F := Ideal) x0 x4 (ix2 r k) = val_main_v1 (F := Ideal) x0 x4 (ix2 r k) := by
  unfold val_main_v25
  generalize val_main_v1 (F := Ideal) x0 x4 = y
  pointwise!

theorem v21_apply : val_main_v21 (F := Ideal) x0 x1 x2 x4 (ix2 r k)
    = merged (x2 (ix2 r ⟨k.val, by omega⟩)) (x2 (ix2 r ⟨1024 + k.val, by omega⟩)) (x1 (ix2 r k)) (val_main_v1 (F := Ideal) x0 x4 (ix2 r k)) := by
  unfold val_main_v21 val_main_v20 merged Ideal.logistic
  generalize val_main_v1 (F := Ideal) x0 x4 = y
  pointwise! [val_main_v19, val_main_v18, val_main_cst_2, val_main_v17, val_main_v16, val_main_cst_1, val_main_v15, val_main_v14, val_main_v13, val_main_v12, val_main_v11, val_main_cst_0, val_main_v10, val_main_v9, val_main_cst, val_main_v8, val_main_v7, val_main_v6, val_main_v5, val_main_v4, val_main_v3, val_main_v2]

theorem v24_apply : val_main_v24 (F := Ideal) x0 x1 x2 x4 (ix2 r k) = val_main_v21 (F := Ideal) x0 x1 x2 x4 (ix2 r k) := by
  unfold val_main_v24
  generalize val_main_v21 (F := Ideal) x0 x1 x2 x4 = y
  pointwise!

theorem v23_apply : val_main_v23 (F := Ideal) x0 x1 x2 x3 x4 x5 (ix2 r k)
    = x3 (ix2 r k) + ∑ j : Fin 1024, val_main_v21 (F := Ideal) x0 x1 x2 x4 (ix2 r j) * x5 (ix2 j k) := by
  unfold val_main_v23 val_main_v22
  generalize val_main_v21 (F := Ideal) x0 x1 x2 x4 = y
  pointwise!

theorem v38_apply : val_main_v38 (F := Ideal) x0 x1 x2 x3 x4 x5 x6 (ix2 r k)
    = normed (fun j => val_main_v23 (F := Ideal) x0 x1 x2 x3 x4 x5 (ix2 r j)) (fun j => x6 (ix2 0 j)) k := by
  unfold val_main_v38 val_main_v37 val_main_v35 val_main_v34 val_main_v33 val_main_v32 val_main_v30 val_main_v28 val_main_v27 val_main_v26 normed
  generalize val_main_v23 (F := Ideal) x0 x1 x2 x3 x4 x5 = y
  pointwise! [val_main_v36, val_main_v31, val_main_cst_5, val_main_v29, val_main_cst_4, val_main_cst_3]

end Reads

open Idealize.SL.Sem Cert.MergeFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v24) = val_main_v24 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v25) = val_main_v25 (F := Ideal) (m ((c.tc : Thread nD τ).loc main_arg0)) (m ((c.tc : Thread nD τ).loc main_arg4))
      ∧ r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v23_eq _ _ _ _ _ _),
      (h c).2.1.trans (val_main_v24_eq _ _ _ _),
      (h c).2.2.1.trans (val_main_v25_eq _ _),
      (h c).2.2.2.1.trans (val_main_v38_eq _ _ _ _ _ _ _),
      (h c).2.2.2.2⟩) (Cert.MergeFwdRefIdeal.Value.run m ρ)

end Cert.MergeFwdRefIdeal.Entry

namespace Cert.MergeFwdIdeal.Value

open Cert.MergeFwdIdeal Cert.MergeFwdIdeal.Gen Idealize.ShloMosaic Idealize.ShloMosaic.TcCoe Idealize.SL.Sem
open Idealize.ShloMosaic.Pipeline (Dat)
open Cert.MergeFwdRefIdeal.Read Cert.MergeFwdRefIdeal.Entry

open Cert.NormFwdRefIdeal.Entry (normed)

section Payloads

variable (v0 v4 v6 v8 : (⟨S688x1024, .bf16⟩ : BufTy).Contents (Elt Ideal)) (v1 v16 : (⟨S1024x1024, .bf16⟩ : BufTy).Contents (Elt Ideal)) (v15 y : (⟨S688x1024, .f32⟩ : BufTy).Contents (Elt Ideal))
  (g : (⟨S1x1024, .f32⟩ : BufTy).Contents (Elt Ideal)) (a : Fin 688) (k : Fin 1024)

theorem pay2_apply : k0_pay2 (F := Ideal) v0 v1 (ix2 a k) = ∑ j : Fin 1024, v0 (ix2 a j) * v1 (ix2 j k) := by
  pointwise! [k0_pay2]

theorem pay6_apply : k0_pay6 (F := Ideal) v0 v1 (ix2 a k) = k0_pay2 (F := Ideal) v0 v1 (ix2 a k) := by
  unfold k0_pay6
  generalize k0_pay2 (F := Ideal) v0 v1 = y
  pointwise!

theorem pay3_apply : k0_pay3 (F := Ideal) v0 v1 v4 v6 v8 (ix2 a k)
    = merged (v6 (ix2 a k)) (v8 (ix2 a k)) (v4 (ix2 a k)) (k0_pay2 (F := Ideal) v0 v1 (ix2 a k)) := by
  unfold k0_pay3 merged
  generalize k0_pay2 (F := Ideal) v0 v1 = y
  pointwise!

theorem pay5_apply : k0_pay5 (F := Ideal) v0 v1 v4 v6 v8 (ix2 a k) = k0_pay3 (F := Ideal) v0 v1 v4 v6 v8 (ix2 a k) := by
  unfold k0_pay5
  generalize k0_pay3 (F := Ideal) v0 v1 v4 v6 v8 = y
  pointwise!

theorem pay4_apply : k0_pay4 (F := Ideal) v0 v1 v4 v6 v8 v15 v16 (ix2 a k)
    = v15 (ix2 a k) + ∑ j : Fin 1024, k0_pay3 (F := Ideal) v0 v1 v4 v6 v8 (ix2 a j) * v16 (ix2 j k) := by
  unfold k0_pay4
  generalize k0_pay3 (F := Ideal) v0 v1 v4 v6 v8 = y
  pointwise!

theorem pay7_apply : k0_pay7 (F := Ideal) v0 v1 v4 v6 v8 v15 v16 (ix2 a 0)
    = ∑ j : Fin 1024, k0_pay4 (F := Ideal) v0 v1 v4 v6 v8 v15 v16 (ix2 a j) * k0_pay4 (F := Ideal) v0 v1 v4 v6 v8 v15 v16 (ix2 a j) := by
  unfold k0_pay7
  generalize k0_pay4 (F := Ideal) v0 v1 v4 v6 v8 v15 v16 = y
  pointwise!

theorem pay1_apply (s : (⟨S688x1, .f32⟩ : BufTy).Contents (Elt Ideal)) (h : s (ix2 a 0) = ∑ j : Fin 1024, y (ix2 a j) * y (ix2 a j)) :
    k0_pay1 (F := Ideal) y g s (Scalar.ofBits .f32 0x44800000#32) (ix2 a k) = normed (fun j => y (ix2 a j)) (fun j => g (ix2 0 j)) k := by
  unfold normed
  simp only [← h]
  pointwise! [k0_pay1]

end Payloads

variable (m : (ℓ : Loc nD τ sig) → Buf (Elt Ideal) ℓ)

/-- Block indices of the windows: row tile `t`, or the one whole block. -/
theorem idx : ∀ t : Fin cfg0.N, win0_0.index t = ![t.val, 0] ∧ win0_1.index t = ![t.val, 0] ∧ win0_2.index t = ![t.val, 0] ∧ win0_3.index t = ![t.val, 1] ∧ win0_4.index t = ![t.val, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] :=
  (by decide +kernel : ∀ t : Fin grid0.N, _)

theorem lt12 (t : Fin cfg0.N) : t.val < 12 := (by decide +kernel : ∀ t : Fin grid0.N, t.val < 12) t

/-- Row `a` of a point's row tile, among all rows. -/
def row (t : Fin cfg0.N) (a : Fin 688) : Fin 8256 := ⟨t.val * 688 + a.val, by have := lt12 t; omega⟩

theorem blk0 (c : Dev nD) (t : Fin cfg0.N) (a : Fin 688) (b : Fin 1024) :
    iblk m c 0 t (ix2 a b) = m ((c : Thread nD τ).loc main_arg0) (ix2 (row t a) b) := by
  unfold row
  blk_point [iblk, V, idx t]

theorem blk1 (c : Dev nD) (t : Fin cfg0.N) (a : Fin 688) (b : Fin 1024) :
    iblk m c 1 t (ix2 a b) = m ((c : Thread nD τ).loc main_arg1) (ix2 (row t a) b) := by
  unfold row
  blk_point [iblk, V, idx t]

theorem blk2 (c : Dev nD) (t : Fin cfg0.N) (a : Fin 688) (b : Fin 1024) :
    iblk m c 2 t (ix2 a b) = m ((c : Thread nD τ).loc main_arg2) (ix2 (row t a) ⟨b.val, by omega⟩) := by
  unfold row
  blk_point [iblk, V, idx t]

theorem blk3 (c : Dev nD) (t : Fin cfg0.N) (a : Fin 688) (b : Fin 1024) :
    iblk m c 3 t (ix2 a b) = m ((c : Thread nD τ).loc main_arg2) (ix2 (row t a) ⟨1024 + b.val, by omega⟩) := by
  unfold row
  blk_point [iblk, V, idx t]

theorem blk4 (c : Dev nD) (t : Fin cfg0.N) (a : Fin 688) (b : Fin 1024) :
    iblk m c 4 t (ix2 a b) = m ((c : Thread nD τ).loc main_arg3) (ix2 (row t a) b) := by
  unfold row
  blk_point [iblk, V, idx t]

theorem blk5 (c : Dev nD) (t : Fin cfg0.N) (i j : Fin 1024) :
    iblk m c 5 t (ix2 i j) = m ((c : Thread nD τ).loc main_arg4) (ix2 i j) := by
  have e : ((cfg0.win 5).blk t).view.emb (ix2 i j) = ix2 (n0 := 1024) (n1 := 1024) i j := by
    blk_ext [idx t]
  unfold iblk
  blk_simp
  rw [e]
  entry_read
  first | rfl | pointwise!

theorem blk6 (c : Dev nD) (t : Fin cfg0.N) (i j : Fin 1024) :
    iblk m c 6 t (ix2 i j) = m ((c : Thread nD τ).loc main_arg5) (ix2 i j) := by
  have e : ((cfg0.win 6).blk t).view.emb (ix2 i j) = ix2 (n0 := 1024) (n1 := 1024) i j := by
    blk_ext [idx t]
  unfold iblk
  blk_simp
  rw [e]
  entry_read
  first | rfl | pointwise!

theorem blk7 (c : Dev nD) (t : Fin cfg0.N) (j : Fin 1024) :
    iblk m c 7 t (ix2 0 j) = m ((c : Thread nD τ).loc main_arg6) (ix2 0 j) := by
  blk_point [iblk, V, idx t]

theorem point2 (c : Dev nD) (t : Fin cfg0.N) (a : Fin 688) (b : Fin 1024) : k0_pay2 (F := Ideal) (iblk m c 0 t) (iblk m c 5 t) (ix2 a b) = val_main_v1 (F := Ideal) (m ((c : Thread nD τ).loc main_arg0)) (m ((c : Thread nD τ).loc main_arg4)) (ix2 (row t a) b) := by
  rw [pay2_apply, v1_apply]
  simp only [blk0, blk5]

theorem point10 (c : Dev nD) (t : Fin cfg0.N) (a : Fin 688) (b : Fin 1024) : k0_pay6 (F := Ideal) (iblk m c 0 t) (iblk m c 5 t) (ix2 a b) = val_main_v25 (F := Ideal) (m ((c : Thread nD τ).loc main_arg0)) (m ((c : Thread nD τ).loc main_arg4)) (ix2 (row t a) b) := by
  rw [pay6_apply, v25_apply, point2]

theorem point3 (c : Dev nD) (t : Fin cfg0.N) (a : Fin 688) (b : Fin 1024) : k0_pay3 (F := Ideal) (iblk m c 0 t) (iblk m c 5 t) (iblk m c 1 t) (iblk m c 2 t) (iblk m c 3 t) (ix2 a b) = val_main_v21 (F := Ideal) (m ((c : Thread nD τ).loc main_arg0)) (m ((c : Thread nD τ).loc main_arg1)) (m ((c : Thread nD τ).loc main_arg2)) (m ((c : Thread nD τ).loc main_arg4)) (ix2 (row t a) b) := by
  rw [pay3_apply, v21_apply, point2, blk1, blk2, blk3]

theorem point9 (c : Dev nD) (t : Fin cfg0.N) (a : Fin 688) (b : Fin 1024) : k0_pay5 (F := Ideal) (iblk m c 0 t) (iblk m c 5 t) (iblk m c 1 t) (iblk m c 2 t) (iblk m c 3 t) (ix2 a b) = val_main_v24 (F := Ideal) (m ((c : Thread nD τ).loc main_arg0)) (m ((c : Thread nD τ).loc main_arg1)) (m ((c : Thread nD τ).loc main_arg2)) (m ((c : Thread nD τ).loc main_arg4)) (ix2 (row t a) b) := by
  rw [pay5_apply, v24_apply, point3]

theorem point8 (c : Dev nD) (t : Fin cfg0.N) (a : Fin 688) (b : Fin 1024) : k0_pay4 (F := Ideal) (iblk m c 0 t) (iblk m c 5 t) (iblk m c 1 t) (iblk m c 2 t) (iblk m c 3 t) (iblk m c 4 t) (iblk m c 6 t) (ix2 a b) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t a) b) := by
  rw [pay4_apply, v23_apply]
  exact Ideal.add_congr (blk4 m c t a b) (Finset.sum_congr rfl fun j _ => Ideal.mul_congr (point3 m c t a j) (blk6 m c t j b))

theorem point11 (c : Dev nD) (t : Fin cfg0.N) (a : Fin 688) (b : Fin 1024) : k0_pay1 (F := Ideal) (k0_pay4 (F := Ideal) (iblk m c 0 t) (iblk m c 5 t) (iblk m c 1 t) (iblk m c 2 t) (iblk m c 3 t) (iblk m c 4 t) (iblk m c 6 t)) (iblk m c 7 t) (k0_pay7 (F := Ideal) (iblk m c 0 t) (iblk m c 5 t) (iblk m c 1 t) (iblk m c 2 t) (iblk m c 3 t) (iblk m c 4 t) (iblk m c 6 t)) (Scalar.ofBits .f32 0x44800000#32) (ix2 a b)
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) b) := by
  rw [pay1_apply _ _ _ _ _ (pay7_apply _ _ _ _ _ _ _ _), v38_apply]
  simp only [point8, blk7]

theorem emb8 (t : Fin cfg0.N) (a : Fin 688) (b : Fin 1024) :
    ((cfg0.win 8).blk t).view.emb (ix2 a b) = ix2 (n0 := 8256) (n1 := 1024) (row t a) b := by
  unfold row
  blk_ext [idx t]

theorem emb9 (t : Fin cfg0.N) (a : Fin 688) (b : Fin 1024) :
    ((cfg0.win 9).blk t).view.emb (ix2 a b) = ix2 (n0 := 8256) (n1 := 1024) (row t a) b := by
  unfold row
  blk_ext [idx t]

theorem emb10 (t : Fin cfg0.N) (a : Fin 688) (b : Fin 1024) :
    ((cfg0.win 10).blk t).view.emb (ix2 a b) = ix2 (n0 := 8256) (n1 := 1024) (row t a) b := by
  unfold row
  blk_ext [idx t]

theorem emb11 (t : Fin cfg0.N) (a : Fin 688) (b : Fin 1024) :
    ((cfg0.win 11).blk t).view.emb (ix2 a b) = ix2 (n0 := 8256) (n1 := 1024) (row t a) b := by
  unfold row
  blk_ext [idx t]

theorem result8 (c : Dev nD) : (dats m 0 c).arrAt 8 cfg0.N = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  idx_vars y
  blk_simp
  rw [after0_8, emb8]
  frame_out
  exact point8 m c t y0 y1

theorem result9 (c : Dev nD) : (dats m 0 c).arrAt 9 cfg0.N = val_main_v24 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  idx_vars y
  blk_simp
  rw [after0_9, emb9]
  frame_out
  exact point9 m c t y0 y1

theorem result10 (c : Dev nD) : (dats m 0 c).arrAt 10 cfg0.N = val_main_v25 (F := Ideal) (m ((c : Thread nD τ).loc main_arg0)) (m ((c : Thread nD τ).loc main_arg4)) := by
  refine (dats m 0 c).arrAt_eq_of_covers 10 _ (by decide +kernel) fun t _ y => ?_
  idx_vars y
  blk_simp
  rw [after0_10, emb10]
  frame_out
  exact point10 m c t y0 y1

theorem result11 (c : Dev nD) : (dats m 0 c).arrAt 11 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  idx_vars y
  blk_simp
  rw [after0_11, emb11]
  frame_out
  exact point11 m c t y0 y1

end Cert.MergeFwdIdeal.Value

namespace Cert.MergeFwd

open Idealize.ShloMosaic Idealize.SL.Sem Cert.MergeFwdRefIdeal.Read

/-- The four arrays of the kernel's merge are the reference's. -/
theorem algebraic : Cert.algebraic_MergeFwdIdeal_MergeFwdRefIdeal := by
  pair_intro
  · run_from Cert.MergeFwdIdeal.Value.run_blocks m g
  · run_from Cert.MergeFwdRefIdeal.Entry.run m' g'
    · exact (Cert.MergeFwdIdeal.Value.result8 m c).symm
    · exact (Cert.MergeFwdIdeal.Value.result9 m c).symm
    · exact (Cert.MergeFwdIdeal.Value.result10 m c).symm
    · exact (Cert.MergeFwdIdeal.Value.result11 m c).symm

end Cert.MergeFwd

end
-- ==== Proof.GluFwdValue.lean ====
/- The S5 gate `y * sigmoid(y @ w)` and its projection: the two arrays the kernel leaves are the reference's. -/
module

public import proofs.«01_k».proof.Defs
public import proofs.«01_k».proof.Proof.Gen.GluFwdIdeal.Value
public import proofs.«01_k».proof.Proof.Gen.GluFwdRefIdeal.Run
public import proofs.«01_k».proof.Proof.Gen.GluFwdRefIdeal.Read
public import Idealize.ShloMosaic.Lib.Pipeline.ValueKit
public import Idealize.ShloMosaic.Lib.Pointwise

@[expose] public section

set_option maxRecDepth 16384

noncomputable section

namespace Cert.GluFwdRefIdeal.Entry

open Cert.GluFwdRefIdeal Cert.GluFwdRefIdeal.Gen Cert.GluFwdRefIdeal.Read Idealize.ShloMosaic

/-- A row times the logistic of its product with a column of the weight. -/
def gated (f : Fin 1024 → EReal) (w : Fin 1024 → Fin 1024 → EReal) (k : Fin 1024) : EReal :=
  f k * Ideal.logistic (∑ j, f j * w j k)

variable (x0 : (⟨S8256x1024, .bf16⟩ : BufTy).Contents (Elt Ideal)) (x1 x2 : (⟨S1024x1024, .f32⟩ : BufTy).Contents (Elt Ideal))

theorem v8_apply (r : Fin 8256) (k : Fin 1024) : val_main_v8 (F := Ideal) x0 x1 (ix2 r k)
    = gated (fun j => x0 (ix2 r j)) (fun j k => x1 (ix2 j k)) k := by
  unfold gated Ideal.logistic
  pointwise! [val_main_v8, val_main_v7, val_main_v6, val_main_cst_0, val_main_v5, val_main_v4, val_main_cst, val_main_v3, val_main_v2, val_main_v1, val_main_v0]

theorem v9_apply (r : Fin 8256) (k : Fin 1024) : val_main_v9 (F := Ideal) x0 x1 (ix2 r k) = val_main_v8 (F := Ideal) x0 x1 (ix2 r k) := by
  unfold val_main_v9
  generalize val_main_v8 (F := Ideal) x0 x1 = y
  pointwise!

theorem v11_apply (r : Fin 8256) (k : Fin 1024) : val_main_v11 (F := Ideal) x0 x1 x2 (ix2 r k)
    = ∑ j : Fin 1024, val_main_v8 (F := Ideal) x0 x1 (ix2 r j) * x2 (ix2 j k) := by
  unfold val_main_v11 val_main_v10
  generalize val_main_v8 (F := Ideal) x0 x1 = y
  pointwise!

open Idealize.SL.Sem Cert.GluFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = val_main_v9 (F := Ideal) (m ((c.tc : Thread nD τ).loc main_arg0)) (m ((c.tc : Thread nD τ).loc main_arg1))
      ∧ r.2.mem ((c.tc : Thread nD τ).loc main_v11) = val_main_v11 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v9_eq _ _),
      (h c).2.1.trans (val_main_v11_eq _ _ _),
      (h c).2.2⟩) (Cert.GluFwdRefIdeal.Value.run m ρ)

end Cert.GluFwdRefIdeal.Entry

namespace Cert.GluFwdIdeal.Value

open Cert.GluFwdIdeal Cert.GluFwdIdeal.Gen Idealize.ShloMosaic Idealize.ShloMosaic.TcCoe Idealize.SL.Sem
open Idealize.ShloMosaic.Pipeline (Dat)
open Cert.GluFwdRefIdeal.Read Cert.GluFwdRefIdeal.Entry

variable (m : (ℓ : Loc nD τ sig) → Buf (Elt Ideal) ℓ)

/-- Block indices of the windows: row tile `t`, or the one whole block. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem lt12 (t : Fin cfg0.N) : t.val < 12 := (by decide +kernel : ∀ t : Fin grid0.N, t.val < 12) t

/-- Row `a` of a point's row tile, among all rows. -/
def row (t : Fin cfg0.N) (a : Fin 688) : Fin 8256 := ⟨t.val * 688 + a.val, by have := lt12 t; omega⟩

theorem pay1_apply (u : (⟨S688x1024, .bf16⟩ : BufTy).Contents (Elt Ideal)) (w : (⟨S1024x1024, .bf16⟩ : BufTy).Contents (Elt Ideal))
    (a : Fin 688) (k : Fin 1024) : k0_pay1 (F := Ideal) u w (ix2 a k) = gated (fun j => u (ix2 a j)) (fun j k => w (ix2 j k)) k := by
  unfold gated
  pointwise! [k0_pay1]

theorem pay2_apply (u : (⟨S688x1024, .bf16⟩ : BufTy).Contents (Elt Ideal)) (w : (⟨S1024x1024, .bf16⟩ : BufTy).Contents (Elt Ideal))
    (a : Fin 688) (k : Fin 1024) : k0_pay2 (F := Ideal) u w (ix2 a k) = k0_pay1 (F := Ideal) u w (ix2 a k) := by
  unfold k0_pay2
  generalize k0_pay1 (F := Ideal) u w = y
  pointwise!

theorem pay3_apply (u : (⟨S688x1024, .bf16⟩ : BufTy).Contents (Elt Ideal)) (w v : (⟨S1024x1024, .bf16⟩ : BufTy).Contents (Elt Ideal))
    (a : Fin 688) (k : Fin 1024) : k0_pay3 (F := Ideal) u w v (ix2 a k) = ∑ j : Fin 1024, k0_pay1 (F := Ideal) u w (ix2 a j) * v (ix2 j k) := by
  unfold k0_pay3
  generalize k0_pay1 (F := Ideal) u w = y
  pointwise!

theorem blk0 (c : Dev nD) (t : Fin cfg0.N) (a : Fin 688) (b : Fin 1024) :
    iblk m c 0 t (ix2 a b) = m ((c : Thread nD τ).loc main_arg0) (ix2 (row t a) b) := by
  unfold row
  blk_point [iblk, V, idx t]

theorem blk1 (c : Dev nD) (t : Fin cfg0.N) (i j : Fin 1024) :
    iblk m c 1 t (ix2 i j) = m ((c : Thread nD τ).loc main_arg1) (ix2 i j) := by
  have e : ((cfg0.win 1).blk t).view.emb (ix2 i j) = ix2 (n0 := 1024) (n1 := 1024) i j := by
    blk_ext [idx t]
  unfold iblk
  blk_simp
  rw [e]
  entry_read
  first | rfl | pointwise!

theorem blk2 (c : Dev nD) (t : Fin cfg0.N) (i j : Fin 1024) :
    iblk m c 2 t (ix2 i j) = m ((c : Thread nD τ).loc main_arg2) (ix2 i j) := by
  have e : ((cfg0.win 2).blk t).view.emb (ix2 i j) = ix2 (n0 := 1024) (n1 := 1024) i j := by
    blk_ext [idx t]
  unfold iblk
  blk_simp
  rw [e]
  entry_read
  first | rfl | pointwise!

theorem point1 (c : Dev nD) (t : Fin cfg0.N) (a : Fin 688) (b : Fin 1024) : k0_pay1 (F := Ideal) (iblk m c 0 t) (iblk m c 1 t) (ix2 a b)
    = val_main_v8 (F := Ideal) (m ((c : Thread nD τ).loc main_arg0)) (m ((c : Thread nD τ).loc main_arg1)) (ix2 (row t a) b) := by
  rw [pay1_apply, v8_apply]
  simp only [blk0, blk1]

theorem point3 (c : Dev nD) (t : Fin cfg0.N) (a : Fin 688) (b : Fin 1024) : k0_pay2 (F := Ideal) (iblk m c 0 t) (iblk m c 1 t) (ix2 a b)
    = val_main_v9 (F := Ideal) (m ((c : Thread nD τ).loc main_arg0)) (m ((c : Thread nD τ).loc main_arg1)) (ix2 (row t a) b) := by
  rw [pay2_apply, v9_apply, point1]

theorem point4 (c : Dev nD) (t : Fin cfg0.N) (a : Fin 688) (b : Fin 1024) : k0_pay3 (F := Ideal) (iblk m c 0 t) (iblk m c 1 t) (iblk m c 2 t) (ix2 a b)
    = val_main_v11 (F := Ideal) (m ((c : Thread nD τ).loc main_arg0)) (m ((c : Thread nD τ).loc main_arg1)) (m ((c : Thread nD τ).loc main_arg2)) (ix2 (row t a) b) := by
  rw [pay3_apply, v11_apply]
  exact Finset.sum_congr rfl fun j _ => Ideal.mul_congr (point1 m c t a j) (blk2 m c t j b)

theorem emb3 (t : Fin cfg0.N) (a : Fin 688) (b : Fin 1024) :
    ((cfg0.win 3).blk t).view.emb (ix2 a b) = ix2 (n0 := 8256) (n1 := 1024) (row t a) b := by
  unfold row
  blk_ext [idx t]

theorem emb4 (t : Fin cfg0.N) (a : Fin 688) (b : Fin 1024) :
    ((cfg0.win 4).blk t).view.emb (ix2 a b) = ix2 (n0 := 8256) (n1 := 1024) (row t a) b := by
  unfold row
  blk_ext [idx t]

theorem result3 (c : Dev nD) : (dats m 0 c).arrAt 3 cfg0.N = val_main_v9 (F := Ideal) (m ((c : Thread nD τ).loc main_arg0)) (m ((c : Thread nD τ).loc main_arg1)) := by
  refine (dats m 0 c).arrAt_eq_of_covers 3 _ (by decide +kernel) fun t _ y => ?_
  idx_vars y
  blk_simp
  rw [after0_3, emb3]
  frame_out
  exact point3 m c t y0 y1

theorem result4 (c : Dev nD) : (dats m 0 c).arrAt 4 cfg0.N = val_main_v11 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  blk_simp
  rw [after0_4, emb4]
  frame_out
  exact point4 m c t y0 y1

end Cert.GluFwdIdeal.Value

namespace Cert.GluFwd

open Idealize.ShloMosaic Idealize.SL.Sem Cert.GluFwdRefIdeal.Read

/-- The kernel's gated output and its projection are the reference's. -/
theorem algebraic : Cert.algebraic_GluFwdIdeal_GluFwdRefIdeal := by
  pair_intro
  · run_from Cert.GluFwdIdeal.Value.run_blocks m g
  · run_from Cert.GluFwdRefIdeal.Entry.run m' g'
    · exact (Cert.GluFwdIdeal.Value.result3 m c).symm
    · exact (Cert.GluFwdIdeal.Value.result4 m c).symm

end Cert.GluFwd

end
-- ==== Proof.Power.lean ====
/- Powers of the transition by repeated squaring: the `n`-th power of `exp (ρ + i φ)` is `exp (n ρ + i n φ)`. -/
module

public import Idealize.ShloMosaic.Lib.Pointwise

@[expose] public section

noncomputable section

namespace Cert.Power

open Idealize.ShloMosaic

/-- Real and imaginary part of the `n`-th power of `exp (ρ + i φ)`. -/
def re (ρ φ : ℝ) (n : ℕ) : ℝ := Real.exp (n * ρ) * Real.cos (n * φ)

def im (ρ φ : ℝ) (n : ℕ) : ℝ := Real.exp (n * ρ) * Real.sin (n * φ)

theorem re_add (ρ φ : ℝ) (n k : ℕ) : re ρ φ n * re ρ φ k - im ρ φ n * im ρ φ k = re ρ φ (n + k) := by
  unfold re im
  push_cast
  rw [add_mul, add_mul, Real.exp_add, Real.cos_add]
  ring

theorem im_add (ρ φ : ℝ) (n k : ℕ) : re ρ φ n * im ρ φ k + im ρ φ n * re ρ φ k = im ρ φ (n + k) := by
  unfold re im
  push_cast
  rw [add_mul, add_mul, Real.exp_add, Real.sin_add]
  ring

/-- A squaring step on the real part, at the extended reals. -/
theorem sq_re {x y : EReal} {ρ φ : ℝ} {n : ℕ} (hx : x = (re ρ φ n : ℝ)) (hy : y = (im ρ φ n : ℝ)) :
    x * x - y * y = (re ρ φ (2 * n) : ℝ) := by
  rw [hx, hy, ← EReal.coe_mul, ← EReal.coe_mul, ← EReal.coe_sub, re_add, two_mul]

/-- A squaring step on the imaginary part. -/
theorem sq_im {x y w : EReal} {ρ φ : ℝ} {n : ℕ} (hw : w = ((2 : ℝ) : EReal)) (hx : x = (re ρ φ n : ℝ)) (hy : y = (im ρ φ n : ℝ)) :
    w * x * y = (im ρ φ (2 * n) : ℝ) := by
  rw [hw, hx, hy, ← EReal.coe_mul, ← EReal.coe_mul, two_mul n, ← im_add]
  congr 1
  ring

/-- A product of two powers. -/
theorem mul_re {x y u v : EReal} {ρ φ : ℝ} {n k : ℕ} (hx : x = (re ρ φ n : ℝ)) (hy : y = (im ρ φ n : ℝ))
    (hu : u = (re ρ φ k : ℝ)) (hv : v = (im ρ φ k : ℝ)) : x * u - y * v = (re ρ φ (n + k) : ℝ) := by
  rw [hx, hy, hu, hv, ← EReal.coe_mul, ← EReal.coe_mul, ← EReal.coe_sub, re_add]

theorem mul_im {x y u v : EReal} {ρ φ : ℝ} {n k : ℕ} (hx : x = (re ρ φ n : ℝ)) (hy : y = (im ρ φ n : ℝ))
    (hu : u = (re ρ φ k : ℝ)) (hv : v = (im ρ φ k : ℝ)) : x * v + y * u = (im ρ φ (n + k) : ℝ) := by
  rw [hx, hy, hu, hv, ← EReal.coe_mul, ← EReal.coe_mul, ← EReal.coe_add, im_add]

end Cert.Power

end
-- ==== Proof.DiscAFwdValue.lean ====
/- The discretised transition of the state space, its power over a segment and the input coefficients: every array the kernel leaves is the reference's. -/
module

public import proofs.«01_k».proof.Defs
public import proofs.«01_k».proof.Proof.Power
public import proofs.«01_k».proof.Proof.Reals
public import proofs.«01_k».proof.Proof.Gen.DiscAFwdIdeal.Frame
public import proofs.«01_k».proof.Proof.Gen.DiscAFwdRefIdeal.Run
public import proofs.«01_k».proof.Proof.Gen.DiscAFwdRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.DiscAFwdRefIdeal.Entry

open Cert.DiscAFwdRefIdeal Cert.DiscAFwdRefIdeal.Gen Cert.DiscAFwdRefIdeal.Read Idealize.ShloMosaic

open Idealize.SL.Sem Cert.DiscAFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = val_main_v8 (F := Ideal) (m ((c.tc : Thread nD τ).loc main_arg0)) (m ((c.tc : Thread nD τ).loc main_arg1)) (m ((c.tc : Thread nD τ).loc main_arg2))
      ∧ r.2.mem ((c.tc : Thread nD τ).loc main_v12) = val_main_v12 (F := Ideal) (m ((c.tc : Thread nD τ).loc main_arg0)) (m ((c.tc : Thread nD τ).loc main_arg1)) (m ((c.tc : Thread nD τ).loc main_arg2))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg2))
      ∧ r.2.mem ((c.tc : Thread nD τ).loc main_v25) = val_main_v25 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v8_eq _ _ _),
      (h c).2.1.trans (val_main_v12_eq _ _ _),
      (h c).2.2.1.trans (val_main_v36_eq _ _ _),
      (h c).2.2.2.1.trans (val_main_v40_eq _ _ _),
      (h c).2.2.2.2.1.trans (val_main_v21_eq _ _ _),
      (h c).2.2.2.2.2.1.trans (val_main_v25_eq _ _ _),
      (h c).2.2.2.2.2.2⟩) (Cert.DiscAFwdRefIdeal.Value.run m ρ)

end Cert.DiscAFwdRefIdeal.Entry

namespace Cert.DiscAFwdIdeal.Value

open Cert.DiscAFwdIdeal Cert.DiscAFwdIdeal.Gen Idealize.ShloMosaic Idealize.ShloMosaic.TcCoe Idealize.SL.Sem
open Cert.DiscAFwdRefIdeal.Read Cert.Reals Cert.Power

section Stages

variable (x0 x1 : (⟨S64x64, .f32⟩ : BufTy).Contents (Elt Ideal)) (x2 : (⟨S64, .f32⟩ : BufTy).Contents (Elt Ideal))
  (d : (⟨S64x1, .f32⟩ : BufTy).Contents (Elt Ideal)) (h : ∀ g : Fin 64, d (ix2 g 0) = x2 (ix1 g))
include h

theorem step_apply (g : Fin 64) : k0_pay1 (F := Ideal) d (ix2 g 0) = Ideal.exp (x2 (ix1 g)) := by
  pointwise! [k0_pay1]
  rw [h]

theorem decay_eq : k0_pay2 (F := Ideal) x0 d = val_main_v4 (F := Ideal) x0 x2 := by
  have e := step_apply x2 d h
  funext j
  idx_vars j
  unfold k0_pay2
  generalize k0_pay1 (F := Ideal) d = s at *
  pointwise! [val_main_v4, val_main_v3, val_main_v2, val_main_v1, val_main_v0]
  rw [e]

theorem re_eq : k0_pay3 (F := Ideal) x0 x1 d = val_main_v8 (F := Ideal) x0 x1 x2 := by
  have e := step_apply x2 d h
  unfold k0_pay3 val_main_v8
  rw [decay_eq x0 x2 d h]
  generalize val_main_v4 (F := Ideal) x0 x2 = p
  generalize k0_pay1 (F := Ideal) d = s at *
  funext j
  idx_vars j
  pointwise! [val_main_v7, val_main_v6, val_main_v5, val_main_v1, val_main_v0]
  rw [e]

theorem im_eq : k0_pay4 (F := Ideal) x0 x1 d = val_main_v12 (F := Ideal) x0 x1 x2 := by
  have e := step_apply x2 d h
  unfold k0_pay4 val_main_v12
  rw [decay_eq x0 x2 d h]
  generalize val_main_v4 (F := Ideal) x0 x2 = p
  generalize k0_pay1 (F := Ideal) d = s at *
  funext j
  idx_vars j
  pointwise! [val_main_v11, val_main_v10, val_main_v9, val_main_v1, val_main_v0]
  rw [e]

theorem shift_eq : k0_pay6 (F := Ideal) x0 x1 d = val_main_v17 (F := Ideal) x0 x1 x2 := by
  unfold k0_pay6 val_main_v17
  rw [re_eq x0 x1 x2 d h]
  rfl

theorem coef_re_eq : k0_pay7 (F := Ideal) x0 x1 d = val_main_v21 (F := Ideal) x0 x1 x2 := by
  unfold k0_pay7 val_main_v21 val_main_v20 val_main_v19 val_main_v18
  rw [shift_eq x0 x1 x2 d h, im_eq x0 x1 x2 d h]
  rfl

theorem coef_im_eq : k0_pay8 (F := Ideal) x0 x1 d = val_main_v25 (F := Ideal) x0 x1 x2 := by
  unfold k0_pay8 val_main_v25 val_main_v24 val_main_v23 val_main_v22
  rw [shift_eq x0 x1 x2 d h, im_eq x0 x1 x2 d h]
  rfl

end Stages

section Squares

theorem two_eq : Ideal.ofBits .f32 0x40000000#32 = ((2 : ℝ) : EReal) := by
  simp [Ideal.ofBits, Ideal.ieee]
  rw [← EReal.coe_mul]
  norm_num

theorem seg_eq : Ideal.ofBits .f32 0x43840000#32 = ((264 : ℝ) : EReal) := by
  simp [Ideal.ofBits, Ideal.ieee]
  rw [← EReal.coe_mul]
  norm_num

variable (x0 x1 : (⟨S64x64, .f32⟩ : BufTy).Contents (Elt Ideal)) (d : (⟨S64x1, .f32⟩ : BufTy).Contents (Elt Ideal))
  (j : S64x64.Idx) {ρ φ : ℝ}

/-- An entry holds the `n`-th power of `exp (ρ + i φ)`. -/
def IsPow (ρ φ : ℝ) (n : ℕ) (x y : EReal) : Prop := x = (re ρ φ n : ℝ) ∧ y = (im ρ φ n : ℝ)

theorem IsPow.sq {n : ℕ} {x y : EReal} (e : IsPow ρ φ n x y) :
    IsPow ρ φ (2 * n) (x * x - y * y) (Ideal.ofBits .f32 0x40000000#32 * x * y) :=
  ⟨sq_re e.1 e.2, sq_im two_eq e.1 e.2⟩

theorem IsPow.mul {n k : ℕ} {x y u v : EReal} (e : IsPow ρ φ n x y) (f : IsPow ρ φ k u v) :
    IsPow ρ φ (n + k) (x * u - y * v) (x * v + y * u) :=
  ⟨mul_re e.1 e.2 f.1 f.2, mul_im e.1 e.2 f.1 f.2⟩

variable (e : IsPow ρ φ 1 (k0_pay3 (F := Ideal) x0 x1 d j) (k0_pay4 (F := Ideal) x0 x1 d j))
include e

theorem pow2 : IsPow ρ φ 2 (k0_pay9 (F := Ideal) x0 x1 d j) (k0_pay10 (F := Ideal) x0 x1 d j) := e.sq

theorem pow4 : IsPow ρ φ 4 (k0_pay11 (F := Ideal) x0 x1 d j) (k0_pay12 (F := Ideal) x0 x1 d j) := (pow2 x0 x1 d j e).sq

theorem pow8 : IsPow ρ φ 8 (k0_pay13 (F := Ideal) x0 x1 d j) (k0_pay14 (F := Ideal) x0 x1 d j) := (pow4 x0 x1 d j e).sq

theorem pow16 : IsPow ρ φ 16 (k0_pay15 (F := Ideal) x0 x1 d j)
    (k0_pay16 (F := Ideal) (k0_pay13 x0 x1 d) (k0_pay14 x0 x1 d) j) := (pow8 x0 x1 d j e).sq

omit e in
theorem pow256 (a b q : FVec Ideal S64x64 .f32) (f : IsPow ρ φ 16 (q j) (k0_pay16 (F := Ideal) a b j)) :
    IsPow ρ φ 256 (k0_pay23 (F := Ideal) a b q j) (k0_pay24 (F := Ideal) a b q j) := by
  have f32 : IsPow ρ φ 32 (k0_pay17 (F := Ideal) a b q j) (k0_pay18 (F := Ideal) a b q j) := f.sq
  have f64 : IsPow ρ φ 64 (k0_pay19 (F := Ideal) a b q j) (k0_pay20 (F := Ideal) a b q j) := f32.sq
  have f128 : IsPow ρ φ 128 (k0_pay21 (F := Ideal) a b q j) (k0_pay22 (F := Ideal) a b q j) := f64.sq
  exact f128.sq

theorem pow264 : IsPow ρ φ 264
    (k0_pay25 (F := Ideal) (k0_pay13 x0 x1 d) (k0_pay14 x0 x1 d) (k0_pay15 x0 x1 d) j)
    (k0_pay26 (F := Ideal) (k0_pay13 x0 x1 d) (k0_pay14 x0 x1 d) (k0_pay15 x0 x1 d) j) :=
  (pow8 x0 x1 d j e).mul (pow256 j _ _ _ (pow16 x0 x1 d j e))

end Squares

section Far

variable (x0 x1 : (⟨S64x64, .f32⟩ : BufTy).Contents (Elt Ideal)) (x2 : (⟨S64, .f32⟩ : BufTy).Contents (Elt Ideal)) (g s : Fin 64)

theorem near_apply : val_main_v8 (F := Ideal) x0 x1 x2 (ix2 g s)
      = Ideal.exp (x0 (ix2 g s) * Ideal.exp (x2 (ix1 g))) * Ideal.cos (x1 (ix2 g s) * Ideal.exp (x2 (ix1 g)))
    ∧ val_main_v12 (F := Ideal) x0 x1 x2 (ix2 g s)
      = Ideal.exp (x0 (ix2 g s) * Ideal.exp (x2 (ix1 g))) * Ideal.sin (x1 (ix2 g s) * Ideal.exp (x2 (ix1 g))) := by
  constructor
  · pointwise! [val_main_v8, val_main_v7, val_main_v6, val_main_v5, val_main_v4, val_main_v3, val_main_v2, val_main_v1, val_main_v0]
  · pointwise! [val_main_v12, val_main_v11, val_main_v10, val_main_v9, val_main_v4, val_main_v3, val_main_v2, val_main_v1, val_main_v0]

theorem far_step_apply : val_main_v29 (F := Ideal) x2 (ix2 g 0) = ((264 : ℝ) : EReal) * Ideal.exp (x2 (ix1 g)) := by
  rw [← seg_eq]
  unfold val_main_v29 val_main_v28 val_main_v27 val_main_v26
  pointwise [val_main_cst_0]

theorem far_apply : val_main_v36 (F := Ideal) x0 x1 x2 (ix2 g s)
      = Ideal.exp (x0 (ix2 g s) * (((264 : ℝ) : EReal) * Ideal.exp (x2 (ix1 g))))
        * Ideal.cos (x1 (ix2 g s) * (((264 : ℝ) : EReal) * Ideal.exp (x2 (ix1 g))))
    ∧ val_main_v40 (F := Ideal) x0 x1 x2 (ix2 g s)
      = Ideal.exp (x0 (ix2 g s) * (((264 : ℝ) : EReal) * Ideal.exp (x2 (ix1 g))))
        * Ideal.sin (x1 (ix2 g s) * (((264 : ℝ) : EReal) * Ideal.exp (x2 (ix1 g)))) := by
  rw [← far_step_apply]
  unfold val_main_v36 val_main_v40 val_main_v39 val_main_v38 val_main_v37 val_main_v35 val_main_v34 val_main_v33 val_main_v32 val_main_v31 val_main_v30
  generalize val_main_v29 (F := Ideal) x2 = t
  constructor
  · pointwise! []
  · pointwise! []

/-- On real entries the transition is the first power, and the reference's far transition the 264th. -/
theorem powers (h0 : IsReal (x0 (ix2 g s))) (h1 : IsReal (x1 (ix2 g s))) (h2 : IsReal (x2 (ix1 g))) : ∃ ρ φ : ℝ,
    IsPow ρ φ 1 (val_main_v8 (F := Ideal) x0 x1 x2 (ix2 g s)) (val_main_v12 (F := Ideal) x0 x1 x2 (ix2 g s))
    ∧ IsPow ρ φ 264 (val_main_v36 (F := Ideal) x0 x1 x2 (ix2 g s)) (val_main_v40 (F := Ideal) x0 x1 x2 (ix2 g s)) := by
  obtain ⟨a, ha⟩ := h0
  obtain ⟨b, hb⟩ := h1
  obtain ⟨l, hl⟩ := h2
  have n := near_apply x0 x1 x2 g s
  have f := far_apply x0 x1 x2 g s
  rw [ha, hb, hl] at n f
  simp only [Ideal.exp_coe, Ideal.cos_coe, Ideal.sin_coe, ← EReal.coe_mul] at n f
  refine ⟨a * Real.exp l, b * Real.exp l, ⟨n.1.trans ?_, n.2.trans ?_⟩, ⟨f.1.trans ?_, f.2.trans ?_⟩⟩
  · simp [re]
  · simp [im]
  · simp only [re, Nat.cast_ofNat, mul_left_comm (264 : ℝ)]
  · simp only [im, Nat.cast_ofNat, mul_left_comm (264 : ℝ)]

variable (d : (⟨S64x1, .f32⟩ : BufTy).Contents (Elt Ideal)) (h : ∀ g : Fin 64, d (ix2 g 0) = x2 (ix1 g))
include h

theorem far_eq (h0 : IsReal (x0 (ix2 g s))) (h1 : IsReal (x1 (ix2 g s))) (h2 : IsReal (x2 (ix1 g))) :
    k0_pay25 (F := Ideal) (k0_pay13 x0 x1 d) (k0_pay14 x0 x1 d) (k0_pay15 x0 x1 d) (ix2 g s)
      = val_main_v36 (F := Ideal) x0 x1 x2 (ix2 g s)
    ∧ k0_pay26 (F := Ideal) (k0_pay13 x0 x1 d) (k0_pay14 x0 x1 d) (k0_pay15 x0 x1 d) (ix2 g s)
      = val_main_v40 (F := Ideal) x0 x1 x2 (ix2 g s) := by
  obtain ⟨ρ, φ, n, f⟩ := powers x0 x1 x2 g s h0 h1 h2
  rw [← re_eq x0 x1 x2 d h, ← im_eq x0 x1 x2 d h] at n
  have p := pow264 x0 x1 d (ix2 g s) n
  exact ⟨p.1.trans f.1.symm, p.2.trans f.2.symm⟩

end Far

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] := by
  decide +kernel

theorem blk0 (c : Dev nD) (t : Fin cfg0.N) : iblk m c 0 t = m ((c : Thread nD τ).loc main_arg0) := by
  funext j
  idx_vars j
  blk_point [iblk, V, idx t]

theorem blk1 (c : Dev nD) (t : Fin cfg0.N) : iblk m c 1 t = m ((c : Thread nD τ).loc main_arg1) := by
  funext j
  idx_vars j
  blk_point [iblk, V, idx t]

theorem blk2 (c : Dev nD) (t : Fin cfg0.N) (g : Fin 64) : iblk m c 2 t (ix2 g 0) = m ((c : Thread nD τ).loc main_arg2) (ix1 g) := by
  have e : ((cfg0.win 2).blk t).view.emb (ix2 g 0) = ix2 (n0 := 64) (n1 := 1) g 0 := by
    blk_ext [idx t]
  unfold iblk
  blk_simp
  rw [e]
  entry_read
  pointwise!

/-- Every entry of the three arguments is a real number. -/
def Real (c : Dev nD) : Prop :=
  (∀ j, IsReal (m ((c : Thread nD τ).loc main_arg0) j)) ∧ (∀ j, IsReal (m ((c : Thread nD τ).loc main_arg1) j))
    ∧ ∀ j, IsReal (m ((c : Thread nD τ).loc main_arg2) j)

theorem real_of_pre [Cert.Pre_disc_finite.Facts] (h : Cert.Pre_DiscAFwdIdeal_disc_finite m) (c : Dev nD) : Real m c := by
  have h := congrFun (h c) fun a => Fin.elim0 a
  obtain ⟨h, h2⟩ := and_one h
  obtain ⟨h0, h1⟩ := and_one h
  exact ⟨real_of_all _ _ _ _ _ _ _ h0, real_of_all _ _ _ _ _ _ _ h1, real_of_all _ _ _ _ _ _ _ h2⟩

theorem result3 (c : Dev nD) : (dats m 0 c).arrAt 3 cfg0.N
    = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp
  rw [after0_3, blk0, blk1]
  have e : ((View.whole main_v1_0).slice (win0_3.rect t)).emb (ix2 y0 y1) = ix2 (n0 := 64) (n1 := 64) y0 y1 := by
    blk_ext [idx t]
  rw [e]
  unfold_out out0_3
  frame_out
  exact congrFun (re_eq _ _ _ _ (blk2 m c t)) _

theorem result4 (c : Dev nD) : (dats m 0 c).arrAt 4 cfg0.N
    = val_main_v12 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  idx_vars y
  blk_simp
  rw [after0_4, blk0, blk1]
  have e : ((View.whole main_v1_1).slice (win0_4.rect t)).emb (ix2 y0 y1) = ix2 (n0 := 64) (n1 := 64) y0 y1 := by
    blk_ext [idx t]
  rw [e]
  unfold_out out0_4
  frame_out
  exact congrFun (im_eq _ _ _ _ (blk2 m c t)) _

theorem result5 (c : Dev nD) (hr : Real m c) : (dats m 0 c).arrAt 5 cfg0.N
    = val_main_v36 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  idx_vars y
  blk_simp
  rw [after0_5, blk0, blk1]
  have e : ((View.whole main_v1_2).slice (win0_5.rect t)).emb (ix2 y0 y1) = ix2 (n0 := 64) (n1 := 64) y0 y1 := by
    blk_ext [idx t]
  rw [e]
  unfold_out out0_5
  frame_out
  exact (far_eq _ _ _ y0 y1 _ (blk2 m c t) (hr.1 _) (hr.2.1 _) (hr.2.2 _)).1

theorem result6 (c : Dev nD) (hr : Real m c) : (dats m 0 c).arrAt 6 cfg0.N
    = val_main_v40 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  idx_vars y
  blk_simp
  rw [after0_6, blk0, blk1]
  have e : ((View.whole main_v1_3).slice (win0_6.rect t)).emb (ix2 y0 y1) = ix2 (n0 := 64) (n1 := 64) y0 y1 := by
    blk_ext [idx t]
  rw [e]
  unfold_out out0_6
  frame_out
  exact (far_eq _ _ _ y0 y1 _ (blk2 m c t) (hr.1 _) (hr.2.1 _) (hr.2.2 _)).2

theorem result7 (c : Dev nD) : (dats m 0 c).arrAt 7 cfg0.N
    = val_main_v21 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  idx_vars y
  blk_simp
  rw [after0_7, blk0, blk1]
  have e : ((View.whole main_v1_4).slice (win0_7.rect t)).emb (ix2 y0 y1) = ix2 (n0 := 64) (n1 := 64) y0 y1 := by
    blk_ext [idx t]
  rw [e]
  unfold_out out0_7
  frame_out
  exact congrFun (coef_re_eq _ _ _ _ (blk2 m c t)) _

theorem result8 (c : Dev nD) : (dats m 0 c).arrAt 8 cfg0.N
    = val_main_v25 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  idx_vars y
  blk_simp
  rw [after0_8, blk0, blk1]
  have e : ((View.whole main_v1_5).slice (win0_8.rect t)).emb (ix2 y0 y1) = ix2 (n0 := 64) (n1 := 64) y0 y1 := by
    blk_ext [idx t]
  rw [e]
  unfold_out out0_8
  frame_out
  exact congrFun (coef_im_eq _ _ _ _ (blk2 m c t)) _

/-- What the kernel's run leaves, array by array. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_v1_3) = (dats m 0 c).arrAt 6 cfg0.N
      ∧ r.2.mem ((c : Thread nD τ).loc main_v1_4) = (dats m 0 c).arrAt 7 cfg0.N
      ∧ r.2.mem ((c : Thread nD τ).loc main_v1_5) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4, (h c).1 5, (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m ρ)

end Cert.DiscAFwdIdeal.Value

namespace Cert.DiscAFwd

open Idealize.ShloMosaic Idealize.SL.Sem Cert.DiscAFwdRefIdeal.Read

/-- The kernel's discretised transition, its power and the coefficients are the reference's. -/
theorem algebraic [Cert.Pre_disc_finite.Facts] : Cert.algebraic_DiscAFwdIdeal_DiscAFwdRefIdeal_pre_disc_finite := by
  pair_intro
  · run_from Cert.DiscAFwdIdeal.Value.run m g
  · run_from Cert.DiscAFwdRefIdeal.Entry.run m' g'
    · exact (Cert.DiscAFwdIdeal.Value.result3 m c).symm
    · exact (Cert.DiscAFwdIdeal.Value.result4 m c).symm
    · exact (Cert.DiscAFwdIdeal.Value.result5 m c (Cert.DiscAFwdIdeal.Value.real_of_pre m hpre c)).symm
    · exact (Cert.DiscAFwdIdeal.Value.result6 m c (Cert.DiscAFwdIdeal.Value.real_of_pre m hpre c)).symm
    · exact (Cert.DiscAFwdIdeal.Value.result7 m c).symm
    · exact (Cert.DiscAFwdIdeal.Value.result8 m c).symm

end Cert.DiscAFwd

end
-- ==== Proof.DiscBFwdValue.lean ====
/- The input matrix of the discretised state space: both arrays the kernel leaves are the reference's. -/
module

public import proofs.«01_k».proof.Defs
public import proofs.«01_k».proof.Proof.DiscBValue
public import proofs.«01_k».proof.Proof.Gen.DiscBFwdIdeal.Value
public import proofs.«01_k».proof.Proof.Gen.DiscBFwdRefIdeal.Run
public import proofs.«01_k».proof.Proof.Gen.DiscBFwdRefIdeal.Read
public import Idealize.ShloMosaic.Lib.Pipeline.ValueKit
public import Idealize.ShloMosaic.Lib.Pointwise

@[expose] public section

set_option maxRecDepth 16384

noncomputable section

namespace Cert.DiscBFwdRefIdeal.Entry

open Cert.DiscBFwdRefIdeal Cert.DiscBFwdRefIdeal.Gen Cert.DiscBFwdRefIdeal.Read Idealize.ShloMosaic

open Cert.DiscBIdeal.Value (grp st)

section Reads

variable (x0 x1 : (⟨S64x64, .f32⟩ : BufTy).Contents (Elt Ideal)) (x2 x3 : (⟨S64x64x16, .f32⟩ : BufTy).Contents (Elt Ideal)) (i : Fin 16) (q : Fin 4096)

theorem v15_apply : val_main_v15 (F := Ideal) x0 x1 x2 x3 (ix2 i q)
    = x0 (ix2 (grp q) (st q)) * x2 (ix3 (grp q) (st q) i) - x1 (ix2 (grp q) (st q)) * x3 (ix3 (grp q) (st q) i) := by
  unfold grp st
  pointwise! [val_main_v15, val_main_v14, val_main_v6, val_main_v5, val_main_v4, val_main_v3, val_main_v2, val_main_v1, val_main_v0]

theorem v17_apply : val_main_v17 (F := Ideal) x0 x1 x2 x3 (ix2 i q)
    = x0 (ix2 (grp q) (st q)) * x3 (ix3 (grp q) (st q) i) + x1 (ix2 (grp q) (st q)) * x2 (ix3 (grp q) (st q) i) := by
  unfold grp st
  pointwise! [val_main_v17, val_main_v16, val_main_v13, val_main_v12, val_main_v11, val_main_v10, val_main_v9, val_main_v8, val_main_v7]

end Reads

open Idealize.SL.Sem Cert.DiscBFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = val_main_v17 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v15_eq _ _ _ _),
      (h c).2.1.trans (val_main_v17_eq _ _ _ _),
      (h c).2.2⟩) (Cert.DiscBFwdRefIdeal.Value.run m ρ)

end Cert.DiscBFwdRefIdeal.Entry

namespace Cert.DiscBFwdIdeal.Value

open Cert.DiscBFwdIdeal Cert.DiscBFwdIdeal.Gen Idealize.ShloMosaic Idealize.ShloMosaic.TcCoe Idealize.SL.Sem
open Idealize.ShloMosaic.Pipeline (Dat)
open Cert.DiscBFwdRefIdeal.Read Cert.DiscBFwdRefIdeal.Entry

open Cert.DiscBIdeal.Value (grp st)

section Payloads

variable (u v : (⟨S1x4096, .f32⟩ : BufTy).Contents (Elt Ideal)) (y z : (⟨S16x4096, .f32⟩ : BufTy).Contents (Elt Ideal)) (i : Fin 16) (q : Fin 4096)

theorem pay5_apply : k0_pay5 (F := Ideal) u v y z (ix2 i q) = u (ix2 0 q) * y (ix2 i q) - v (ix2 0 q) * z (ix2 i q) := by
  pointwise! [k0_pay5, k0_pay4, k0_pay3, k0_pay2, k0_pay1]

theorem pay6_apply : k0_pay6 (F := Ideal) u v y z (ix2 i q) = u (ix2 0 q) * z (ix2 i q) + v (ix2 0 q) * y (ix2 i q) := by
  pointwise! [k0_pay6, k0_pay4, k0_pay3, k0_pay2, k0_pay1]

end Payloads

variable (m : (ℓ : Loc nD τ sig) → Buf (Elt Ideal) ℓ)

/-- Block indices of the windows: row tile `t`, or the one whole block. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin cfg0.N, _)

theorem blk0 (c : Dev nD) (t : Fin cfg0.N) (q : Fin 4096) :
    iblk m c 0 t (ix2 0 q) = m ((c : Thread nD τ).loc main_arg0) (ix2 (grp q) (st q)) := by
  have e : ((cfg0.win 0).blk t).view.emb (ix2 0 q) = ix2 (n0 := 1) (n1 := 4096) 0 q := by
    blk_ext [idx t]
  unfold iblk grp st
  blk_simp
  rw [e]
  entry_read
  pointwise!

theorem blk1 (c : Dev nD) (t : Fin cfg0.N) (q : Fin 4096) :
    iblk m c 1 t (ix2 0 q) = m ((c : Thread nD τ).loc main_arg1) (ix2 (grp q) (st q)) := by
  have e : ((cfg0.win 1).blk t).view.emb (ix2 0 q) = ix2 (n0 := 1) (n1 := 4096) 0 q := by
    blk_ext [idx t]
  unfold iblk grp st
  blk_simp
  rw [e]
  entry_read
  pointwise!

theorem blk2 (c : Dev nD) (t : Fin cfg0.N) (i : Fin 16) (q : Fin 4096) :
    iblk m c 2 t (ix2 i q) = m ((c : Thread nD τ).loc main_arg2) (ix3 (grp q) (st q) i) := by
  have e : ((cfg0.win 2).blk t).view.emb (ix2 i q) = ix2 (n0 := 16) (n1 := 4096) i q := by
    blk_ext [idx t]
  unfold iblk grp st
  blk_simp
  rw [e]
  entry_read
  pointwise!

theorem blk3 (c : Dev nD) (t : Fin cfg0.N) (i : Fin 16) (q : Fin 4096) :
    iblk m c 3 t (ix2 i q) = m ((c : Thread nD τ).loc main_arg3) (ix3 (grp q) (st q) i) := by
  have e : ((cfg0.win 3).blk t).view.emb (ix2 i q) = ix2 (n0 := 16) (n1 := 4096) i q := by
    blk_ext [idx t]
  unfold iblk grp st
  blk_simp
  rw [e]
  entry_read
  pointwise!

theorem emb4 (t : Fin cfg0.N) (i : Fin 16) (q : Fin 4096) :
    ((cfg0.win 4).blk t).view.emb (ix2 i q) = ix2 (n0 := 16) (n1 := 4096) i q := by
  blk_ext [idx t]

theorem result4 (c : Dev nD) : (dats m 0 c).arrAt 4 cfg0.N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  idx_vars y
  blk_simp
  rw [after0_4]
  refine Eq.trans ?_ (congrArg (val_main_v15 (F := Ideal) (m ((c : Thread nD τ).loc main_arg0)) (m ((c : Thread nD τ).loc main_arg1)) (m ((c : Thread nD τ).loc main_arg2)) (m ((c : Thread nD τ).loc main_arg3))) (emb4 t y0 y1)).symm
  frame_out
  refine Eq.trans ?_ (v15_apply _ _ _ _ y0 y1).symm
  refine (pay5_apply _ _ _ _ y0 y1).trans ?_
  simp only [blk0, blk1, blk2, blk3]

theorem emb5 (t : Fin cfg0.N) (i : Fin 16) (q : Fin 4096) :
    ((cfg0.win 5).blk t).view.emb (ix2 i q) = ix2 (n0 := 16) (n1 := 4096) i q := by
  blk_ext [idx t]

theorem result5 (c : Dev nD) : (dats m 0 c).arrAt 5 cfg0.N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  idx_vars y
  blk_simp
  rw [after0_5]
  refine Eq.trans ?_ (congrArg (val_main_v17 (F := Ideal) (m ((c : Thread nD τ).loc main_arg0)) (m ((c : Thread nD τ).loc main_arg1)) (m ((c : Thread nD τ).loc main_arg2)) (m ((c : Thread nD τ).loc main_arg3))) (emb5 t y0 y1)).symm
  frame_out
  refine Eq.trans ?_ (v17_apply _ _ _ _ y0 y1).symm
  refine (pay6_apply _ _ _ _ y0 y1).trans ?_
  simp only [blk0, blk1, blk2, blk3]

end Cert.DiscBFwdIdeal.Value

namespace Cert.DiscBFwd

open Idealize.ShloMosaic Idealize.SL.Sem Cert.DiscBFwdRefIdeal.Read

/-- The kernel's input matrix is the reference's. -/
theorem algebraic : Cert.algebraic_DiscBFwdIdeal_DiscBFwdRefIdeal := by
  pair_intro
  · run_from Cert.DiscBFwdIdeal.Value.run_blocks m g
  · run_from Cert.DiscBFwdRefIdeal.Entry.run m' g'
    · exact (Cert.DiscBFwdIdeal.Value.result4 m c).symm
    · exact (Cert.DiscBFwdIdeal.Value.result5 m c).symm

end Cert.DiscBFwd

end
-- ==== Proof.BoundFwdValue.lean ====
/- The recurrence's lower bound, a running sum of a softmax: the array the kernel leaves is the reference's. -/
module

public import proofs.«01_k».proof.Defs
public import proofs.«01_k».proof.Proof.BoundValue
public import proofs.«01_k».proof.Proof.Gen.BoundFwdIdeal.Value
public import proofs.«01_k».proof.Proof.Gen.BoundFwdRefIdeal.Run
public import proofs.«01_k».proof.Proof.Gen.BoundFwdRefIdeal.Read
public import Idealize.ShloMosaic.Lib.Pipeline.ValueKit
public import Idealize.ShloMosaic.Lib.Pointwise

@[expose] public section

set_option maxRecDepth 16384

noncomputable section

namespace Cert.BoundFwdRefIdeal.Entry

open Cert.BoundFwdRefIdeal Cert.BoundFwdRefIdeal.Gen Cert.BoundFwdRefIdeal.Read Idealize.ShloMosaic

open Cert.BoundRefIdeal.Entry (foldl_two steps)

/-- The first row of a running sum over two rows: the window's first place is padding, its second the row itself. -/
theorem first_row (x : FVec Ideal S2x1024 .f32) (init : EReal) (k : Fin 1024) :
    Ideal.hostReduceWindowAdd ![2, 1] ![1, 1] ![1, 0] ![0, 0] reduceWindows_S2x1024_S2x1024_w2s1p1_0_w1s1p0_0 x init (ix2 0 k)
      = init + init + x (ix2 0 k) := by
  unfold Ideal.hostReduceWindowAdd Host.reduceWindow
  refine (foldl_two (by decide) _ _).trans ?_
  have e0 : ((⟨2, ![2, 1]⟩ : Shape).rowMajor.symm (0 : Fin 2) 0).val = 0 := (steps 0).1
  have e1 : ((⟨2, ![2, 1]⟩ : Shape).rowMajor.symm (1 : Fin 2) 0).val = 1 := (steps 1).1
  have f1 : ((⟨2, ![2, 1]⟩ : Shape).rowMajor.symm (1 : Fin 2) 1).val = 0 := (steps 1).2
  have q0 : 0 * 1 + ((⟨2, ![2, 1]⟩ : Shape).rowMajor.symm (1 : Fin 2) 0).val = 1 := by omega
  have q1 : k.val * 1 + ((⟨2, ![2, 1]⟩ : Shape).rowMajor.symm (1 : Fin 2) 1).val = k.val := by omega
  refine Ideal.add_congr (Ideal.add_congr rfl ?first) ?second
  case first =>
    refine dif_neg fun hin => ?_
    have h1 : 1 ≤ 0 * 1 + ((⟨2, ![2, 1]⟩ : Shape).rowMajor.symm (0 : Fin 2) 0).val := (hin 0).1
    omega
  case second =>
    refine (dif_pos fun a => ?_).trans (congrArg x (funext fun a => Fin.ext ?_))
    · match a with
      | ⟨0, _⟩ => exact ⟨q0.ge, lt_of_eq_of_lt (congrArg (· - 1) q0) Nat.zero_lt_two⟩
      | ⟨1, _⟩ => exact ⟨Nat.zero_le _, lt_of_eq_of_lt q1 k.isLt⟩
    · match a with
      | ⟨0, _⟩ => exact congrArg (· - 1) q0
      | ⟨1, _⟩ => exact q1

theorem v12_apply (x0 : (⟨S2x1024, .f32⟩ : BufTy).Contents (Elt Ideal)) (k : Fin 1024) : val_main_v12 (F := Ideal) x0 (ix2 0 k) = val_main_v10 (F := Ideal) x0 (ix2 0 k) := by
  have i0 : val_main_call0_call0_v0 (F := Ideal) (Shape.Idx.first h_S_) = 0 := by pointwise! [val_main_call0_call0_v0, val_main_call0_call0_cst]
  have e : val_main_v12 (F := Ideal) x0 (ix2 0 k) = val_main_v11 (F := Ideal) x0 (ix2 0 k) := by
    unfold val_main_v12
    generalize val_main_v11 (F := Ideal) x0 = y
    pointwise!
  refine e.trans ((first_row _ _ k).trans ?_)
  rw [i0, zero_add, zero_add]

open Idealize.SL.Sem Cert.BoundFwdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (val_main_v12_eq _),
      (h c).2⟩) (Cert.BoundFwdRefIdeal.Value.run m ρ)

end Cert.BoundFwdRefIdeal.Entry

namespace Cert.BoundFwdIdeal.Value

open Cert.BoundFwdIdeal Cert.BoundFwdIdeal.Gen Idealize.ShloMosaic Idealize.ShloMosaic.TcCoe Idealize.SL.Sem
open Idealize.ShloMosaic.Pipeline (Dat)
open Cert.BoundFwdRefIdeal.Read Cert.BoundFwdRefIdeal.Entry

theorem value (x : (⟨S2x1024, .f32⟩ : BufTy).Contents (Elt Ideal)) : val_main_v12 (F := Ideal) x = k0_pay1 (F := Ideal) x := by
  funext j
  idx_vars j
  obtain rfl : j0 = 0 := Subsingleton.elim _ _
  refine (v12_apply x j1).trans ?_
  pointwise! [k0_pay1, val_main_v10, val_main_v9, val_main_v8, val_main_v7, val_main_cst_1, val_main_v6, val_main_v5, val_main_v4, val_main_v3, val_main_v2, val_main_v1, val_main_cst_0, val_main_v0, val_main_cst]

end Cert.BoundFwdIdeal.Value

namespace Cert.BoundFwd

open Idealize.ShloMosaic Idealize.SL.Sem Cert.BoundFwdRefIdeal.Read

/-- The kernel's lower bound is the reference's. -/
theorem algebraic : Cert.algebraic_BoundFwdIdeal_BoundFwdRefIdeal := by
  pair_intro
  · run_from Cert.BoundFwdIdeal.Value.run m g
  · run_from Cert.BoundFwdRefIdeal.Entry.run m' g'
    exact Cert.BoundFwdIdeal.Value.value _

end Cert.BoundFwd

end
-- ==== Proof.InProdValue.lean ====
/- The input projection, a plain product with the weight cut into column blocks: the array the kernel leaves is the
reference's product. -/
module

public import proofs.«01_k».proof.Defs
public import proofs.«01_k».proof.Proof.Gen.InProdIdeal.Value
public import proofs.«01_k».proof.Proof.Gen.InProdRefIdeal.Run
public import proofs.«01_k».proof.Proof.Gen.InProdRefIdeal.Read
public import Idealize.ShloMosaic.Lib.Pipeline.ValueKit
public import Idealize.ShloMosaic.Lib.Pointwise

@[expose] public section

set_option maxRecDepth 16384

noncomputable section

namespace Cert.InProdRefIdeal.Entry

open Cert.InProdRefIdeal Cert.InProdRefIdeal.Gen Cert.InProdRefIdeal.Read Idealize.ShloMosaic

/-- Dot product of a row with a column of the weight. -/
def dot (f g : Fin 1024 → EReal) : EReal := ∑ k, f k * g k

variable (x0 : (⟨S8256x1024, .bf16⟩ : BufTy).Contents (Elt Ideal)) (x1 : (⟨S1024x7168, .f32⟩ : BufTy).Contents (Elt Ideal))

theorem v2_apply (r : Fin 8256) (q : Fin 7168) : val_main_v2 (F := Ideal) x0 x1 (ix2 r q)
    = dot (fun k => x0 (ix2 r k)) (fun k => x1 (ix2 k q)) := by
  unfold dot
  pointwise! [val_main_v2, val_main_v1, val_main_v0]

open Idealize.SL.Sem Cert.InProdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v2_eq _ _),
      (h c).2⟩) (Cert.InProdRefIdeal.Value.run m ρ)

end Cert.InProdRefIdeal.Entry

namespace Cert.InProdIdeal.Value

open Cert.InProdIdeal Cert.InProdIdeal.Gen Idealize.ShloMosaic Idealize.ShloMosaic.TcCoe Idealize.SL.Sem
open Idealize.ShloMosaic.Pipeline (Dat)
open Cert.InProdRefIdeal.Read Cert.InProdRefIdeal.Entry

variable (m : (ℓ : Loc nD τ sig) → Buf (Elt Ideal) ℓ)

/-- The column block of point `t`. -/
def cj (t : Fin cfg0.N) : Fin 8 := ⟨t.val / 12, by have : t.val < 96 := lt_of_lt_of_eq t.isLt N_0; omega⟩

/-- Row `a` of a point's row tile, among all rows. -/
def row (t : Fin cfg0.N) (a : Fin 688) : Fin 8256 := ⟨t.val % 12 * 688 + a.val, by omega⟩

/-- Column `b` of column block `q`, among all columns. -/
def col (q : Fin 8) (b : Fin 896) : Fin 7168 := ⟨q.val * 896 + b.val, by omega⟩

/-- Block indices of the windows at point `t`: its row tile `t % 12`, its column block `t / 12`. -/
theorem idx : ∀ t : Fin cfg0.N, win0_0.index t = ![t.val % 12, 0] ∧ win0_1.index t = ![t.val / 12, 0, 0] ∧ win0_2.index t = ![t.val % 12, t.val / 12] :=
  by decide +kernel

theorem pay1_apply (x : (⟨S688x1024, .bf16⟩ : BufTy).Contents (Elt Ideal)) (w : (⟨S1x1024x896, .bf16⟩ : BufTy).Contents (Elt Ideal))
    (a : Fin 688) (b : Fin 896) : k0_pay1 (F := Ideal) x w (ix2 a b) = dot (fun k => x (ix2 a k)) (fun k => w (ix3 0 k b)) := by
  unfold dot
  pointwise! [k0_pay1]

theorem blk0 (c : Dev nD) (t : Fin cfg0.N) (a : Fin 688) (k : Fin 1024) :
    iblk m c 0 t (ix2 a k) = m ((c : Thread nD τ).loc main_arg0) (ix2 (row t a) k) := by
  unfold row
  blk_point [iblk, V, idx t]

/-- The column blocks the host cuts the weight into: entry `(k, b)` of block `q` is the weight's `(k, 896 q + b)`. -/
theorem blk1 (c : Dev nD) (t : Fin cfg0.N) (k : Fin 1024) (b : Fin 896) :
    iblk m c 1 t (ix3 0 k b) = m ((c : Thread nD τ).loc main_arg1) (ix2 k (col (cj t) b)) := by
  have e : ((cfg0.win 1).blk t).view.emb (ix3 0 k b) = ix3 (n0 := 8) (n1 := 1024) (n2 := 896) (cj t) k b := by
    unfold cj
    blk_ext [idx t]
  unfold iblk
  blk_simp
  rw [e]
  entry_read
  unfold col
  pointwise!

theorem emb2 (t : Fin cfg0.N) (a : Fin 688) (b : Fin 896) : ((cfg0.win 2).blk t).view.emb (ix2 a b)
    = ix2 (n0 := 8256) (n1 := 7168) (row t a) (col (cj t) b) := by
  unfold row col cj
  blk_ext [idx t]

theorem point2 (c : Dev nD) (t : Fin cfg0.N) (a : Fin 688) (b : Fin 896) : k0_pay1 (F := Ideal) (iblk m c 0 t) (iblk m c 1 t) (ix2 a b)
    = val_main_v2 (F := Ideal) (m ((c : Thread nD τ).loc main_arg0)) (m ((c : Thread nD τ).loc main_arg1)) (ix2 (row t a) (col (cj t) b)) := by
  rw [pay1_apply, v2_apply]
  simp only [blk0, blk1]

theorem result2 (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2, emb2]
  frame_out
  exact point2 m c t y0 y1

end Cert.InProdIdeal.Value

namespace Cert.InProd

open Idealize.ShloMosaic Idealize.SL.Sem Cert.InProdRefIdeal.Read

/-- The kernel's input projection is the reference's. -/
theorem algebraic : Cert.algebraic_InProdIdeal_InProdRefIdeal := by
  pair_intro
  · run_from Cert.InProdIdeal.Value.run_blocks m g
  · run_from Cert.InProdRefIdeal.Entry.run m' g'
    exact (Cert.InProdIdeal.Value.result2 m c).symm

end Cert.InProd

end
-- ==== Proof.InDwValue.lean ====
/- The gradient of the input projection's weight, summed over the row tiles: the array the kernel leaves is the
reference's. -/
module

public import proofs.«01_k».proof.Defs
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pointwise

@[expose] public section

set_option maxRecDepth 16384

noncomputable section

namespace Cert.InDwRefIdeal.Entry

open Cert.InDwRefIdeal Cert.InDwRefIdeal.Gen Cert.InDwRefIdeal.Read Idealize.ShloMosaic

/-- Entry of the weight's gradient: the sum over all rows of an input entry times a cotangent entry. -/
def rowSum (f g : Fin 8256 → EReal) : EReal := ∑ r, f r * g r

variable (x0 : (⟨S8256x1024, .bf16⟩ : BufTy).Contents (Elt Ideal)) (x1 : (⟨S8256x7168, .bf16⟩ : BufTy).Contents (Elt Ideal))

theorem v4_apply (q : Fin 7168) (k : Fin 1024) : val_main_v4 (F := Ideal) x0 x1 (ix2 q k)
    = rowSum (fun r => x0 (ix2 r k)) (fun r => x1 (ix2 r q)) := by
  have h : val_main_v4 (F := Ideal) x0 x1 (ix2 q k) = ∑ r : Fin 8256, x1 (ix2 r q) * x0 (ix2 r k) := by
    pointwise! [val_main_v4, val_main_v3, val_main_v1]
  rw [h]
  exact Finset.sum_congr rfl fun r _ => mul_comm _ _

theorem v7_apply (p : Fin 8) (k : Fin 1024) (b : Fin 896) (h : p.val * 896 + b.val < 7168) : val_main_v7 (F := Ideal) x0 x1 (ix3 p k b)
    = val_main_v4 (F := Ideal) x0 x1 (ix2 ⟨p.val * 896 + b.val, h⟩ k) := by
  pointwise! [val_main_v7, val_main_v6, val_main_v5]

open Idealize.SL.Sem Cert.InDwRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v7_eq _ _),
      (h c).2⟩) (Cert.InDwRefIdeal.Value.run m ρ)

end Cert.InDwRefIdeal.Entry

namespace Cert.InDwIdeal.Value

open Cert.InDwIdeal Cert.InDwIdeal.Gen Idealize.ShloMosaic Idealize.ShloMosaic.TcCoe Idealize.SL.Sem
open Idealize.ShloMosaic.Pipeline (Dat)
open Cert.InDwRefIdeal.Read Cert.InDwRefIdeal.Entry

variable (m : (ℓ : Loc nD τ sig) → Buf (Elt Ideal) ℓ)

/-- The column block of point `t`. -/
def cj (t : Fin cfg0.N) : Fin 8 := ⟨t.val / 12, by have : t.val < 96 := lt_of_lt_of_eq t.isLt N_0; omega⟩

/-- Row `a` of a point's row tile, among all rows. -/
def row (t : Fin cfg0.N) (a : Fin 688) : Fin 8256 := ⟨t.val % 12 * 688 + a.val, by omega⟩

/-- Column `b` of column block `q`, among all columns. -/
def col (q : Fin 8) (b : Fin 896) : Fin 7168 := ⟨q.val * 896 + b.val, by omega⟩

/-- Block indices of the windows at point `t`: its row tile `t % 12`, its column block `t / 12`. -/
theorem idx : ∀ t : Fin cfg0.N, win0_0.index t = ![t.val % 12, 0] ∧ win0_1.index t = ![t.val % 12, t.val / 12] ∧ win0_2.index t = ![t.val / 12, 0, 0] :=
  by decide +kernel

theorem pay1_apply (k : Fin 1024) (b : Fin 896) : k0_pay1 (F := Ideal) (ix3 0 k b) = 0 := by
  pointwise! [k0_pay1]

theorem pay2_apply (v : (⟨S1x1024x896, .f32⟩ : BufTy).Contents (Elt Ideal)) (x : (⟨S688x1024, .bf16⟩ : BufTy).Contents (Elt Ideal))
    (y : (⟨S688x896, .bf16⟩ : BufTy).Contents (Elt Ideal)) (k : Fin 1024) (b : Fin 896) :
    k0_pay2 (F := Ideal) v x y (ix3 0 k b) = v (ix3 0 k b) + ∑ a : Fin 688, x (ix2 a k) * y (ix2 a b) := by
  pointwise! [k0_pay2]

theorem blk0 (c : Dev nD) (t : Fin cfg0.N) (a : Fin 688) (k : Fin 1024) :
    iblk m c 0 t (ix2 a k) = m ((c : Thread nD τ).loc main_arg0) (ix2 (row t a) k) := by
  unfold row
  blk_point [iblk, V, idx t]

theorem blk1 (c : Dev nD) (t : Fin cfg0.N) (a : Fin 688) (b : Fin 896) :
    iblk m c 1 t (ix2 a b) = m ((c : Thread nD τ).loc main_arg1) (ix2 (row t a) (col (cj t) b)) := by
  unfold row col cj
  blk_point [iblk, V, idx t]

theorem emb2 (t : Fin cfg0.N) (k : Fin 1024) (b : Fin 896) : ((cfg0.win 2).blk t).view.emb (ix3 0 k b)
    = ix3 (n0 := 8) (n1 := 1024) (n2 := 896) (cj t) k b := by
  unfold cj
  blk_ext [idx t]

/-- What a point adds to its block of the weight's gradient. -/
def term2 (c : Dev nD) (t : Fin cfg0.N) (j : S1x1024x896.Idx) : EReal :=
  ∑ a : Fin 688, (show EReal from m ((c : Thread nD τ).loc main_arg0) (ix2 (row t a) (j 1)))
    * (show EReal from m ((c : Thread nD τ).loc main_arg1) (ix2 (row t a) (col (cj t) (j 2))))

theorem add2 (c : Dev nD) (t : Fin cfg0.N) (v : (⟨S1x1024x896, .f32⟩ : BufTy).Contents (Elt Ideal)) (k : Fin 1024) (b : Fin 896) :
    k0_pay2 (F := Ideal) v (iblk m c 0 t) (iblk m c 1 t) (ix3 0 k b) = v (ix3 0 k b) + term2 m c t (ix3 0 k b) := by
  rw [pay2_apply]
  exact Ideal.add_congr rfl (Finset.sum_congr rfl fun a _ => Ideal.mul_congr (blk0 m c t a k) (blk1 m c t a b))

/-- The points of a run: their rows together are all rows, and their column block is one. -/
theorem row_run (t : Fin cfg0.N) (s : Fin 12) (h : 12 * (t.val / 12) + s.val < cfg0.N) (a : Fin 688) (h' : s.val * 688 + a.val < 8256) :
    row ⟨12 * (t.val / 12) + s.val, h⟩ a = ⟨s.val * 688 + a.val, h'⟩ := by
  apply Fin.ext
  show (12 * (t.val / 12) + s.val) % 12 * 688 + a.val = s.val * 688 + a.val
  have := s.isLt
  omega

theorem cj_run (t : Fin cfg0.N) (s : Fin 12) (h : 12 * (t.val / 12) + s.val < cfg0.N) :
    cj ⟨12 * (t.val / 12) + s.val, h⟩ = cj t := by
  apply Fin.ext
  show (12 * (t.val / 12) + s.val) / 12 = t.val / 12
  have := s.isLt
  omega

theorem result2 (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  idx_vars y
  obtain rfl : y0 = 0 := Subsingleton.elim _ _
  blk_simp
  rw [after0_2, Pipeline.eq_sum_fin_of_reset_step_apply_of_flush (fun n h => outsAt0 m c n h) 12 (fun _ => 0) (term2 m c)
    (fun t h j => by
      rw [outsAt0_A m c t h]; frame_out; idx_vars j; obtain rfl : j0 = 0 := Subsingleton.elim _ _
      exact (add2 m c t _ j1 j2).trans (by rw [pay1_apply]))
    (fun t h j => by
      rw [outsAt0_B m c t h]; frame_out; idx_vars j; obtain rfl : j0 = 0 := Subsingleton.elim _ _
      exact add2 m c t _ j1 j2)
    t ((flush0_2 t).mp hf) _, zero_add, emb2, v7_apply _ _ _ _ _ (col (cj t) y2).isLt, v4_apply]
  refine Fin.sum_mul_add_congr fun s a h => ?_
  rw [row_run t s _ a h, cj_run]
  rfl

end Cert.InDwIdeal.Value

namespace Cert.InDw

open Idealize.ShloMosaic Idealize.SL.Sem Cert.InDwRefIdeal.Read

/-- The kernel's weight gradient is the reference's. -/
theorem algebraic : Cert.algebraic_InDwIdeal_InDwRefIdeal := by
  pair_intro
  · run_from Cert.InDwIdeal.Value.run_blocks m g
  · run_from Cert.InDwRefIdeal.Entry.run m' g'
    exact (Cert.InDwIdeal.Value.result2 m c).symm

end Cert.InDw

end
-- ==== Proof.LinProdValue.lean ====
/- The backward pass of the S5 output projection, two plain products: the arrays the kernel leaves are the
reference's. -/
module

public import proofs.«01_k».proof.Defs
public import proofs.«01_k».proof.Proof.Gen.LinProdIdeal.Value
public import proofs.«01_k».proof.Proof.Gen.LinProdRefIdeal.Run
public import proofs.«01_k».proof.Proof.Gen.LinProdRefIdeal.Read
public import Idealize.ShloMosaic.Lib.Pipeline.ValueKit
public import Idealize.ShloMosaic.Lib.Pointwise

@[expose] public section

set_option maxRecDepth 16384

noncomputable section

namespace Cert.LinProdRefIdeal.Entry

open Cert.LinProdRefIdeal Cert.LinProdRefIdeal.Gen Cert.LinProdRefIdeal.Read Idealize.ShloMosaic

variable (x0 x1 : (⟨S8256x1024, .bf16⟩ : BufTy).Contents (Elt Ideal)) (x2 : (⟨S1024x1024, .f32⟩ : BufTy).Contents (Elt Ideal))

theorem v6_apply (r : Fin 8256) (k : Fin 1024) : val_main_v6 (F := Ideal) x1 x2 (ix2 r k)
    = ∑ j : Fin 1024, x1 (ix2 r j) * x2 (ix2 k j) := by
  pointwise! [val_main_v6, val_main_v5, val_main_v2]

theorem v4_apply (k q : Fin 1024) : val_main_v4 (F := Ideal) x0 x1 (ix2 k q)
    = ∑ r : Fin 8256, x0 (ix2 r k) * x1 (ix2 r q) := by
  have h : val_main_v4 (F := Ideal) x0 x1 (ix2 k q) = ∑ r : Fin 8256, x1 (ix2 r q) * x0 (ix2 r k) := by
    pointwise! [val_main_v4, val_main_v3, val_main_v2, val_main_v0]
  rw [h]
  exact Finset.sum_congr rfl fun r _ => mul_comm _ _

open Idealize.SL.Sem Cert.LinProdRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg1)) (m ((c.tc : Thread nD τ).loc main_arg2))
      ∧ r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v6_eq _ _),
      (h c).2.1.trans (val_main_v4_eq _ _),
      (h c).2.2⟩) (Cert.LinProdRefIdeal.Value.run m ρ)

end Cert.LinProdRefIdeal.Entry

namespace Cert.LinProdIdeal.Value

open Cert.LinProdIdeal Cert.LinProdIdeal.Gen Idealize.ShloMosaic Idealize.ShloMosaic.TcCoe Idealize.SL.Sem
open Idealize.ShloMosaic.Pipeline (Dat)
open Cert.LinProdRefIdeal.Read Cert.LinProdRefIdeal.Entry

variable (m : (ℓ : Loc nD τ sig) → Buf (Elt Ideal) ℓ)

/-- Block indices of the windows: row tile `t`, or the one whole block. -/
theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

theorem lt12 (t : Fin cfg0.N) : t.val < 12 := (by decide +kernel : ∀ t : Fin grid0.N, t.val < 12) t

/-- Row `a` of a point's row tile, among all rows. -/
def row (t : Fin cfg0.N) (a : Fin 688) : Fin 8256 := ⟨t.val * 688 + a.val, by have := lt12 t; omega⟩

theorem pay1_apply (k q : Fin 1024) : k0_pay1 (F := Ideal) (ix2 k q) = 0 := by
  pointwise! [k0_pay1]

theorem pay2_apply (x : (⟨S688x1024, .bf16⟩ : BufTy).Contents (Elt Ideal)) (w : (⟨S1024x1024, .bf16⟩ : BufTy).Contents (Elt Ideal))
    (a : Fin 688) (k : Fin 1024) : k0_pay2 (F := Ideal) x w (ix2 a k) = ∑ j : Fin 1024, x (ix2 a j) * w (ix2 k j) := by
  pointwise! [k0_pay2]

theorem pay3_apply (y : (⟨S688x1024, .bf16⟩ : BufTy).Contents (Elt Ideal)) (v : (⟨S1024x1024, .f32⟩ : BufTy).Contents (Elt Ideal))
    (x : (⟨S688x1024, .bf16⟩ : BufTy).Contents (Elt Ideal)) (k q : Fin 1024) :
    k0_pay3 (F := Ideal) y v x (ix2 k q) = v (ix2 k q) + ∑ a : Fin 688, x (ix2 a k) * y (ix2 a q) := by
  pointwise! [k0_pay3]

theorem blk0 (c : Dev nD) (t : Fin cfg0.N) (a : Fin 688) (b : Fin 1024) :
    iblk m c 0 t (ix2 a b) = m ((c : Thread nD τ).loc main_arg0) (ix2 (row t a) b) := by
  unfold row
  blk_point [iblk, V, idx t]

theorem blk1 (c : Dev nD) (t : Fin cfg0.N) (a : Fin 688) (b : Fin 1024) :
    iblk m c 1 t (ix2 a b) = m ((c : Thread nD τ).loc main_arg1) (ix2 (row t a) b) := by
  unfold row
  blk_point [iblk, V, idx t]

theorem blk2 (c : Dev nD) (t : Fin cfg0.N) (i j : Fin 1024) :
    iblk m c 2 t (ix2 i j) = m ((c : Thread nD τ).loc main_arg2) (ix2 i j) := by
  have e : ((cfg0.win 2).blk t).view.emb (ix2 i j) = ix2 (n0 := 1024) (n1 := 1024) i j := by
    blk_ext [idx t]
  unfold iblk
  blk_simp
  rw [e]
  entry_read
  first | rfl | pointwise!

theorem emb3 (t : Fin cfg0.N) (a : Fin 688) (b : Fin 1024) :
    ((cfg0.win 3).blk t).view.emb (ix2 a b) = ix2 (n0 := 8256) (n1 := 1024) (row t a) b := by
  unfold row
  blk_ext [idx t]

theorem point3 (c : Dev nD) (t : Fin cfg0.N) (a : Fin 688) (b : Fin 1024) : k0_pay2 (F := Ideal) (iblk m c 1 t) (iblk m c 2 t) (ix2 a b)
    = val_main_v6 (F := Ideal) (m ((c : Thread nD τ).loc main_arg1)) (m ((c : Thread nD τ).loc main_arg2)) (ix2 (row t a) b) := by
  rw [pay2_apply, v6_apply]
  exact Finset.sum_congr rfl fun j _ => Ideal.mul_congr (blk1 m c t a j) (blk2 m c t b j)

/-- The gradient of the product's rows. -/
theorem result3 (c : Dev nD) : (dats m 0 c).arrAt 3 cfg0.N = val_main_v6 (F := Ideal) (m ((c : Thread nD τ).loc main_arg1)) (m ((c : Thread nD τ).loc main_arg2)) := by
  refine (dats m 0 c).arrAt_eq_of_covers 3 _ (by decide +kernel) fun t _ y => ?_
  idx_vars y
  blk_simp
  rw [after0_3, emb3]
  by_cases h : t.val % 12 = 0
  · rw [outsAt0_A m c t h]; frame_out; exact point3 m c t y0 y1
  · rw [outsAt0_B m c t h]; frame_out; exact point3 m c t y0 y1

/-- What a point adds to the weight's gradient. -/
def wterm (c : Dev nD) (t : Fin cfg0.N) (j : S1024x1024.Idx) : EReal :=
  ∑ a : Fin 688, (show EReal from m ((c : Thread nD τ).loc main_arg0) (ix2 (row t a) (j 0)))
    * (show EReal from m ((c : Thread nD τ).loc main_arg1) (ix2 (row t a) (j 1)))

theorem add4 (c : Dev nD) (t : Fin cfg0.N) (v : (⟨S1024x1024, .f32⟩ : BufTy).Contents (Elt Ideal)) (k q : Fin 1024) :
    k0_pay3 (F := Ideal) (iblk m c 1 t) v (iblk m c 0 t) (ix2 k q) = v (ix2 k q) + wterm m c t (ix2 k q) := by
  rw [pay3_apply]
  exact Ideal.add_congr rfl (Finset.sum_congr rfl fun a _ => Ideal.mul_congr (blk0 m c t a k) (blk1 m c t a q))

theorem wterm_sum (c : Dev nD) (k q : Fin 1024) : ∑ t : Fin cfg0.N, wterm m c t (ix2 k q)
    = val_main_v4 (F := Ideal) (m ((c : Thread nD τ).loc main_arg0)) (m ((c : Thread nD τ).loc main_arg1)) (ix2 k q) := by
  rw [v4_apply]
  exact Fin.sum_mul_add_congr fun t a h => rfl

/-- The gradient of the weight. -/
theorem result4 (c : Dev nD) : (dats m 0 c).arrAt 4 cfg0.N = val_main_v4 (F := Ideal) (m ((c : Thread nD τ).loc main_arg0)) (m ((c : Thread nD τ).loc main_arg1)) := by
  refine (dats m 0 c).arrAt_eq_of_after_last 4 t0_11 (by decide +kernel) _ fun j => ?_
  idx_vars j
  blk_simp
  rw [after0_4, Pipeline.eq_sum_fin_of_reset_step_apply_last (fun n h => (outsAt0 m c n h).2) 12 (fun _ => 0) (wterm m c)
    (fun t h j => by
      rw [outsAt0_A m c t h]; frame_out; idx_vars j; exact (add4 m c t _ j0 j1).trans (by rw [pay1_apply]))
    (fun t h j => by rw [outsAt0_B m c t h]; frame_out; idx_vars j; exact add4 m c t _ j0 j1)
    (le_of_eq N_0) t0_11 rfl, zero_add]
  exact wterm_sum m c j0 j1

end Cert.LinProdIdeal.Value

namespace Cert.LinProd

open Idealize.ShloMosaic Idealize.SL.Sem Cert.LinProdRefIdeal.Read

/-- The kernel's two gradients of the projection are the reference's. -/
theorem algebraic : Cert.algebraic_LinProdIdeal_LinProdRefIdeal := by
  pair_intro
  · run_from Cert.LinProdIdeal.Value.run_blocks m g
  · run_from Cert.LinProdRefIdeal.Entry.run m' g'
    · exact (Cert.LinProdIdeal.Value.result3 m c).symm
    · exact (Cert.LinProdIdeal.Value.result4 m c).symm

end Cert.LinProd

end
-- ==== Proof.AdamValue.lean ====
/- One AdamW step of the input projection's shard: the arrays the kernel leaves are the reference's. -/
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise

@[expose] public section

set_option maxRecDepth 16384

noncomputable section

namespace Cert.AdamRefIdeal.Entry

open Cert.AdamRefIdeal Cert.AdamRefIdeal.Gen Cert.AdamRefIdeal.Read Idealize.ShloMosaic

/-- The moving average of the gradient. -/
def mom (g m : EReal) : EReal := Ideal.ofBits .f32 0x3F666666#32 * m + Ideal.ofBits .f32 0x3DCCCCCD#32 * g

/-- The moving average of its square. -/
def vel (g v : EReal) : EReal := Ideal.ofBits .f32 0x3F7FBE77#32 * v + Ideal.ofBits .f32 0x3A83126F#32 * (g * g)

/-- The change of the weight: the corrected averages' quotient and the decay, times the negated rate. -/
def upd (g w m v : EReal) : EReal := Ideal.ofBits .f32 0xBA83126F#32
  * (Ideal.div (Ideal.div (mom g m) (Ideal.ofBits .f32 0x3F26BD02#32))
      (Ideal.sqrt (Ideal.div (vel g v) (Ideal.ofBits .f32 0x3C231ACC#32)) + Ideal.ofBits .f32 0x322BCC77#32)
    + Ideal.ofBits .f32 0x3C23D70A#32 * w)

variable (x0 x2 x3 : (⟨S1024x896, .f32⟩ : BufTy).Contents (Elt Ideal)) (x1 : (⟨S8x1024x896, .bf16⟩ : BufTy).Contents (Elt Ideal))

theorem v1_apply (r : Fin 1024) (q : Fin 896) : val_main_v1 (F := Ideal) x1 (ix2 r q) = ∑ p : Fin 8, x1 (ix3 p r q) := by
  pointwise! [val_main_v1, val_main_v0, val_main_cst]

theorem v6_apply (r : Fin 1024) (q : Fin 896) : val_main_v6 (F := Ideal) x1 x2 (ix2 r q)
    = mom (val_main_v1 (F := Ideal) x1 (ix2 r q)) (x2 (ix2 r q)) := by
  unfold mom
  pointwise! [val_main_v6, val_main_v5, val_main_v4, val_main_cst_1, val_main_v3, val_main_v2, val_main_cst_0]

theorem v12_apply (r : Fin 1024) (q : Fin 896) : val_main_v12 (F := Ideal) x1 x3 (ix2 r q)
    = vel (val_main_v1 (F := Ideal) x1 (ix2 r q)) (x3 (ix2 r q)) := by
  unfold vel
  pointwise! [val_main_v12, val_main_v11, val_main_v10, val_main_cst_3, val_main_v9, val_main_v8, val_main_v7, val_main_cst_2]

theorem v25_apply (r : Fin 1024) (q : Fin 896) : val_main_v25 (F := Ideal) x0 x1 x2 x3 (ix2 r q)
    = upd (val_main_v1 (F := Ideal) x1 (ix2 r q)) (x0 (ix2 r q)) (x2 (ix2 r q)) (x3 (ix2 r q)) := by
  unfold upd
  rw [← v6_apply, ← v12_apply]
  pointwise! [val_main_v25, val_main_v24, val_main_cst_8, val_main_v23, val_main_v22, val_main_v21, val_main_cst_7, val_main_v20,
    val_main_v19, val_main_v18, val_main_cst_6, val_main_v17, val_main_v16, val_main_v15, val_main_cst_5, val_main_v14,
    val_main_v13, val_main_cst_4]

open Idealize.SL.Sem Cert.AdamRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = val_main_v1 (F := Ideal) (m ((c.tc : Thread nD τ).loc main_arg1))
      ∧ r.2.mem ((c.tc : Thread nD τ).loc main_v25) = val_main_v25 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = val_main_v6 (F := Ideal) (m ((c.tc : Thread nD τ).loc main_arg1)) (m ((c.tc : Thread nD τ).loc main_arg2))
      ∧ r.2.mem ((c.tc : Thread nD τ).loc main_v12) = val_main_v12 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v1_eq _),
      (h c).2.1.trans (val_main_v25_eq _ _ _ _),
      (h c).2.2.1.trans (val_main_v6_eq _ _),
      (h c).2.2.2.1.trans (val_main_v12_eq _ _),
      (h c).2.2.2.2⟩) (Cert.AdamRefIdeal.Value.run m ρ)

end Cert.AdamRefIdeal.Entry

namespace Cert.AdamIdeal.Value

open Cert.AdamIdeal Cert.AdamIdeal.Gen Idealize.ShloMosaic Idealize.ShloMosaic.TcCoe Idealize.SL.Sem
open Idealize.ShloMosaic.Pipeline (Dat)
open Cert.AdamRefIdeal.Read Cert.AdamRefIdeal.Entry

variable (m : (ℓ : Loc nD τ sig) → Buf (Elt Ideal) ℓ)

/-- Block indices of the windows: row tile `t`, or the one whole block. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `a` of a point's row tile, among all rows. -/
def row (t : Fin cfg0.N) (a : Fin 128) : Fin 1024 := ⟨t.val * 128 + a.val, by have : t.val < 8 := lt_of_lt_of_eq t.isLt N_0; omega⟩

theorem pay1_apply (g u : (⟨S128x896, .f32⟩ : BufTy).Contents (Elt Ideal)) (a : Fin 128) (b : Fin 896) :
    k0_pay1 (F := Ideal) g u (ix2 a b) = mom (g (ix2 a b)) (u (ix2 a b)) := by
  unfold mom
  pointwise! [k0_pay1]

theorem pay2_apply (g u : (⟨S128x896, .f32⟩ : BufTy).Contents (Elt Ideal)) (a : Fin 128) (b : Fin 896) :
    k0_pay2 (F := Ideal) g u (ix2 a b) = vel (g (ix2 a b)) (u (ix2 a b)) := by
  unfold vel
  pointwise! [k0_pay2]

theorem pay3_apply (g w u v : (⟨S128x896, .f32⟩ : BufTy).Contents (Elt Ideal)) (a : Fin 128) (b : Fin 896) :
    k0_pay3 (F := Ideal) g w u v (ix2 a b) = upd (g (ix2 a b)) (w (ix2 a b)) (u (ix2 a b)) (v (ix2 a b)) := by
  unfold upd
  rw [← pay1_apply, ← pay2_apply]
  unfold k0_pay3
  generalize k0_pay1 (F := Ideal) g u = y
  generalize k0_pay2 (F := Ideal) g v = z
  pointwise!

/-- The eight parts added one after another are their sum. -/
theorem pay5_apply (w u v : (⟨S128x896, .f32⟩ : BufTy).Contents (Elt Ideal)) (x : (⟨S8x128x896, .bf16⟩ : BufTy).Contents (Elt Ideal)) (a : Fin 128) (b : Fin 896) :
    k0_pay5 (F := Ideal) w x u v (ix2 a b) = ∑ p : Fin 8, x (ix3 p a b) := by
  unfold k0_pay5
  rw [Fin.sum_univ_eight]
  frame_out
  pointwise! [k0_pay4]

theorem blk0 (c : Dev nD) (t : Fin cfg0.N) (a : Fin 128) (b : Fin 896) :
    iblk m c 0 t (ix2 a b) = m ((c : Thread nD τ).loc main_arg0) (ix2 (row t a) b) := by
  unfold row
  blk_point [iblk, V, idx t]

theorem blk2 (c : Dev nD) (t : Fin cfg0.N) (a : Fin 128) (b : Fin 896) :
    iblk m c 2 t (ix2 a b) = m ((c : Thread nD τ).loc main_arg2) (ix2 (row t a) b) := by
  unfold row
  blk_point [iblk, V, idx t]

theorem blk3 (c : Dev nD) (t : Fin cfg0.N) (a : Fin 128) (b : Fin 896) :
    iblk m c 3 t (ix2 a b) = m ((c : Thread nD τ).loc main_arg3) (ix2 (row t a) b) := by
  unfold row
  blk_point [iblk, V, idx t]

theorem blk1 (c : Dev nD) (t : Fin cfg0.N) (p : Fin 8) (a : Fin 128) (b : Fin 896) :
    iblk m c 1 t (ix3 p a b) = m ((c : Thread nD τ).loc main_arg1) (ix3 p (row t a) b) := by
  unfold row
  blk_point [iblk, V, idx t]

theorem point4 (c : Dev nD) (t : Fin cfg0.N) (a : Fin 128) (b : Fin 896) : (k0_pay5 (F := Ideal) (iblk m c 0 t) (iblk m c 1 t) (iblk m c 2 t) (iblk m c 3 t)) (ix2 a b)
    = val_main_v1 (F := Ideal) (m ((c : Thread nD τ).loc main_arg1)) (ix2 (row t a) b) := by
  rw [pay5_apply, v1_apply]
  exact Finset.sum_congr rfl fun p _ => blk1 m c t p a b

theorem point5 (c : Dev nD) (t : Fin cfg0.N) (a : Fin 128) (b : Fin 896) : k0_pay3 (F := Ideal) (k0_pay5 (F := Ideal) (iblk m c 0 t) (iblk m c 1 t) (iblk m c 2 t) (iblk m c 3 t)) (iblk m c 0 t) (iblk m c 2 t) (iblk m c 3 t) (ix2 a b)
    = val_main_v25 (F := Ideal) (m ((c : Thread nD τ).loc main_arg0)) (m ((c : Thread nD τ).loc main_arg1)) (m ((c : Thread nD τ).loc main_arg2)) (m ((c : Thread nD τ).loc main_arg3)) (ix2 (row t a) b) := by
  rw [pay3_apply, v25_apply, point4, blk0, blk2, blk3]

theorem point6 (c : Dev nD) (t : Fin cfg0.N) (a : Fin 128) (b : Fin 896) : k0_pay1 (F := Ideal) (k0_pay5 (F := Ideal) (iblk m c 0 t) (iblk m c 1 t) (iblk m c 2 t) (iblk m c 3 t)) (iblk m c 2 t) (ix2 a b)
    = val_main_v6 (F := Ideal) (m ((c : Thread nD τ).loc main_arg1)) (m ((c : Thread nD τ).loc main_arg2)) (ix2 (row t a) b) := by
  rw [pay1_apply, v6_apply, point4, blk2]

theorem point7 (c : Dev nD) (t : Fin cfg0.N) (a : Fin 128) (b : Fin 896) : k0_pay2 (F := Ideal) (k0_pay5 (F := Ideal) (iblk m c 0 t) (iblk m c 1 t) (iblk m c 2 t) (iblk m c 3 t)) (iblk m c 3 t) (ix2 a b)
    = val_main_v12 (F := Ideal) (m ((c : Thread nD τ).loc main_arg1)) (m ((c : Thread nD τ).loc main_arg3)) (ix2 (row t a) b) := by
  rw [pay2_apply, v12_apply, point4, blk3]

theorem emb4 (t : Fin cfg0.N) (a : Fin 128) (b : Fin 896) :
    ((cfg0.win 4).blk t).view.emb (ix2 a b) = ix2 (n0 := 1024) (n1 := 896) (row t a) b := by
  unfold row
  blk_ext [idx t]

theorem result4 (c : Dev nD) : (dats m 0 c).arrAt 4 cfg0.N = val_main_v1 (F := Ideal) (m ((c : Thread nD τ).loc main_arg1)) := by
  refine (dats m 0 c).arrAt_eq_of_covers 4 _ (by decide +kernel) fun t _ y => ?_
  idx_vars y
  blk_simp
  rw [after0_4, emb4]
  frame_out
  exact point4 m c t y0 y1

theorem emb5 (t : Fin cfg0.N) (a : Fin 128) (b : Fin 896) :
    ((cfg0.win 5).blk t).view.emb (ix2 a b) = ix2 (n0 := 1024) (n1 := 896) (row t a) b := by
  unfold row
  blk_ext [idx t]

theorem result5 (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  idx_vars y
  blk_simp
  rw [after0_5, emb5]
  frame_out
  exact point5 m c t y0 y1

theorem emb6 (t : Fin cfg0.N) (a : Fin 128) (b : Fin 896) :
    ((cfg0.win 6).blk t).view.emb (ix2 a b) = ix2 (n0 := 1024) (n1 := 896) (row t a) b := by
  unfold row
  blk_ext [idx t]

theorem result6 (c : Dev nD) : (dats m 0 c).arrAt 6 cfg0.N = val_main_v6 (F := Ideal) (m ((c : Thread nD τ).loc main_arg1)) (m ((c : Thread nD τ).loc main_arg2)) := by
  refine (dats m 0 c).arrAt_eq_of_covers 6 _ (by decide +kernel) fun t _ y => ?_
  idx_vars y
  blk_simp
  rw [after0_6, emb6]
  frame_out
  exact point6 m c t y0 y1

theorem emb7 (t : Fin cfg0.N) (a : Fin 128) (b : Fin 896) :
    ((cfg0.win 7).blk t).view.emb (ix2 a b) = ix2 (n0 := 1024) (n1 := 896) (row t a) b := by
  unfold row
  blk_ext [idx t]

theorem result7 (c : Dev nD) : (dats m 0 c).arrAt 7 cfg0.N = val_main_v12 (F := Ideal) (m ((c : Thread nD τ).loc main_arg1)) (m ((c : Thread nD τ).loc main_arg3)) := by
  refine (dats m 0 c).arrAt_eq_of_covers 7 _ (by decide +kernel) fun t _ y => ?_
  idx_vars y
  blk_simp
  rw [after0_7, emb7]
  frame_out
  exact point7 m c t y0 y1

end Cert.AdamIdeal.Value

namespace Cert.Adam

open Idealize.ShloMosaic Idealize.SL.Sem Cert.AdamRefIdeal.Read

/-- The kernel's summed gradient, update and moving averages are the reference's. -/
theorem algebraic : Cert.algebraic_AdamIdeal_AdamRefIdeal := by
  pair_intro
  · run_from Cert.AdamIdeal.Value.run_blocks m g
  · run_from Cert.AdamRefIdeal.Entry.run m' g'
    · exact (Cert.AdamIdeal.Value.result4 m c).symm
    · exact (Cert.AdamIdeal.Value.result5 m c).symm
    · exact (Cert.AdamIdeal.Value.result6 m c).symm
    · exact (Cert.AdamIdeal.Value.result7 m c).symm

end Cert.Adam

end
-- ==== Proof.MetaGradValue.lean ====
/- The gradient of the meta tokens, a sum over the batch: the array the kernel leaves is the reference's. -/
module

public import proofs.«01_k».proof.Defs
public import proofs.«01_k».proof.Proof.Gen.MetaGradIdeal.Value
public import proofs.«01_k».proof.Proof.Gen.MetaGradRefIdeal.Run
public import proofs.«01_k».proof.Proof.Gen.MetaGradRefIdeal.Read
public import Idealize.ShloMosaic.Lib.Pipeline.ValueKit
public import Idealize.ShloMosaic.Lib.Pointwise

@[expose] public section

set_option maxRecDepth 16384

noncomputable section

namespace Cert.MetaGradRefIdeal.Entry

open Cert.MetaGradRefIdeal Cert.MetaGradRefIdeal.Gen Cert.MetaGradRefIdeal.Read Idealize.ShloMosaic

variable (x0 : (⟨S4x2064x1024, .f32⟩ : BufTy).Contents (Elt Ideal))

/-- Summing the result again over an axis of size one changes nothing. -/
theorem v10_apply (s : Fin 16) (k : Fin 1024) : val_main_v10 (F := Ideal) x0 (ix2 s k)
    = ∑ b : Fin 4, x0 (ix3 b ⟨s.val, by omega⟩ k) := by
  pointwise! [val_main_v10, val_main_v9, val_main_v8, val_main_v6, val_main_cst_2, val_main_cst_3]
  simp

open Idealize.SL.Sem Cert.MetaGradRefIdeal.Gen in
/-- What the reference leaves, with each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = val_main_v10 (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (val_main_v10_eq _),
      (h c).2⟩) (Cert.MetaGradRefIdeal.Value.run m ρ)

end Cert.MetaGradRefIdeal.Entry

namespace Cert.MetaGradIdeal.Value

open Cert.MetaGradIdeal Cert.MetaGradIdeal.Gen Idealize.ShloMosaic Idealize.ShloMosaic.TcCoe Idealize.SL.Sem
open Idealize.ShloMosaic.Pipeline (Dat)
open Cert.MetaGradRefIdeal.Read Cert.MetaGradRefIdeal.Entry

variable (m : (ℓ : Loc nD τ sig) → Buf (Elt Ideal) ℓ)

/-- Block indices of the windows: row tile `t`, or the one whole block. -/
theorem idx : ∀ t : Fin cfg0.N, win0_0.index t = ![0, 0, 0] ∧ win0_1.index t = ![0, 0] :=
  (by decide +kernel : ∀ t : Fin grid0.N, _)

theorem pay1_apply (x : (⟨S4x16x1024, .f32⟩ : BufTy).Contents (Elt Ideal)) (s : Fin 16) (k : Fin 1024) :
    k0_pay1 (F := Ideal) x (ix2 s k) = ∑ b : Fin 4, x (ix3 b s k) := by
  pointwise! [k0_pay1]

theorem blk0 (c : Dev nD) (t : Fin cfg0.N) (b : Fin 4) (s : Fin 16) (k : Fin 1024) :
    iblk m c 0 t (ix3 b s k) = m ((c : Thread nD τ).loc main_arg0) (ix3 b ⟨s.val, by omega⟩ k) := by
  blk_point [iblk, V, idx t]

theorem emb1 (t : Fin cfg0.N) (s : Fin 16) (k : Fin 1024) :
    ((cfg0.win 1).blk t).view.emb (ix2 s k) = ix2 (n0 := 16) (n1 := 1024) s k := by
  blk_ext [idx t]

theorem point1 (c : Dev nD) (t : Fin cfg0.N) (s : Fin 16) (k : Fin 1024) : k0_pay1 (F := Ideal) (iblk m c 0 t) (ix2 s k)
    = val_main_v10 (F := Ideal) (m ((c : Thread nD τ).loc main_arg0)) (ix2 s k) := by
  rw [pay1_apply, v10_apply]
  simp only [blk0]

theorem result1 (c : Dev nD) : (dats m 0 c).arrAt 1 cfg0.N = val_main_v10 (F := Ideal) (m ((c : Thread nD τ).loc main_arg0)) := by
  refine (dats m 0 c).arrAt_eq_of_covers 1 _ (by decide +kernel) fun t _ y => ?_
  idx_vars y
  blk_simp
  rw [after0_1, emb1]
  frame_out
  exact point1 m c t y0 y1

end Cert.MetaGradIdeal.Value

namespace Cert.MetaGrad

open Idealize.ShloMosaic Idealize.SL.Sem Cert.MetaGradRefIdeal.Read

/-- The kernel's meta token gradient is the reference's. -/
theorem algebraic : Cert.algebraic_MetaGradIdeal_MetaGradRefIdeal := by
  pair_intro
  · run_from Cert.MetaGradIdeal.Value.run_blocks m g
  · run_from Cert.MetaGradRefIdeal.Entry.run m' g'
    exact (Cert.MetaGradIdeal.Value.result1 m c).symm

end Cert.MetaGrad

end
-- ==== Proof.lean ====
module

public import proofs.«01_k».proof.Defs
public import proofs.«01_k».proof.Proof.Gen.GluBwd
public import proofs.«01_k».proof.Proof.Gen.GluBwdIdeal
public import proofs.«01_k».proof.Proof.Gen.GluRefIdeal
public import proofs.«01_k».proof.Proof.Gen.GluBwd.Frame
public import proofs.«01_k».proof.Proof.Gen.GluBwdIdeal.Frame
public import proofs.«01_k».proof.Proof.Gen.GluBwdIdeal.Value
public import proofs.«01_k».proof.Proof.Gen.GluRefIdeal.Run
public import proofs.«01_k».proof.Proof.Gen.GluRefIdeal.Read
public import proofs.«01_k».proof.Proof.GluValue
public import proofs.«01_k».proof.Proof.Gen.Gate
public import proofs.«01_k».proof.Proof.Gen.GateIdeal
public import proofs.«01_k».proof.Proof.Gen.GateRefIdeal
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Pre_gate_finite
public import proofs.«01_k».proof.Proof.GateRead
public import proofs.«01_k».proof.Proof.GateValue
public import proofs.«01_k».proof.Proof.Reals
public import proofs.«01_k».proof.Proof.Gen.Conv
public import proofs.«01_k».proof.Proof.Gen.ConvIdeal
public import proofs.«01_k».proof.Proof.Gen.ConvRefIdeal
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvRead
public import proofs.«01_k».proof.Proof.ConvValue
public import proofs.«01_k».proof.Proof.Gen.In
public import proofs.«01_k».proof.Proof.Gen.InIdeal
public import proofs.«01_k».proof.Proof.Gen.InRefIdeal
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.InRead
public import proofs.«01_k».proof.Proof.InValue
public import proofs.«01_k».proof.Proof.Gen.Bound
public import proofs.«01_k».proof.Proof.Gen.BoundIdeal
public import proofs.«01_k».proof.Proof.Gen.BoundRefIdeal
public import proofs.«01_k».proof.Proof.Gen.Bound.Frame
public import proofs.«01_k».proof.Proof.Gen.BoundIdeal.Frame
public import proofs.«01_k».proof.Proof.Gen.BoundIdeal.Value
public import proofs.«01_k».proof.Proof.Gen.BoundRefIdeal.Run
public import proofs.«01_k».proof.Proof.Gen.BoundRefIdeal.Read
public import proofs.«01_k».proof.Proof.BoundValue
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeValue
public import proofs.«01_k».proof.Proof.Gen.DiscA
public import proofs.«01_k».proof.Proof.Gen.DiscAIdeal
public import proofs.«01_k».proof.Proof.Gen.DiscARefIdeal
public import proofs.«01_k».proof.Proof.Gen.DiscA.Frame
public import proofs.«01_k».proof.Proof.Gen.DiscAIdeal.Frame
public import proofs.«01_k».proof.Proof.Gen.DiscAIdeal.Value
public import proofs.«01_k».proof.Proof.Gen.DiscARefIdeal.Run
public import proofs.«01_k».proof.Proof.Gen.DiscARefIdeal.Read
public import proofs.«01_k».proof.Proof.DiscAValue
public import proofs.«01_k».proof.Proof.Gen.DiscB
public import proofs.«01_k».proof.Proof.Gen.DiscBIdeal
public import proofs.«01_k».proof.Proof.Gen.DiscBRefIdeal
public import proofs.«01_k».proof.Proof.Gen.DiscB.Frame
public import proofs.«01_k».proof.Proof.Gen.DiscBIdeal.Frame
public import proofs.«01_k».proof.Proof.Gen.DiscBIdeal.Value
public import proofs.«01_k».proof.Proof.Gen.DiscBRefIdeal.Run
public import proofs.«01_k».proof.Proof.Gen.DiscBRefIdeal.Read
public import proofs.«01_k».proof.Proof.DiscBValue
public import proofs.«01_k».proof.Proof.Gen.Loss
public import proofs.«01_k».proof.Proof.Gen.LossIdeal
public import proofs.«01_k».proof.Proof.Gen.LossRefIdeal
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import proofs.«01_k».proof.Proof.Gen.S5
public import proofs.«01_k».proof.Proof.Gen.S5Ideal
public import proofs.«01_k».proof.Proof.Gen.S5.Frame
public import proofs.«01_k».proof.Proof.Gen.S5Ideal.Frame
public import proofs.«01_k».proof.Proof.Gen.MergeFwd
public import proofs.«01_k».proof.Proof.Gen.MergeFwdIdeal
public import proofs.«01_k».proof.Proof.Gen.MergeFwdRefIdeal
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.MergeFwdValue
public import proofs.«01_k».proof.Proof.Gen.GluFwd
public import proofs.«01_k».proof.Proof.Gen.GluFwdIdeal
public import proofs.«01_k».proof.Proof.Gen.GluFwdRefIdeal
public import proofs.«01_k».proof.Proof.Gen.GluFwd.Frame
public import proofs.«01_k».proof.Proof.Gen.GluFwdIdeal.Frame
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.GluFwdValue
public import proofs.«01_k».proof.Proof.Gen.NormFwd
public import proofs.«01_k».proof.Proof.Gen.NormFwdIdeal
public import proofs.«01_k».proof.Proof.Gen.NormFwdRefIdeal
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormFwdValue
public import proofs.«01_k».proof.Proof.Gen.DiscAFwd
public import proofs.«01_k».proof.Proof.Gen.DiscAFwdIdeal
public import proofs.«01_k».proof.Proof.Gen.DiscAFwdRefIdeal
public import proofs.«01_k».proof.Proof.Gen.DiscAFwd.Frame
public import proofs.«01_k».proof.Proof.Gen.DiscAFwdIdeal.Frame
public import proofs.«01_k».proof.Proof.Gen.DiscAFwdRefIdeal.Run
public import proofs.«01_k».proof.Proof.Gen.DiscAFwdRefIdeal.Read
public import proofs.«01_k».proof.Proof.Gen.Pre_disc_finite
public import proofs.«01_k».proof.Proof.DiscAFwdValue
public import proofs.«01_k».proof.Proof.Gen.DiscBFwd
public import proofs.«01_k».proof.Proof.Gen.DiscBFwdIdeal
public import proofs.«01_k».proof.Proof.Gen.DiscBFwdRefIdeal
public import proofs.«01_k».proof.Proof.Gen.DiscBFwd.Frame
public import proofs.«01_k».proof.Proof.Gen.DiscBFwdIdeal.Frame
public import proofs.«01_k».proof.Proof.Gen.DiscBFwdIdeal.Value
public import proofs.«01_k».proof.Proof.Gen.DiscBFwdRefIdeal.Run
public import proofs.«01_k».proof.Proof.Gen.DiscBFwdRefIdeal.Read
public import proofs.«01_k».proof.Proof.DiscBFwdValue
public import proofs.«01_k».proof.Proof.Gen.BoundFwd
public import proofs.«01_k».proof.Proof.Gen.BoundFwdIdeal
public import proofs.«01_k».proof.Proof.Gen.BoundFwdRefIdeal
public import proofs.«01_k».proof.Proof.Gen.BoundFwd.Frame
public import proofs.«01_k».proof.Proof.Gen.BoundFwdIdeal.Frame
public import proofs.«01_k».proof.Proof.Gen.BoundFwdIdeal.Value
public import proofs.«01_k».proof.Proof.Gen.BoundFwdRefIdeal.Run
public import proofs.«01_k».proof.Proof.Gen.BoundFwdRefIdeal.Read
public import proofs.«01_k».proof.Proof.BoundFwdValue
public import proofs.«01_k».proof.Proof.Gen.InProd
public import proofs.«01_k».proof.Proof.Gen.InProdIdeal
public import proofs.«01_k».proof.Proof.Gen.InProdRefIdeal
public import proofs.«01_k».proof.Proof.Gen.InProd.Frame
public import proofs.«01_k».proof.Proof.Gen.InProdIdeal.Frame
public import proofs.«01_k».proof.Proof.Gen.InProdIdeal.Value
public import proofs.«01_k».proof.Proof.Gen.InProdRefIdeal.Run
public import proofs.«01_k».proof.Proof.Gen.InProdRefIdeal.Read
public import proofs.«01_k».proof.Proof.InProdValue
public import proofs.«01_k».proof.Proof.Gen.InDw
public import proofs.«01_k».proof.Proof.Gen.InDwIdeal
public import proofs.«01_k».proof.Proof.Gen.InDwRefIdeal
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.InDwValue
public import proofs.«01_k».proof.Proof.Gen.LinProd
public import proofs.«01_k».proof.Proof.Gen.LinProdIdeal
public import proofs.«01_k».proof.Proof.Gen.LinProdRefIdeal
public import proofs.«01_k».proof.Proof.Gen.LinProd.Frame
public import proofs.«01_k».proof.Proof.Gen.LinProdIdeal.Frame
public import proofs.«01_k».proof.Proof.Gen.LinProdIdeal.Value
public import proofs.«01_k».proof.Proof.Gen.LinProdRefIdeal.Run
public import proofs.«01_k».proof.Proof.Gen.LinProdRefIdeal.Read
public import proofs.«01_k».proof.Proof.LinProdValue
public import proofs.«01_k».proof.Proof.Gen.Adam
public import proofs.«01_k».proof.Proof.Gen.AdamIdeal
public import proofs.«01_k».proof.Proof.Gen.AdamRefIdeal
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamValue
public import proofs.«01_k».proof.Proof.Gen.MetaGrad
public import proofs.«01_k».proof.Proof.Gen.MetaGradIdeal
public import proofs.«01_k».proof.Proof.Gen.MetaGradRefIdeal
public import proofs.«01_k».proof.Proof.Gen.MetaGrad.Frame
public import proofs.«01_k».proof.Proof.Gen.MetaGradIdeal.Frame
public import proofs.«01_k».proof.Proof.Gen.MetaGradIdeal.Value
public import proofs.«01_k».proof.Proof.Gen.MetaGradRefIdeal.Run
public import proofs.«01_k».proof.Proof.Gen.MetaGradRefIdeal.Read
public import proofs.«01_k».proof.Proof.MetaGradValue
public import Idealize.ShloMosaic.Adequacy
public import Idealize.ShloMosaic.Init

@[expose] public section

noncomputable section

namespace Cert.Proof

open Idealize.ShloMosaic Idealize.SL.Sem

/-- The reference of this part runs, leaves its arguments, and no counter moves. -/
theorem frame_glu : Cert.quiescent_GluRefIdeal := fun m ρ _ => (θ_run _ _ _).mono
  (fun r h => ⟨fun c => (h c).2.2, sem_eq_zero_of_no_sems rfl r.2⟩) (Cert.GluRefIdeal.Value.run m ρ)

/-- The reference of this part runs, leaves its arguments, and no counter moves. -/
theorem frame_gate : Cert.quiescent_GateRefIdeal := fun m ρ _ => (θ_run _ _ _).mono
  (fun r h => ⟨fun c => (h c).2.2.2.2.2, sem_eq_zero_of_no_sems rfl r.2⟩) (Cert.GateRefIdeal.Value.run m ρ)

/-- The reference of this part runs, leaves its arguments, and no counter moves. -/
theorem frame_convh : Cert.quiescent_ConvRefIdeal := fun m ρ _ => (θ_run _ _ _).mono
  (fun r h => ⟨fun c => (h c).2.2.2.2.2.2, sem_eq_zero_of_no_sems rfl r.2⟩) (Cert.ConvRefIdeal.Value.run m ρ)

/-- The reference of this part runs, leaves its arguments, and no counter moves. -/
theorem frame_inp : Cert.quiescent_InRefIdeal := fun m ρ _ => (θ_run _ _ _).mono
  (fun r h => ⟨fun c => (h c).2.2, sem_eq_zero_of_no_sems rfl r.2⟩) (Cert.InRefIdeal.Value.run m ρ)

/-- The reference of this part runs, leaves its arguments, and no counter moves. -/
theorem frame_bound : Cert.quiescent_BoundRefIdeal := fun m ρ _ => (θ_run _ _ _).mono
  (fun r h => ⟨fun c => (h c).2, sem_eq_zero_of_no_sems rfl r.2⟩) (Cert.BoundRefIdeal.Value.run m ρ)

/-- The reference of this part runs, leaves its arguments, and no counter moves. -/
theorem frame_mergeh : Cert.quiescent_MergeRefIdeal := fun m ρ _ => (θ_run _ _ _).mono
  (fun r h => ⟨fun c => (h c).2.2.2.2.2, sem_eq_zero_of_no_sems rfl r.2⟩) (Cert.MergeRefIdeal.Value.run m ρ)

/-- The reference of this part runs, leaves its arguments, and no counter moves. -/
theorem frame_disca : Cert.quiescent_DiscARefIdeal := fun m ρ _ => (θ_run _ _ _).mono
  (fun r h => ⟨fun c => (h c).2.2.2, sem_eq_zero_of_no_sems rfl r.2⟩) (Cert.DiscARefIdeal.Value.run m ρ)

/-- The reference of this part runs, leaves its arguments, and no counter moves. -/
theorem frame_discb : Cert.quiescent_DiscBRefIdeal := fun m ρ _ => (θ_run _ _ _).mono
  (fun r h => ⟨fun c => (h c).2.2.2.2, sem_eq_zero_of_no_sems rfl r.2⟩) (Cert.DiscBRefIdeal.Value.run m ρ)

/-- The reference of this part runs, leaves its arguments, and no counter moves. -/
theorem frame_loss : Cert.quiescent_LossRefIdeal := fun m ρ _ => (θ_run _ _ _).mono
  (fun r h => ⟨fun c => (h c).2.2.2.2.2, sem_eq_zero_of_no_sems rfl r.2⟩) (Cert.LossRefIdeal.Value.run m ρ)

/-- The reference of this part runs, leaves its arguments, and no counter moves. -/
theorem frame_mergef : Cert.quiescent_MergeFwdRefIdeal := fun m ρ _ => (θ_run _ _ _).mono
  (fun r h => ⟨fun c => (h c).2.2.2.2, sem_eq_zero_of_no_sems rfl r.2⟩) (Cert.MergeFwdRefIdeal.Value.run m ρ)

/-- The reference of this part runs, leaves its arguments, and no counter moves. -/
theorem frame_gluf : Cert.quiescent_GluFwdRefIdeal := fun m ρ _ => (θ_run _ _ _).mono
  (fun r h => ⟨fun c => (h c).2.2, sem_eq_zero_of_no_sems rfl r.2⟩) (Cert.GluFwdRefIdeal.Value.run m ρ)

/-- The reference of this part runs, leaves its arguments, and no counter moves. -/
theorem frame_normf : Cert.quiescent_NormFwdRefIdeal := fun m ρ _ => (θ_run _ _ _).mono
  (fun r h => ⟨fun c => (h c).2, sem_eq_zero_of_no_sems rfl r.2⟩) (Cert.NormFwdRefIdeal.Value.run m ρ)

/-- The reference of this part runs, leaves its arguments, and no counter moves. -/
theorem frame_discaf : Cert.quiescent_DiscAFwdRefIdeal := fun m ρ _ => (θ_run _ _ _).mono
  (fun r h => ⟨fun c => (h c).2.2.2.2.2.2, sem_eq_zero_of_no_sems rfl r.2⟩) (Cert.DiscAFwdRefIdeal.Value.run m ρ)

/-- The reference of this part runs, leaves its arguments, and no counter moves. -/
theorem frame_discbf : Cert.quiescent_DiscBFwdRefIdeal := fun m ρ _ => (θ_run _ _ _).mono
  (fun r h => ⟨fun c => (h c).2.2, sem_eq_zero_of_no_sems rfl r.2⟩) (Cert.DiscBFwdRefIdeal.Value.run m ρ)

/-- The reference of this part runs, leaves its arguments, and no counter moves. -/
theorem frame_boundf : Cert.quiescent_BoundFwdRefIdeal := fun m ρ _ => (θ_run _ _ _).mono
  (fun r h => ⟨fun c => (h c).2, sem_eq_zero_of_no_sems rfl r.2⟩) (Cert.BoundFwdRefIdeal.Value.run m ρ)

/-- The reference of this part runs, leaves its arguments, and no counter moves. -/
theorem frame_mm : Cert.quiescent_InProdRefIdeal := fun m ρ _ => (θ_run _ _ _).mono
  (fun r h => ⟨fun c => (h c).2, sem_eq_zero_of_no_sems rfl r.2⟩) (Cert.InProdRefIdeal.Value.run m ρ)

/-- The reference of this part runs, leaves its arguments, and no counter moves. -/
theorem frame_mmtn : Cert.quiescent_InDwRefIdeal := fun m ρ _ => (θ_run _ _ _).mono
  (fun r h => ⟨fun c => (h c).2, sem_eq_zero_of_no_sems rfl r.2⟩) (Cert.InDwRefIdeal.Value.run m ρ)

/-- The reference of this part runs, leaves its arguments, and no counter moves. -/
theorem frame_lin : Cert.quiescent_LinProdRefIdeal := fun m ρ _ => (θ_run _ _ _).mono
  (fun r h => ⟨fun c => (h c).2.2, sem_eq_zero_of_no_sems rfl r.2⟩) (Cert.LinProdRefIdeal.Value.run m ρ)

/-- The reference of this part runs, leaves its arguments, and no counter moves. -/
theorem frame_adams : Cert.quiescent_AdamRefIdeal := fun m ρ _ => (θ_run _ _ _).mono
  (fun r h => ⟨fun c => (h c).2.2.2.2, sem_eq_zero_of_no_sems rfl r.2⟩) (Cert.AdamRefIdeal.Value.run m ρ)

/-- The reference of this part runs, leaves its arguments, and no counter moves. -/
theorem frame_metag : Cert.quiescent_MetaGradRefIdeal := fun m ρ _ => (θ_run _ _ _).mono
  (fun r h => ⟨fun c => (h c).2, sem_eq_zero_of_no_sems rfl r.2⟩) (Cert.MetaGradRefIdeal.Value.run m ρ)

theorem claim : Cert.Claim := ⟨Cert.GluBwd.Gen.facts,
  Cert.GluBwdIdeal.Gen.facts,
  Cert.GluRefIdeal.Gen.facts,
  Cert.Gate.Gen.facts,
  Cert.GateIdeal.Gen.facts,
  Cert.GateRefIdeal.Gen.facts,
  Cert.Conv.Gen.facts,
  Cert.ConvIdeal.Gen.facts,
  Cert.ConvRefIdeal.Gen.facts,
  Cert.In.Gen.facts,
  Cert.InIdeal.Gen.facts,
  Cert.InRefIdeal.Gen.facts,
  Cert.Bound.Gen.facts,
  Cert.BoundIdeal.Gen.facts,
  Cert.BoundRefIdeal.Gen.facts,
  Cert.Merge.Gen.facts,
  Cert.MergeIdeal.Gen.facts,
  Cert.MergeRefIdeal.Gen.facts,
  Cert.DiscA.Gen.facts,
  Cert.DiscAIdeal.Gen.facts,
  Cert.DiscARefIdeal.Gen.facts,
  Cert.DiscB.Gen.facts,
  Cert.DiscBIdeal.Gen.facts,
  Cert.DiscBRefIdeal.Gen.facts,
  Cert.Loss.Gen.facts,
  Cert.LossIdeal.Gen.facts,
  Cert.LossRefIdeal.Gen.facts,
  Cert.S5.Gen.facts,
  Cert.S5Ideal.Gen.facts,
  Cert.MergeFwd.Gen.facts,
  Cert.MergeFwdIdeal.Gen.facts,
  Cert.MergeFwdRefIdeal.Gen.facts,
  Cert.GluFwd.Gen.facts,
  Cert.GluFwdIdeal.Gen.facts,
  Cert.GluFwdRefIdeal.Gen.facts,
  Cert.NormFwd.Gen.facts,
  Cert.NormFwdIdeal.Gen.facts,
  Cert.NormFwdRefIdeal.Gen.facts,
  Cert.DiscAFwd.Gen.facts,
  Cert.DiscAFwdIdeal.Gen.facts,
  Cert.DiscAFwdRefIdeal.Gen.facts,
  Cert.DiscBFwd.Gen.facts,
  Cert.DiscBFwdIdeal.Gen.facts,
  Cert.DiscBFwdRefIdeal.Gen.facts,
  Cert.BoundFwd.Gen.facts,
  Cert.BoundFwdIdeal.Gen.facts,
  Cert.BoundFwdRefIdeal.Gen.facts,
  Cert.InProd.Gen.facts,
  Cert.InProdIdeal.Gen.facts,
  Cert.InProdRefIdeal.Gen.facts,
  Cert.InDw.Gen.facts,
  Cert.InDwIdeal.Gen.facts,
  Cert.InDwRefIdeal.Gen.facts,
  Cert.LinProd.Gen.facts,
  Cert.LinProdIdeal.Gen.facts,
  Cert.LinProdRefIdeal.Gen.facts,
  Cert.Adam.Gen.facts,
  Cert.AdamIdeal.Gen.facts,
  Cert.AdamRefIdeal.Gen.facts,
  Cert.MetaGrad.Gen.facts,
  Cert.MetaGradIdeal.Gen.facts,
  Cert.MetaGradRefIdeal.Gen.facts,
  Cert.Pre_gate_finite.Gen.facts,
  Cert.Pre_disc_finite.Gen.facts,
  fun m ρ _ => Cert.GluBwd.Gen.frame m ρ,
  fun m ρ _ => Cert.GluBwdIdeal.Gen.frame m ρ,
  frame_glu,
  fun m ρ _ => Cert.Gate.Gen.frame m ρ,
  fun m ρ _ => Cert.GateIdeal.Gen.frame m ρ,
  fun m ρ _ => Cert.GateIdeal.Gen.frame m ρ,
  frame_gate,
  fun m ρ _ => frame_gate m ρ trivial,
  fun m ρ _ => Cert.Conv.Gen.frame m ρ,
  fun m ρ _ => Cert.ConvIdeal.Gen.frame m ρ,
  frame_convh,
  fun m ρ _ => Cert.In.Gen.frame m ρ,
  fun m ρ _ => Cert.InIdeal.Gen.frame m ρ,
  frame_inp,
  fun m ρ _ => Cert.Bound.Gen.frame m ρ,
  fun m ρ _ => Cert.BoundIdeal.Gen.frame m ρ,
  frame_bound,
  fun m ρ _ => Cert.Merge.Gen.frame m ρ,
  fun m ρ _ => Cert.MergeIdeal.Gen.frame m ρ,
  frame_mergeh,
  fun m ρ _ => Cert.DiscA.Gen.frame m ρ,
  fun m ρ _ => Cert.DiscAIdeal.Gen.frame m ρ,
  frame_disca,
  fun m ρ _ => Cert.DiscB.Gen.frame m ρ,
  fun m ρ _ => Cert.DiscBIdeal.Gen.frame m ρ,
  frame_discb,
  fun m ρ _ => Cert.Loss.Gen.frame m ρ,
  fun m ρ _ => Cert.LossIdeal.Gen.frame m ρ,
  frame_loss,
  fun m ρ _ => Cert.S5.Gen.frame m ρ,
  fun m ρ _ => Cert.S5Ideal.Gen.frame m ρ,
  fun m ρ _ => Cert.MergeFwd.Gen.frame m ρ,
  fun m ρ _ => Cert.MergeFwdIdeal.Gen.frame m ρ,
  frame_mergef,
  fun m ρ _ => Cert.GluFwd.Gen.frame m ρ,
  fun m ρ _ => Cert.GluFwdIdeal.Gen.frame m ρ,
  frame_gluf,
  fun m ρ _ => Cert.NormFwd.Gen.frame m ρ,
  fun m ρ _ => Cert.NormFwdIdeal.Gen.frame m ρ,
  frame_normf,
  fun m ρ _ => Cert.DiscAFwd.Gen.frame m ρ,
  fun m ρ _ => Cert.DiscAFwdIdeal.Gen.frame m ρ,
  fun m ρ _ => Cert.DiscAFwdIdeal.Gen.frame m ρ,
  frame_discaf,
  fun m ρ _ => frame_discaf m ρ trivial,
  fun m ρ _ => Cert.DiscBFwd.Gen.frame m ρ,
  fun m ρ _ => Cert.DiscBFwdIdeal.Gen.frame m ρ,
  frame_discbf,
  fun m ρ _ => Cert.BoundFwd.Gen.frame m ρ,
  fun m ρ _ => Cert.BoundFwdIdeal.Gen.frame m ρ,
  frame_boundf,
  fun m ρ _ => Cert.InProd.Gen.frame m ρ,
  fun m ρ _ => Cert.InProdIdeal.Gen.frame m ρ,
  frame_mm,
  fun m ρ _ => Cert.InDw.Gen.frame m ρ,
  fun m ρ _ => Cert.InDwIdeal.Gen.frame m ρ,
  frame_mmtn,
  fun m ρ _ => Cert.LinProd.Gen.frame m ρ,
  fun m ρ _ => Cert.LinProdIdeal.Gen.frame m ρ,
  frame_lin,
  fun m ρ _ => Cert.Adam.Gen.frame m ρ,
  fun m ρ _ => Cert.AdamIdeal.Gen.frame m ρ,
  frame_adams,
  fun m ρ _ => Cert.MetaGrad.Gen.frame m ρ,
  fun m ρ _ => Cert.MetaGradIdeal.Gen.frame m ρ,
  frame_metag,
  trivial,
  Cert.Glu.algebraic,
  trivial,
  Cert.Gate.algebraic,
  trivial,
  Cert.Conv.algebraic,
  trivial,
  Cert.In.algebraic,
  trivial,
  Cert.Bound.algebraic,
  trivial,
  Cert.Merge.algebraic,
  trivial,
  Cert.DiscA.algebraic,
  trivial,
  Cert.DiscB.algebraic,
  trivial,
  Cert.Loss.algebraic,
  trivial,
  trivial,
  Cert.MergeFwd.algebraic,
  trivial,
  Cert.GluFwd.algebraic,
  trivial,
  Cert.NormFwd.algebraic,
  trivial,
  Cert.DiscAFwd.algebraic,
  trivial,
  Cert.DiscBFwd.algebraic,
  trivial,
  Cert.BoundFwd.algebraic,
  trivial,
  Cert.InProd.algebraic,
  trivial,
  Cert.InDw.algebraic,
  trivial,
  Cert.LinProd.algebraic,
  trivial,
  Cert.Adam.algebraic,
  trivial,
  Cert.MetaGrad.algebraic⟩

end Cert.Proof

end
